-- ==== Defs.lean ====
def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_finite [hPre_pool_finite : Cert.Pre_pool_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_finite [hPre_pool_finite : Cert.Pre_pool_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_finite [hPre_norm_finite : Cert.Pre_norm_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))) = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_norm_finite [hPre_norm_finite : Cert.Pre_norm_finite.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_norm_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))) = (fun _ => 1#1)

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_inproj_finite [hPre_inproj_finite : Cert.Pre_inproj_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7))) = (fun _ => 1#1)

def Pre_InProjBwdRefIdeal (m : (ℓ : Loc Cert.InProjBwdRefIdeal.nD Cert.InProjBwdRefIdeal.τ Cert.InProjBwdRefIdeal.sig) → Buf (Elt Ideal) ℓ) : Prop :=
  True

def Pre_InProjBwdRefIdeal_inproj_finite [hPre_inproj_finite : Cert.Pre_inproj_finite.Facts] (m : (ℓ : Loc Cert.InProjBwdRefIdeal.nD Cert.InProjBwdRefIdeal.τ Cert.InProjBwdRefIdeal.sig) → Buf (Elt Ideal) ℓ) : Prop :=
  ∀ c : Dev Cert.InProjBwdRefIdeal.nD,
    (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7))) = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_tokens_finite [hPre_tokens_finite : Cert.Pre_tokens_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_tokens_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_tokens_finite [hPre_tokens_finite : Cert.Pre_tokens_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_tokens_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffnb_finite [hPre_ffnb_finite : Cert.Pre_ffnb_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffnb_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffnb_finite [hPre_ffnb_finite : Cert.Pre_ffnb_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffnb_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))) = (fun _ => 1#1)

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradOutPool (m : (ℓ : Loc Cert.GradOutPool.nD Cert.GradOutPool.τ Cert.GradOutPool.sig) → Buf (Elt Bits) ℓ) : Prop :=
  True

def Pre_GradOutPoolIdeal (m : (ℓ : Loc Cert.GradOutPoolIdeal.nD Cert.GradOutPoolIdeal.τ Cert.GradOutPoolIdeal.sig) → Buf (Elt Ideal) ℓ) : Prop :=
  True

def Pre_GradOutPoolRefIdeal (m : (ℓ : Loc Cert.GradOutPoolRefIdeal.nD Cert.GradOutPoolRefIdeal.τ Cert.GradOutPoolRefIdeal.sig) → Buf (Elt Ideal) ℓ) : Prop :=
  True

def Pre_GradOutAttn (m : (ℓ : Loc Cert.GradOutAttn.nD Cert.GradOutAttn.τ Cert.GradOutAttn.sig) → Buf (Elt Bits) ℓ) : Prop :=
  True

def Pre_GradOutAttnIdeal (m : (ℓ : Loc Cert.GradOutAttnIdeal.nD Cert.GradOutAttnIdeal.τ Cert.GradOutAttnIdeal.sig) → Buf (Elt Ideal) ℓ) : Prop :=
  True

def Pre_GradOutAttnRefIdeal (m : (ℓ : Loc Cert.GradOutAttnRefIdeal.nD Cert.GradOutAttnRefIdeal.τ Cert.GradOutAttnRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_pool_finite [hPoolBwdIdeal : Cert.PoolBwdIdeal.Facts] [hPre_pool_finite : Cert.Pre_pool_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_pool_finite [hPoolBwdRefIdeal : Cert.PoolBwdRefIdeal.Facts] [hPre_pool_finite : Cert.Pre_pool_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdIdeal_pre_norm_finite [hNormBwdIdeal : Cert.NormBwdIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_NormBwdRefIdeal_pre_norm_finite [hNormBwdRefIdeal : Cert.NormBwdRefIdeal.Facts] [hPre_norm_finite : Cert.Pre_norm_finite.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_norm_finite m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ r.2.sem = fun _ => 0)

def quiescent_InProjBwdIdeal_pre_inproj_finite [hInProjBwdIdeal : Cert.InProjBwdIdeal.Facts] [hPre_inproj_finite : Cert.Pre_inproj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_inproj_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7))
      ∧ r.2.sem = fun _ => 0)

def quiescent_InProjBwdRefIdeal_pre_inproj_finite [hInProjBwdRefIdeal : Cert.InProjBwdRefIdeal.Facts] [hPre_inproj_finite : Cert.Pre_inproj_finite.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal_inproj_finite m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_tokens_finite [hPoolFwdIdeal : Cert.PoolFwdIdeal.Facts] [hPre_tokens_finite : Cert.Pre_tokens_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_tokens_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_tokens_finite [hPoolFwdRefIdeal : Cert.PoolFwdRefIdeal.Facts] [hPre_tokens_finite : Cert.Pre_tokens_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_tokens_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffnb_finite [hFfnBwdIdeal : Cert.FfnBwdIdeal.Facts] [hPre_ffnb_finite : Cert.Pre_ffnb_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffnb_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_ffnb_finite [hFfnBwdRefIdeal : Cert.FfnBwdRefIdeal.Facts] [hPre_ffnb_finite : Cert.Pre_ffnb_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffnb_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradOutPool [hGradOutPool : Cert.GradOutPool.Facts] : Prop :=
  ∀ (m : (ℓ : Loc Cert.GradOutPool.nD Cert.GradOutPool.τ Cert.GradOutPool.sig) → Buf (Elt Bits) ℓ) (g : Dev Cert.GradOutPool.nD → PrngReg), Pre_GradOutPool m →
    θ_run (Cert.GradOutPool.defs (F := Bits)) (onTc (τ := Cert.GradOutPool.τ) (Cert.GradOutPool.main (F := Bits))) ⟨m, fun _ => 0, g⟩ (fun r => (∀ c : Dev Cert.GradOutPool.nD,
      r.2.mem ((c.tc : Thread Cert.GradOutPool.nD Cert.GradOutPool.τ).loc Cert.GradOutPool.main_arg0) = m ((c.tc : Thread Cert.GradOutPool.nD Cert.GradOutPool.τ).loc Cert.GradOutPool.main_arg0)
      ∧ r.2.mem ((c.tc : Thread Cert.GradOutPool.nD Cert.GradOutPool.τ).loc Cert.GradOutPool.main_arg1) = m ((c.tc : Thread Cert.GradOutPool.nD Cert.GradOutPool.τ).loc Cert.GradOutPool.main_arg1))
      ∧ r.2.sem = fun _ => 0)

def quiescent_GradOutPoolIdeal [hGradOutPoolIdeal : Cert.GradOutPoolIdeal.Facts] : Prop :=
  ∀ (m : (ℓ : Loc Cert.GradOutPoolIdeal.nD Cert.GradOutPoolIdeal.τ Cert.GradOutPoolIdeal.sig) → Buf (Elt Ideal) ℓ) (g : Dev Cert.GradOutPoolIdeal.nD → PrngReg), Pre_GradOutPoolIdeal m →
    θ_run (Cert.GradOutPoolIdeal.defs (F := Ideal)) (onTc (τ := Cert.GradOutPoolIdeal.τ) (Cert.GradOutPoolIdeal.main (F := Ideal))) ⟨m, fun _ => 0, g⟩ (fun r => (∀ c : Dev Cert.GradOutPoolIdeal.nD,
      r.2.mem ((c.tc : Thread Cert.GradOutPoolIdeal.nD Cert.GradOutPoolIdeal.τ).loc Cert.GradOutPoolIdeal.main_arg0) = m ((c.tc : Thread Cert.GradOutPoolIdeal.nD Cert.GradOutPoolIdeal.τ).loc Cert.GradOutPoolIdeal.main_arg0)
      ∧ r.2.mem ((c.tc : Thread Cert.GradOutPoolIdeal.nD Cert.GradOutPoolIdeal.τ).loc Cert.GradOutPoolIdeal.main_arg1) = m ((c.tc : Thread Cert.GradOutPoolIdeal.nD Cert.GradOutPoolIdeal.τ).loc Cert.GradOutPoolIdeal.main_arg1))
      ∧ r.2.sem = fun _ => 0)

def quiescent_GradOutPoolRefIdeal [hGradOutPoolRefIdeal : Cert.GradOutPoolRefIdeal.Facts] : Prop :=
  ∀ (m : (ℓ : Loc Cert.GradOutPoolRefIdeal.nD Cert.GradOutPoolRefIdeal.τ Cert.GradOutPoolRefIdeal.sig) → Buf (Elt Ideal) ℓ) (g : Dev Cert.GradOutPoolRefIdeal.nD → PrngReg), Pre_GradOutPoolRefIdeal m →
    θ_run (Cert.GradOutPoolRefIdeal.defs (F := Ideal)) (onTc (τ := Cert.GradOutPoolRefIdeal.τ) (Cert.GradOutPoolRefIdeal.main (F := Ideal))) ⟨m, fun _ => 0, g⟩ (fun r => (∀ c : Dev Cert.GradOutPoolRefIdeal.nD,
      r.2.mem ((c.tc : Thread Cert.GradOutPoolRefIdeal.nD Cert.GradOutPoolRefIdeal.τ).loc Cert.GradOutPoolRefIdeal.main_arg0) = m ((c.tc : Thread Cert.GradOutPoolRefIdeal.nD Cert.GradOutPoolRefIdeal.τ).loc Cert.GradOutPoolRefIdeal.main_arg0)
      ∧ r.2.mem ((c.tc : Thread Cert.GradOutPoolRefIdeal.nD Cert.GradOutPoolRefIdeal.τ).loc Cert.GradOutPoolRefIdeal.main_arg1) = m ((c.tc : Thread Cert.GradOutPoolRefIdeal.nD Cert.GradOutPoolRefIdeal.τ).loc Cert.GradOutPoolRefIdeal.main_arg1))
      ∧ r.2.sem = fun _ => 0)

def quiescent_GradOutAttn [hGradOutAttn : Cert.GradOutAttn.Facts] : Prop :=
  ∀ (m : (ℓ : Loc Cert.GradOutAttn.nD Cert.GradOutAttn.τ Cert.GradOutAttn.sig) → Buf (Elt Bits) ℓ) (g : Dev Cert.GradOutAttn.nD → PrngReg), Pre_GradOutAttn m →
    θ_run (Cert.GradOutAttn.defs (F := Bits)) (onTc (τ := Cert.GradOutAttn.τ) (Cert.GradOutAttn.main (F := Bits))) ⟨m, fun _ => 0, g⟩ (fun r => (∀ c : Dev Cert.GradOutAttn.nD,
      r.2.mem ((c.tc : Thread Cert.GradOutAttn.nD Cert.GradOutAttn.τ).loc Cert.GradOutAttn.main_arg0) = m ((c.tc : Thread Cert.GradOutAttn.nD Cert.GradOutAttn.τ).loc Cert.GradOutAttn.main_arg0)
      ∧ r.2.mem ((c.tc : Thread Cert.GradOutAttn.nD Cert.GradOutAttn.τ).loc Cert.GradOutAttn.main_arg1) = m ((c.tc : Thread Cert.GradOutAttn.nD Cert.GradOutAttn.τ).loc Cert.GradOutAttn.main_arg1))
      ∧ r.2.sem = fun _ => 0)

def quiescent_GradOutAttnIdeal [hGradOutAttnIdeal : Cert.GradOutAttnIdeal.Facts] : Prop :=
  ∀ (m : (ℓ : Loc Cert.GradOutAttnIdeal.nD Cert.GradOutAttnIdeal.τ Cert.GradOutAttnIdeal.sig) → Buf (Elt Ideal) ℓ) (g : Dev Cert.GradOutAttnIdeal.nD → PrngReg), Pre_GradOutAttnIdeal m →
    θ_run (Cert.GradOutAttnIdeal.defs (F := Ideal)) (onTc (τ := Cert.GradOutAttnIdeal.τ) (Cert.GradOutAttnIdeal.main (F := Ideal))) ⟨m, fun _ => 0, g⟩ (fun r => (∀ c : Dev Cert.GradOutAttnIdeal.nD,
      r.2.mem ((c.tc : Thread Cert.GradOutAttnIdeal.nD Cert.GradOutAttnIdeal.τ).loc Cert.GradOutAttnIdeal.main_arg0) = m ((c.tc : Thread Cert.GradOutAttnIdeal.nD Cert.GradOutAttnIdeal.τ).loc Cert.GradOutAttnIdeal.main_arg0)
      ∧ r.2.mem ((c.tc : Thread Cert.GradOutAttnIdeal.nD Cert.GradOutAttnIdeal.τ).loc Cert.GradOutAttnIdeal.main_arg1) = m ((c.tc : Thread Cert.GradOutAttnIdeal.nD Cert.GradOutAttnIdeal.τ).loc Cert.GradOutAttnIdeal.main_arg1))
      ∧ r.2.sem = fun _ => 0)

def quiescent_GradOutAttnRefIdeal [hGradOutAttnRefIdeal : Cert.GradOutAttnRefIdeal.Facts] : Prop :=
  ∀ (m : (ℓ : Loc Cert.GradOutAttnRefIdeal.nD Cert.GradOutAttnRefIdeal.τ Cert.GradOutAttnRefIdeal.sig) → Buf (Elt Ideal) ℓ) (g : Dev Cert.GradOutAttnRefIdeal.nD → PrngReg), Pre_GradOutAttnRefIdeal m →
    θ_run (Cert.GradOutAttnRefIdeal.defs (F := Ideal)) (onTc (τ := Cert.GradOutAttnRefIdeal.τ) (Cert.GradOutAttnRefIdeal.main (F := Ideal))) ⟨m, fun _ => 0, g⟩ (fun r => (∀ c : Dev Cert.GradOutAttnRefIdeal.nD,
      r.2.mem ((c.tc : Thread Cert.GradOutAttnRefIdeal.nD Cert.GradOutAttnRefIdeal.τ).loc Cert.GradOutAttnRefIdeal.main_arg0) = m ((c.tc : Thread Cert.GradOutAttnRefIdeal.nD Cert.GradOutAttnRefIdeal.τ).loc Cert.GradOutAttnRefIdeal.main_arg0)
      ∧ r.2.mem ((c.tc : Thread Cert.GradOutAttnRefIdeal.nD Cert.GradOutAttnRefIdeal.τ).loc Cert.GradOutAttnRefIdeal.main_arg1) = m ((c.tc : Thread Cert.GradOutAttnRefIdeal.nD Cert.GradOutAttnRefIdeal.τ).loc Cert.GradOutAttnRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_PoolBwd_PoolBwdIdeal : Prop :=
  True

def algebraic_PoolBwdIdeal_PoolBwdRefIdeal_on_pool_blocks_pre_pool_finite [hPoolBwdIdeal : Cert.PoolBwdIdeal.Facts] [hPoolBwdRefIdeal : Cert.PoolBwdRefIdeal.Facts] [hPre_pool_finite : Cert.Pre_pool_finite.Facts] [hOn_pool_blocks : Cert.On_pool_blocks.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v14_0)) (v1 : (c : Dev Cert.PoolBwdIdeal.nD) → Buf (Elt Ideal) ((c.tc : Thread Cert.PoolBwdIdeal.nD Cert.PoolBwdIdeal.τ).loc Cert.PoolBwdIdeal.main_v14_1)) (v2 : (c : Dev Cert.PoolBwdIdeal.nD) → Buf (Elt Ideal) ((c.tc : Thread Cert.PoolBwdIdeal.nD Cert.PoolBwdIdeal.τ).loc Cert.PoolBwdIdeal.main_v14_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          (∀ i : (⟨2, ![8192, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).1 i = 1#1 → r.2.mem ((c.tc : Thread Cert.PoolBwdIdeal.nD Cert.PoolBwdIdeal.τ).loc Cert.PoolBwdIdeal.main_v14_0) i = v0 c i)
          ∧ (∀ i : (⟨2, ![256, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.1 i = 1#1 → r.2.mem ((c.tc : Thread Cert.PoolBwdIdeal.nD Cert.PoolBwdIdeal.τ).loc Cert.PoolBwdIdeal.main_v14_1) i = v1 c i)
          ∧ (∀ i : (⟨2, ![1, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2 i = 1#1 → r.2.mem ((c.tc : Thread Cert.PoolBwdIdeal.nD Cert.PoolBwdIdeal.τ).loc Cert.PoolBwdIdeal.main_v14_2) i = v2 c i)
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          (∀ i : (⟨2, ![8192, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).1 i = 1#1 → r.2.mem ((c.tc : Thread Cert.PoolBwdRefIdeal.nD Cert.PoolBwdRefIdeal.τ).loc Cert.PoolBwdRefIdeal.main_v183) i = v0 c i)
          ∧ (∀ i : (⟨2, ![256, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.1 i = 1#1 → r.2.mem ((c.tc : Thread Cert.PoolBwdRefIdeal.nD Cert.PoolBwdRefIdeal.τ).loc Cert.PoolBwdRefIdeal.main_v182) i = v1 c i)
          ∧ (∀ i : (⟨2, ![1, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2 i = 1#1 → r.2.mem ((c.tc : Thread Cert.PoolBwdRefIdeal.nD Cert.PoolBwdRefIdeal.τ).loc Cert.PoolBwdRefIdeal.main_v167) i = v2 c i)
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_NormBwd_NormBwdIdeal : Prop :=
  True

def algebraic_NormBwdIdeal_NormBwdRefIdeal_pre_norm_finite [hNormBwdIdeal : Cert.NormBwdIdeal.Facts] [hNormBwdRefIdeal : Cert.NormBwdRefIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_norm_finite m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v15_0)) (v1 : (c : Dev Cert.NormBwdIdeal.nD) → Buf (Elt Ideal) ((c.tc : Thread Cert.NormBwdIdeal.nD Cert.NormBwdIdeal.τ).loc Cert.NormBwdIdeal.main_v15_1)) (v2 : (c : Dev Cert.NormBwdIdeal.nD) → Buf (Elt Ideal) ((c.tc : Thread Cert.NormBwdIdeal.nD Cert.NormBwdIdeal.τ).loc Cert.NormBwdIdeal.main_v15_2)) (v3 : (c : Dev Cert.NormBwdIdeal.nD) → Buf (Elt Ideal) ((c.tc : Thread Cert.NormBwdIdeal.nD Cert.NormBwdIdeal.τ).loc Cert.NormBwdIdeal.main_v15_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v15_0) = v0 c
          ∧ r.2.mem ((c.tc : Thread Cert.NormBwdIdeal.nD Cert.NormBwdIdeal.τ).loc Cert.NormBwdIdeal.main_v15_1) = v1 c
          ∧ r.2.mem ((c.tc : Thread Cert.NormBwdIdeal.nD Cert.NormBwdIdeal.τ).loc Cert.NormBwdIdeal.main_v15_2) = v2 c
          ∧ r.2.mem ((c.tc : Thread Cert.NormBwdIdeal.nD Cert.NormBwdIdeal.τ).loc Cert.NormBwdIdeal.main_v15_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v55) = v0 c
          ∧ r.2.mem ((c.tc : Thread Cert.NormBwdRefIdeal.nD Cert.NormBwdRefIdeal.τ).loc Cert.NormBwdRefIdeal.main_v79) = v1 c
          ∧ r.2.mem ((c.tc : Thread Cert.NormBwdRefIdeal.nD Cert.NormBwdRefIdeal.τ).loc Cert.NormBwdRefIdeal.main_v56) = v2 c
          ∧ r.2.mem ((c.tc : Thread Cert.NormBwdRefIdeal.nD Cert.NormBwdRefIdeal.τ).loc Cert.NormBwdRefIdeal.main_v78) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_InProjBwd_InProjBwdIdeal : Prop :=
  True

def algebraic_InProjBwdIdeal_InProjBwdRefIdeal_pre_inproj_finite [hInProjBwdIdeal : Cert.InProjBwdIdeal.Facts] [hInProjBwdRefIdeal : Cert.InProjBwdRefIdeal.Facts] [hPre_inproj_finite : Cert.Pre_inproj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal_inproj_finite m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)
      ∧ m' ((c.tc : Thread Cert.InProjBwdRefIdeal.nD Cert.InProjBwdRefIdeal.τ).loc Cert.InProjBwdRefIdeal.main_arg6) = m ((c.tc : Thread Cert.InProjBwdIdeal.nD Cert.InProjBwdIdeal.τ).loc Cert.InProjBwdIdeal.main_arg6)
      ∧ m' ((c.tc : Thread Cert.InProjBwdRefIdeal.nD Cert.InProjBwdRefIdeal.τ).loc Cert.InProjBwdRefIdeal.main_arg7) = m ((c.tc : Thread Cert.InProjBwdIdeal.nD Cert.InProjBwdIdeal.τ).loc Cert.InProjBwdIdeal.main_arg7)) →
    ∃ (v0 : (c : Dev Cert.InProjBwdIdeal.nD) → Buf (Elt Ideal) ((c.tc : Thread Cert.InProjBwdIdeal.nD Cert.InProjBwdIdeal.τ).loc Cert.InProjBwdIdeal.main_v29_0)) (v1 : (c : Dev Cert.InProjBwdIdeal.nD) → Buf (Elt Ideal) ((c.tc : Thread Cert.InProjBwdIdeal.nD Cert.InProjBwdIdeal.τ).loc Cert.InProjBwdIdeal.main_v29_1)) (v2 : (c : Dev Cert.InProjBwdIdeal.nD) → Buf (Elt Ideal) ((c.tc : Thread Cert.InProjBwdIdeal.nD Cert.InProjBwdIdeal.τ).loc Cert.InProjBwdIdeal.main_v29_2)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v29_0) = v0 c
          ∧ r.2.mem ((c.tc : Thread Cert.InProjBwdIdeal.nD Cert.InProjBwdIdeal.τ).loc Cert.InProjBwdIdeal.main_v29_1) = v1 c
          ∧ r.2.mem ((c.tc : Thread Cert.InProjBwdIdeal.nD Cert.InProjBwdIdeal.τ).loc Cert.InProjBwdIdeal.main_v29_2) = v2 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v148) = v0 c
          ∧ r.2.mem ((c.tc : Thread Cert.InProjBwdRefIdeal.nD Cert.InProjBwdRefIdeal.τ).loc Cert.InProjBwdRefIdeal.main_v150) = v1 c
          ∧ r.2.mem ((c.tc : Thread Cert.InProjBwdRefIdeal.nD Cert.InProjBwdRefIdeal.τ).loc Cert.InProjBwdRefIdeal.main_v149) = v2 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5)
          ∧ r.2.mem ((c.tc : Thread Cert.InProjBwdRefIdeal.nD Cert.InProjBwdRefIdeal.τ).loc Cert.InProjBwdRefIdeal.main_arg6) = m' ((c.tc : Thread Cert.InProjBwdRefIdeal.nD Cert.InProjBwdRefIdeal.τ).loc Cert.InProjBwdRefIdeal.main_arg6)
          ∧ r.2.mem ((c.tc : Thread Cert.InProjBwdRefIdeal.nD Cert.InProjBwdRefIdeal.τ).loc Cert.InProjBwdRefIdeal.main_arg7) = m' ((c.tc : Thread Cert.InProjBwdRefIdeal.nD Cert.InProjBwdRefIdeal.τ).loc Cert.InProjBwdRefIdeal.main_arg7))

def preserves_PoolFwd_PoolFwdIdeal : Prop :=
  True

def algebraic_PoolFwdIdeal_PoolFwdRefIdeal_pre_tokens_finite [hPoolFwdIdeal : Cert.PoolFwdIdeal.Facts] [hPoolFwdRefIdeal : Cert.PoolFwdRefIdeal.Facts] [hPre_tokens_finite : Cert.Pre_tokens_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_tokens_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v14)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v14) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v85) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)) (v2 : (c : Dev Cert.OutProjIdeal.nD) → Buf (Elt Ideal) ((c.tc : Thread Cert.OutProjIdeal.nD Cert.OutProjIdeal.τ).loc Cert.OutProjIdeal.main_v3_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_v3_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_v31) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v7) = v0 c
          ∧ r.2.mem ((c.tc : Thread Cert.FfnFwdRefIdeal.nD Cert.FfnFwdRefIdeal.τ).loc Cert.FfnFwdRefIdeal.main_v10) = v1 c
          ∧ r.2.mem ((c.tc : Thread Cert.FfnFwdRefIdeal.nD Cert.FfnFwdRefIdeal.τ).loc Cert.FfnFwdRefIdeal.main_v4) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_FfnBwd_FfnBwdIdeal : Prop :=
  True

def algebraic_FfnBwdIdeal_FfnBwdRefIdeal_pre_ffnb_finite [hFfnBwdIdeal : Cert.FfnBwdIdeal.Facts] [hFfnBwdRefIdeal : Cert.FfnBwdRefIdeal.Facts] [hPre_ffnb_finite : Cert.Pre_ffnb_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffnb_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v14_0)) (v1 : (c : Dev Cert.FfnBwdIdeal.nD) → Buf (Elt Ideal) ((c.tc : Thread Cert.FfnBwdIdeal.nD Cert.FfnBwdIdeal.τ).loc Cert.FfnBwdIdeal.main_v14_1)) (v2 : (c : Dev Cert.FfnBwdIdeal.nD) → Buf (Elt Ideal) ((c.tc : Thread Cert.FfnBwdIdeal.nD Cert.FfnBwdIdeal.τ).loc Cert.FfnBwdIdeal.main_v14_2)) (v3 : (c : Dev Cert.FfnBwdIdeal.nD) → Buf (Elt Ideal) ((c.tc : Thread Cert.FfnBwdIdeal.nD Cert.FfnBwdIdeal.τ).loc Cert.FfnBwdIdeal.main_v14_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v14_0) = v0 c
          ∧ r.2.mem ((c.tc : Thread Cert.FfnBwdIdeal.nD Cert.FfnBwdIdeal.τ).loc Cert.FfnBwdIdeal.main_v14_1) = v1 c
          ∧ r.2.mem ((c.tc : Thread Cert.FfnBwdIdeal.nD Cert.FfnBwdIdeal.τ).loc Cert.FfnBwdIdeal.main_v14_2) = v2 c
          ∧ r.2.mem ((c.tc : Thread Cert.FfnBwdIdeal.nD Cert.FfnBwdIdeal.τ).loc Cert.FfnBwdIdeal.main_v14_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v16) = v0 c
          ∧ r.2.mem ((c.tc : Thread Cert.FfnBwdRefIdeal.nD Cert.FfnBwdRefIdeal.τ).loc Cert.FfnBwdRefIdeal.main_v19) = v1 c
          ∧ r.2.mem ((c.tc : Thread Cert.FfnBwdRefIdeal.nD Cert.FfnBwdRefIdeal.τ).loc Cert.FfnBwdRefIdeal.main_v22) = v2 c
          ∧ r.2.mem ((c.tc : Thread Cert.FfnBwdRefIdeal.nD Cert.FfnBwdRefIdeal.τ).loc Cert.FfnBwdRefIdeal.main_v13) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v4)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v4) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v3) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradOutPool_GradOutPoolIdeal : Prop :=
  True

def algebraic_GradOutPoolIdeal_GradOutPoolRefIdeal [hGradOutPoolIdeal : Cert.GradOutPoolIdeal.Facts] [hGradOutPoolRefIdeal : Cert.GradOutPoolRefIdeal.Facts] : Prop :=
  ∀ (m : (ℓ : Loc Cert.GradOutPoolIdeal.nD Cert.GradOutPoolIdeal.τ Cert.GradOutPoolIdeal.sig) → Buf (Elt Ideal) ℓ) (g : Dev Cert.GradOutPoolIdeal.nD → PrngReg)
    (m' : (ℓ : Loc Cert.GradOutPoolRefIdeal.nD Cert.GradOutPoolRefIdeal.τ Cert.GradOutPoolRefIdeal.sig) → Buf (Elt Ideal) ℓ) (g' : Dev Cert.GradOutPoolRefIdeal.nD → PrngReg), Pre_GradOutPoolIdeal m →
    (∀ c : Dev Cert.GradOutPoolIdeal.nD,
      m' ((c.tc : Thread Cert.GradOutPoolRefIdeal.nD Cert.GradOutPoolRefIdeal.τ).loc Cert.GradOutPoolRefIdeal.main_arg0) = m ((c.tc : Thread Cert.GradOutPoolIdeal.nD Cert.GradOutPoolIdeal.τ).loc Cert.GradOutPoolIdeal.main_arg0)
      ∧ m' ((c.tc : Thread Cert.GradOutPoolRefIdeal.nD Cert.GradOutPoolRefIdeal.τ).loc Cert.GradOutPoolRefIdeal.main_arg1) = m ((c.tc : Thread Cert.GradOutPoolIdeal.nD Cert.GradOutPoolIdeal.τ).loc Cert.GradOutPoolIdeal.main_arg1)) →
    ∃ (v0 : (c : Dev Cert.GradOutPoolIdeal.nD) → Buf (Elt Ideal) ((c.tc : Thread Cert.GradOutPoolIdeal.nD Cert.GradOutPoolIdeal.τ).loc Cert.GradOutPoolIdeal.main_v2)),
      θ_run (Cert.GradOutPoolIdeal.defs (F := Ideal)) (onTc (τ := Cert.GradOutPoolIdeal.τ) (Cert.GradOutPoolIdeal.main (F := Ideal))) ⟨m, fun _ => 0, g⟩ (fun r => ∀ c : Dev Cert.GradOutPoolIdeal.nD,
          r.2.mem ((c.tc : Thread Cert.GradOutPoolIdeal.nD Cert.GradOutPoolIdeal.τ).loc Cert.GradOutPoolIdeal.main_v2) = v0 c
          ∧ r.2.mem ((c.tc : Thread Cert.GradOutPoolIdeal.nD Cert.GradOutPoolIdeal.τ).loc Cert.GradOutPoolIdeal.main_arg0) = m ((c.tc : Thread Cert.GradOutPoolIdeal.nD Cert.GradOutPoolIdeal.τ).loc Cert.GradOutPoolIdeal.main_arg0)
          ∧ r.2.mem ((c.tc : Thread Cert.GradOutPoolIdeal.nD Cert.GradOutPoolIdeal.τ).loc Cert.GradOutPoolIdeal.main_arg1) = m ((c.tc : Thread Cert.GradOutPoolIdeal.nD Cert.GradOutPoolIdeal.τ).loc Cert.GradOutPoolIdeal.main_arg1))
      ∧ θ_run (Cert.GradOutPoolRefIdeal.defs (F := Ideal)) (onTc (τ := Cert.GradOutPoolRefIdeal.τ) (Cert.GradOutPoolRefIdeal.main (F := Ideal))) ⟨m', fun _ => 0, g'⟩ (fun r => ∀ c : Dev Cert.GradOutPoolRefIdeal.nD,
          r.2.mem ((c.tc : Thread Cert.GradOutPoolRefIdeal.nD Cert.GradOutPoolRefIdeal.τ).loc Cert.GradOutPoolRefIdeal.main_v3) = v0 c
          ∧ r.2.mem ((c.tc : Thread Cert.GradOutPoolRefIdeal.nD Cert.GradOutPoolRefIdeal.τ).loc Cert.GradOutPoolRefIdeal.main_arg0) = m' ((c.tc : Thread Cert.GradOutPoolRefIdeal.nD Cert.GradOutPoolRefIdeal.τ).loc Cert.GradOutPoolRefIdeal.main_arg0)
          ∧ r.2.mem ((c.tc : Thread Cert.GradOutPoolRefIdeal.nD Cert.GradOutPoolRefIdeal.τ).loc Cert.GradOutPoolRefIdeal.main_arg1) = m' ((c.tc : Thread Cert.GradOutPoolRefIdeal.nD Cert.GradOutPoolRefIdeal.τ).loc Cert.GradOutPoolRefIdeal.main_arg1))

def preserves_GradOutAttn_GradOutAttnIdeal : Prop :=
  True

def algebraic_GradOutAttnIdeal_GradOutAttnRefIdeal [hGradOutAttnIdeal : Cert.GradOutAttnIdeal.Facts] [hGradOutAttnRefIdeal : Cert.GradOutAttnRefIdeal.Facts] : Prop :=
  ∀ (m : (ℓ : Loc Cert.GradOutAttnIdeal.nD Cert.GradOutAttnIdeal.τ Cert.GradOutAttnIdeal.sig) → Buf (Elt Ideal) ℓ) (g : Dev Cert.GradOutAttnIdeal.nD → PrngReg)
    (m' : (ℓ : Loc Cert.GradOutAttnRefIdeal.nD Cert.GradOutAttnRefIdeal.τ Cert.GradOutAttnRefIdeal.sig) → Buf (Elt Ideal) ℓ) (g' : Dev Cert.GradOutAttnRefIdeal.nD → PrngReg), Pre_GradOutAttnIdeal m →
    (∀ c : Dev Cert.GradOutAttnIdeal.nD,
      m' ((c.tc : Thread Cert.GradOutAttnRefIdeal.nD Cert.GradOutAttnRefIdeal.τ).loc Cert.GradOutAttnRefIdeal.main_arg0) = m ((c.tc : Thread Cert.GradOutAttnIdeal.nD Cert.GradOutAttnIdeal.τ).loc Cert.GradOutAttnIdeal.main_arg0)
      ∧ m' ((c.tc : Thread Cert.GradOutAttnRefIdeal.nD Cert.GradOutAttnRefIdeal.τ).loc Cert.GradOutAttnRefIdeal.main_arg1) = m ((c.tc : Thread Cert.GradOutAttnIdeal.nD Cert.GradOutAttnIdeal.τ).loc Cert.GradOutAttnIdeal.main_arg1)) →
    ∃ (v0 : (c : Dev Cert.GradOutAttnIdeal.nD) → Buf (Elt Ideal) ((c.tc : Thread Cert.GradOutAttnIdeal.nD Cert.GradOutAttnIdeal.τ).loc Cert.GradOutAttnIdeal.main_v2)),
      θ_run (Cert.GradOutAttnIdeal.defs (F := Ideal)) (onTc (τ := Cert.GradOutAttnIdeal.τ) (Cert.GradOutAttnIdeal.main (F := Ideal))) ⟨m, fun _ => 0, g⟩ (fun r => ∀ c : Dev Cert.GradOutAttnIdeal.nD,
          r.2.mem ((c.tc : Thread Cert.GradOutAttnIdeal.nD Cert.GradOutAttnIdeal.τ).loc Cert.GradOutAttnIdeal.main_v2) = v0 c
          ∧ r.2.mem ((c.tc : Thread Cert.GradOutAttnIdeal.nD Cert.GradOutAttnIdeal.τ).loc Cert.GradOutAttnIdeal.main_arg0) = m ((c.tc : Thread Cert.GradOutAttnIdeal.nD Cert.GradOutAttnIdeal.τ).loc Cert.GradOutAttnIdeal.main_arg0)
          ∧ r.2.mem ((c.tc : Thread Cert.GradOutAttnIdeal.nD Cert.GradOutAttnIdeal.τ).loc Cert.GradOutAttnIdeal.main_arg1) = m ((c.tc : Thread Cert.GradOutAttnIdeal.nD Cert.GradOutAttnIdeal.τ).loc Cert.GradOutAttnIdeal.main_arg1))
      ∧ θ_run (Cert.GradOutAttnRefIdeal.defs (F := Ideal)) (onTc (τ := Cert.GradOutAttnRefIdeal.τ) (Cert.GradOutAttnRefIdeal.main (F := Ideal))) ⟨m', fun _ => 0, g'⟩ (fun r => ∀ c : Dev Cert.GradOutAttnRefIdeal.nD,
          r.2.mem ((c.tc : Thread Cert.GradOutAttnRefIdeal.nD Cert.GradOutAttnRefIdeal.τ).loc Cert.GradOutAttnRefIdeal.main_v3) = v0 c
          ∧ r.2.mem ((c.tc : Thread Cert.GradOutAttnRefIdeal.nD Cert.GradOutAttnRefIdeal.τ).loc Cert.GradOutAttnRefIdeal.main_arg0) = m' ((c.tc : Thread Cert.GradOutAttnRefIdeal.nD Cert.GradOutAttnRefIdeal.τ).loc Cert.GradOutAttnRefIdeal.main_arg0)
          ∧ r.2.mem ((c.tc : Thread Cert.GradOutAttnRefIdeal.nD Cert.GradOutAttnRefIdeal.τ).loc Cert.GradOutAttnRefIdeal.main_arg1) = m' ((c.tc : Thread Cert.GradOutAttnRefIdeal.nD Cert.GradOutAttnRefIdeal.τ).loc Cert.GradOutAttnRefIdeal.main_arg1))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v32) = v0 c
          ∧ r.2.mem ((c.tc : Thread Cert.LossHeadRefIdeal.nD Cert.LossHeadRefIdeal.τ).loc Cert.LossHeadRefIdeal.main_v54) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_v55) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hPoolBwd : Cert.PoolBwd.Facts) (hPoolBwdIdeal : Cert.PoolBwdIdeal.Facts) (hPoolBwdRefIdeal : Cert.PoolBwdRefIdeal.Facts) (hNormBwd : Cert.NormBwd.Facts) (hNormBwdIdeal : Cert.NormBwdIdeal.Facts) (hNormBwdRefIdeal : Cert.NormBwdRefIdeal.Facts) (hInProjBwd : Cert.InProjBwd.Facts) (hInProjBwdIdeal : Cert.InProjBwdIdeal.Facts) (hInProjBwdRefIdeal : Cert.InProjBwdRefIdeal.Facts) (hPoolFwd : Cert.PoolFwd.Facts) (hPoolFwdIdeal : Cert.PoolFwdIdeal.Facts) (hPoolFwdRefIdeal : Cert.PoolFwdRefIdeal.Facts) (hOutProj : Cert.OutProj.Facts) (hOutProjIdeal : Cert.OutProjIdeal.Facts) (hOutProjRefIdeal : Cert.OutProjRefIdeal.Facts) (hFfnFwd : Cert.FfnFwd.Facts) (hFfnFwdIdeal : Cert.FfnFwdIdeal.Facts) (hFfnFwdRefIdeal : Cert.FfnFwdRefIdeal.Facts) (hFfnBwd : Cert.FfnBwd.Facts) (hFfnBwdIdeal : Cert.FfnBwdIdeal.Facts) (hFfnBwdRefIdeal : Cert.FfnBwdRefIdeal.Facts) (hGradDown : Cert.GradDown.Facts) (hGradDownIdeal : Cert.GradDownIdeal.Facts) (hGradDownRefIdeal : Cert.GradDownRefIdeal.Facts) (hGradOutPool : Cert.GradOutPool.Facts) (hGradOutPoolIdeal : Cert.GradOutPoolIdeal.Facts) (hGradOutPoolRefIdeal : Cert.GradOutPoolRefIdeal.Facts) (hGradOutAttn : Cert.GradOutAttn.Facts) (hGradOutAttnIdeal : Cert.GradOutAttnIdeal.Facts) (hGradOutAttnRefIdeal : Cert.GradOutAttnRefIdeal.Facts) (hLossHead : Cert.LossHead.Facts) (hLossHeadIdeal : Cert.LossHeadIdeal.Facts) (hLossHeadRefIdeal : Cert.LossHeadRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamFfn : Cert.AdamFfn.Facts) (hAdamFfnIdeal : Cert.AdamFfnIdeal.Facts) (hAdamFfnRefIdeal : Cert.AdamFfnRefIdeal.Facts) (hAdamSmall : Cert.AdamSmall.Facts) (hAdamSmallIdeal : Cert.AdamSmallIdeal.Facts) (hAdamSmallRefIdeal : Cert.AdamSmallRefIdeal.Facts) (hPre_pool_finite : Cert.Pre_pool_finite.Facts) (hPre_norm_finite : Cert.Pre_norm_finite.Facts) (hPre_inproj_finite : Cert.Pre_inproj_finite.Facts) (hPre_tokens_finite : Cert.Pre_tokens_finite.Facts) (hPre_ffnb_finite : Cert.Pre_ffnb_finite.Facts) (hPre_loss_finite : Cert.Pre_loss_finite.Facts) (hOn_pool_blocks : Cert.On_pool_blocks.Facts),
    quiescent_PoolBwd (hPoolBwd := hPoolBwd)
    ∧ quiescent_PoolBwdIdeal (hPoolBwdIdeal := hPoolBwdIdeal)
    ∧ quiescent_PoolBwdIdeal_pre_pool_finite (hPoolBwdIdeal := hPoolBwdIdeal) (hPre_pool_finite := hPre_pool_finite)
    ∧ quiescent_PoolBwdRefIdeal (hPoolBwdRefIdeal := hPoolBwdRefIdeal)
    ∧ quiescent_PoolBwdRefIdeal_pre_pool_finite (hPoolBwdRefIdeal := hPoolBwdRefIdeal) (hPre_pool_finite := hPre_pool_finite)
    ∧ quiescent_NormBwd (hNormBwd := hNormBwd)
    ∧ quiescent_NormBwdIdeal (hNormBwdIdeal := hNormBwdIdeal)
    ∧ quiescent_NormBwdIdeal_pre_norm_finite (hNormBwdIdeal := hNormBwdIdeal) (hPre_norm_finite := hPre_norm_finite)
    ∧ quiescent_NormBwdRefIdeal (hNormBwdRefIdeal := hNormBwdRefIdeal)
    ∧ quiescent_NormBwdRefIdeal_pre_norm_finite (hNormBwdRefIdeal := hNormBwdRefIdeal) (hPre_norm_finite := hPre_norm_finite)
    ∧ quiescent_InProjBwd (hInProjBwd := hInProjBwd)
    ∧ quiescent_InProjBwdIdeal (hInProjBwdIdeal := hInProjBwdIdeal)
    ∧ quiescent_InProjBwdIdeal_pre_inproj_finite (hInProjBwdIdeal := hInProjBwdIdeal) (hPre_inproj_finite := hPre_inproj_finite)
    ∧ quiescent_InProjBwdRefIdeal (hInProjBwdRefIdeal := hInProjBwdRefIdeal)
    ∧ quiescent_InProjBwdRefIdeal_pre_inproj_finite (hInProjBwdRefIdeal := hInProjBwdRefIdeal) (hPre_inproj_finite := hPre_inproj_finite)
    ∧ quiescent_PoolFwd (hPoolFwd := hPoolFwd)
    ∧ quiescent_PoolFwdIdeal (hPoolFwdIdeal := hPoolFwdIdeal)
    ∧ quiescent_PoolFwdIdeal_pre_tokens_finite (hPoolFwdIdeal := hPoolFwdIdeal) (hPre_tokens_finite := hPre_tokens_finite)
    ∧ quiescent_PoolFwdRefIdeal (hPoolFwdRefIdeal := hPoolFwdRefIdeal)
    ∧ quiescent_PoolFwdRefIdeal_pre_tokens_finite (hPoolFwdRefIdeal := hPoolFwdRefIdeal) (hPre_tokens_finite := hPre_tokens_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnBwd (hFfnBwd := hFfnBwd)
    ∧ quiescent_FfnBwdIdeal (hFfnBwdIdeal := hFfnBwdIdeal)
    ∧ quiescent_FfnBwdIdeal_pre_ffnb_finite (hFfnBwdIdeal := hFfnBwdIdeal) (hPre_ffnb_finite := hPre_ffnb_finite)
    ∧ quiescent_FfnBwdRefIdeal (hFfnBwdRefIdeal := hFfnBwdRefIdeal)
    ∧ quiescent_FfnBwdRefIdeal_pre_ffnb_finite (hFfnBwdRefIdeal := hFfnBwdRefIdeal) (hPre_ffnb_finite := hPre_ffnb_finite)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradOutPool (hGradOutPool := hGradOutPool)
    ∧ quiescent_GradOutPoolIdeal (hGradOutPoolIdeal := hGradOutPoolIdeal)
    ∧ quiescent_GradOutPoolRefIdeal (hGradOutPoolRefIdeal := hGradOutPoolRefIdeal)
    ∧ quiescent_GradOutAttn (hGradOutAttn := hGradOutAttn)
    ∧ quiescent_GradOutAttnIdeal (hGradOutAttnIdeal := hGradOutAttnIdeal)
    ∧ quiescent_GradOutAttnRefIdeal (hGradOutAttnRefIdeal := hGradOutAttnRefIdeal)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_PoolBwd_PoolBwdIdeal
    ∧ algebraic_PoolBwdIdeal_PoolBwdRefIdeal_on_pool_blocks_pre_pool_finite (hPoolBwdIdeal := hPoolBwdIdeal) (hPoolBwdRefIdeal := hPoolBwdRefIdeal) (hPre_pool_finite := hPre_pool_finite) (hOn_pool_blocks := hOn_pool_blocks)
    ∧ preserves_NormBwd_NormBwdIdeal
    ∧ algebraic_NormBwdIdeal_NormBwdRefIdeal_pre_norm_finite (hNormBwdIdeal := hNormBwdIdeal) (hNormBwdRefIdeal := hNormBwdRefIdeal) (hPre_norm_finite := hPre_norm_finite)
    ∧ preserves_InProjBwd_InProjBwdIdeal
    ∧ algebraic_InProjBwdIdeal_InProjBwdRefIdeal_pre_inproj_finite (hInProjBwdIdeal := hInProjBwdIdeal) (hInProjBwdRefIdeal := hInProjBwdRefIdeal) (hPre_inproj_finite := hPre_inproj_finite)
    ∧ preserves_PoolFwd_PoolFwdIdeal
    ∧ algebraic_PoolFwdIdeal_PoolFwdRefIdeal_pre_tokens_finite (hPoolFwdIdeal := hPoolFwdIdeal) (hPoolFwdRefIdeal := hPoolFwdRefIdeal) (hPre_tokens_finite := hPre_tokens_finite)
    ∧ preserves_OutProj_OutProjIdeal
    ∧ algebraic_OutProjIdeal_OutProjRefIdeal (hOutProjIdeal := hOutProjIdeal) (hOutProjRefIdeal := hOutProjRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnBwd_FfnBwdIdeal
    ∧ algebraic_FfnBwdIdeal_FfnBwdRefIdeal_pre_ffnb_finite (hFfnBwdIdeal := hFfnBwdIdeal) (hFfnBwdRefIdeal := hFfnBwdRefIdeal) (hPre_ffnb_finite := hPre_ffnb_finite)
    ∧ preserves_GradDown_GradDownIdeal
    ∧ algebraic_GradDownIdeal_GradDownRefIdeal (hGradDownIdeal := hGradDownIdeal) (hGradDownRefIdeal := hGradDownRefIdeal)
    ∧ preserves_GradOutPool_GradOutPoolIdeal
    ∧ algebraic_GradOutPoolIdeal_GradOutPoolRefIdeal (hGradOutPoolIdeal := hGradOutPoolIdeal) (hGradOutPoolRefIdeal := hGradOutPoolRefIdeal)
    ∧ preserves_GradOutAttn_GradOutAttnIdeal
    ∧ algebraic_GradOutAttnIdeal_GradOutAttnRefIdeal (hGradOutAttnIdeal := hGradOutAttnIdeal) (hGradOutAttnRefIdeal := hGradOutAttnRefIdeal)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== On_pool_blocks.lean ====
abbrev S8192x256 : Shape := ⟨2, ![8192, 256]⟩
abbrev S4x64x64 : Shape := ⟨3, ![4, 64, 64]⟩
abbrev S1x256 : Shape := ⟨2, ![1, 256]⟩
abbrev S256x256 : Shape := ⟨2, ![256, 256]⟩
abbrev S_ : Shape := ⟨0, ![]⟩

class Facts : Prop where
  bcast_S_S256x256 : S_.BroadcastsInDim S256x256 (![] : Fin 0 → Fin S256x256.rank)
  bcast_S_S8192x256 : S_.BroadcastsInDim S8192x256 (![] : Fin 0 → Fin S8192x256.rank)
  bcast_S_S1x256 : S_.BroadcastsInDim S1x256 (![] : Fin 0 → Fin S1x256.rank)

variable [Facts]

def fn_where {F : FTy → Type} [FloatOps F] (arg0 : IVec S256x256 1) (arg1 : IVec S256x256 32) (arg2 : IVec S256x256 32) : IVec S256x256 32 :=
  let v0 : IVec S256x256 32 := select arg0 arg1 arg2
  v0

def fn_floor_divide {F : FTy → Type} [FloatOps F] (arg0 : IVec S256x256 32) (arg1 : IVec S_ 32) : IVec S256x256 32 :=
  let v0 : IVec S_ 32 := id arg1
  let v1 : IVec S256x256 32 := broadcastInDim S256x256 ![] bcast_S_S256x256 v0
  let v2 : IVec S256x256 32 := Host.divsi arg0 v1
  let v3 : IVec S256x256 32 := signi arg0
  let v4 : IVec S_ 32 := signi v0
  let v5 : IVec S256x256 32 := broadcastInDim S256x256 ![] bcast_S_S256x256 v4
  let v6 : IVec S256x256 1 := cmpi .ne v3 v5
  let v7 : IVec S256x256 32 := broadcastInDim S256x256 ![] bcast_S_S256x256 v0
  let v8 : IVec S256x256 32 := Host.remsi arg0 v7
  let c : IVec S_ 32 := constantI S_ 32 0#32
  let v9 : IVec S256x256 32 := broadcastInDim S256x256 ![] bcast_S_S256x256 c
  let v10 : IVec S256x256 1 := cmpi .ne v8 v9
  let v11 : IVec S256x256 1 := andi v6 v10
  let c_0 : IVec S_ 32 := constantI S_ 32 1#32
  let v12 : IVec S256x256 32 := broadcastInDim S256x256 ![] bcast_S_S256x256 c_0
  let v13 : IVec S256x256 32 := subi v2 v12
  let v14 : IVec S256x256 32 := fn_where (F := F) v11 v13 v2
  v14

def fn {F : FTy → Type} [FloatOps F] (main_arg0 : FVec F S8192x256 .f32) (main_arg1 : FVec F S4x64x64 .f32) (main_arg2 : FVec F S1x256 .f32) (main_arg3 : FVec F S8192x256 .f32) : IVec S8192x256 1 × IVec S256x256 1 × IVec S1x256 1 :=
  let main_v0 : IVec S256x256 32 := iotaInDim S256x256 32 0
  let main_c : IVec S_ 32 := constantI S_ 32 64#32
  let main_v1 : IVec S256x256 32 := fn_floor_divide (F := F) main_v0 main_c
  let main_v2 : IVec S256x256 32 := iotaInDim S256x256 32 1
  let main_c_0 : IVec S_ 32 := constantI S_ 32 64#32
  let main_v3 : IVec S256x256 32 := fn_floor_divide (F := F) main_v2 main_c_0
  let main_c_1 : IVec S_ 1 := constantI S_ 1 1#1
  let main_v4 : IVec S8192x256 1 := broadcastInDim S8192x256 ![] bcast_S_S8192x256 main_c_1
  let main_v5 : IVec S256x256 1 := cmpi .eq main_v1 main_v3
  let main_c_2 : IVec S_ 1 := constantI S_ 1 1#1
  let main_v6 : IVec S1x256 1 := broadcastInDim S1x256 ![] bcast_S_S1x256 main_c_2
  (main_v4, main_v5, main_v6)
-- ==== Pre_ffnb_finite.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_v3 main_v7 main_v11 main_v15
-- ==== Pre_inproj_finite.lean ====
abbrev S8192x1024 : Shape := ⟨2, ![8192, 1024]⟩
abbrev S1x1024 : Shape := ⟨2, ![1, 1024]⟩
abbrev S1024x2560 : Shape := ⟨2, ![1024, 2560]⟩
abbrev S8192x256 : Shape := ⟨2, ![8192, 256]⟩
abbrev S8192x768 : Shape := ⟨2, ![8192, 768]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2560 : S_.BroadcastsInDim S1024x2560 (![] : Fin 0 → Fin S1024x2560.rank)
  reducesTo_S1024x2560_S_d0_1 : S1024x2560.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x768 : S_.BroadcastsInDim S8192x768 (![] : Fin 0 → Fin S8192x768.rank)
  reducesTo_S8192x768_S_d0_1 : S8192x768.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S8192x768 .f32) (main_arg5 : FVec F S8192x768 .f32) (main_arg6 : FVec F S8192x768 .f32) (main_arg7 : FVec F S8192x1024 .f32) (main_v3 : IVec S_ 1) (main_v7 : IVec S_ 1) (main_v11 : IVec S_ 1) (main_v15 : IVec S_ 1) : IVec S_ 1 :=
  let main_v16 : FVec F S8192x768 .f32 := Host.absf main_arg4
  let main_cst_6 : FVec F S_ .f32 := constant S_ .f32 0x7F800000#32
  let main_v17 : FVec F S8192x768 .f32 := broadcastInDim S8192x768 ![] bcast_S_S8192x768 main_cst_6
  let main_v18 : IVec S8192x768 1 := cmpf .olt main_v16 main_v17
  let main_c_7 : IVec S_ 1 := constantI S_ 1 1#1
  let main_v19 : IVec S_ 1 := (fun x v => Host.reduce IntOp.andi x v reducesTo_S8192x768_S_d0_1 h_S_) main_v18 main_c_7
  let main_v20 : FVec F S8192x768 .f32 := Host.absf main_arg5
  let main_cst_8 : FVec F S_ .f32 := constant S_ .f32 0x7F800000#32
  let main_v21 : FVec F S8192x768 .f32 := broadcastInDim S8192x768 ![] bcast_S_S8192x768 main_cst_8
  let main_v22 : IVec S8192x768 1 := cmpf .olt main_v20 main_v21
  let main_c_9 : IVec S_ 1 := constantI S_ 1 1#1
  let main_v23 : IVec S_ 1 := (fun x v => Host.reduce IntOp.andi x v reducesTo_S8192x768_S_d0_1 h_S_) main_v22 main_c_9
  let main_v24 : FVec F S8192x768 .f32 := Host.absf main_arg6
  let main_cst_10 : FVec F S_ .f32 := constant S_ .f32 0x7F800000#32
  let main_v25 : FVec F S8192x768 .f32 := broadcastInDim S8192x768 ![] bcast_S_S8192x768 main_cst_10
  let main_v26 : IVec S8192x768 1 := cmpf .olt main_v24 main_v25
  let main_c_11 : IVec S_ 1 := constantI S_ 1 1#1
  let main_v27 : IVec S_ 1 := (fun x v => Host.reduce IntOp.andi x v reducesTo_S8192x768_S_d0_1 h_S_) main_v26 main_c_11
  let main_v28 : FVec F S8192x1024 .f32 := Host.absf main_arg7
  let main_cst_12 : FVec F S_ .f32 := constant S_ .f32 0x7F800000#32
  let main_v29 : FVec F S8192x1024 .f32 := broadcastInDim S8192x1024 ![] bcast_S_S8192x1024 main_cst_12
  let main_v30 : IVec S8192x1024 1 := cmpf .olt main_v28 main_v29
  let main_c_13 : IVec S_ 1 := constantI S_ 1 1#1
  let main_v31 : IVec S_ 1 := (fun x v => Host.reduce IntOp.andi x v reducesTo_S8192x1024_S_d0_1 h_S_) main_v30 main_c_13
  fn_part2 (F := F) main_v3 main_v7 main_v11 main_v15 main_v19 main_v23 main_v27 main_v31

def fn {F : FTy → Type} [FloatOps F] (main_arg0 : FVec F S8192x1024 .f32) (main_arg1 : FVec F S1x1024 .f32) (main_arg2 : FVec F S1024x2560 .f32) (main_arg3 : FVec F S8192x256 .f32) (main_arg4 : FVec F S8192x768 .f32) (main_arg5 : FVec F S8192x768 .f32) (main_arg6 : FVec F S8192x768 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2560 .f32 := Host.absf main_arg2
  let main_cst_2 : FVec F S_ .f32 := constant S_ .f32 0x7F800000#32
  let main_v9 : FVec F S1024x2560 .f32 := broadcastInDim S1024x2560 ![] bcast_S_S1024x2560 main_cst_2
  let main_v10 : IVec S1024x2560 1 := cmpf .olt main_v8 main_v9
  let main_c_3 : IVec S_ 1 := constantI S_ 1 1#1
  let main_v11 : IVec S_ 1 := (fun x v => Host.reduce IntOp.andi x v reducesTo_S1024x2560_S_d0_1 h_S_) main_v10 main_c_3
  let main_v12 : FVec F S8192x256 .f32 := Host.absf main_arg3
  let main_cst_4 : FVec F S_ .f32 := constant S_ .f32 0x7F800000#32
  let main_v13 : FVec F S8192x256 .f32 := broadcastInDim S8192x256 ![] bcast_S_S8192x256 main_cst_4
  let main_v14 : IVec S8192x256 1 := cmpf .olt main_v12 main_v13
  let main_c_5 : IVec S_ 1 := constantI S_ 1 1#1
  let main_v15 : IVec S_ 1 := (fun x v => Host.reduce IntOp.andi x v reducesTo_S8192x256_S_d0_1 h_S_) main_v14 main_c_5
  fn_part1 (F := F) main_arg4 main_arg5 main_arg6 main_arg7 main_v3 main_v7 main_v11 main_v15
-- ==== Pre_loss_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S8192x1024 .f32) (main_arg2 : FVec F S8192x1024 .f32) (main_arg3 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_v3 main_v7 main_v11 main_v15
-- ==== Pre_norm_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_arg5 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : FVec F S8192x1024 .f32 := Host.absf main_arg5
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S8192x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_v3 main_v7 main_v11 main_v15
-- ==== Pre_pool_finite.lean ====
abbrev S8192x256 : Shape := ⟨2, ![8192, 256]⟩
abbrev S4x64x64 : Shape := ⟨3, ![4, 64, 64]⟩
abbrev S1x256 : Shape := ⟨2, ![1, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x256 .f32) (main_arg1 : FVec F S4x64x64 .f32) (main_arg2 : FVec F S1x256 .f32) (main_arg3 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4x64x64 .f32 := Host.absf main_arg1
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : FVec F S1x256 .f32 := Host.absf main_arg2
  let main_cst_2 : FVec F S_ .f32 := constant S_ .f32 0x7F800000#32
  let main_v9 : FVec F S1x256 .f32 := broadcastInDim S1x256 ![] bcast_S_S1x256 main_cst_2
  let main_v10 : IVec S1x256 1 := cmpf .olt main_v8 main_v9
  let main_c_3 : IVec S_ 1 := constantI S_ 1 1#1
  let main_v11 : IVec S_ 1 := (fun x v => Host.reduce IntOp.andi x v reducesTo_S1x256_S_d0_1 h_S_) main_v10 main_c_3
  let main_v12 : FVec F S8192x256 .f32 := Host.absf main_arg3
  let main_cst_4 : FVec F S_ .f32 := constant S_ .f32 0x7F800000#32
  let main_v13 : FVec F S8192x256 .f32 := broadcastInDim S8192x256 ![] bcast_S_S8192x256 main_cst_4
  let main_v14 : IVec S8192x256 1 := cmpf .olt main_v12 main_v13
  let main_c_5 : IVec S_ 1 := constantI S_ 1 1#1
  let main_v15 : IVec S_ 1 := (fun x v => Host.reduce IntOp.andi x v reducesTo_S8192x256_S_d0_1 h_S_) main_v14 main_c_5
  fn_part1 (F := F) main_v3 main_v7 main_v11 main_v15
-- ==== Pre_tokens_finite.lean ====
abbrev S8192x256 : Shape := ⟨2, ![8192, 256]⟩
abbrev S4x64x64 : Shape := ⟨3, ![4, 64, 64]⟩
abbrev S1x256 : Shape := ⟨2, ![1, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S4x64x64 .f32) (main_arg2 : FVec F S1x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== PoolBwd.lean ====
abbrev S8192x256 : Shape := ⟨2, ![8192, 256]⟩
abbrev S4x64x64 : Shape := ⟨3, ![4, 64, 64]⟩
abbrev S1x256 : Shape := ⟨2, ![1, 256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S2048x256 : Shape := ⟨2, ![2048, 256]⟩
abbrev S16x256 : Shape := ⟨2, ![16, 256]⟩
abbrev S2064x256 : Shape := ⟨2, ![2064, 256]⟩
abbrev S256 : Shape := ⟨1, ![256]⟩

abbrev nBuf : Space → Nat
  | .hbm => 30
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S4x64x64, .f32⟩
  | .hbm, ⟨2, _⟩ => ⟨S1x256, .f32⟩
  | .hbm, ⟨3, _⟩ => ⟨S8192x256, .f32⟩
  | .hbm, ⟨4, _⟩ => ⟨S_, .f32⟩
  | .hbm, ⟨5, _⟩ => ⟨S256x256, .f32⟩
  | .hbm, ⟨6, _⟩ => ⟨S1x64x64, .f32⟩
  | .hbm, ⟨7, _⟩ => ⟨S64x64, .f32⟩
  | .hbm, ⟨8, _⟩ => ⟨S_, .i32⟩
  | .hbm, ⟨9, _⟩ => ⟨S_, .i32⟩
  | .hbm, ⟨10, _⟩ => ⟨S256x256, .f32⟩
  | .hbm, ⟨11, _⟩ => ⟨S1x64x64, .f32⟩
  | .hbm, ⟨12, _⟩ => ⟨S64x64, .f32⟩
  | .hbm, ⟨13, _⟩ => ⟨S_, .i32⟩
  | .hbm, ⟨14, _⟩ => ⟨S_, .i32⟩
  | .hbm, ⟨15, _⟩ => ⟨S256x256, .f32⟩
  | .hbm, ⟨16, _⟩ => ⟨S1x64x64, .f32⟩
  | .hbm, ⟨17, _⟩ => ⟨S64x64, .f32⟩
  | .hbm, ⟨18, _⟩ => ⟨S_, .i32⟩
  | .hbm, ⟨19, _⟩ => ⟨S_, .i32⟩
  | .hbm, ⟨20, _⟩ => ⟨S256x256, .f32⟩
  | .hbm, ⟨21, _⟩ => ⟨S1x64x64, .f32⟩
  | .hbm, ⟨22, _⟩ => ⟨S64x64, .f32⟩
  | .hbm, ⟨23, _⟩ => ⟨S_, .i32⟩
  | .hbm, ⟨24, _⟩ => ⟨S_, .i32⟩
  | .hbm, ⟨25, _⟩ => ⟨S256x256, .f32⟩
  | .hbm, ⟨26, _⟩ => ⟨S256x256, .bf16⟩
  | .hbm, ⟨27, _⟩ => ⟨S8192x256, .bf16⟩
  | .hbm, ⟨28, _⟩ => ⟨S256x256, .f32⟩
  | .hbm, ⟨29, _⟩ => ⟨S1x256, .f32⟩
  | .local _ .vmem, ⟨0, _⟩ => ⟨S2048x256, .f32⟩
  | .local _ .vmem, ⟨1, _⟩ => ⟨S2048x256, .f32⟩
  | .local _ .vmem, ⟨2, _⟩ => ⟨S16x256, .f32⟩
  | .local _ .vmem, ⟨3, _⟩ => ⟨S16x256, .f32⟩
  | .local _ .vmem, ⟨4, _⟩ => ⟨S2048x256, .f32⟩
  | .local _ .vmem, ⟨5, _⟩ => ⟨S2048x256, .f32⟩
  | .local _ .vmem, ⟨6, _⟩ => ⟨S16x256, .f32⟩
  | .local _ .vmem, ⟨7, _⟩ => ⟨S16x256, .f32⟩
  | .local _ .vmem, ⟨8, _⟩ => ⟨S256x256, .bf16⟩
  | .local _ .vmem, ⟨9, _⟩ => ⟨S1x256, .f32⟩
  | .local _ .vmem, ⟨10, _⟩ => ⟨S2048x256, .bf16⟩
  | .local _ .vmem, ⟨11, _⟩ => ⟨S2048x256, .bf16⟩
  | .local _ .vmem, ⟨12, _⟩ => ⟨S256x256, .f32⟩
  | .local _ .vmem, ⟨13, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_c_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_c_6 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolBwdRefIdeal.lean ====
abbrev S8192x256 : Shape := ⟨2, ![8192, 256]⟩
abbrev S4x64x64 : Shape := ⟨3, ![4, 64, 64]⟩
abbrev S1x256 : Shape := ⟨2, ![1, 256]⟩
abbrev S1x8192x256 : Shape := ⟨3, ![1, 8192, 256]⟩
abbrev S256 : Shape := ⟨1, ![256]⟩
abbrev S1x8192x4x64 : Shape := ⟨4, ![1, 8192, 4, 64]⟩
abbrev S_ : Shape := ⟨0, ![]⟩
abbrev S8192 : Shape := ⟨1, ![8192]⟩
abbrev S1x8192x1x64 : Shape := ⟨4, ![1, 8192, 1, 64]⟩
abbrev S1x8192x64 : Shape := ⟨3, ![1, 8192, 64]⟩
abbrev S1x2x64 : Shape := ⟨3, ![1, 2, 64]⟩
abbrev S1x8190x64 : Shape := ⟨3, ![1, 8190, 64]⟩
abbrev S1x8192x1 : Shape := ⟨3, ![1, 8192, 1]⟩
abbrev S1x4x64 : Shape := ⟨3, ![1, 4, 64]⟩
abbrev S1x8188x64 : Shape := ⟨3, ![1, 8188, 64]⟩
abbrev S1x8x64 : Shape := ⟨3, ![1, 8, 64]⟩
abbrev S1x8184x64 : Shape := ⟨3, ![1, 8184, 64]⟩
abbrev S1x16x64 : Shape := ⟨3, ![1, 16, 64]⟩
abbrev S1x8176x64 : Shape := ⟨3, ![1, 8176, 64]⟩
abbrev S4x64x1x8192 : Shape := ⟨4, ![4, 64, 1, 8192]⟩
abbrev S1x1x256 : Shape := ⟨3, ![1, 1, 256]⟩
abbrev S4x1x8192x64 : Shape := ⟨4, ![4, 1, 8192, 64]⟩
abbrev S64x64 : Shape := ⟨2, ![64, 64]⟩
abbrev S1x64x64 : Shape := ⟨3, ![1, 64, 64]⟩
abbrev S64x256 : Shape := ⟨2, ![64, 256]⟩
abbrev S256x256 : Shape := ⟨2, ![256, 256]⟩

abbrev nBuf : Space → Nat
  | .hbm => 224
  | .vmem => 0
  | .smem => 0
  | _ => 0

abbrev hbmTy0_0 (i : Nat) : BufTy := match i % 128 with
  | 0 => ⟨S8192x256, .f32⟩
  | 1 => ⟨S4x64x64, .f32⟩
  | 2 => ⟨S1x256, .f32⟩
  | 3 => ⟨S8192x256, .f32⟩
  | 4 => ⟨S1x8192x256, .f32⟩
  | 5 => ⟨S256, .f32⟩
  | 6 => ⟨S1x8192x4x64, .f32⟩
  | 7 => ⟨S_, .f32⟩
  | 8 => ⟨S_, .f32⟩
  | 9 => ⟨S1x8192x4x64, .f32⟩
  | 10 => ⟨S8192, .i32⟩
  | 11 => ⟨S1x8192x1x64, .f32⟩
  | 12 => ⟨S1x8192x64, .f32⟩
  | 13 => ⟨S_, .f32⟩
  | 14 => ⟨S1x2x64, .f32⟩
  | 15 => ⟨S1x8190x64, .f32⟩
  | 16 => ⟨S1x8192x64, .f32⟩
  | 17 => ⟨S_, .f32⟩
  | 18 => ⟨S1x2x64, .f32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S8192, .f32⟩
  | 26 => ⟨S1x8192x1, .f32⟩
  | 27 => ⟨S1x8192x64, .f32⟩
  | 28 => ⟨S1x8192x64, .f32⟩
  | 29 => ⟨S1x8192x64, .f32⟩
  | 30 => ⟨S1x8192x1x64, .f32⟩
  | 31 => ⟨S1x8192x64, .f32⟩
  | 32 => ⟨S1x8192x64, .f32⟩
  | 33 => ⟨S1x8192x1x64, .f32⟩
  | 34 => ⟨S1x8192x64, .f32⟩
  | 35 => ⟨S_, .f32⟩
  | 36 => ⟨S1x4x64, .f32⟩
  | 37 => ⟨S1x8188x64, .f32⟩
  | 38 => ⟨S1x8192x64, .f32⟩
  | 39 => ⟨S_, .f32⟩
  | 40 => ⟨S1x4x64, .f32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .f32⟩
  | 48 => ⟨S1x8192x1, .f32⟩
  | 49 => ⟨S1x8192x64, .f32⟩
  | 50 => ⟨S1x8192x64, .f32⟩
  | 51 => ⟨S1x8192x64, .f32⟩
  | 52 => ⟨S1x8192x1x64, .f32⟩
  | 53 => ⟨S1x8192x64, .f32⟩
  | 54 => ⟨S1x8192x64, .f32⟩
  | 55 => ⟨S1x8192x1x64, .f32⟩
  | 56 => ⟨S1x8192x64, .f32⟩
  | 57 => ⟨S_, .f32⟩
  | 58 => ⟨S1x8x64, .f32⟩
  | 59 => ⟨S1x8184x64, .f32⟩
  | 60 => ⟨S1x8192x64, .f32⟩
  | 61 => ⟨S_, .f32⟩
  | 62 => ⟨S1x8x64, .f32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .f32⟩
  | 70 => ⟨S1x8192x1, .f32⟩
  | 71 => ⟨S1x8192x64, .f32⟩
  | 72 => ⟨S1x8192x64, .f32⟩
  | 73 => ⟨S1x8192x64, .f32⟩
  | 74 => ⟨S1x8192x1x64, .f32⟩
  | 75 => ⟨S1x8192x64, .f32⟩
  | 76 => ⟨S1x8192x64, .f32⟩
  | 77 => ⟨S1x8192x1x64, .f32⟩
  | 78 => ⟨S1x8192x64, .f32⟩
  | 79 => ⟨S_, .f32⟩
  | 80 => ⟨S1x16x64, .f32⟩
  | 81 => ⟨S1x8176x64, .f32⟩
  | 82 => ⟨S1x8192x64, .f32⟩
  | 83 => ⟨S_, .f32⟩
  | 84 => ⟨S1x16x64, .f32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S8192, .f32⟩
  | 92 => ⟨S1x8192x1, .f32⟩
  | 93 => ⟨S1x8192x64, .f32⟩
  | 94 => ⟨S1x8192x64, .f32⟩
  | 95 => ⟨S1x8192x64, .f32⟩
  | 96 => ⟨S1x8192x1x64, .f32⟩
  | 97 => ⟨S1x8192x64, .f32⟩
  | 98 => ⟨S1x8192x64, .f32⟩
  | 99 => ⟨S1x8192x1x64, .f32⟩
  | 100 => ⟨S1x8192x1x64, .f32⟩
  | 101 => ⟨S1x8192x1x64, .f32⟩
  | 102 => ⟨S1x8192x1x64, .f32⟩
  | 103 => ⟨S1x8192x4x64, .f32⟩
  | 104 => ⟨S4x64x1x8192, .f32⟩
  | 105 => ⟨S1x8192x4x64, .f32⟩
  | 106 => ⟨S1x8192x256, .f32⟩
  | 107 => ⟨S1x1x256, .f32⟩
  | 108 => ⟨S1x8192x256, .f32⟩
  | 109 => ⟨S1x8192x256, .f32⟩
  | 110 => ⟨S8192x256, .f32⟩
  | 111 => ⟨S1x8192x256, .f32⟩
  | 112 => ⟨S1x8192x256, .f32⟩
  | 113 => ⟨S_, .f32⟩
  | 114 => ⟨S1x256, .f32⟩
  | 115 => ⟨S1x1x256, .f32⟩
  | 116 => ⟨S1x8192x256, .f32⟩
  | 117 => ⟨S1x8192x256, .f32⟩
  | 118 => ⟨S_, .f32⟩
  | 119 => ⟨S256, .f32⟩
  | 120 => ⟨S1x8192x4x64, .f32⟩
  | 121 => ⟨S4x64x1x8192, .f32⟩
  | 122 => ⟨S4x1x8192x64, .f32⟩
  | 123 => ⟨S1x8192x4x64, .f32⟩
  | 124 => ⟨S4x64x64, .f32⟩
  | 125 => ⟨S4x64x64, .f32⟩
  | 126 => ⟨S1x8192x1x64, .f32⟩
  | 127 => ⟨S1x8192x64, .f32⟩
  | _ => ⟨S8192x256, .f32⟩

abbrev hbmTy0_1 (i : Nat) : BufTy := match i % 128 with
  | 0 => ⟨S1x8192x1x64, .f32⟩
  | 1 => ⟨S1x8192x64, .f32⟩
  | 2 => ⟨S1x8192x1x64, .f32⟩
  | 3 => ⟨S1x8192x64, .f32⟩
  | 4 => ⟨S1x8192x1x64, .f32⟩
  | 5 => ⟨S1x8192x64, .f32⟩
  | 6 => ⟨S1x8192x64, .f32⟩
  | 7 => ⟨S1x8192x1x64, .f32⟩
  | 8 => ⟨S_, .f32⟩
  | 9 => ⟨S1x8192x4x64, .f32⟩
  | 10 => ⟨S1x8192x64, .f32⟩
  | 11 => ⟨S1x8192x64, .f32⟩
  | 12 => ⟨S1x8192x64, .f32⟩
  | 13 => ⟨S1x16x64, .f32⟩
  | 14 => ⟨S1x8176x64, .f32⟩
  | 15 => ⟨S_, .f32⟩
  | 16 => ⟨S1x8192x64, .f32⟩
  | 17 => ⟨S1x8192x64, .f32⟩
  | 18 => ⟨S1x8192x1x64, .f32⟩
  | 19 => ⟨S_, .f32⟩
  | 20 => ⟨S1x8192x4x64, .f32⟩
  | 21 => ⟨S1x8192x64, .f32⟩
  | 22 => ⟨S1x8192x1x64, .f32⟩
  | 23 => ⟨S_, .f32⟩
  | 24 => ⟨S1x8192x4x64, .f32⟩
  | 25 => ⟨S1x8192x4x64, .f32⟩
  | 26 => ⟨S1x8192x64, .f32⟩
  | 27 => ⟨S1x8192x64, .f32⟩
  | 28 => ⟨S1x8192x64, .f32⟩
  | 29 => ⟨S1x8x64, .f32⟩
  | 30 => ⟨S1x8184x64, .f32⟩
  | 31 => ⟨S_, .f32⟩
  | 32 => ⟨S1x8192x64, .f32⟩
  | 33 => ⟨S1x8192x64, .f32⟩
  | 34 => ⟨S1x8192x1x64, .f32⟩
  | 35 => ⟨S_, .f32⟩
  | 36 => ⟨S1x8192x4x64, .f32⟩
  | 37 => ⟨S1x8192x4x64, .f32⟩
  | 38 => ⟨S1x8192x64, .f32⟩
  | 39 => ⟨S1x8192x1x64, .f32⟩
  | 40 => ⟨S_, .f32⟩
  | 41 => ⟨S1x8192x4x64, .f32⟩
  | 42 => ⟨S1x8192x4x64, .f32⟩
  | 43 => ⟨S1x8192x64, .f32⟩
  | 44 => ⟨S1x8192x64, .f32⟩
  | 45 => ⟨S1x8192x64, .f32⟩
  | 46 => ⟨S1x4x64, .f32⟩
  | 47 => ⟨S1x8188x64, .f32⟩
  | 48 => ⟨S_, .f32⟩
  | 49 => ⟨S1x8192x64, .f32⟩
  | 50 => ⟨S1x8192x64, .f32⟩
  | 51 => ⟨S1x8192x1x64, .f32⟩
  | 52 => ⟨S_, .f32⟩
  | 53 => ⟨S1x8192x4x64, .f32⟩
  | 54 => ⟨S1x8192x4x64, .f32⟩
  | 55 => ⟨S1x8192x64, .f32⟩
  | 56 => ⟨S1x8192x1x64, .f32⟩
  | 57 => ⟨S_, .f32⟩
  | 58 => ⟨S1x8192x4x64, .f32⟩
  | 59 => ⟨S1x8192x4x64, .f32⟩
  | 60 => ⟨S1x8192x64, .f32⟩
  | 61 => ⟨S1x8192x64, .f32⟩
  | 62 => ⟨S1x8192x64, .f32⟩
  | 63 => ⟨S1x2x64, .f32⟩
  | 64 => ⟨S1x8190x64, .f32⟩
  | 65 => ⟨S_, .f32⟩
  | 66 => ⟨S1x8192x64, .f32⟩
  | 67 => ⟨S1x8192x64, .f32⟩
  | 68 => ⟨S1x8192x1x64, .f32⟩
  | 69 => ⟨S_, .f32⟩
  | 70 => ⟨S1x8192x4x64, .f32⟩
  | 71 => ⟨S1x8192x4x64, .f32⟩
  | 72 => ⟨S_, .f32⟩
  | 73 => ⟨S_, .f32⟩
  | 74 => ⟨S1x8192x4x64, .f32⟩
  | 75 => ⟨S1x8192x4x64, .f32⟩
  | 76 => ⟨S1x8192x256, .f32⟩
  | 77 => ⟨S1x256, .f32⟩
  | 78 => ⟨S_, .f32⟩
  | 79 => ⟨S8192x256, .f32⟩
  | 80 => ⟨S_, .f32⟩
  | 81 => ⟨S64x64, .f32⟩
  | 82 => ⟨S1x64x64, .f32⟩
  | 83 => ⟨S64x64, .f32⟩
  | 84 => ⟨S64x256, .f32⟩
  | 85 => ⟨S1x64x64, .f32⟩
  | 86 => ⟨S64x64, .f32⟩
  | 87 => ⟨S64x256, .f32⟩
  | 88 => ⟨S1x64x64, .f32⟩
  | 89 => ⟨S64x64, .f32⟩
  | 90 => ⟨S64x256, .f32⟩
  | 91 => ⟨S1x64x64, .f32⟩
  | 92 => ⟨S64x64, .f32⟩
  | 93 => ⟨S64x256, .f32⟩
  | 94 => ⟨S256x256, .f32⟩
  | 95 => ⟨S8192x256, .bf16⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_c_12 : Ref sig .tc := ⟨.hbm, 85, rfl⟩
abbrev main_v65 : Ref sig .tc := ⟨.hbm, 86, rfl⟩
abbrev main_v66 : Ref sig .tc := ⟨.hbm, 87, rfl⟩
abbrev main_c_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_15 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_16 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_17 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_18 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_19 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_20 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_21 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_22 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_23 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_24 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_25 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_cst_26 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_27 : Ref sig .tc := ⟨.hbm, 197, rfl⟩
abbrev main_v162 : Ref sig .tc := ⟨.hbm, 198, rfl⟩
abbrev main_v163 : Ref sig .tc := ⟨.hbm, 199, rfl⟩
abbrev main_call1_cst : Ref sig .tc := ⟨.hbm, 200, rfl⟩
abbrev main_call1_v0 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_cst_28 : Ref sig .tc := ⟨.hbm, 206, rfl⟩
abbrev main_v168 : Ref sig .tc := ⟨.hbm, 207, rfl⟩
abbrev main_cst_29 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512 : Shape := ⟨1, ![512]⟩
abbrev S512x1 : Shape := ⟨2, ![512, 1]⟩

abbrev nBuf : Space → Nat
  | .hbm => 28
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S1x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== InProjBwd.lean ====
abbrev S8192x1024 : Shape := ⟨2, ![8192, 1024]⟩
abbrev S1x1024 : Shape := ⟨2, ![1, 1024]⟩
abbrev S1024x2560 : Shape := ⟨2, ![1024, 2560]⟩
abbrev S8192x256 : Shape := ⟨2, ![8192, 256]⟩
abbrev S8192x768 : Shape := ⟨2, ![8192, 768]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S2560x1024 : Shape := ⟨2, ![2560, 1024]⟩
abbrev S8192x2560 : Shape := ⟨2, ![8192, 2560]⟩
abbrev S512x256 : Shape := ⟨2, ![512, 256]⟩
abbrev S512x768 : Shape := ⟨2, ![512, 768]⟩
abbrev S512x128 : Shape := ⟨2, ![512, 128]⟩
abbrev S512x1024 : Shape := ⟨2, ![512, 1024]⟩
abbrev S512x2560 : Shape := ⟨2, ![512, 2560]⟩
abbrev S256x128 : Shape := ⟨2, ![256, 128]⟩
abbrev S256x256 : Shape := ⟨2, ![256, 256]⟩
abbrev S256x768 : Shape := ⟨2, ![256, 768]⟩
abbrev S256x2560 : Shape := ⟨2, ![256, 2560]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 42
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x256, .f32⟩
  | .hbm, ⟨4, _⟩ => ⟨S8192x768, .f32⟩
  | .hbm, ⟨5, _⟩ => ⟨S8192x768, .f32⟩
  | .hbm, ⟨6, _⟩ => ⟨S8192x768, .f32⟩
  | .hbm, ⟨7, _⟩ => ⟨S8192x1024, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .i32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S1x8192x1x32, .f32⟩
  | .hbm, ⟨25, _⟩ => ⟨S1x8192x4x32, .f32⟩
  | .hbm, ⟨26, _⟩ => ⟨S8192x128, .f32⟩
  | .hbm, ⟨27, _⟩ => ⟨S8192x32, .f32⟩
  | .hbm, ⟨28, _⟩ => ⟨S8192x32, .f32⟩
  | .hbm, ⟨29, _⟩ => ⟨S8192x64, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S8192x256, .bf16⟩
  | .hbm, ⟨34, _⟩ => ⟨S8192x768, .bf16⟩
  | .hbm, ⟨35, _⟩ => ⟨S8192x768, .bf16⟩
  | .hbm, ⟨36, _⟩ => ⟨S8192x768, .bf16⟩
  | .hbm, ⟨37, _⟩ => ⟨S2560x1024, .f32⟩
  | .hbm, ⟨38, _⟩ => ⟨S2560x1024, .bf16⟩
  | .hbm, ⟨39, _⟩ => ⟨S8192x1024, .f32⟩
  | .hbm, ⟨40, _⟩ => ⟨S8192x2560, .bf16⟩
  | .hbm, ⟨41, _⟩ => ⟨S1x1024, .f32⟩
  | .local _ .vmem, ⟨0, _⟩ => ⟨S512x256, .bf16⟩
  | .local _ .vmem, ⟨1, _⟩ => ⟨S512x256, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S2560x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x2560, .bf16⟩
  | .local _ .vmem, ⟨21, _⟩ => ⟨S512x2560, .bf16⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def k0_mult1 : BitVec 32 :=
  let c0_i32_5 : BitVec 32 := 0#32
  let c256_i32 : BitVec 32 := 256#32
  let v22 : BitVec 32 := Scalar.muli c0_i32_5 c256_i32
  v22
def k0_off1 (c0_i32_5 : BitVec 32) : Fin 2 → Nat :=
  let c256_i32 : BitVec 32 := 256#32
  let v22 : BitVec 32 := Scalar.muli c0_i32_5 c256_i32
  let v23 : BitVec 32 := v22
  let v24 : Index := Scalar.indexCast v23
  let c0 : Index := 0#32
  ![v24.toNat, 0]
def k0_off2 (c0_i32_5 : BitVec 32) : Fin 2 → Nat :=
  let c256_i32 : BitVec 32 := 256#32
  let v22 : BitVec 32 := Scalar.muli c0_i32_5 c256_i32
  let v23 : BitVec 32 := v22
  let v27 : Index := Scalar.indexCast v23
  let c0_6 : Index := 0#32
  ![v27.toNat, 0]
def k0_off3 (c0_i32_5 : BitVec 32) : Fin 2 → Nat :=
  let c256_i32 : BitVec 32 := 256#32
  let v22 : BitVec 32 := Scalar.muli c0_i32_5 c256_i32
  let v23 : BitVec 32 := v22
  let v29 : Index := Scalar.indexCast v23
  let c0_7 : Index := 0#32
  ![v29.toNat, 0]
def k0_off4 (c0_i32_5 : BitVec 32) : Fin 2 → Nat :=
  let c256_i32 : BitVec 32 := 256#32
  let v22 : BitVec 32 := Scalar.muli c0_i32_5 c256_i32
  let v23 : BitVec 32 := v22
  let v35 : Index := Scalar.indexCast v23
  let c0_9 : Index := 0#32
  ![v35.toNat, 0]
def k0_off5 (c0_i32_5 : BitVec 32) : Fin 2 → Nat :=
  let c256_i32 : BitVec 32 := 256#32
  let v22 : BitVec 32 := Scalar.muli c0_i32_5 c256_i32
  let v23 : BitVec 32 := v22
  let v46 : Index := Scalar.indexCast v23
  let c256 : Index := 256#32
  ![v46.toNat, 256]
def k0_off6 (c0_i32_5 : BitVec 32) : Fin 2 → Nat :=
  let c256_i32 : BitVec 32 := 256#32
  let v22 : BitVec 32 := Scalar.muli c0_i32_5 c256_i32
  let v23 : BitVec 32 := v22
  let v59 : Index := Scalar.indexCast v23
  let c1024 : Index := 1024#32
  ![v59.toNat, 1024]
def k0_off7 (c0_i32_5 : BitVec 32) : Fin 2 → Nat :=
  let c256_i32 : BitVec 32 := 256#32
  let v22 : BitVec 32 := Scalar.muli c0_i32_5 c256_i32
  let v23 : BitVec 32 := v22
  let v61 : Index := Scalar.indexCast v23
  let c128 : Index := 128#32
  ![v61.toNat, 128]
def k0_off8 (c0_i32_5 : BitVec 32) : Fin 2 → Nat :=
  let c256_i32 : BitVec 32 := 256#32
  let v22 : BitVec 32 := Scalar.muli c0_i32_5 c256_i32
  let v23 : BitVec 32 := v22
  let v72 : Index := Scalar.indexCast v23
  let c384 : Index := 384#32
  ![v72.toNat, 384]
def k0_off9 (c0_i32_5 : BitVec 32) : Fin 2 → Nat :=
  let c256_i32 : BitVec 32 := 256#32
  let v22 : BitVec 32 := Scalar.muli c0_i32_5 c256_i32
  let v23 : BitVec 32 := v22
  let v85 : Index := Scalar.indexCast v23
  let c1152 : Index := 1152#32
  ![v85.toNat, 1152]
def k0_off10 (c0_i32_5 : BitVec 32) : Fin 2 → Nat :=
  let c256_i32 : BitVec 32 := 256#32
  let v22 : BitVec 32 := Scalar.muli c0_i32_5 c256_i32
  let v23 : BitVec 32 := v22
  let v87 : Index := Scalar.indexCast v23
  let c256_19 : Index := 256#32
  ![v87.toNat, 256]
def k0_off11 (c0_i32_5 : BitVec 32) : Fin 2 → Nat :=
  let c256_i32 : BitVec 32 := 256#32
  let v22 : BitVec 32 := Scalar.muli c0_i32_5 c256_i32
  let v23 : BitVec 32 := v22
  let v98 : Index := Scalar.indexCast v23
  let c512 : Index := 512#32
  ![v98.toNat, 512]
def k0_off12 (c0_i32_5 : BitVec 32) : Fin 2 → Nat :=
  let c256_i32 : BitVec 32 := 256#32
  let v22 : BitVec 32 := Scalar.muli c0_i32_5 c256_i32
  let v23 : BitVec 32 := v22
  let v111 : Index := Scalar.indexCast v23
  let c1280 : Index := 1280#32
  ![v111.toNat, 1280]
def k0_off13 (c0_i32_5 : BitVec 32) : Fin 2 → Nat :=
  let c256_i32 : BitVec 32 := 256#32
  let v22 : BitVec 32 := Scalar.muli c0_i32_5 c256_i32
  let v23 : BitVec 32 := v22
  let v113 : Index := Scalar.indexCast v23
  let c384_25 : Index := 384#32
  ![v113.toNat, 384]
def k0_off14 (c0_i32_5 : BitVec 32) : Fin 2 → Nat :=
  let c256_i32 : BitVec 32 := 256#32
  let v22 : BitVec 32 := Scalar.muli c0_i32_5 c256_i32
  let v23 : BitVec 32 := v22
  let v124 : Index := Scalar.indexCast v23
  let c640 : Index := 640#32
  ![v124.toNat, 640]
def k0_off15 (c0_i32_5 : BitVec 32) : Fin 2 → Nat :=
  let c256_i32 : BitVec 32 := 256#32
  let v22 : BitVec 32 := Scalar.muli c0_i32_5 c256_i32
  let v23 : BitVec 32 := v22
  let v137 : Index := Scalar.indexCast v23
  let c1408 : Index := 1408#32
  ![v137.toNat, 1408]
def k0_off16 (c0_i32_5 : BitVec 32) : Fin 2 → Nat :=
  let c256_i32 : BitVec 32 := 256#32
  let v22 : BitVec 32 := Scalar.muli c0_i32_5 c256_i32
  let v23 : BitVec 32 := v22
  let v139 : Index := Scalar.indexCast v23
  let c512_31 : Index := 512#32
  ![v139.toNat, 512]
def k0_off17 (c0_i32_5 : BitVec 32) : Fin 2 → Nat :=
  let c256_i32 : BitVec 32 := 256#32
  let v22 : BitVec 32 := Scalar.muli c0_i32_5 c256_i32
  let v23 : BitVec 32 := v22
  let v150 : Index := Scalar.indexCast v23
  let c768 : Index := 768#32
  ![v150.toNat, 768]
def k0_off18 (c0_i32_5 : BitVec 32) : Fin 2 → Nat :=
  let c256_i32 : BitVec 32 := 256#32
  let v22 : BitVec 32 := Scalar.muli c0_i32_5 c256_i32
  let v23 : BitVec 32 := v22
  let v163 : Index := Scalar.indexCast v23
  let c1536 : Index := 1536#32
  ![v163.toNat, 1536]
def k0_off19 (c0_i32_5 : BitVec 32) : Fin 2 → Nat :=
  let c256_i32 : BitVec 32 := 256#32
  let v22 : BitVec 32 := Scalar.muli c0_i32_5 c256_i32
  let v23 : BitVec 32 := v22
  let v165 : Index := Scalar.indexCast v23
  let c640_37 : Index := 640#32
  ![v165.toNat, 640]
def k0_off20 (c0_i32_5 : BitVec 32) : Fin 2 → Nat :=
  let c256_i32 : BitVec 32 := 256#32
  let v22 : BitVec 32 := Scalar.muli c0_i32_5 c256_i32
  let v23 : BitVec 32 := v22
  let v176 : Index := Scalar.indexCast v23
  let c896 : Index := 896#32
  ![v176.toNat, 896]
def k0_off21 (c0_i32_5 : BitVec 32) : Fin 2 → Nat :=
  let c256_i32 : BitVec 32 := 256#32
  let v22 : BitVec 32 := Scalar.muli c0_i32_5 c256_i32
  let v23 : BitVec 32 := v22
  let v189 : Index := Scalar.indexCast v23
  let c1664 : Index := 1664#32
  ![v189.toNat, 1664]
def k0_off22 (c0_i32_5 : BitVec 32) : Fin 2 → Nat :=
  let c256_i32 : BitVec 32 := 256#32
  let v22 : BitVec 32 := Scalar.muli c0_i32_5 c256_i32
  let v23 : BitVec 32 := v22
  let v191 : Index := Scalar.indexCast v23
  let c0_43 : Index := 0#32
  ![v191.toNat, 0]
def k0_off23 (c0_i32_5 : BitVec 32) : Fin 2 → Nat :=
  let c256_i32 : BitVec 32 := 256#32
  let v22 : BitVec 32 := Scalar.muli c0_i32_5 c256_i32
  let v23 : BitVec 32 := v22
  let v194 : Index := Scalar.indexCast v23
  let c1792 : Index := 1792#32
  ![v194.toNat, 1792]
def k0_off24 (c0_i32_5 : BitVec 32) : Fin 2 → Nat :=
  let c256_i32 : BitVec 32 := 256#32
  let v22 : BitVec 32 := Scalar.muli c0_i32_5 c256_i32
  let v23 : BitVec 32 := v22
  let v196 : Index := Scalar.indexCast v23
  let c0_44 : Index := 0#32
  ![v196.toNat, 0]
def k0_off25 (c0_i32_5 : BitVec 32) : Fin 2 → Nat :=
  let c256_i32 : BitVec 32 := 256#32
  let v22 : BitVec 32 := Scalar.muli c0_i32_5 c256_i32
  let v23 : BitVec 32 := v22
  let v202 : Index := Scalar.indexCast v23
  let c0_47 : Index := 0#32
  ![v202.toNat, 0]
def k0_mult2 : BitVec 32 :=
  let c1_i32_62 : BitVec 32 := 1#32
  let c256_i32_63 : BitVec 32 := 256#32
  let v239 : BitVec 32 := Scalar.muli c1_i32_62 c256_i32_63
  v239
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InProjBwdRefIdeal.lean ====
abbrev S8192x1024 : Shape := ⟨2, ![8192, 1024]⟩
abbrev S1x1024 : Shape := ⟨2, ![1, 1024]⟩
abbrev S1024x2560 : Shape := ⟨2, ![1024, 2560]⟩
abbrev S8192x256 : Shape := ⟨2, ![8192, 256]⟩
abbrev S8192x768 : Shape := ⟨2, ![8192, 768]⟩
abbrev S8192 : Shape := ⟨1, ![8192]⟩
abbrev S_ : Shape := ⟨0, ![]⟩
abbrev S8192x2560 : Shape := ⟨2, ![8192, 2560]⟩
abbrev S8192x12x64 : Shape := ⟨3, ![8192, 12, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x12x32 : Shape := ⟨3, ![8192, 12, 32]⟩
abbrev S1024 : Shape := ⟨1, ![1024]⟩

abbrev nBuf : Space → Nat
  | .hbm => 181
  | .vmem => 0
  | .smem => 0
  | _ => 0

abbrev hbmTy0_0 (i : Nat) : BufTy := match i % 128 with
  | 0 => ⟨S8192x1024, .f32⟩
  | 1 => ⟨S1x1024, .f32⟩
  | 2 => ⟨S1024x2560, .f32⟩
  | 3 => ⟨S8192x256, .f32⟩
  | 4 => ⟨S8192x768, .f32⟩
  | 5 => ⟨S8192x768, .f32⟩
  | 6 => ⟨S8192x768, .f32⟩
  | 7 => ⟨S8192x1024, .f32⟩
  | 8 => ⟨S8192, .i32⟩
  | 9 => ⟨S_, .f32⟩
  | 10 => ⟨S8192x2560, .f32⟩
  | 11 => ⟨S8192x256, .f32⟩
  | 12 => ⟨S8192x768, .f32⟩
  | 13 => ⟨S8192x768, .f32⟩
  | 14 => ⟨S8192x768, .f32⟩
  | 15 => ⟨S8192x12x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S8192, .f32⟩
  | 25 => ⟨S8192x1, .f32⟩
  | 26 => ⟨S1x32, .f32⟩
  | 27 => ⟨S8192x32, .f32⟩
  | 28 => ⟨S8192x32, .f32⟩
  | 29 => ⟨S8192x32, .f32⟩
  | 30 => ⟨S8192x32, .f32⟩
  | 31 => ⟨S8192x1x32, .f32⟩
  | 32 => ⟨S8192x32, .f32⟩
  | 33 => ⟨S8192x1x32, .f32⟩
  | 34 => ⟨S8192x12x32, .f32⟩
  | 35 => ⟨S8192x12x32, .f32⟩
  | 36 => ⟨S8192x12x32, .f32⟩
  | 37 => ⟨S8192x12x32, .f32⟩
  | 38 => ⟨S8192x12x32, .f32⟩
  | 39 => ⟨S8192x12x32, .f32⟩
  | 40 => ⟨S8192x12x32, .f32⟩
  | 41 => ⟨S8192x12x32, .f32⟩
  | 42 => ⟨S8192x12x32, .f32⟩
  | 43 => ⟨S8192x12x32, .f32⟩
  | 44 => ⟨S8192x12x32, .f32⟩
  | 45 => ⟨S8192x12x32, .f32⟩
  | 46 => ⟨S8192x12x64, .f32⟩
  | 47 => ⟨S8192x12x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S8192, .f32⟩
  | 57 => ⟨S8192x1, .f32⟩
  | 58 => ⟨S1x32, .f32⟩
  | 59 => ⟨S8192x32, .f32⟩
  | 60 => ⟨S8192x32, .f32⟩
  | 61 => ⟨S8192x32, .f32⟩
  | 62 => ⟨S8192x32, .f32⟩
  | 63 => ⟨S8192x1x32, .f32⟩
  | 64 => ⟨S8192x32, .f32⟩
  | 65 => ⟨S8192x1x32, .f32⟩
  | 66 => ⟨S8192x12x32, .f32⟩
  | 67 => ⟨S8192x12x32, .f32⟩
  | 68 => ⟨S8192x12x32, .f32⟩
  | 69 => ⟨S8192x12x32, .f32⟩
  | 70 => ⟨S8192x12x32, .f32⟩
  | 71 => ⟨S8192x12x32, .f32⟩
  | 72 => ⟨S8192x12x32, .f32⟩
  | 73 => ⟨S8192x12x32, .f32⟩
  | 74 => ⟨S8192x12x32, .f32⟩
  | 75 => ⟨S8192x12x32, .f32⟩
  | 76 => ⟨S8192x12x32, .f32⟩
  | 77 => ⟨S8192x12x32, .f32⟩
  | 78 => ⟨S8192x12x64, .f32⟩
  | 79 => ⟨S8192x12x64, .f32⟩
  | 80 => ⟨S8192x12x64, .f32⟩
  | 81 => ⟨S8192x12x32, .f32⟩
  | 82 => ⟨S8192x12x32, .f32⟩
  | 83 => ⟨S8192x12x32, .f32⟩
  | 84 => ⟨S8192x12x32, .f32⟩
  | 85 => ⟨S8192x12x32, .f32⟩
  | 86 => ⟨S8192x12x32, .f32⟩
  | 87 => ⟨S8192x12x32, .f32⟩
  | 88 => ⟨S8192x12x32, .f32⟩
  | 89 => ⟨S8192x12x32, .f32⟩
  | 90 => ⟨S8192x12x32, .f32⟩
  | 91 => ⟨S8192x12x32, .f32⟩
  | 92 => ⟨S8192x12x32, .f32⟩
  | 93 => ⟨S8192x12x32, .f32⟩
  | 94 => ⟨S_, .f32⟩
  | 95 => ⟨S8192x12x64, .f32⟩
  | 96 => ⟨S_, .f32⟩
  | 97 => ⟨S8192x12x64, .f32⟩
  | 98 => ⟨S8192x12x64, .f32⟩
  | 99 => ⟨S8192x768, .f32⟩
  | 100 => ⟨S8192x12x32, .f32⟩
  | 101 => ⟨S8192x12x32, .f32⟩
  | 102 => ⟨S8192x12x32, .f32⟩
  | 103 => ⟨S8192x12x32, .f32⟩
  | 104 => ⟨S8192x12x32, .f32⟩
  | 105 => ⟨S8192x12x32, .f32⟩
  | 106 => ⟨S8192x12x32, .f32⟩
  | 107 => ⟨S8192x12x32, .f32⟩
  | 108 => ⟨S8192x12x32, .f32⟩
  | 109 => ⟨S8192x12x32, .f32⟩
  | 110 => ⟨S8192x12x32, .f32⟩
  | 111 => ⟨S8192x12x32, .f32⟩
  | 112 => ⟨S8192x12x32, .f32⟩
  | 113 => ⟨S_, .f32⟩
  | 114 => ⟨S8192x12x64, .f32⟩
  | 115 => ⟨S_, .f32⟩
  | 116 => ⟨S8192x12x64, .f32⟩
  | 117 => ⟨S8192x12x64, .f32⟩
  | 118 => ⟨S8192x768, .f32⟩
  | 119 => ⟨S_, .f32⟩
  | 120 => ⟨S8192x2560, .f32⟩
  | 121 => ⟨S_, .f32⟩
  | 122 => ⟨S8192x2560, .f32⟩
  | 123 => ⟨S8192x2560, .f32⟩
  | 124 => ⟨S_, .f32⟩
  | 125 => ⟨S8192x2560, .f32⟩
  | 126 => ⟨S8192x2560, .f32⟩
  | 127 => ⟨S_, .f32⟩
  | _ => ⟨S8192x1024, .f32⟩

abbrev hbmTy0_1 (i : Nat) : BufTy := match i % 128 with
  | 0 => ⟨S8192x2560, .f32⟩
  | 1 => ⟨S8192x2560, .f32⟩
  | 2 => ⟨S1024, .f32⟩
  | 3 => ⟨S8192x1024, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192x1, .f32⟩
  | 12 => ⟨S8192x1, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x2560, .f32⟩
  | 24 => ⟨S8192x1024, .f32⟩
  | 25 => ⟨S8192x1024, .f32⟩
  | 26 => ⟨S_, .f32⟩
  | 27 => ⟨S1024, .f32⟩
  | 28 => ⟨S1x1024, .f32⟩
  | 29 => ⟨S8192x1024, .f32⟩
  | 30 => ⟨S8192x1024, .f32⟩
  | 31 => ⟨S_, .f32⟩
  | 32 => ⟨S1024, .f32⟩
  | 33 => ⟨S8192x1024, .f32⟩
  | 34 => ⟨S_, .f32⟩
  | 35 => ⟨S8192, .f32⟩
  | 36 => ⟨S8192x1, .f32⟩
  | 37 => ⟨S8192x1024, .f32⟩
  | 38 => ⟨S8192x1024, .f32⟩
  | 39 => ⟨S8192x1024, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S1x1024, .f32⟩
  | 52 => ⟨S8192x2560, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_4 : Ref sig .tc := ⟨.hbm, 94, rfl⟩
abbrev main_v81 : Ref sig .tc := ⟨.hbm, 95, rfl⟩
abbrev main_cst_5 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_6 : Ref sig .tc := ⟨.hbm, 113, rfl⟩
abbrev main_v98 : Ref sig .tc := ⟨.hbm, 114, rfl⟩
abbrev main_cst_7 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_8 : Ref sig .tc := ⟨.hbm, 119, rfl⟩
abbrev main_v102 : Ref sig .tc := ⟨.hbm, 120, rfl⟩
abbrev main_cst_9 : Ref sig .tc := ⟨.hbm, 121, rfl⟩
abbrev main_v103 : Ref sig .tc := ⟨.hbm, 122, rfl⟩
abbrev main_v104 : Ref sig .tc := ⟨.hbm, 123, rfl⟩
abbrev main_cst_10 : Ref sig .tc := ⟨.hbm, 124, rfl⟩
abbrev main_v105 : Ref sig .tc := ⟨.hbm, 125, rfl⟩
abbrev main_v106 : Ref sig .tc := ⟨.hbm, 126, rfl⟩
abbrev main_cst_11 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_12 : Ref sig .tc := ⟨.hbm, 132, rfl⟩
abbrev main_v111 : Ref sig .tc := ⟨.hbm, 133, rfl⟩
abbrev main_v112 : Ref sig .tc := ⟨.hbm, 134, rfl⟩
abbrev main_cst_13 : Ref sig .tc := ⟨.hbm, 135, rfl⟩
abbrev main_v113 : Ref sig .tc := ⟨.hbm, 136, rfl⟩
abbrev main_v114 : Ref sig .tc := ⟨.hbm, 137, rfl⟩
abbrev main_cst_14 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_15 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_16 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_cst_17 : Ref sig .tc := ⟨.hbm, 159, rfl⟩
abbrev main_v133 : Ref sig .tc := ⟨.hbm, 160, rfl⟩
abbrev main_v134 : Ref sig .tc := ⟨.hbm, 161, rfl⟩
abbrev main_cst_18 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_19 : Ref sig .tc := ⟨.hbm, 169, rfl⟩
abbrev main_v141 : Ref sig .tc := ⟨.hbm, 170, rfl⟩
abbrev main_v142 : Ref sig .tc := ⟨.hbm, 171, rfl⟩
abbrev main_cst_20 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩

abbrev nD : Nat := 1
abbrev τ : Topo := Topo.v7x

variable {F : FTy → Type} [FloatOps F]
-- ==== PoolFwd.lean ====
abbrev S8192x256 : Shape := ⟨2, ![8192, 256]⟩
abbrev S4x64x64 : Shape := ⟨3, ![4, 64, 64]⟩
abbrev S1x256 : Shape := ⟨2, ![1, 256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S2048x256 : Shape := ⟨2, ![2048, 256]⟩
abbrev S16x256 : Shape := ⟨2, ![16, 256]⟩
abbrev S2064x256 : Shape := ⟨2, ![2064, 256]⟩

abbrev nBuf : Space → Nat
  | .hbm => 27
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S4x64x64, .f32⟩
  | .hbm, ⟨2, _⟩ => ⟨S1x256, .f32⟩
  | .hbm, ⟨3, _⟩ => ⟨S_, .f32⟩
  | .hbm, ⟨4, _⟩ => ⟨S256x256, .f32⟩
  | .hbm, ⟨5, _⟩ => ⟨S1x64x64, .f32⟩
  | .hbm, ⟨6, _⟩ => ⟨S64x64, .f32⟩
  | .hbm, ⟨7, _⟩ => ⟨S_, .i32⟩
  | .hbm, ⟨8, _⟩ => ⟨S_, .i32⟩
  | .hbm, ⟨9, _⟩ => ⟨S256x256, .f32⟩
  | .hbm, ⟨10, _⟩ => ⟨S1x64x64, .f32⟩
  | .hbm, ⟨11, _⟩ => ⟨S64x64, .f32⟩
  | .hbm, ⟨12, _⟩ => ⟨S_, .i32⟩
  | .hbm, ⟨13, _⟩ => ⟨S_, .i32⟩
  | .hbm, ⟨14, _⟩ => ⟨S256x256, .f32⟩
  | .hbm, ⟨15, _⟩ => ⟨S1x64x64, .f32⟩
  | .hbm, ⟨16, _⟩ => ⟨S64x64, .f32⟩
  | .hbm, ⟨17, _⟩ => ⟨S_, .i32⟩
  | .hbm, ⟨18, _⟩ => ⟨S_, .i32⟩
  | .hbm, ⟨19, _⟩ => ⟨S256x256, .f32⟩
  | .hbm, ⟨20, _⟩ => ⟨S1x64x64, .f32⟩
  | .hbm, ⟨21, _⟩ => ⟨S64x64, .f32⟩
  | .hbm, ⟨22, _⟩ => ⟨S_, .i32⟩
  | .hbm, ⟨23, _⟩ => ⟨S_, .i32⟩
  | .hbm, ⟨24, _⟩ => ⟨S256x256, .f32⟩
  | .hbm, ⟨25, _⟩ => ⟨S256x256, .bf16⟩
  | .hbm, ⟨26, _⟩ => ⟨S8192x256, .bf16⟩
  | .local _ .vmem, ⟨0, _⟩ => ⟨S2048x256, .f32⟩
  | .local _ .vmem, ⟨1, _⟩ => ⟨S2048x256, .f32⟩
  | .local _ .vmem, ⟨2, _⟩ => ⟨S16x256, .f32⟩
  | .local _ .vmem, ⟨3, _⟩ => ⟨S16x256, .f32⟩
  | .local _ .vmem, ⟨4, _⟩ => ⟨S256x256, .bf16⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_c_6 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S8192x256 : Shape := ⟨2, ![8192, 256]⟩
abbrev S4x64x64 : Shape := ⟨3, ![4, 64, 64]⟩
abbrev S1x256 : Shape := ⟨2, ![1, 256]⟩
abbrev S1x8192x256 : Shape := ⟨3, ![1, 8192, 256]⟩
abbrev S256 : Shape := ⟨1, ![256]⟩
abbrev S1x8192x4x64 : Shape := ⟨4, ![1, 8192, 4, 64]⟩
abbrev S_ : Shape := ⟨0, ![]⟩
abbrev S8192 : Shape := ⟨1, ![8192]⟩
abbrev S1x8192x1x64 : Shape := ⟨4, ![1, 8192, 1, 64]⟩
abbrev S1x8192x64 : Shape := ⟨3, ![1, 8192, 64]⟩
abbrev S1x2x64 : Shape := ⟨3, ![1, 2, 64]⟩
abbrev S1x8190x64 : Shape := ⟨3, ![1, 8190, 64]⟩
abbrev S1x8192x1 : Shape := ⟨3, ![1, 8192, 1]⟩
abbrev S1x4x64 : Shape := ⟨3, ![1, 4, 64]⟩
abbrev S1x8188x64 : Shape := ⟨3, ![1, 8188, 64]⟩
abbrev S1x8x64 : Shape := ⟨3, ![1, 8, 64]⟩
abbrev S1x8184x64 : Shape := ⟨3, ![1, 8184, 64]⟩
abbrev S1x16x64 : Shape := ⟨3, ![1, 16, 64]⟩
abbrev S1x8176x64 : Shape := ⟨3, ![1, 8176, 64]⟩
abbrev S4x64x1x8192 : Shape := ⟨4, ![4, 64, 1, 8192]⟩
abbrev S1x1x256 : Shape := ⟨3, ![1, 1, 256]⟩

abbrev nBuf : Space → Nat
  | .hbm => 103
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4x64x64, .f32⟩
  | .hbm, ⟨2, _⟩ => ⟨S1x256, .f32⟩
  | .hbm, ⟨3, _⟩ => ⟨S1x8192x256, .f32⟩
  | .hbm, ⟨4, _⟩ => ⟨S256, .f32⟩
  | .hbm, ⟨5, _⟩ => ⟨S1x8192x4x64, .f32⟩
  | .hbm, ⟨6, _⟩ => ⟨S_, .f32⟩
  | .hbm, ⟨7, _⟩ => ⟨S_, .f32⟩
  | .hbm, ⟨8, _⟩ => ⟨S1x8192x4x64, .f32⟩
  | .hbm, ⟨9, _⟩ => ⟨S8192, .i32⟩
  | .hbm, ⟨10, _⟩ => ⟨S1x8192x1x64, .f32⟩
  | .hbm, ⟨11, _⟩ => ⟨S1x8192x64, .f32⟩
  | .hbm, ⟨12, _⟩ => ⟨S_, .f32⟩
  | .hbm, ⟨13, _⟩ => ⟨S1x2x64, .f32⟩
  | .hbm, ⟨14, _⟩ => ⟨S1x8190x64, .f32⟩
  | .hbm, ⟨15, _⟩ => ⟨S1x8192x64, .f32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .f32⟩
  | .hbm, ⟨23, _⟩ => ⟨S1x8192x1, .f32⟩
  | .hbm, ⟨24, _⟩ => ⟨S1x8192x64, .f32⟩
  | .hbm, ⟨25, _⟩ => ⟨S1x8192x64, .f32⟩
  | .hbm, ⟨26, _⟩ => ⟨S1x8192x64, .f32⟩
  | .hbm, ⟨27, _⟩ => ⟨S1x8192x1x64, .f32⟩
  | .hbm, ⟨28, _⟩ => ⟨S1x8192x64, .f32⟩
  | .hbm, ⟨29, _⟩ => ⟨S1x8192x64, .f32⟩
  | .hbm, ⟨30, _⟩ => ⟨S1x8192x1x64, .f32⟩
  | .hbm, ⟨31, _⟩ => ⟨S1x8192x64, .f32⟩
  | .hbm, ⟨32, _⟩ => ⟨S_, .f32⟩
  | .hbm, ⟨33, _⟩ => ⟨S1x4x64, .f32⟩
  | .hbm, ⟨34, _⟩ => ⟨S1x8188x64, .f32⟩
  | .hbm, ⟨35, _⟩ => ⟨S1x8192x64, .f32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .f32⟩
  | .hbm, ⟨43, _⟩ => ⟨S1x8192x1, .f32⟩
  | .hbm, ⟨44, _⟩ => ⟨S1x8192x64, .f32⟩
  | .hbm, ⟨45, _⟩ => ⟨S1x8192x64, .f32⟩
  | .hbm, ⟨46, _⟩ => ⟨S1x8192x64, .f32⟩
  | .hbm, ⟨47, _⟩ => ⟨S1x8192x1x64, .f32⟩
  | .hbm, ⟨48, _⟩ => ⟨S1x8192x64, .f32⟩
  | .hbm, ⟨49, _⟩ => ⟨S1x8192x64, .f32⟩
  | .hbm, ⟨50, _⟩ => ⟨S1x8192x1x64, .f32⟩
  | .hbm, ⟨51, _⟩ => ⟨S1x8192x64, .f32⟩
  | .hbm, ⟨52, _⟩ => ⟨S_, .f32⟩
  | .hbm, ⟨53, _⟩ => ⟨S1x8x64, .f32⟩
  | .hbm, ⟨54, _⟩ => ⟨S1x8184x64, .f32⟩
  | .hbm, ⟨55, _⟩ => ⟨S1x8192x64, .f32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .f32⟩
  | .hbm, ⟨63, _⟩ => ⟨S1x8192x1, .f32⟩
  | .hbm, ⟨64, _⟩ => ⟨S1x8192x64, .f32⟩
  | .hbm, ⟨65, _⟩ => ⟨S1x8192x64, .f32⟩
  | .hbm, ⟨66, _⟩ => ⟨S1x8192x64, .f32⟩
  | .hbm, ⟨67, _⟩ => ⟨S1x8192x1x64, .f32⟩
  | .hbm, ⟨68, _⟩ => ⟨S1x8192x64, .f32⟩
  | .hbm, ⟨69, _⟩ => ⟨S1x8192x64, .f32⟩
  | .hbm, ⟨70, _⟩ => ⟨S1x8192x1x64, .f32⟩
  | .hbm, ⟨71, _⟩ => ⟨S1x8192x64, .f32⟩
  | .hbm, ⟨72, _⟩ => ⟨S_, .f32⟩
  | .hbm, ⟨73, _⟩ => ⟨S1x16x64, .f32⟩
  | .hbm, ⟨74, _⟩ => ⟨S1x8176x64, .f32⟩
  | .hbm, ⟨75, _⟩ => ⟨S1x8192x64, .f32⟩
  | .hbm, ⟨76, _⟩ => ⟨S_, .i32⟩
  | .hbm, ⟨77, _⟩ => ⟨S8192, .i32⟩
  | .hbm, ⟨78, _⟩ => ⟨S8192, .i32⟩
  | .hbm, ⟨79, _⟩ => ⟨S_, .i32⟩
  | .hbm, ⟨80, _⟩ => ⟨S8192, .i32⟩
  | .hbm, ⟨81, _⟩ => ⟨S8192, .i32⟩
  | .hbm, ⟨82, _⟩ => ⟨S8192, .f32⟩
  | .hbm, ⟨83, _⟩ => ⟨S1x8192x1, .f32⟩
  | .hbm, ⟨84, _⟩ => ⟨S1x8192x64, .f32⟩
  | .hbm, ⟨85, _⟩ => ⟨S1x8192x64, .f32⟩
  | .hbm, ⟨86, _⟩ => ⟨S1x8192x64, .f32⟩
  | .hbm, ⟨87, _⟩ => ⟨S1x8192x1x64, .f32⟩
  | .hbm, ⟨88, _⟩ => ⟨S1x8192x64, .f32⟩
  | .hbm, ⟨89, _⟩ => ⟨S1x8192x64, .f32⟩
  | .hbm, ⟨90, _⟩ => ⟨S1x8192x1x64, .f32⟩
  | .hbm, ⟨91, _⟩ => ⟨S1x8192x1x64, .f32⟩
  | .hbm, ⟨92, _⟩ => ⟨S1x8192x1x64, .f32⟩
  | .hbm, ⟨93, _⟩ => ⟨S1x8192x1x64, .f32⟩
  | .hbm, ⟨94, _⟩ => ⟨S1x8192x4x64, .f32⟩
  | .hbm, ⟨95, _⟩ => ⟨S4x64x1x8192, .f32⟩
  | .hbm, ⟨96, _⟩ => ⟨S1x8192x4x64, .f32⟩
  | .hbm, ⟨97, _⟩ => ⟨S1x8192x256, .f32⟩
  | .hbm, ⟨98, _⟩ => ⟨S1x1x256, .f32⟩
  | .hbm, ⟨99, _⟩ => ⟨S1x8192x256, .f32⟩
  | .hbm, ⟨100, _⟩ => ⟨S1x8192x256, .f32⟩
  | .hbm, ⟨101, _⟩ => ⟨S8192x256, .f32⟩
  | .hbm, ⟨102, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_8 : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== OutProj.lean ====
abbrev S8192x256 : Shape := ⟨2, ![8192, 256]⟩
abbrev S8192x768 : Shape := ⟨2, ![8192, 768]⟩
abbrev S1024x1024 : Shape := ⟨2, ![1024, 1024]⟩
abbrev S8192x1024 : Shape := ⟨2, ![8192, 1024]⟩
abbrev S1x1024 : Shape := ⟨2, ![1, 1024]⟩
abbrev S1024x256 : Shape := ⟨2, ![1024, 256]⟩
abbrev S1024x768 : Shape := ⟨2, ![1024, 768]⟩
abbrev S256x1024 : Shape := ⟨2, ![256, 1024]⟩
abbrev S768x1024 : Shape := ⟨2, ![768, 1024]⟩
abbrev S1024 : Shape := ⟨1, ![1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x768, .f32⟩
  | .hbm, ⟨2, _⟩ => ⟨S1024x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x256, .bf16⟩
  | .hbm, ⟨7, _⟩ => ⟨S8192x768, .bf16⟩
  | .hbm, ⟨8, _⟩ => ⟨S1024x1024, .bf16⟩
  | .hbm, ⟨9, _⟩ => ⟨S8192x1024, .f32⟩
  | .hbm, ⟨10, _⟩ => ⟨S8192x1024, .f32⟩
  | .hbm, ⟨11, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S8192x256 : Shape := ⟨2, ![8192, 256]⟩
abbrev S8192x768 : Shape := ⟨2, ![8192, 768]⟩
abbrev S1024x1024 : Shape := ⟨2, ![1024, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x768, .f32⟩
  | .hbm, ⟨2, _⟩ => ⟨S1024x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== FfnFwd.lean ====
abbrev S8192x1024 : Shape := ⟨2, ![8192, 1024]⟩
abbrev S1024x2816 : Shape := ⟨2, ![1024, 2816]⟩
abbrev S2816x1024 : Shape := ⟨2, ![2816, 1024]⟩
abbrev S11x8192x256 : Shape := ⟨3, ![11, 8192, 256]⟩
abbrev S2048x1024 : Shape := ⟨2, ![2048, 1024]⟩
abbrev S256x1024 : Shape := ⟨2, ![256, 1024]⟩
abbrev S1x2048x256 : Shape := ⟨3, ![1, 2048, 256]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .bf16⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S11x8192x256, .bf16⟩
  | .hbm, ⟨11, _⟩ => ⟨S11x8192x256, .bf16⟩
  | .hbm, ⟨12, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S2048x1024, .f32⟩
  | .local _ .vmem, ⟨13, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_3 : BitVec 32 := 0#32
  let c512_i32 : BitVec 32 := 512#32
  let v6 : BitVec 32 := Scalar.muli c0_i32_3 c512_i32
  v6
def k0_off1 (c0_i32_3 : BitVec 32) : Fin 2 → Nat :=
  let c512_i32 : BitVec 32 := 512#32
  let v6 : BitVec 32 := Scalar.muli c0_i32_3 c512_i32
  let v7 : BitVec 32 := v6
  let v8 : Index := Scalar.indexCast v7
  let c0 : Index := 0#32
  ![v8.toNat, 0]
def k0_off2 (c0_i32_3 : BitVec 32) : Fin 3 → Nat :=
  let c0_9 : Index := 0#32
  let c512_i32 : BitVec 32 := 512#32
  let v6 : BitVec 32 := Scalar.muli c0_i32_3 c512_i32
  let v7 : BitVec 32 := v6
  let v18 : Index := Scalar.indexCast v7
  let c0_10 : Index := 0#32
  ![0, v18.toNat, 0]
def k0_mult2 : BitVec 32 :=
  let c1_i32 : BitVec 32 := 1#32
  let c512_i32_20 : BitVec 32 := 512#32
  let v42 : BitVec 32 := Scalar.muli c1_i32 c512_i32_20
  v42
def k0_mult3 : BitVec 32 :=
  let c2_i32 : BitVec 32 := 2#32
  let c512_i32_39 : BitVec 32 := 512#32
  let v78 : BitVec 32 := Scalar.muli c2_i32 c512_i32_39
  v78
def k0_mult4 : BitVec 32 :=
  let c3_i32 : BitVec 32 := 3#32
  let c512_i32_58 : BitVec 32 := 512#32
  let v114 : BitVec 32 := Scalar.muli c3_i32 c512_i32_58
  v114
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_mult5 : BitVec 32 :=
  let c0_i32_3 : BitVec 32 := 0#32
  let c512_i32 : BitVec 32 := 512#32
  let v6 : BitVec 32 := Scalar.muli c0_i32_3 c512_i32
  v6
def k0_off3 (c0_i32_3 : BitVec 32) : Fin 2 → Nat :=
  let c512_i32 : BitVec 32 := 512#32
  let v6 : BitVec 32 := Scalar.muli c0_i32_3 c512_i32
  let v7 : BitVec 32 := v6
  let v8 : Index := Scalar.indexCast v7
  let c0 : Index := 0#32
  ![v8.toNat, 0]
def k0_off4 (c0_i32_3 : BitVec 32) : Fin 3 → Nat :=
  let c0_9 : Index := 0#32
  let c512_i32 : BitVec 32 := 512#32
  let v6 : BitVec 32 := Scalar.muli c0_i32_3 c512_i32
  let v7 : BitVec 32 := v6
  let v18 : Index := Scalar.indexCast v7
  let c0_10 : Index := 0#32
  ![0, v18.toNat, 0]
def k0_mult6 : BitVec 32 :=
  let c1_i32 : BitVec 32 := 1#32
  let c512_i32_21 : BitVec 32 := 512#32
  let v46 : BitVec 32 := Scalar.muli c1_i32 c512_i32_21
  v46
def k0_mult7 : BitVec 32 :=
  let c2_i32 : BitVec 32 := 2#32
  let c512_i32_41 : BitVec 32 := 512#32
  let v86 : BitVec 32 := Scalar.muli c2_i32 c512_i32_41
  v86
def k0_mult8 : BitVec 32 :=
  let c3_i32 : BitVec 32 := 3#32
  let c512_i32_61 : BitVec 32 := 512#32
  let v126 : BitVec 32 := Scalar.muli c3_i32 c512_i32_61
  v126
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFwdRefIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x11x256 : Shape := ⟨3, ![8192, 11, 256]⟩
abbrev S11x8192x256 : Shape := ⟨3, ![11, 8192, 256]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x1024, .f32⟩
  | .hbm, ⟨17, _⟩ => ⟨S8192x11x256, .f32⟩
  | .hbm, ⟨18, _⟩ => ⟨S11x8192x256, .f32⟩
  | .hbm, ⟨19, _⟩ => ⟨S11x8192x256, .bf16⟩
  | .hbm, ⟨20, _⟩ => ⟨S8192x11x256, .f32⟩
  | .hbm, ⟨21, _⟩ => ⟨S11x8192x256, .f32⟩
  | .hbm, ⟨22, _⟩ => ⟨S11x8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== FfnBwd.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S8192x11x256 : Shape := ⟨3, ![8192, 11, 256]⟩
abbrev S11x8192x256 : Shape := ⟨3, ![11, 8192, 256]⟩
abbrev S2048x1024 : Shape := ⟨2, ![2048, 1024]⟩
abbrev S1x2048x256 : Shape := ⟨3, ![1, 2048, 256]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 23
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .bf16⟩
  | .hbm, ⟨7, _⟩ => ⟨S8192x2816, .f32⟩
  | .hbm, ⟨8, _⟩ => ⟨S8192x2816, .bf16⟩
  | .hbm, ⟨9, _⟩ => ⟨S8192x11x256, .bf16⟩
  | .hbm, ⟨10, _⟩ => ⟨S11x8192x256, .bf16⟩
  | .hbm, ⟨11, _⟩ => ⟨S8192x11x256, .bf16⟩
  | .hbm, ⟨12, _⟩ => ⟨S11x8192x256, .bf16⟩
  | .hbm, ⟨13, _⟩ => ⟨S8192x1024, .bf16⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S2816x1024, .bf16⟩
  | .hbm, ⟨19, _⟩ => ⟨S11x8192x256, .bf16⟩
  | .hbm, ⟨20, _⟩ => ⟨S11x8192x256, .bf16⟩
  | .hbm, ⟨21, _⟩ => ⟨S11x8192x256, .bf16⟩
  | .hbm, ⟨22, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x2048x256, .bf16⟩
  | .local _ .vmem, ⟨17, _⟩ => ⟨S1x2048x256, .bf16⟩
  | .local _ .vmem, ⟨18, _⟩ => ⟨S2048x1024, .f32⟩
  | .local _ .vmem, ⟨19, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_3 : BitVec 32 := 0#32
  let c256_i32 : BitVec 32 := 256#32
  let v6 : BitVec 32 := Scalar.muli c0_i32_3 c256_i32
  v6
def k0_off1 (c0_i32_3 : BitVec 32) : Fin 2 → Nat :=
  let c256_i32 : BitVec 32 := 256#32
  let v6 : BitVec 32 := Scalar.muli c0_i32_3 c256_i32
  let v7 : BitVec 32 := v6
  let v8 : Index := Scalar.indexCast v7
  let c0 : Index := 0#32
  ![v8.toNat, 0]
def k0_off2 (c0_i32_3 : BitVec 32) : Fin 3 → Nat :=
  let c0_6 : Index := 0#32
  let c256_i32 : BitVec 32 := 256#32
  let v6 : BitVec 32 := Scalar.muli c0_i32_3 c256_i32
  let v7 : BitVec 32 := v6
  let v14 : Index := Scalar.indexCast v7
  let c0_7 : Index := 0#32
  ![0, v14.toNat, 0]
def k0_mult2 : BitVec 32 :=
  let c1_i32 : BitVec 32 := 1#32
  let c256_i32_28 : BitVec 32 := 256#32
  let v64 : BitVec 32 := Scalar.muli c1_i32 c256_i32_28
  v64
def k0_mult3 : BitVec 32 :=
  let c2_i32 : BitVec 32 := 2#32
  let c256_i32_55 : BitVec 32 := 256#32
  let v122 : BitVec 32 := Scalar.muli c2_i32 c256_i32_55
  v122
def k0_mult4 : BitVec 32 :=
  let c3_i32 : BitVec 32 := 3#32
  let c256_i32_82 : BitVec 32 := 256#32
  let v180 : BitVec 32 := Scalar.muli c3_i32 c256_i32_82
  v180
def k0_mult5 : BitVec 32 :=
  let c4_i32 : BitVec 32 := 4#32
  let c256_i32_109 : BitVec 32 := 256#32
  let v238 : BitVec 32 := Scalar.muli c4_i32 c256_i32_109
  v238
def k0_mult6 : BitVec 32 :=
  let c5_i32 : BitVec 32 := 5#32
  let c256_i32_136 : BitVec 32 := 256#32
  let v296 : BitVec 32 := Scalar.muli c5_i32 c256_i32_136
  v296
def k0_mult7 : BitVec 32 :=
  let c6_i32 : BitVec 32 := 6#32
  let c256_i32_163 : BitVec 32 := 256#32
  let v354 : BitVec 32 := Scalar.muli c6_i32 c256_i32_163
  v354
def k0_mult8 : BitVec 32 :=
  let c7_i32 : BitVec 32 := 7#32
  let c256_i32_190 : BitVec 32 := 256#32
  let v412 : BitVec 32 := Scalar.muli c7_i32 c256_i32_190
  v412
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_mult9 : BitVec 32 :=
  let c0_i32_3 : BitVec 32 := 0#32
  let c256_i32 : BitVec 32 := 256#32
  let v6 : BitVec 32 := Scalar.muli c0_i32_3 c256_i32
  v6
def k0_off3 (c0_i32_3 : BitVec 32) : Fin 2 → Nat :=
  let c256_i32 : BitVec 32 := 256#32
  let v6 : BitVec 32 := Scalar.muli c0_i32_3 c256_i32
  let v7 : BitVec 32 := v6
  let v8 : Index := Scalar.indexCast v7
  let c0 : Index := 0#32
  ![v8.toNat, 0]
def k0_off4 (c0_i32_3 : BitVec 32) : Fin 3 → Nat :=
  let c0_6 : Index := 0#32
  let c256_i32 : BitVec 32 := 256#32
  let v6 : BitVec 32 := Scalar.muli c0_i32_3 c256_i32
  let v7 : BitVec 32 := v6
  let v14 : Index := Scalar.indexCast v7
  let c0_7 : Index := 0#32
  ![0, v14.toNat, 0]
def k0_mult10 : BitVec 32 :=
  let c1_i32 : BitVec 32 := 1#32
  let c256_i32_29 : BitVec 32 := 256#32
  let v68 : BitVec 32 := Scalar.muli c1_i32 c256_i32_29
  v68
def k0_mult11 : BitVec 32 :=
  let c2_i32 : BitVec 32 := 2#32
  let c256_i32_57 : BitVec 32 := 256#32
  let v130 : BitVec 32 := Scalar.muli c2_i32 c256_i32_57
  v130
def k0_mult12 : BitVec 32 :=
  let c3_i32 : BitVec 32 := 3#32
  let c256_i32_85 : BitVec 32 := 256#32
  let v192 : BitVec 32 := Scalar.muli c3_i32 c256_i32_85
  v192
def k0_mult13 : BitVec 32 :=
  let c4_i32 : BitVec 32 := 4#32
  let c256_i32_113 : BitVec 32 := 256#32
  let v254 : BitVec 32 := Scalar.muli c4_i32 c256_i32_113
  v254
def k0_mult14 : BitVec 32 :=
  let c5_i32 : BitVec 32 := 5#32
  let c256_i32_141 : BitVec 32 := 256#32
  let v316 : BitVec 32 := Scalar.muli c5_i32 c256_i32_141
  v316
def k0_mult15 : BitVec 32 :=
  let c6_i32 : BitVec 32 := 6#32
  let c256_i32_169 : BitVec 32 := 256#32
  let v378 : BitVec 32 := Scalar.muli c6_i32 c256_i32_169
  v378
def k0_mult16 : BitVec 32 :=
  let c7_i32 : BitVec 32 := 7#32
  let c256_i32_197 : BitVec 32 := 256#32
  let v440 : BitVec 32 := Scalar.muli c7_i32 c256_i32_197
  v440
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnBwdRefIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x11x256 : Shape := ⟨3, ![8192, 11, 256]⟩
abbrev S11x8192x256 : Shape := ⟨3, ![11, 8192, 256]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x11x256, .f32⟩
  | .hbm, ⟨35, _⟩ => ⟨S11x8192x256, .f32⟩
  | .hbm, ⟨36, _⟩ => ⟨S11x8192x256, .bf16⟩
  | .hbm, ⟨37, _⟩ => ⟨S8192x11x256, .f32⟩
  | .hbm, ⟨38, _⟩ => ⟨S11x8192x256, .f32⟩
  | .hbm, ⟨39, _⟩ => ⟨S11x8192x256, .bf16⟩
  | .hbm, ⟨40, _⟩ => ⟨S8192x11x256, .f32⟩
  | .hbm, ⟨41, _⟩ => ⟨S11x8192x256, .f32⟩
  | .hbm, ⟨42, _⟩ => ⟨S11x8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== GradDown.lean ====
abbrev S8192x2816 : Shape := ⟨2, ![8192, 2816]⟩
abbrev S8192x1024 : Shape := ⟨2, ![8192, 1024]⟩
abbrev S8192x11x256 : Shape := ⟨3, ![8192, 11, 256]⟩
abbrev S11x8192x256 : Shape := ⟨3, ![11, 8192, 256]⟩
abbrev S2816x1024 : Shape := ⟨2, ![2816, 1024]⟩
abbrev S11x1024x256 : Shape := ⟨3, ![11, 1024, 256]⟩
abbrev S1024x1024 : Shape := ⟨2, ![1024, 1024]⟩
abbrev S1x1024x256 : Shape := ⟨3, ![1, 1024, 256]⟩
abbrev S1024x256 : Shape := ⟨2, ![1024, 256]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x11x256, .f32⟩
  | .hbm, ⟨3, _⟩ => ⟨S11x8192x256, .f32⟩
  | .hbm, ⟨4, _⟩ => ⟨S11x8192x256, .bf16⟩
  | .hbm, ⟨5, _⟩ => ⟨S8192x1024, .bf16⟩
  | .hbm, ⟨6, _⟩ => ⟨S2816x1024, .f32⟩
  | .local _ .vmem, ⟨0, _⟩ => ⟨S11x1024x256, .bf16⟩
  | .local _ .vmem, ⟨1, _⟩ => ⟨S11x1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S11x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradOutPool.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradOutPoolRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradOutAttn.lean ====
abbrev S8192x768 : Shape := ⟨2, ![8192, 768]⟩
abbrev S8192x1024 : Shape := ⟨2, ![8192, 1024]⟩
abbrev S768x1024 : Shape := ⟨2, ![768, 1024]⟩
abbrev S1024x768 : Shape := ⟨2, ![1024, 768]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x768, .f32⟩
  | .hbm, ⟨1, _⟩ => ⟨S8192x1024, .f32⟩
  | .hbm, ⟨2, _⟩ => ⟨S8192x768, .bf16⟩
  | .hbm, ⟨3, _⟩ => ⟨S8192x1024, .bf16⟩
  | .hbm, ⟨4, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradOutAttnRefIdeal.lean ====
abbrev S8192x768 : Shape := ⟨2, ![8192, 768]⟩
abbrev S8192x1024 : Shape := ⟨2, ![8192, 1024]⟩
abbrev S_ : Shape := ⟨0, ![]⟩
abbrev S768x1024 : Shape := ⟨2, ![768, 1024]⟩
abbrev S1024x768 : Shape := ⟨2, ![1024, 768]⟩

abbrev nBuf : Space → Nat
  | .hbm => 7
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x1024, .f32⟩
  | .hbm, ⟨2, _⟩ => ⟨S_, .f32⟩
  | .hbm, ⟨3, _⟩ => ⟨S768x1024, .f32⟩
  | .hbm, ⟨4, _⟩ => ⟨S8192x1024, .f32⟩
  | .hbm, ⟨5, _⟩ => ⟨S1024x768, .f32⟩
  | .hbm, ⟨6, _⟩ => ⟨S768x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S8192x1024, .bf16⟩
  | .hbm, ⟨76, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== AdamIn.lean ====
abbrev S1024x640 : Shape := ⟨2, ![1024, 640]⟩
abbrev S512x640 : Shape := ⟨2, ![512, 640]⟩

abbrev nBuf : Space → Nat
  | .hbm => 7
  | .vmem => 14
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x640 : Shape := ⟨2, ![1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S24x1024 : Shape := ⟨2, ![24, 1024]⟩

abbrev nBuf : Space → Nat
  | .hbm => 7
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
/- Extended reals that are real numbers: they are closed under sums and products, and an array all of whose absolute values
   compare below infinity holds nothing else. -/
module

public import proofs.«01_k».proof.Defs
public import Idealize.ShloMosaic.Lib.Claim
public import Idealize.ShloMosaic.Lib.ReduceAll
public import Idealize.ShloMosaic.Lib.Affine

@[expose] public section

noncomputable section

namespace Cert.Reals

open Idealize.ShloMosaic

/-- `x` is a real number. -/
def IsReal (x : EReal) : Prop := ∃ r : ℝ, x = r

theorem IsReal.coe (r : ℝ) : IsReal r := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  induction s using Finset.induction_on with
  | empty => exact .zero
  | insert a s ha ih =>
    rw [Finset.sum_insert ha]
    exact (h a (Finset.mem_insert_self ..)).add (ih fun i hi => h i (Finset.mem_insert_of_mem hi))

/-- The f32 word of infinity is `⊤`. -/
theorem ofBits_inf : Ideal.ofBits .f32 0x7F800000#32 = ⊤ := by
  simp [Ideal.ofBits, Ideal.ieee]

/-- A number whose absolute value is below infinity is real. -/
theorem isReal_of_abs_lt {x : EReal} (h : max x (-x) < ⊤) : IsReal x := by
  induction x with
  | bot => simp at h
  | top => simp at h
  | coe r => exact ⟨r, rfl⟩

/-- An array all of whose absolute values compare below infinity is real everywhere. -/
theorem isReal_of_all {s t u : Shape} {axes : List (Fin s.rank)} [Subsingleton t.Idx] (x b : FVec Ideal s .f32) (init : u.Idx → BitVec 1)
    (h : s.ReducesTo axes t) (hu : 0 < u.numel) (j : t.Idx) (hb : ∀ i, b i = (⊤ : EReal))
    (e : Host.reduce IntOp.andi (cmpf .olt (Host.absf x) b) init h hu j = 1#1) (i : s.Idx) : IsReal (x i) := by
  have hi := Host.reduce_andi_all _ init h hu j e i
  change Ideal.cmp .olt (max (x i) (-(x i : EReal))) (b i) = 1#1 at hi
  rw [hb i] at hi
  refine isReal_of_abs_lt ?_
  by_contra hn
  simp [Ideal.cmp, hn] at hi

end Cert.Reals

end
-- ==== Proof.PoolBwd.Windows.lean ====
/- Sums over sliding windows, and how running sums give them. -/
module

public import proofs.«01_k».proof.Proof.Reals
public import Idealize.ShloMosaic.Lib.Pipeline.ValueKit

@[expose] public section

noncomputable section

open Idealize.ShloMosaic
open Cert.Reals (IsReal)

namespace Cert.Windows

/-! ## Windows that reach back or forward from a place -/

/-- The sum of `X` over the `n` places up to `q`. -/
def back (X : ℕ → EReal) (n q : ℕ) : EReal := ∑ j ∈ Finset.range n, X (q - j)

/-- The sum of `X` over the `n` places from `q` on. -/
def fwd (X : ℕ → EReal) (n q : ℕ) : EReal := ∑ j ∈ Finset.range n, X (q + j)

theorem back_one (X : ℕ → EReal) (q : ℕ) : back X 1 q = X q := by simp [back]
theorem fwd_one (X : ℕ → EReal) (q : ℕ) : fwd X 1 q = X q := by simp [fwd]

/-- A window twice as long is two windows side by side. -/
theorem back_double (X : ℕ → EReal) (n q : ℕ) : back X (n + n) q = back X n q + back X n (q - n) := by
  simp only [back, Finset.sum_range_add, Nat.sub_sub]

theorem fwd_double (X : ℕ → EReal) (n q : ℕ) : fwd X (n + n) q = fwd X n q + fwd X n (q + n) := by
  simp only [fwd, Finset.sum_range_add, Nat.add_assoc]

theorem back_congr {X Y : ℕ → EReal} {n q p : ℕ} (h : ∀ j < n, X (q - j) = Y (p - j)) : back X n q = back Y n p :=
  Finset.sum_congr rfl fun j hj => h j (Finset.mem_range.1 hj)

theorem fwd_congr {X Y : ℕ → EReal} {n q p : ℕ} (h : ∀ j < n, X (q + j) = Y (p + j)) : fwd X n q = fwd Y n p :=
  Finset.sum_congr rfl fun j hj => h j (Finset.mem_range.1 hj)

/-! ## Windows out of running sums -/

theorem isReal_add_sub_cancel {A B : EReal} (hB : IsReal B) : A + B - B = A := by
  obtain ⟨b, rfl⟩ := hB
  exact EReal.add_sub_cancel_right

/-- A sum over `N` places less the sum over the places `n` further on leaves the first `n`, if nothing stands beyond `N`. -/
theorem sum_sub_shift (G : ℕ → EReal) (hG : ∀ k, IsReal (G k)) (N n : ℕ) (h0 : ∀ k, N ≤ k → G k = 0) :
    ∑ k ∈ Finset.range N, G k - ∑ k ∈ Finset.range N, G (k + n) = ∑ k ∈ Finset.range n, G k := by
  have e : ∑ k ∈ Finset.range N, G k = ∑ k ∈ Finset.range (n + N), G k := by
    rw [Nat.add_comm n N, Finset.sum_range_add]
    refine (add_zero _).symm.trans (congrArg _ (Finset.sum_eq_zero fun k _ => h0 _ (by omega)).symm)
  rw [e, Finset.sum_range_add]
  have e' : ∑ k ∈ Finset.range N, G (n + k) = ∑ k ∈ Finset.range N, G (k + n) := Finset.sum_congr rfl fun k _ => by rw [Nat.add_comm]
  rw [e']
  exact isReal_add_sub_cancel (.sum _ _ fun k _ => hG _)

/-- The same where each term carries its own subtraction. -/
theorem sum_sub_shift' (G : ℕ → EReal) (hG : ∀ k, IsReal (G k)) (N n : ℕ) (h0 : ∀ k, N ≤ k → G k = 0) :
    ∑ k ∈ Finset.range N, (G k + -G (k + n)) = ∑ k ∈ Finset.range n, G k := by
  rw [← sum_sub_shift G hG N n h0, Finset.sum_add_distrib, sub_eq_add_neg]
  congr 1
  choose g hg using hG
  have e : ∀ (f : ℕ → ℝ) (M : ℕ), ∑ k ∈ Finset.range M, (f k : EReal) = ((∑ k ∈ Finset.range M, f k : ℝ) : EReal) := fun f M => by
    induction M with
    | zero => simp
    | succ M ih => rw [Finset.sum_range_succ, Finset.sum_range_succ, ih, EReal.coe_add]
  simp only [hg, ← EReal.coe_neg, e, Finset.sum_neg_distrib]

end Cert.Windows

end
-- ==== Proof.PoolBwd.Count.lean ====
/- The widths of the pooling windows, and how many tokens a window holds. -/
module

public import proofs.«01_k».proof.Proof.PoolBwd.Windows
public import Idealize.ShloMosaic.Lib.SortNet.Extract

@[expose] public section

noncomputable section

open Idealize.ShloMosaic
open Cert.Reals (IsReal)

namespace Cert.Windows

/-- Lane `l` belongs to group `l / 64`, whose window is 2, 4, 8 or 16 tokens wide. -/
def win (l : Fin 256) : ℕ := 2 ^ (l.val / 64 + 1)

theorem win_le (l : Fin 256) : win l ≤ 16 := by
  have : l.val / 64 + 1 ≤ 4 := by omega
  exact Nat.pow_le_pow_right (by norm_num) this

/-- The number of tokens in the window of width `w` that ends at token `t`. -/
def cnt (t w : ℕ) : EReal := ((min (t + 1) w : ℕ) : ℝ)

theorem cnt_ne (t w : ℕ) (hw : 0 < w) : ((min (t + 1) w : ℕ) : ℝ) ≠ 0 := by
  have : 0 < min (t + 1) w := by omega
  exact_mod_cast this.ne'

theorem win_pos (l : Fin 256) : 0 < win l := Nat.pow_pos (by norm_num)

/-- A real number divided by a count is real. -/
theorem isReal_div_cnt {x : EReal} (hx : IsReal x) (t w : ℕ) (hw : 0 < w) : IsReal (Ideal.div x (cnt t w)) := by
  rw [cnt, Ideal.div_coe (cnt_ne t w hw)]
  exact hx.mul (.coe _)

theorem zero_div_cnt (t w : ℕ) (hw : 0 < w) : Ideal.div 0 (cnt t w) = 0 := by
  rw [cnt, Ideal.div_coe (cnt_ne t w hw), zero_mul]

/-- The count as the programs compute it: the smaller of two words, as a number. -/
theorem cnt_word (t w : ℕ) (ht : t + 1 < 2 ^ 31) (hw : w < 2 ^ 31) :
    (FloatOps.sitofp .f32 (IntOp.minsi (BitVec.ofNat 32 (t + 1)) (BitVec.ofNat 32 w)) : Ideal .f32) = cnt t w := by
  have e : ∀ n : ℕ, n < 2 ^ 31 → (BitVec.ofNat 32 n).toInt = n := fun n hn => by
    have h : (BitVec.ofNat 32 n).toNat = n := by rw [BitVec.toNat_ofNat]; omega
    rw [BitVec.toInt_eq_toNat_of_lt (by rw [h]; omega), h]
  show (((IntOp.minsi (BitVec.ofNat 32 (t + 1)) (BitVec.ofNat 32 w)).toInt : ℝ) : EReal) = _
  rw [SortNet.toInt_minsi, e _ ht, e _ hw, cnt, ← Nat.cast_min, Int.cast_natCast]

/-- A choice by the lane's group among what stands for the four windows. -/
theorem choose_group {α : Type} (f : ℕ → α) (l : Fin 256) :
    Scalar.select (IntOp.cmpi .eq (BitVec.ofNat 32 (l.val / 64)) 0#32) (f 2)
        (Scalar.select (IntOp.cmpi .eq (BitVec.ofNat 32 (l.val / 64)) 1#32) (f 4)
          (Scalar.select (IntOp.cmpi .eq (BitVec.ofNat 32 (l.val / 64)) 2#32) (f 8) (f 16))) = f (win l) := by
  have h : l.val / 64 = 0 ∨ l.val / 64 = 1 ∨ l.val / 64 = 2 ∨ l.val / 64 = 3 := by omega
  unfold win
  rcases h with h | h | h | h <;> rw [h] <;> rfl

end Cert.Windows

end
-- ==== Proof.PoolBwd.Step.lean ====
/- What one grid point of the pooling's backward pass leaves in its blocks. -/
module

public import proofs.«01_k».proof.Proof.PoolBwd.Count
public import proofs.«01_k».proof.Proof.Gen.PoolBwdIdeal.Value
public import Idealize.ShloMosaic.Lib.Pipeline.ValueKit
public import Idealize.ShloMosaic.Lib.Pointwise

@[expose] public section

noncomputable section

namespace Cert.PoolBwdIdeal.Step

open Idealize.ShloMosaic Idealize.ShloMosaic.TcCoe Idealize.SL.Sem
open Cert.PoolBwdIdeal Cert.PoolBwdIdeal.Gen Cert.PoolBwdIdeal.Value
open Cert.Windows

variable (m : (ℓ : Loc nD τ sig) → Buf (Elt Ideal) ℓ)

/-! ## The entries, from the blocks a point sees -/

/-- Lane `l` of the sixteen rows before the tile (nothing before the first) and of the tile's rows. -/
def ext (i : ℕ) (halo : Vec Ideal S16x256 .f32) (u : Vec Ideal S2048x256 .f32) (l : Fin 256) (q : ℕ) : EReal :=
  if h : q < 16 then (if 0 < i then halo (ix2 ⟨q, h⟩ l) else 0)
  else if h : q < 2064 then u (ix2 ⟨q - 16, by omega⟩ l) else 0

/-- The trailing mean less the token. -/
def diff (i : ℕ) (halo : Vec Ideal S16x256 .f32) (u : Vec Ideal S2048x256 .f32) (r : Fin 2048) (l : Fin 256) : EReal :=
  Ideal.div (back (ext i halo u l) (win l) (16 + r)) (cnt (2048 * i + r) (win l)) - u (ix2 r l)

/-- The scaled cotangent at the tile's rows and the sixteen after it (nothing after the last). -/
def dz (i : ℕ) (sc : Vec Ideal S1x256 .f32) (dy : Vec Ideal S2048x256 .f32) (dyn : Vec Ideal S16x256 .f32) (q : Fin 2064) (l : Fin 256) : EReal :=
  (if h : q.val < 2048 then dy (ix2 ⟨q, h⟩ l) else if i < 3 then dyn (ix2 ⟨q - 2048, by omega⟩ l) else 0) * sc (ix2 0 l)

/-- The cotangent of `diff`. -/
def dd (i : ℕ) (w : Vec Ideal S256x256 .bf16) (sc : Vec Ideal S1x256 .f32) (dy : Vec Ideal S2048x256 .f32) (dyn : Vec Ideal S16x256 .f32)
    (l : Fin 256) (q : ℕ) : EReal :=
  if h : q < 2064 then ∑ k : Fin 256, dz i sc dy dyn ⟨q, h⟩ k * (w (ix2 l k) : EReal) else 0

/-- The cotangent of the window's sum. -/
def each (i : ℕ) (w : Vec Ideal S256x256 .bf16) (sc : Vec Ideal S1x256 .f32) (dy : Vec Ideal S2048x256 .f32) (dyn : Vec Ideal S16x256 .f32)
    (l : Fin 256) (q : ℕ) : EReal :=
  Ideal.div (dd i w sc dy dyn l q) (cnt (2048 * i + q) (win l))

/-! ## Rows turned round -/

theorem roll (n : BitVec 32) (X : S2064x256.Idx → EReal) (hr) (q p : Fin 2064) (l : Fin 256)
    (h : (q.val + 2064 - n.toNat % 2064) % 2064 = p) : dynamicRotate 0 n none X hr (ix2 q l) = X (ix2 p l) := by
  refine congrArg X (funext fun b => ?_)
  match b with
  | ⟨0, _⟩ => exact Fin.ext h
  | ⟨1, _⟩ => rfl

/-- Where `X` holds sums over `n` rows back, adding it to itself `n` rows on gives sums over `2n` rows. -/
theorem roll_back (n : ℕ) (X : S2064x256.Idx → EReal) (f : Fin 256 → ℕ → EReal) (hr) (hn : n ≤ 16)
    (hX : ∀ (q : Fin 2064) l, n - 1 ≤ q.val → X (ix2 q l) = back (f l) n q) (q : Fin 2064) (l : Fin 256) (hq : n + n - 1 ≤ q.val) :
    X (ix2 q l) + dynamicRotate 0 (BitVec.ofNat 32 n) none X hr (ix2 q l) = back (f l) (n + n) q := by
  have e : (BitVec.ofNat 32 n).toNat = n := by rw [BitVec.toNat_ofNat]; omega
  rw [roll _ X hr q ⟨q - n, by omega⟩ l (by rw [e]; show _ = q.val - n; omega), back_double, hX q l (by omega), hX _ l (by show n - 1 ≤ q.val - n; omega)]

/-- The same for sums over the rows that follow. -/
theorem roll_fwd (n : ℕ) (b : BitVec 32) (hb : b.toNat = 2064 - n) (X : S2064x256.Idx → EReal) (f : Fin 256 → ℕ → EReal) (hr) (hn : n ≤ 16) (h0 : 0 < n)
    (hX : ∀ (q : Fin 2064) l, q.val + n ≤ 2064 → X (ix2 q l) = fwd (f l) n q) (q : Fin 2064) (l : Fin 256) (hq : q.val + (n + n) ≤ 2064) :
    X (ix2 q l) + dynamicRotate 0 b none X hr (ix2 q l) = fwd (f l) (n + n) q := by
  rw [roll b X hr q ⟨q + n, by omega⟩ l (by rw [hb]; show _ = q.val + n; omega), fwd_double, hX q l (by omega), hX _ l (by show q.val + n + n ≤ 2064; omega)]

/-! ## The groups of lanes -/

theorem group_ext (x : S2064x256.Idx) : k0_pay22 x = BitVec.ofNat 32 ((x 1 : Fin 256).val / 64) :=
  (by decide +kernel : ∀ l : Fin 256, k0_pay22 (ix2 0 l) = BitVec.ofNat 32 (l.val / 64)) (x 1)

theorem group_du (x : S2064x256.Idx) : k0_pay31 x = BitVec.ofNat 32 ((x 1 : Fin 256).val / 64) :=
  (by decide +kernel : ∀ l : Fin 256, k0_pay31 (ix2 0 l) = BitVec.ofNat 32 (l.val / 64)) (x 1)

theorem group_tile (x : S2048x256.Idx) : k0_pay12 x = BitVec.ofNat 32 ((x 1 : Fin 256).val / 64) :=
  (by decide +kernel : ∀ l : Fin 256, k0_pay12 (ix2 0 l) = BitVec.ofNat 32 (l.val / 64)) (x 1)

theorem group_parts (x : S2064x256.Idx) :
    Scalar.select (IntOp.andi (k0_pay9 x) (k0_pay10 x)) (IntOp.subi (k0_pay8 x) 1#32) (k0_pay8 x) = BitVec.ofNat 32 ((x 1 : Fin 256).val / 64) :=
  (by decide +kernel : ∀ l : Fin 256, Scalar.select (IntOp.andi (k0_pay9 (ix2 0 l)) (k0_pay10 (ix2 0 l))) (IntOp.subi (k0_pay8 (ix2 0 l)) 1#32)
    (k0_pay8 (ix2 0 l)) = BitVec.ofNat 32 (l.val / 64)) (x 1)

/-- A row of a tile as a row of the array, in words. -/
theorem row_word (i r : ℕ) : IntOp.addi (IntOp.addi (Scalar.muli (BitVec.ofNat 32 i) 2048#32) (BitVec.ofNat 32 r)) 1#32 = BitVec.ofNat 32 (2048 * i + r + 1) := by
  show BitVec.ofNat 32 i * BitVec.ofNat 32 2048 + BitVec.ofNat 32 r + BitVec.ofNat 32 1 = _
  rw [← BitVec.ofNat_mul, ← BitVec.ofNat_add, ← BitVec.ofNat_add, Nat.mul_comm]

/-- The count as the kernel computes it. -/
theorem count_word (i r : ℕ) (hi : i < 4) (hr : r < 2064) (l : Fin 256) :
    (FloatOps.sitofp .f32 (IntOp.minsi (IntOp.addi (IntOp.addi (Scalar.muli (BitVec.ofNat 32 i) 2048#32) (BitVec.ofNat 32 r)) 1#32)
      (Scalar.select (IntOp.cmpi .eq (BitVec.ofNat 32 (l.val / 64)) 0#32) (2#32)
        (Scalar.select (IntOp.cmpi .eq (BitVec.ofNat 32 (l.val / 64)) 1#32) (4#32)
          (Scalar.select (IntOp.cmpi .eq (BitVec.ofNat 32 (l.val / 64)) 2#32) 8#32 16#32)))) : Ideal .f32) = cnt (2048 * i + r) (win l) := by
  rw [row_word, show Scalar.select _ _ _ = _ from choose_group (BitVec.ofNat 32) l]
  exact cnt_word _ _ (by omega) (by have := win_le l; omega)

/-! ## The window's sums -/

theorem first_tile (i : ℕ) (hi : i < 4) {α : Type} (a b : α) :
    Scalar.select (Scalar.cmpi .sgt (BitVec.ofNat 32 i) 0#32) a b = if 0 < i then a else b := by
  interval_cases i <;> rfl

theorem last_tile (i : ℕ) (hi : i < 4) {α : Type} (a b : α) :
    Scalar.select (Scalar.cmpi .slt (BitVec.ofNat 32 i) 3#32) a b = if i < 3 then a else b := by
  interval_cases i <;> rfl

section
variable (i : grid0.Coords) (halo : Vec Ideal S16x256 .f32) (u : Vec Ideal S2048x256 .f32)

/-- The rows before the tile and the tile, one below the other. -/
def rows : S2064x256.Idx → EReal :=
  concatenate S2064x256 0 [⟨S16x256, (Scalar.select (Scalar.cmpi .sgt (BitVec.ofNat 32 (i 0).val) 0#32) halo (broadcast S16x256 (Scalar.ofBits .f32 0x00000000#32 : Ideal .f32)) : Vec Ideal S16x256 .f32)⟩,
    ⟨S2048x256, u⟩] concatenates_S16x256_S2048x256_S2064x256_d0

theorem rows_apply (q : Fin 2064) (l : Fin 256) : rows i halo u (ix2 q l) = ext (i 0).val halo u l q := by
  have hi : (i 0).val < 4 := (i 0).isLt
  pointwise [rows]
  unfold ext
  have hq := q.isLt
  by_cases h : q.val < 16
  · refine (dif_pos h).trans ?_
    refine Eq.trans ?_ (dif_pos h).symm
    exact first_tile _ hi _ _
  · refine (dif_neg h).trans ?_
    refine Eq.trans ?_ (dif_neg h).symm
    refine Eq.trans ?_ (dif_pos hq).symm
    rfl

theorem two_apply (q : Fin 2064) (l : Fin 256) (hq : 1 ≤ q.val) : k0_pay4 (F := Ideal) i halo u (ix2 q l) = back (ext (i 0).val halo u l) 2 q :=
  roll_back 1 (rows i halo u) _ _ (by omega) (fun q l _ => (rows_apply i halo u q l).trans (back_one _ _).symm) q l hq

theorem four_apply (q : Fin 2064) (l : Fin 256) (hq : 3 ≤ q.val) : k0_pay5 (F := Ideal) i halo u (ix2 q l) = back (ext (i 0).val halo u l) 4 q :=
  roll_back 2 (k0_pay4 (F := Ideal) i halo u) _ _ (by omega) (fun q l => two_apply i halo u q l) q l hq

theorem eight_apply (q : Fin 2064) (l : Fin 256) (hq : 7 ≤ q.val) : k0_pay6 (F := Ideal) i halo u (ix2 q l) = back (ext (i 0).val halo u l) 8 q :=
  roll_back 4 (k0_pay5 (F := Ideal) i halo u) _ _ (by omega) (fun q l => four_apply i halo u q l) q l hq

theorem sixteen_apply (q : Fin 2064) (l : Fin 256) (hq : 15 ≤ q.val) : k0_pay7 (F := Ideal) i halo u (ix2 q l) = back (ext (i 0).val halo u l) 16 q :=
  roll_back 8 (k0_pay6 (F := Ideal) i halo u) _ _ (by omega) (fun q l => eight_apply i halo u q l) q l hq

/-- The sum over the lane's window. -/
theorem window_apply (r : Fin 2048) (l : Fin 256) :
    k0_pay11 (F := Ideal) (k0_pay4 i halo u) (k0_pay5 i halo u) (k0_pay6 i halo u) (k0_pay7 i halo u) k0_pay8 k0_pay9 k0_pay10 (ix2 r l)
      = back (ext (i 0).val halo u l) (win l) (16 + r) := by
  have hr := r.isLt
  pointwise [k0_pay11]
  rw [group_parts, two_apply, four_apply, eight_apply, sixteen_apply]
  · exact choose_group (fun n => back (ext (i 0).val halo u l) n (16 + r)) l
  all_goals (show _ ≤ 16 + r.val; omega)

/-- The trailing mean less the token, as the kernel computes it. -/
abbrev diffs : FVec Ideal S2048x256 .bf16 :=
  k0_pay16 u (k0_pay11 (k0_pay4 i halo u) (k0_pay5 i halo u) (k0_pay6 i halo u) (k0_pay7 i halo u) k0_pay8 k0_pay9 k0_pay10)
    k0_pay12 (k0_pay13 (Scalar.muli (BitVec.ofNat 32 (i 0).val) 2048#32)) k0_pay14 k0_pay15 2#32

theorem diffs_apply (r : Fin 2048) (l : Fin 256) : diffs i halo u (ix2 r l) = diff (i 0).val halo u r l := by
  have hi : (i 0).val < 4 := (i 0).isLt
  unfold diffs
  generalize hW : k0_pay11 (F := Ideal) (k0_pay4 i halo u) (k0_pay5 i halo u) (k0_pay6 i halo u) (k0_pay7 i halo u) k0_pay8 k0_pay9 k0_pay10 = W
  pointwise [k0_pay16, k0_pay13, k0_pay14, k0_pay15]
  rw [group_tile]
  refine congrArg (· - (u (ix2 r l) : EReal)) ?_
  refine congr (congrArg Ideal.div ?_) (count_word _ _ hi (by omega) l)
  rw [← hW, window_apply]

end

/-! ## The cotangents -/

section
variable (i : grid0.Coords) (w : Vec Ideal S256x256 .bf16) (sc : Vec Ideal S1x256 .f32) (dy : Vec Ideal S2048x256 .f32) (dyn : Vec Ideal S16x256 .f32)

/-- The scaled cotangents, as the kernel computes them. -/
abbrev scaled : FVec Ideal S2064x256 .bf16 := k0_pay19 (BitVec.ofNat 32 (i 0).val) sc dy dyn

theorem scaled_apply (q : Fin 2064) (l : Fin 256) : scaled i sc dy dyn (ix2 q l) = dz (i 0).val sc dy dyn q l := by
  have hi : (i 0).val < 4 := (i 0).isLt
  pointwise [scaled, k0_pay19]
  rw [dz]
  refine congrArg (· * (sc (ix2 0 l) : EReal)) ?_
  by_cases h : q.val < 2048
  · refine (dif_pos h).trans ?_
    refine Eq.trans ?_ (dif_pos h).symm
    rfl
  · refine (dif_neg h).trans ?_
    refine Eq.trans ?_ (dif_neg h).symm
    exact last_tile _ hi _ _

/-- The cotangents of `diff`, as the kernel computes them. -/
abbrev cots : FVec Ideal S2064x256 .f32 := k0_pay21 (k0_pay17 w) (scaled i sc dy dyn)

theorem cots_apply (q : Fin 2064) (l : Fin 256) : cots i w sc dy dyn (ix2 q l) = dd (i 0).val w sc dy dyn l q := by
  unfold cots
  have e : ∀ k, scaled i sc dy dyn (ix2 q k) = dz (i 0).val sc dy dyn q k := scaled_apply i sc dy dyn q
  generalize scaled i sc dy dyn = z at e ⊢
  pointwise [k0_pay21, k0_pay17]
  rw [dd, dif_pos q.isLt]
  exact Finset.sum_congr rfl fun k _ => congrArg (· * (w (ix2 l k) : EReal)) (e k)

/-- The cotangents of the window's sums, as the kernel computes them. -/
def quots (d : FVec Ideal S2064x256 .f32) : S2064x256.Idx → EReal :=
  divf d (sitofp .f32 (minsi (addi (k0_pay23 (BitVec.ofNat 32 (i 0).val)) (broadcast S2064x256 1#32))
    (select k0_pay24 (broadcast S2064x256 2#32) (select k0_pay25 (broadcast S2064x256 4#32) (select k0_pay26 (broadcast S2064x256 8#32) (broadcast S2064x256 16#32))))))

theorem quots_apply (d : FVec Ideal S2064x256 .f32) (q : Fin 2064) (l : Fin 256) :
    quots i d (ix2 q l) = Ideal.div (d (ix2 q l)) (cnt (2048 * (i 0).val + q) (win l)) := by
  have hi : (i 0).val < 4 := (i 0).isLt
  pointwise [quots, k0_pay23, k0_pay24, k0_pay25, k0_pay26]
  rw [group_ext]
  exact congrArg _ (count_word _ _ hi q.isLt l)

variable (d : FVec Ideal S2064x256 .f32) (f : Fin 256 → ℕ → EReal) (hf : ∀ (q : Fin 2064) l, quots i d (ix2 q l) = f l q)
include hf

theorem two_on (q : Fin 2064) (l : Fin 256) (hq : q.val + 2 ≤ 2064) :
    k0_pay27 (F := Ideal) d (k0_pay23 (BitVec.ofNat 32 (i 0).val)) k0_pay24 k0_pay25 k0_pay26 8#32 16#32 (ix2 q l) = fwd (f l) 2 q :=
  roll_fwd 1 2063#32 rfl (quots i d) f _ (by omega) (by omega) (fun q l _ => (hf q l).trans (fwd_one _ _).symm) q l hq

theorem four_on (q : Fin 2064) (l : Fin 256) (hq : q.val + 4 ≤ 2064) :
    k0_pay28 (F := Ideal) d (k0_pay23 (BitVec.ofNat 32 (i 0).val)) k0_pay24 k0_pay25 k0_pay26 8#32 16#32 (ix2 q l) = fwd (f l) 4 q :=
  roll_fwd 2 2062#32 rfl (k0_pay27 (F := Ideal) d _ _ _ _ _ _) f _ (by omega) (by omega) (fun q l => two_on i d f hf q l) q l hq

theorem eight_on (q : Fin 2064) (l : Fin 256) (hq : q.val + 8 ≤ 2064) :
    k0_pay29 (F := Ideal) d (k0_pay23 (BitVec.ofNat 32 (i 0).val)) k0_pay24 k0_pay25 k0_pay26 8#32 16#32 (ix2 q l) = fwd (f l) 8 q :=
  roll_fwd 4 2060#32 rfl (k0_pay28 (F := Ideal) d _ _ _ _ _ _) f _ (by omega) (by omega) (fun q l => four_on i d f hf q l) q l hq

theorem sixteen_on (q : Fin 2064) (l : Fin 256) (hq : q.val + 16 ≤ 2064) :
    k0_pay30 (F := Ideal) d (k0_pay23 (BitVec.ofNat 32 (i 0).val)) k0_pay24 k0_pay25 k0_pay26 8#32 16#32 (ix2 q l) = fwd (f l) 16 q :=
  roll_fwd 8 2056#32 rfl (k0_pay29 (F := Ideal) d _ _ _ _ _ _) f _ (by omega) (by omega) (fun q l => eight_on i d f hf q l) q l hq

theorem fsum_apply (r : Fin 2048) (l : Fin 256) :
    k0_pay1 (F := Ideal) d (k0_pay27 d (k0_pay23 (BitVec.ofNat 32 (i 0).val)) k0_pay24 k0_pay25 k0_pay26 8#32 16#32)
        (k0_pay28 d (k0_pay23 (BitVec.ofNat 32 (i 0).val)) k0_pay24 k0_pay25 k0_pay26 8#32 16#32)
        (k0_pay29 d (k0_pay23 (BitVec.ofNat 32 (i 0).val)) k0_pay24 k0_pay25 k0_pay26 8#32 16#32)
        (k0_pay30 d (k0_pay23 (BitVec.ofNat 32 (i 0).val)) k0_pay24 k0_pay25 k0_pay26 8#32 16#32) k0_pay31 0#32 (ix2 r l)
      = fwd (f l) (win l) r - (d (ix2 ⟨r, by omega⟩ l) : EReal) := by
  have hr := r.isLt
  have e2 := two_on i d f hf ⟨r, by omega⟩ l (by show r.val + 2 ≤ 2064; omega)
  have e4 := four_on i d f hf ⟨r, by omega⟩ l (by show r.val + 4 ≤ 2064; omega)
  have e8 := eight_on i d f hf ⟨r, by omega⟩ l (by show r.val + 8 ≤ 2064; omega)
  have e16 := sixteen_on i d f hf ⟨r, by omega⟩ l (by show r.val + 16 ≤ 2064; omega)
  generalize k0_pay27 (F := Ideal) d _ _ _ _ _ _ = a2 at e2 ⊢
  generalize k0_pay28 (F := Ideal) d _ _ _ _ _ _ = a4 at e4 ⊢
  generalize k0_pay29 (F := Ideal) d _ _ _ _ _ _ = a8 at e8 ⊢
  generalize k0_pay30 (F := Ideal) d _ _ _ _ _ _ = a16 at e16 ⊢
  pointwise [k0_pay1]
  rw [group_du]
  refine congrArg (· - (d (ix2 ⟨r, by omega⟩ l) : EReal)) ?_
  refine Eq.trans ?_ (choose_group (fun n => fwd (f l) n r) l)
  exact congr (congrArg _ e2) (congr (congrArg _ e4) (congr (congrArg _ e8) e16))

end

/-! ## The points -/

/-- The gradient of the tokens. -/
theorem du (c : Dev nD) (t : Fin cfg0.N) (y : S2048x256.Idx) :
    (outsAt0 m c t.val t.isLt).1 y
      = fwd (each (grid0.coords t 0).val (iblk m c 4 t) (iblk m c 5 t) (iblk m c 2 t) (iblk m c 3 t) (y 1)) (win (y 1)) (y 0)
        - dd (grid0.coords t 0).val (iblk m c 4 t) (iblk m c 5 t) (iblk m c 2 t) (iblk m c 3 t) (y 1) (y 0) := by
  have key : ∀ (i : grid0.Coords) (w : Vec Ideal S256x256 .bf16) (sc : Vec Ideal S1x256 .f32) (dy : Vec Ideal S2048x256 .f32) (dyn : Vec Ideal S16x256 .f32) (q : Fin 2064) (l : Fin 256),
      quots i (cots i w sc dy dyn) (ix2 q l) = each (i 0).val w sc dy dyn l q := fun i w sc dy dyn q l => by
    rw [quots_apply, cots_apply]; rfl
  obtain ⟨r, l, rfl⟩ : ∃ (r : Fin 2048) (l : Fin 256), y = ix2 r l := ⟨y 0, y 1, by idx_ext <;> rfl⟩
  by_cases h0 : t.val % 4 = 0
  · rw [outsAt0_A m c t h0]
    frame_out
    refine (fsum_apply (grid0.coords t) _ _ (key _ _ _ _ _) r l).trans ?_
    exact congrArg _ (cots_apply _ _ _ _ _ _ _)
  · rw [outsAt0_B m c t h0]
    frame_out
    refine (fsum_apply (grid0.coords t) _ _ (key _ _ _ _ _) r l).trans ?_
    exact congrArg _ (cots_apply _ _ _ _ _ _ _)

/-- The gradient of the weight: what one tile adds at row `a` and column `b`. -/
def dwPart (i : ℕ) (halo : Vec Ideal S16x256 .f32) (u : Vec Ideal S2048x256 .f32) (sc : Vec Ideal S1x256 .f32) (dy : Vec Ideal S2048x256 .f32)
    (dyn : Vec Ideal S16x256 .f32) (a b : Fin 256) : EReal :=
  ∑ r : Fin 2048, diff i halo u r a * dz i sc dy dyn ⟨r, by omega⟩ b

theorem dw_apply (i : grid0.Coords) (halo : Vec Ideal S16x256 .f32) (u : Vec Ideal S2048x256 .f32) (sc : Vec Ideal S1x256 .f32) (dy : Vec Ideal S2048x256 .f32)
    (dyn : Vec Ideal S16x256 .f32) (o : Vec Ideal S256x256 .f32) (y : S256x256.Idx) :
    k0_pay20 (F := Ideal) (diffs i halo u) (scaled i sc dy dyn) o y = o y + dwPart (i 0).val halo u sc dy dyn (y 0) (y 1) := by
  have e := diffs_apply i halo u
  have e' := scaled_apply i sc dy dyn
  generalize diffs i halo u = d at e ⊢
  generalize scaled i sc dy dyn = z at e' ⊢
  pointwise [k0_pay20]
  refine congrArg _ (Finset.sum_congr rfl fun r _ => congr (congrArg HMul.hMul (e r (y 0))) ?_)
  exact e' ⟨r, by omega⟩ (y 1)

/-- The gradient of the scale: what one tile adds at lane `l`. -/
def dscPart (i : ℕ) (halo : Vec Ideal S16x256 .f32) (u : Vec Ideal S2048x256 .f32) (w : Vec Ideal S256x256 .bf16) (dy : Vec Ideal S2048x256 .f32) (l : Fin 256) : EReal :=
  ∑ r : Fin 2048, (dy (ix2 r l) : EReal) * ∑ k : Fin 256, diff i halo u r k * (w (ix2 k l) : EReal)

theorem dsc_apply (i : grid0.Coords) (halo : Vec Ideal S16x256 .f32) (u : Vec Ideal S2048x256 .f32) (w : Vec Ideal S256x256 .bf16) (dy : Vec Ideal S2048x256 .f32)
    (o : Vec Ideal S1x256 .f32) (y : S1x256.Idx) :
    k0_pay18 (F := Ideal) u (k0_pay11 (k0_pay4 i halo u) (k0_pay5 i halo u) (k0_pay6 i halo u) (k0_pay7 i halo u) k0_pay8 k0_pay9 k0_pay10)
        k0_pay12 (k0_pay13 (Scalar.muli (BitVec.ofNat 32 (i 0).val) 2048#32)) k0_pay14 k0_pay15 2#32 w dy o y
      = o y + dscPart (i 0).val halo u w dy (y 1) := by
  have e := diffs_apply i halo u
  unfold k0_pay18
  dsimp only
  change ∀ r l, (diffs i halo u) (ix2 r l) = _ at e
  generalize hd : k0_pay16 (F := Ideal) u _ _ _ _ _ _ = d
  have e' : ∀ r l, d (ix2 r l) = diff (i 0).val halo u r l := fun r l => by rw [← hd]; exact e r l
  pointwise [k0_pay17]
  refine congr (congrArg HAdd.hAdd ?_) (Finset.sum_congr rfl fun r _ => congrArg _ (Finset.sum_congr rfl fun k _ => congrArg (· * (w (ix2 k (y 1)) : EReal)) (e' r k)))
  exact congrArg o (by idx_ext <;> first | rfl | omega)

/-- The first tile's point stores its share of the weight's gradient. -/
theorem dw_A (c : Dev nD) (t : Fin cfg0.N) (h0 : t.val % 4 = 0) (y : S256x256.Idx) :
    (outsAt0 m c t.val t.isLt).2.1 y = dwPart (grid0.coords t 0).val (iblk m c 1 t) (iblk m c 0 t) (iblk m c 5 t) (iblk m c 2 t) (iblk m c 3 t) (y 0) (y 1) := by
  rw [outsAt0_A m c t h0]
  frame_out
  refine (dw_apply _ _ _ _ _ _ _ y).trans ?_
  exact (congrArg (· + _) (by pointwise [k0_pay2])).trans (zero_add _)

/-- A later tile's point adds its share to what the point before left. -/
theorem dw_B (c : Dev nD) (t : Fin cfg0.N) (h0 : ¬ t.val % 4 = 0) (y : S256x256.Idx) :
    (outsAt0 m c t.val t.isLt).2.1 y = (outsAt0 m c (t.val - 1) (Nat.lt_of_le_of_lt (Nat.sub_le _ _) t.isLt)).2.1 y
      + dwPart (grid0.coords t 0).val (iblk m c 1 t) (iblk m c 0 t) (iblk m c 5 t) (iblk m c 2 t) (iblk m c 3 t) (y 0) (y 1) := by
  rw [outsAt0_B m c t h0]
  frame_out
  exact dw_apply _ _ _ _ _ _ _ y

/-- The first tile's point stores its share of the scale's gradient. -/
theorem dsc_A (c : Dev nD) (t : Fin cfg0.N) (h0 : t.val % 4 = 0) (y : S1x256.Idx) :
    (outsAt0 m c t.val t.isLt).2.2 y = dscPart (grid0.coords t 0).val (iblk m c 1 t) (iblk m c 0 t) (iblk m c 4 t) (iblk m c 2 t) (y 1) := by
  rw [outsAt0_A m c t h0]
  frame_out
  refine (dsc_apply _ _ _ _ _ _ y).trans ?_
  exact (congrArg (· + _) (by pointwise [k0_pay3])).trans (zero_add _)

/-- A later tile's point adds its share to what the point before left. -/
theorem dsc_B (c : Dev nD) (t : Fin cfg0.N) (h0 : ¬ t.val % 4 = 0) (y : S1x256.Idx) :
    (outsAt0 m c t.val t.isLt).2.2 y = (outsAt0 m c (t.val - 1) (Nat.lt_of_le_of_lt (Nat.sub_le _ _) t.isLt)).2.2 y
      + dscPart (grid0.coords t 0).val (iblk m c 1 t) (iblk m c 0 t) (iblk m c 4 t) (iblk m c 2 t) (y 1) := by
  rw [outsAt0_B m c t h0]
  frame_out
  exact dsc_apply _ _ _ _ _ _ y

end Cert.PoolBwdIdeal.Step

end
-- ==== Proof.PoolBwd.Running.lean ====
/- The running sums of the pooling's reference, as sums over rows. -/
module

public import proofs.«01_k».proof.Proof.PoolBwd.Count
public import proofs.«01_k».proof.Proof.PoolBwd.Windows
public import proofs.«01_k».proof.Proof.Gen.PoolBwdRefIdeal.Read
public import Idealize.ShloMosaic.Lib.Pipeline.ValueKit
public import Idealize.ShloMosaic.Lib.Pointwise
public import Idealize.ShloMosaic.Lib.IdealHost

@[expose] public section

noncomputable section

open Idealize.ShloMosaic

namespace Cert.PoolBwdRefIdeal.Entries

open Cert.PoolBwdRefIdeal Cert.PoolBwdRefIdeal.Read
open Cert.Windows

theorem foldl_sum {α : Type} (f : α → EReal) (l : List α) (v : EReal) : l.foldl (fun r a => r + f a) v = v + (l.map f).sum := by
  induction l generalizing v with
  | nil => simp
  | cons a l ih => rw [List.foldl_cons, ih, List.map_cons, List.sum_cons, add_assoc]

theorem listed_sum {n : ℕ} (f : Fin n → EReal) : ((List.finRange n).map f).sum = ∑ i, f i := by
  rw [← List.ofFn_eq_map, List.sum_ofFn]

theorem windows_sum {s t : Shape} (window strides lo hi : Fin s.rank → ℕ) (h : s.ReduceWindows window strides lo hi t) (x : s.Idx → EReal) (j : t.Idx) :
    Ideal.hostReduceWindowAdd window strides lo hi h x 0 j
      = ∑ n : (⟨s.rank, window⟩ : Shape).Idx,
          let p : Fin s.rank → ℕ := fun a => (j (a.cast h.1.symm)).val * strides a + (n a).val
          if hin : ∀ a, lo a ≤ p a ∧ p a - lo a < s.size a then x (fun a => ⟨p a - lo a, (hin a).2⟩) else 0 := by
  unfold Ideal.hostReduceWindowAdd Host.reduceWindow
  refine (foldl_sum _ _ _).trans ((zero_add _).trans ((listed_sum _).trans ?_))
  rw [← Equiv.sum_comp (Shape.rowMajor (⟨s.rank, window⟩ : Shape)).symm]
  refine Finset.sum_congr rfl fun n _ => ?_
  by_cases hin : ∀ a, lo a ≤ (j (a.cast h.1.symm)).val * strides a + ((Shape.rowMajor (⟨s.rank, window⟩ : Shape)).symm n a).val
      ∧ (j (a.cast h.1.symm)).val * strides a + ((Shape.rowMajor (⟨s.rank, window⟩ : Shape)).symm n a).val - lo a < s.size a
  · refine (dif_pos hin).trans ?_
    dsimp only
    rw [dif_pos hin]
  · refine (dif_neg hin).trans ?_
    dsimp only
    rw [dif_neg hin]

/-- The places of a window that reaches along the second of four axes. -/
def places : Fin 8192 ≃ (⟨4, ![1, 8192, 1, 1]⟩ : Shape).Idx where
  toFun k := ix4 0 k 0 0
  invFun n := n 1
  left_inv _ := rfl
  right_inv n := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- A sum over windows that reach along the rows. -/
theorem running_sum (lo hi : ℕ) (x : S1x8192x4x64.Idx → EReal) (h) (t : Fin 8192) (g : Fin 4) (c : Fin 64) :
    Ideal.hostReduceWindowAdd (s := S1x8192x4x64) (t := S1x8192x4x64) ![1, 8192, 1, 1] ![1, 1, 1, 1] ![0, lo, 0, 0] ![0, hi, 0, 0] h x 0 (ix4 (0 : Fin 1) t g c)
      = ∑ k : Fin 8192, if h : lo ≤ t.val + k.val ∧ t.val + k.val - lo < 8192 then x (ix4 (0 : Fin 1) ⟨t.val + k.val - lo, h.2⟩ g c) else 0 := by
  refine (windows_sum (s := S1x8192x4x64) _ _ _ _ h x _).trans ?_
  rw [← Equiv.sum_comp places]
  refine Finset.sum_congr rfl fun k _ => ?_
  have e : (∀ a : Fin 4, (![0, lo, 0, 0] : Fin 4 → ℕ) a ≤ ((ix4 (0 : Fin 1) t g c : S1x8192x4x64.Idx) a).val * (![1, 1, 1, 1] : Fin 4 → ℕ) a + (places k a).val
      ∧ ((ix4 (0 : Fin 1) t g c : S1x8192x4x64.Idx) a).val * (![1, 1, 1, 1] : Fin 4 → ℕ) a + (places k a).val - (![0, lo, 0, 0] : Fin 4 → ℕ) a < S1x8192x4x64.size a)
      ↔ lo ≤ t.val + k.val ∧ t.val + k.val - lo < 8192 := by
    constructor
    · intro h
      have := h 1
      change lo ≤ t.val * 1 + k.val ∧ t.val * 1 + k.val - lo < 8192 at this
      omega
    · intro h a
      match a with
      | ⟨0, _⟩ => exact ⟨Nat.zero_le _, Nat.zero_lt_one⟩
      | ⟨1, _⟩ => show lo ≤ t.val * 1 + k.val ∧ t.val * 1 + k.val - lo < 8192; omega
      | ⟨2, _⟩ => exact ⟨Nat.zero_le _, by show g.val * 1 + 0 - 0 < 4; omega⟩
      | ⟨3, _⟩ => exact ⟨Nat.zero_le _, by show c.val * 1 + 0 - 0 < 64; omega⟩
  by_cases hk : lo ≤ t.val + k.val ∧ t.val + k.val - lo < 8192
  · refine (dif_pos (e.2 hk)).trans (Eq.trans ?_ (dif_pos hk).symm)
    refine congrArg x (funext fun a => Fin.ext ?_)
    match a with
    | ⟨0, _⟩ => rfl
    | ⟨1, _⟩ => show t.val * 1 + k.val - lo = t.val + k.val - lo; rw [Nat.mul_one]
    | ⟨2, _⟩ => show g.val * 1 + 0 - 0 = g.val; omega
    | ⟨3, _⟩ => show c.val * 1 + 0 - 0 = c.val; omega
  · rw [dif_neg hk]
    exact dif_neg fun h => hk (e.1 h)

/-- A column of an array of 8192 rows, nothing beyond its end. -/
def col (x : Fin 8192 → EReal) (t : ℕ) : EReal := if h : t < 8192 then x ⟨t, h⟩ else 0

/-- The terms of the sum up to row `t`, from the last back. -/
def upto (x : Fin 8192 → EReal) (t j : ℕ) : EReal := if j ≤ t then col x (t - j) else 0

theorem upto_sum (x : Fin 8192 → EReal) (t : Fin 8192) :
    (∑ k : Fin 8192, if h : 8191 ≤ t.val + k.val ∧ t.val + k.val - 8191 < 8192 then x ⟨t.val + k.val - 8191, h.2⟩ else 0)
      = ∑ j ∈ Finset.range 8192, upto x t j := by
  rw [← Finset.sum_range_reflect, ← Fin.sum_univ_eq_sum_range (fun j => upto x t (8192 - 1 - j)) 8192]
  refine Finset.sum_congr rfl fun k _ => ?_
  have hk := k.isLt
  have ht := t.isLt
  unfold upto col
  by_cases h : 8191 ≤ t.val + k.val
  · refine (dif_pos ⟨h, by omega⟩).trans ?_
    rw [if_pos (by omega), dif_pos (by omega)]
    exact congrArg x (Fin.ext (by show t.val + k.val - 8191 = t.val - (8192 - 1 - k.val); omega))
  · rw [dif_neg (fun h' => h h'.1), if_neg (by omega)]

/-- The difference of two running sums, `n` rows apart, is the sum of `n` rows. -/
theorem upto_window (x : Fin 8192 → EReal) (hx : ∀ t, Cert.Reals.IsReal (x t)) (t : Fin 8192) (n : ℕ) :
    (∑ j ∈ Finset.range 8192, upto x t j) - (if h : t.val < n then 0 else ∑ j ∈ Finset.range 8192, upto x (t.val - n) j)
      = ∑ j ∈ Finset.range n, upto x t j := by
  have ht := t.isLt
  rw [← sum_sub_shift (upto x t) ?_ 8192 n ?_]
  · refine congrArg _ ?_
    by_cases h : t.val < n
    · rw [dif_pos h]
      exact (Finset.sum_eq_zero fun k _ => if_neg (by omega)).symm
    · rw [dif_neg h]
      refine Finset.sum_congr rfl fun k _ => ?_
      unfold upto
      by_cases hk : k ≤ t.val - n
      · rw [if_pos hk, if_pos (by omega), show t.val - n - k = t.val - (k + n) by omega]
      · rw [if_neg hk, if_neg (by omega)]
  · intro k
    unfold upto col
    split
    · split
      · exact hx _
      · exact .zero
    · exact .zero
  · exact fun k hk => if_neg (by omega)

/-- The terms of the sum from row `t` on. -/
theorem from_sum (x : Fin 8192 → EReal) (t : Fin 8192) :
    (∑ k : Fin 8192, if h : 0 ≤ t.val + k.val ∧ t.val + k.val - 0 < 8192 then x ⟨t.val + k.val - 0, h.2⟩ else 0)
      = ∑ k ∈ Finset.range 8192, col x (t + k) := by
  rw [← Fin.sum_univ_eq_sum_range (fun j => col x (t + j)) 8192]
  refine Finset.sum_congr rfl fun k _ => ?_
  unfold col
  by_cases h : t.val + k.val < 8192
  · rw [dif_pos h]
    exact dif_pos ⟨Nat.zero_le _, h⟩
  · rw [dif_neg h]
    exact dif_neg fun h' => h h'.2

/-- The sum from row `t` on, of terms less the terms `n` rows on, is the sum of `n` rows. -/
theorem from_window (x : Fin 8192 → EReal) (hx : ∀ t, Cert.Reals.IsReal (x t)) (n : ℕ) (t : Fin 8192)
    (y : Fin 8192 → EReal) (hy : ∀ s : Fin 8192, y s = x s + -col x (s.val + n)) :
    ∑ k ∈ Finset.range 8192, col y (t + k) = fwd (col x) n t := by
  have hc : ∀ s, Cert.Reals.IsReal (col x s) := fun s => by
    unfold col
    split
    · exact hx _
    · exact .zero
  have hz : ∀ s, 8192 ≤ s → col x s = 0 := fun s hs => dif_neg (by omega)
  refine Eq.trans (Finset.sum_congr rfl fun k _ => ?_)
    (sum_sub_shift' (fun k => col x (t + k)) (fun k => hc _) 8192 n (fun k hk => hz _ (by omega)))
  by_cases h : t.val + k < 8192
  · have e : col x (t.val + k) = x ⟨_, h⟩ := dif_pos h
    refine (dif_pos h).trans ((hy _).trans ?_)
    show _ = col x (t.val + k) + -col x (t.val + (k + n))
    rw [e, ← Nat.add_assoc]
  · refine (dif_neg h).trans ?_
    show _ = col x (t.val + k) + -col x (t.val + (k + n))
    rw [hz _ (by omega), hz _ (by omega), neg_zero, add_zero]

end Cert.PoolBwdRefIdeal.Entries

end
-- ==== Proof.PoolBwd.Entries.lean ====
/- The entries of the pooling's reference, forward and backward. -/
module

public import proofs.«01_k».proof.Proof.PoolBwd.Running
public import proofs.«01_k».proof.Proof.Gen.PoolBwdRefIdeal.Read
public import Idealize.ShloMosaic.Lib.Pipeline.ValueKit
public import Idealize.ShloMosaic.Lib.Pointwise
public import Idealize.ShloMosaic.Lib.IdealHost
public import Idealize.ShloMosaic.Lib.TwoAxisContraction

@[expose] public section

noncomputable section

open Idealize.ShloMosaic

namespace Cert.PoolBwdRefIdeal.Entries

open Cert.PoolBwdRefIdeal Cert.PoolBwdRefIdeal.Read
open Cert.Windows Cert.Reals

variable (x0 x3 : (⟨S8192x256, .f32⟩ : BufTy).Contents (Elt Ideal)) (x1 : (⟨S4x64x64, .f32⟩ : BufTy).Contents (Elt Ideal)) (x2 : (⟨S1x256, .f32⟩ : BufTy).Contents (Elt Ideal))

/-- Lane `c` of group `g`. -/
def lane (g : Fin 4) (c : Fin 64) : Fin 256 := ⟨g.val * 64 + c.val, by omega⟩

theorem win_lane (g : Fin 4) (c : Fin 64) : win (lane g c) = 2 ^ (g.val + 1) := by
  have : (g.val * 64 + c.val) / 64 = g.val := by omega
  show 2 ^ ((g.val * 64 + c.val) / 64 + 1) = _
  rw [this]

/-- The trailing mean less the token, from the terms of the running sum. -/
def diff (t : ℕ) (u : Fin 8192 → EReal) (x : EReal) (l : Fin 256) : EReal :=
  Ideal.div (∑ j ∈ Finset.range (win l), upto u t j) (cnt t (win l)) - x

/-- `diff` of the array. -/
def d (t : Fin 8192) (l : Fin 256) : EReal := diff t (fun s => x0 (ix2 s l)) (x0 (ix2 t l)) l

/-- The running sum. -/
theorem prefix_apply (t : Fin 8192) (g : Fin 4) (c : Fin 64) :
    val_main_v3 (F := Ideal) x0 (ix4 (0 : Fin 1) t g c) = ∑ j ∈ Finset.range 8192, upto (fun s => x0 (ix2 s (lane g c))) t j := by
  rw [← upto_sum]
  have h0 : val_main_call0_v0 (F := Ideal) (Shape.Idx.first Gen.h_S_) = 0 := by pointwise [val_main_call0_v0, val_main_call0_cst]
  unfold val_main_v3 Host.reduceWindowAdd
  rw [Ideal.hostReduceWindowAdd_def, h0, running_sum]
  pointwise [val_main_v2, val_main_v0]
  rfl

/-- The count of a group's window at a token. -/
theorem count_word (t : Fin 8192) (n : ℕ) (hn : n < 2 ^ 31) :
    (FloatOps.sitofp .f32 (IntOp.minsi (IntOp.addi (BitVec.ofNat 32 t.val) 1#32) (BitVec.ofNat 32 n)) : Ideal .f32) = cnt t n := by
  rw [← cnt_word t n (by omega) hn]
  refine congrArg (fun a => (FloatOps.sitofp .f32 (IntOp.minsi a (BitVec.ofNat 32 n)) : Ideal .f32)) ?_
  exact (BitVec.ofNat_add t.val 1).symm

/-- A group's mean, from its running sums. -/
theorem mean (hx : ∀ i, IsReal (x0 i)) (t : Fin 8192) (g : Fin 4) (c : Fin 64) (n : ℕ) (hn : n = 2 ^ (g.val + 1)) :
    Ideal.div (val_main_v3 (F := Ideal) x0 (ix4 (0 : Fin 1) t g c)
        - if h : t.val < n then 0 else val_main_v3 (F := Ideal) x0 (ix4 (0 : Fin 1) ⟨t.val - n, by omega⟩ g c))
      (FloatOps.sitofp .f32 (IntOp.minsi (IntOp.addi (BitVec.ofNat 32 t.val) 1#32) (BitVec.ofNat 32 n)) : Ideal .f32) - x0 (ix2 t (lane g c))
      = d x0 t (lane g c) := by
  have hw : n = win (lane g c) := hn.trans (win_lane g c).symm
  subst hw
  simp only [prefix_apply]
  rw [count_word t _ (by have := win_le (lane g c); omega)]
  exact congrArg (fun a => Ideal.div a (cnt t (win (lane g c))) - x0 (ix2 t (lane g c)))
    (upto_window (fun s => x0 (ix2 s (lane g c))) (fun _ => hx _) t (win (lane g c)))

/-- The four groups. -/
theorem groups (hx : ∀ i, IsReal (x0 i)) (t : Fin 8192) (c : Fin 64) :
    val_main_v22 (F := Ideal) x0 (ix3 (0 : Fin 1) t c) = d x0 t (lane 0 c)
      ∧ val_main_v40 (F := Ideal) x0 (ix3 (0 : Fin 1) t c) = d x0 t (lane 1 c)
      ∧ val_main_v58 (F := Ideal) x0 (ix3 (0 : Fin 1) t c) = d x0 t (lane 2 c)
      ∧ val_main_v76 (F := Ideal) x0 (ix3 (0 : Fin 1) t c) = d x0 t (lane 3 c) := by
  refine ⟨?_, ?_, ?_, ?_⟩
  · rw [← mean x0 hx t 0 c 2 rfl]
    pointwise [val_main_v5, val_main_v6, val_main_cst, val_main_v7, val_main_v8, val_main_v9, val_main_cst_0, val_main_v10, val_main_c, val_main_v11, val_main_v12, val_main_c_1, val_main_v13, val_main_v14, val_main_v15, val_main_v16, val_main_v17, val_main_v18, val_main_v19, val_main_v20, val_main_v21, val_main_v22, val_main_v4, val_main_v2, val_main_v0]
    exact congrArg (fun l : Fin 256 => Ideal.div _ _ - x0 (ix2 t l)) (Fin.ext (by show c.val = 0 * 64 + c.val; omega))
  · rw [← mean x0 hx t 1 c 4 rfl]
    pointwise [val_main_v23, val_main_v24, val_main_cst_2, val_main_v25, val_main_v26, val_main_v27, val_main_cst_3, val_main_v28, val_main_c_4, val_main_v29, val_main_v30, val_main_c_5, val_main_v31, val_main_v32, val_main_v33, val_main_v34, val_main_v35, val_main_v36, val_main_v37, val_main_v38, val_main_v39, val_main_v40, val_main_v4, val_main_v2, val_main_v0]
    rfl
  · rw [← mean x0 hx t 2 c 8 rfl]
    pointwise [val_main_v41, val_main_v42, val_main_cst_6, val_main_v43, val_main_v44, val_main_v45, val_main_cst_7, val_main_v46, val_main_c_8, val_main_v47, val_main_v48, val_main_c_9, val_main_v49, val_main_v50, val_main_v51, val_main_v52, val_main_v53, val_main_v54, val_main_v55, val_main_v56, val_main_v57, val_main_v58, val_main_v4, val_main_v2, val_main_v0]
    rfl
  · rw [← mean x0 hx t 3 c 16 rfl]
    pointwise [val_main_v59, val_main_v60, val_main_cst_10, val_main_v61, val_main_v62, val_main_v63, val_main_cst_11, val_main_v64, val_main_c_12, val_main_v65, val_main_v66, val_main_c_13, val_main_v67, val_main_v68, val_main_v69, val_main_v70, val_main_v71, val_main_v72, val_main_v73, val_main_v74, val_main_v75, val_main_v76, val_main_v4, val_main_v2, val_main_v0]
    rfl

/-- The reference's trailing mean less the token. -/
theorem d_apply (hx : ∀ i, IsReal (x0 i)) (t : Fin 8192) (g : Fin 4) (c : Fin 64) :
    val_main_v81 (F := Ideal) x0 (ix4 (0 : Fin 1) t g c) = d x0 t (lane g c) := by
  obtain ⟨h0, h1, h2, h3⟩ := groups x0 hx t c
  pointwise [val_main_v81, val_main_v77, val_main_v78, val_main_v79, val_main_v80]
  match g with
  | 0 => exact h0
  | 1 => exact h1
  | 2 => exact h2
  | 3 => exact h3

/-- The reference's product with the group's weights. -/
theorem z_apply (hx : ∀ i, IsReal (x0 i)) (t : Fin 8192) (g : Fin 4) (c : Fin 64) :
    val_main_v84 (F := Ideal) x0 x1 (ix3 (0 : Fin 1) t (lane g c)) = ∑ k : Fin 64, x1 (ix3 g k c) * d x0 t (lane g k) := by
  have hg : (lane g c).val / 64 = g.val := by show (g.val * 64 + c.val) / 64 = g.val; omega
  have hc : (lane g c).val % 64 = c.val := by show (g.val * 64 + c.val) % 64 = c.val; omega
  pointwise [val_main_v84, val_main_v83]
  rw [val_main_v82_apply]
  refine Finset.sum_congr rfl fun k _ => ?_
  rw [← d_apply x0 hx t g k]
  congr 1
  · refine congrArg x1 ?_
    idx_ext <;> first | exact hg | exact hc
  · refine congrArg (val_main_v81 (F := Ideal) x0) ?_
    idx_ext <;> exact hg

/-- The reference's cotangent of the mean. -/
def dd (t : Fin 8192) (g : Fin 4) (c : Fin 64) : EReal := ∑ k : Fin 64, x3 (ix2 t (lane g k)) * x2 (ix2 (0 : Fin 1) (lane g k)) * x1 (ix3 g c k)

theorem dd_apply (t : Fin 8192) (g : Fin 4) (c : Fin 64) : val_main_v99 (F := Ideal) x1 x2 x3 (ix4 (0 : Fin 1) t g c) = dd x3 x1 x2 t g c := by
  pointwise [val_main_v99]
  rw [val_main_v98_apply]
  refine Finset.sum_congr rfl fun k _ => ?_
  congr 1
  · pointwise [val_main_v97, val_main_v96, val_main_v94, val_main_v93, val_main_v89, val_main_v85, val_main_v1]
    rfl
  · refine congrArg x1 ?_
    idx_ext

/-- The reference's gradient of the group's weights. -/
theorem dw_apply (hx : ∀ i, IsReal (x0 i)) (g : Fin 4) (a b : Fin 64) :
    val_main_v101 (F := Ideal) x0 x2 x3 (ix3 g a b)
      = ∑ t : Fin 8192, x3 (ix2 t (lane g b)) * x2 (ix2 (0 : Fin 1) (lane g b)) * d x0 t (lane g a) := by
  pointwise [val_main_v101]
  unfold val_main_v100
  simp only [Host.dotGeneral]
  rw [Ideal.dotGeneral_apply, ValueIdx.sum_contr2 dot_S4x64x1x8192_S1x8192x4x64_S4x64x64_23_01_1_3_0_2 1 8192 rfl rfl rfl]
  rw [Fin.sum_univ_one]
  refine Finset.sum_congr rfl fun t _ => ?_
  have h0 := ValueIdx.contrEquiv2_symm_val0 dot_S4x64x1x8192_S1x8192x4x64_S4x64x64_23_01_1_3_0_2 1 8192 rfl rfl rfl (0, t)
  have h1 := ValueIdx.contrEquiv2_symm_val1 dot_S4x64x1x8192_S1x8192x4x64_S4x64x64_23_01_1_3_0_2 1 8192 rfl rfl rfl (0, t)
  generalize (ValueIdx.contrEquiv2 dot_S4x64x1x8192_S1x8192x4x64_S4x64x64_23_01_1_3_0_2 1 8192 rfl rfl rfl).symm (0, t) = q at h0 h1
  have el : dot_S4x64x1x8192_S1x8192x4x64_S4x64x64_23_01_1_3_0_2.lhsIdx (ix3 g b a) q = ix4 g b (0 : Fin 1) t := funext fun x => Fin.ext (by
    match x with
    | ⟨0, _⟩ => rfl
    | ⟨1, _⟩ => rfl
    | ⟨2, _⟩ => exact h0
    | ⟨3, _⟩ => exact h1)
  have er : dot_S4x64x1x8192_S1x8192x4x64_S4x64x64_23_01_1_3_0_2.rhsIdx (ix3 g b a) q = ix4 (0 : Fin 1) t g a := funext fun x => Fin.ext (by
    match x with
    | ⟨0, _⟩ => exact h0
    | ⟨1, _⟩ => exact h1
    | ⟨2, _⟩ => rfl
    | ⟨3, _⟩ => rfl)
  rw [el, er, d_apply x0 hx]
  refine congrArg (· * d x0 t (lane g a)) ?_
  pointwise [val_main_v97, val_main_v96, val_main_v94, val_main_v93, val_main_v89, val_main_v85, val_main_v1]
  rfl

/-- The reference's gradient of the scale. -/
theorem dsc_apply (hx : ∀ i, IsReal (x0 i)) (g : Fin 4) (c : Fin 64) :
    val_main_v167 (F := Ideal) x0 x1 x3 (ix2 (0 : Fin 1) (lane g c))
      = ∑ t : Fin 8192, (∑ k : Fin 64, x1 (ix3 g k c) * d x0 t (lane g k)) * x3 (ix2 t (lane g c)) := by
  have e : ∀ i : S1x1x256.Idx, i = ix3 (0 : Fin 1) (0 : Fin 1) (i 2) := fun i => by
    funext a
    match a with
    | ⟨0, _⟩ => exact Subsingleton.elim (α := Fin 1) _ _
    | ⟨1, _⟩ => exact Subsingleton.elim (α := Fin 1) _ _
    | ⟨2, _⟩ => rfl
  have hd : ∀ i : S1x1x256.Idx, (Gen.reducesTo_S1x1x256_S256_d0_1).drop i = ix1 (i 2) := fun i => by
    funext a
    match a with
    | ⟨0, _⟩ => rfl
  pointwise [val_main_v167, val_main_v95]
  unfold Ideal.hostReduceAdd
  rw [Finset.sum_eq_single (ix3 (0 : Fin 1) (0 : Fin 1) (lane g c))]
  · pointwise [val_main_v92]
    rw [val_main_v91_apply]
    pointwise [val_main_cst_14, val_main_cst_15]
    refine Finset.sum_congr rfl fun t _ => ?_
    rw [← z_apply x0 x1 hx]
    pointwise [val_main_v90, val_main_v89]
    rfl
  · intro i hi hne
    refine absurd ?_ hne
    have := (hd i).symm.trans (Finset.mem_filter.1 hi).2
    rw [e i]
    exact congrArg (fun j : S256.Idx => ix3 (0 : Fin 1) (0 : Fin 1) (j 0)) this
  · intro hne
    refine absurd (Finset.mem_filter.2 ⟨Finset.mem_univ _, ?_⟩) hne
    exact hd (ix3 (0 : Fin 1) (0 : Fin 1) (lane g c))

end Cert.PoolBwdRefIdeal.Entries

end
-- ==== Proof.PoolBwd.Back.lean ====
/- The entries of the pooling's reference: what it hands back. -/
module

public import proofs.«01_k».proof.Proof.PoolBwd.Entries
public import Idealize.ShloMosaic.Lib.Pipeline.ValueKit
public import Idealize.ShloMosaic.Lib.Pointwise
public import Idealize.ShloMosaic.Lib.IdealHost

@[expose] public section

noncomputable section

open Idealize.ShloMosaic

namespace Cert.PoolBwdRefIdeal.Entries

open Cert.PoolBwdRefIdeal Cert.PoolBwdRefIdeal.Read
open Cert.Windows Cert.Reals

variable (x0 x3 : (⟨S8192x256, .f32⟩ : BufTy).Contents (Elt Ideal)) (x1 : (⟨S4x64x64, .f32⟩ : BufTy).Contents (Elt Ideal)) (x2 : (⟨S1x256, .f32⟩ : BufTy).Contents (Elt Ideal))

/-- A diagonal block of the weights' gradient. -/
theorem blocks_apply (hx : ∀ i, IsReal (x0 i)) (g : Fin 4) (a b : Fin 64) :
    val_main_v182 (F := Ideal) x0 x2 x3 (ix2 (lane g a) (lane g b))
      = ∑ t : Fin 8192, x3 (ix2 t (lane g b)) * x2 (ix2 (0 : Fin 1) (lane g b)) * d x0 t (lane g a) := by
  rw [← dw_apply x0 x3 x2 hx]
  pointwise [val_main_v169, val_main_v170, val_main_v171, val_main_v172, val_main_v173, val_main_v174, val_main_v175, val_main_v176, val_main_v177, val_main_v178, val_main_v179, val_main_v180, val_main_v181, val_main_v182]
  match g with
  | 0 =>
    rw [dif_pos (show (lane 0 a).val < 64 by show 0 * 64 + a.val < 64; omega)]
    rw [dif_pos (show (lane 0 b).val < 64 by show 0 * 64 + b.val < 64; omega)]
    exact congrArg₂ (fun a b : Fin 64 => val_main_v101 (F := Ideal) x0 x2 x3 (ix3 (0 : Fin 4) a b))
      (Fin.ext (by show 0 * 64 + a.val = a.val; omega)) (Fin.ext (by show 0 * 64 + b.val = b.val; omega))
  | 1 =>
    rw [dif_neg (show ¬(lane 1 a).val < 64 by show ¬1 * 64 + a.val < 64; omega)]
    rw [dif_pos (show (lane 1 a).val - 64 < 64 by show 1 * 64 + a.val - 64 < 64; omega)]
    rw [dif_neg (show ¬(lane 1 b).val < 64 by show ¬1 * 64 + b.val < 64; omega)]
    rw [dif_pos (show (lane 1 b).val - 64 < 64 by show 1 * 64 + b.val - 64 < 64; omega)]
    exact congrArg₂ (fun a b : Fin 64 => val_main_v101 (F := Ideal) x0 x2 x3 (ix3 (1 : Fin 4) a b))
      (Fin.ext (by show 1 * 64 + a.val - 64 = a.val; omega)) (Fin.ext (by show 1 * 64 + b.val - 64 = b.val; omega))
  | 2 =>
    rw [dif_neg (show ¬(lane 2 a).val < 64 by show ¬2 * 64 + a.val < 64; omega)]
    rw [dif_neg (show ¬(lane 2 a).val - 64 < 64 by show ¬2 * 64 + a.val - 64 < 64; omega)]
    rw [dif_pos (show (lane 2 a).val - 64 - 64 < 64 by show 2 * 64 + a.val - 64 - 64 < 64; omega)]
    rw [dif_neg (show ¬(lane 2 b).val < 64 by show ¬2 * 64 + b.val < 64; omega)]
    rw [dif_neg (show ¬(lane 2 b).val - 64 < 64 by show ¬2 * 64 + b.val - 64 < 64; omega)]
    rw [dif_pos (show (lane 2 b).val - 64 - 64 < 64 by show 2 * 64 + b.val - 64 - 64 < 64; omega)]
    exact congrArg₂ (fun a b : Fin 64 => val_main_v101 (F := Ideal) x0 x2 x3 (ix3 (2 : Fin 4) a b))
      (Fin.ext (by show 2 * 64 + a.val - 64 - 64 = a.val; omega)) (Fin.ext (by show 2 * 64 + b.val - 64 - 64 = b.val; omega))
  | 3 =>
    rw [dif_neg (show ¬(lane 3 a).val < 64 by show ¬3 * 64 + a.val < 64; omega)]
    rw [dif_neg (show ¬(lane 3 a).val - 64 < 64 by show ¬3 * 64 + a.val - 64 < 64; omega)]
    rw [dif_neg (show ¬(lane 3 a).val - 64 - 64 < 64 by show ¬3 * 64 + a.val - 64 - 64 < 64; omega)]
    rw [dif_neg (show ¬(lane 3 b).val < 64 by show ¬3 * 64 + b.val < 64; omega)]
    rw [dif_neg (show ¬(lane 3 b).val - 64 < 64 by show ¬3 * 64 + b.val - 64 < 64; omega)]
    rw [dif_neg (show ¬(lane 3 b).val - 64 - 64 < 64 by show ¬3 * 64 + b.val - 64 - 64 < 64; omega)]
    exact congrArg₂ (fun a b : Fin 64 => val_main_v101 (F := Ideal) x0 x2 x3 (ix3 (3 : Fin 4) a b))
      (Fin.ext (by show 3 * 64 + a.val - 64 - 64 - 64 = a.val; omega)) (Fin.ext (by show 3 * 64 + b.val - 64 - 64 - 64 = b.val; omega))

/-- What the token itself hands back. -/
theorem minus_apply (t : Fin 8192) (g : Fin 4) (c : Fin 64) : val_main_v153 (F := Ideal) x1 x2 x3 (ix4 (0 : Fin 1) t g c) = -dd x3 x1 x2 t g c := by
  rw [← dd_apply]
  pointwise [val_main_v102, val_main_v103, val_main_v104, val_main_v105, val_main_v106, val_main_v107, val_main_v108, val_main_v109, val_main_v110, val_main_v111, val_main_cst_16, val_main_v112, val_main_v122, val_main_v123, val_main_cst_19, val_main_v124, val_main_v125, val_main_v136, val_main_v137, val_main_cst_22, val_main_v138, val_main_v139, val_main_v150, val_main_v151, val_main_cst_25, val_main_v152, val_main_v153]
  match g with
  | 0 =>
    show ((0 + 0) + 0) + -val_main_v99 (F := Ideal) x1 x2 x3 (ix4 (0 : Fin 1) t 0 c) = (_ : EReal)
    simp only [zero_add, add_zero]
  | 1 =>
    show ((0 + 0) + -val_main_v99 (F := Ideal) x1 x2 x3 (ix4 (0 : Fin 1) t 1 c)) + 0 = (_ : EReal)
    simp only [zero_add, add_zero]
  | 2 =>
    show ((0 + -val_main_v99 (F := Ideal) x1 x2 x3 (ix4 (0 : Fin 1) t 2 c)) + 0) + 0 = (_ : EReal)
    simp only [zero_add, add_zero]
  | 3 =>
    show ((-val_main_v99 (F := Ideal) x1 x2 x3 (ix4 (0 : Fin 1) t 3 c) + 0) + 0) + 0 = (_ : EReal)
    simp only [zero_add, add_zero]

/-- The cotangent of a window's sum. -/
def each (g : Fin 4) (c : Fin 64) (t : Fin 8192) : EReal := Ideal.div (dd x3 x1 x2 t g c) (cnt t (win (lane g c)))

/-- A group's quotients, less those a window further on. -/
theorem row_minus (t : Fin 8192) (g : Fin 4) (c : Fin 64) (n k : ℕ) (hn : n = 2 ^ (g.val + 1)) (hk : k + n = 8192) :
    Ideal.div (val_main_v99 (F := Ideal) x1 x2 x3 (ix4 (0 : Fin 1) t g c))
        (FloatOps.sitofp .f32 (IntOp.minsi (IntOp.addi (BitVec.ofNat 32 t.val) 1#32) (BitVec.ofNat 32 n)) : Ideal .f32)
      + (if h : t.val < k then -Ideal.div (val_main_v99 (F := Ideal) x1 x2 x3 (ix4 (0 : Fin 1) ⟨n + t.val, by omega⟩ g c))
          (FloatOps.sitofp .f32 (IntOp.minsi (IntOp.addi (BitVec.ofNat 32 (n + t.val)) 1#32) (BitVec.ofNat 32 n)) : Ideal .f32) else 0)
      = each x3 x1 x2 g c t + -col (each x3 x1 x2 g c) (t.val + win (lane g c)) := by
  have hw : n = win (lane g c) := hn.trans (win_lane g c).symm
  have hl : n < 2 ^ 31 := by have := win_le (lane g c); omega
  subst hw
  rw [count_word t _ hl, dd_apply]
  refine congrArg (each x3 x1 x2 g c t + ·) ?_
  unfold col
  by_cases h : t.val < k
  · rw [dif_pos h, dif_pos (show t.val + win (lane g c) < 8192 by omega), dd_apply,
      count_word ⟨win (lane g c) + t.val, by omega⟩ _ hl]
    refine congrArg (fun s => -each x3 x1 x2 g c s) (Fin.ext (Nat.add_comm _ _))
  · rw [dif_neg h, dif_neg (by omega), neg_zero]

theorem each_apply (t : Fin 8192) (g : Fin 4) (c : Fin 64) :
    val_main_v163 (F := Ideal) x1 x2 x3 (ix4 (0 : Fin 1) t g c) = each x3 x1 x2 g c t + -col (each x3 x1 x2 g c) (t.val + win (lane g c)) := by
  pointwise [val_main_v102, val_main_v103, val_main_v104, val_main_v105, val_main_v106, val_main_v107, val_main_v108, val_main_v109, val_main_cst_16, val_main_v112, val_main_v113, val_main_v114, val_main_v115, val_main_v116, val_main_v117, val_main_cst_17, val_main_v118, val_main_v119, val_main_v120, val_main_cst_18, val_main_v121, val_main_cst_19, val_main_v124, val_main_v125, val_main_v126, val_main_v127, val_main_v128, val_main_v129, val_main_v130, val_main_cst_20, val_main_v131, val_main_v132, val_main_v133, val_main_cst_21, val_main_v134, val_main_v135, val_main_cst_22, val_main_v138, val_main_v139, val_main_v140, val_main_v141, val_main_v142, val_main_v143, val_main_v144, val_main_cst_23, val_main_v145, val_main_v146, val_main_v147, val_main_cst_24, val_main_v148, val_main_v149, val_main_cst_25, val_main_v152, val_main_v153, val_main_v154, val_main_v155, val_main_v156, val_main_v157, val_main_v158, val_main_cst_26, val_main_v159, val_main_v160, val_main_v161, val_main_cst_27, val_main_v162, val_main_v163, val_main_v4, val_main_v10, val_main_c, val_main_v11, val_main_v12, val_main_c_1, val_main_v13, val_main_v14, val_main_v15, val_main_v16, val_main_v17, val_main_v28, val_main_c_4, val_main_v29, val_main_v30, val_main_c_5, val_main_v31, val_main_v32, val_main_v33, val_main_v34, val_main_v35, val_main_v46, val_main_c_8, val_main_v47, val_main_v48, val_main_c_9, val_main_v49, val_main_v50, val_main_v51, val_main_v52, val_main_v53, val_main_v64, val_main_c_12, val_main_v65, val_main_v66, val_main_c_13, val_main_v67, val_main_v68, val_main_v69, val_main_v70, val_main_v71]
  match g with
  | 0 =>
    refine Eq.trans ?_ (row_minus x3 x1 x2 t 0 c 2 8190 rfl rfl)
    show ((0 + 0) + 0) + _ = (_ : EReal)
    simp only [zero_add, add_zero]
    rfl
  | 1 =>
    refine Eq.trans ?_ (row_minus x3 x1 x2 t 1 c 4 8188 rfl rfl)
    show ((0 + 0) + _) + 0 = (_ : EReal)
    simp only [zero_add, add_zero]
    rfl
  | 2 =>
    refine Eq.trans ?_ (row_minus x3 x1 x2 t 2 c 8 8184 rfl rfl)
    show ((0 + _) + 0) + 0 = (_ : EReal)
    simp only [zero_add, add_zero]
    rfl
  | 3 =>
    refine Eq.trans ?_ (row_minus x3 x1 x2 t 3 c 16 8176 rfl rfl)
    show ((_ + 0) + 0) + 0 = (_ : EReal)
    simp only [zero_add, add_zero]
    rfl

/-- The gradient with respect to the tokens. -/
theorem du_apply (h1 : ∀ i, IsReal (x1 i)) (h2 : ∀ i, IsReal (x2 i)) (h3 : ∀ i, IsReal (x3 i)) (t : Fin 8192) (g : Fin 4) (c : Fin 64) :
    val_main_v183 (F := Ideal) x1 x2 x3 (ix2 t (lane g c)) = -dd x3 x1 x2 t g c + fwd (col (each x3 x1 x2 g c)) (win (lane g c)) t := by
  have hg : (lane g c).val / 64 = g.val := by show (g.val * 64 + c.val) / 64 = g.val; omega
  have hc : (lane g c).val % 64 = c.val := by show (g.val * 64 + c.val) % 64 = c.val; omega
  have hr : ∀ s, IsReal (each x3 x1 x2 g c s) := fun s =>
    isReal_div_cnt (.sum _ _ fun k _ => ((h3 _).mul (h2 _)).mul (h1 _)) _ _ (win_pos _)
  have h0 : val_main_call1_v0 (F := Ideal) (Shape.Idx.first Gen.h_S_) = 0 := by pointwise [val_main_call1_v0, val_main_call1_cst]
  have hs : val_main_v164 (F := Ideal) x1 x2 x3 (ix4 (0 : Fin 1) t g c) = fwd (col (each x3 x1 x2 g c)) (win (lane g c)) t := by
    unfold val_main_v164 Host.reduceWindowAdd
    rw [Ideal.hostReduceWindowAdd_def, h0, running_sum, ← from_window (each x3 x1 x2 g c) hr (win (lane g c)) t
      (fun s => val_main_v163 (F := Ideal) x1 x2 x3 (ix4 (0 : Fin 1) s g c)) (fun s => each_apply x3 x1 x2 s g c), ← from_sum]
  rw [← hs, ← minus_apply]
  pointwise [val_main_v183, val_main_v168, val_main_v166, val_main_v165, val_main_cst_28]
  rw [Fin.sum_univ_one]
  refine congr (congrArg HAdd.hAdd ?_) ?_ <;> refine congrArg _ ?_ <;> idx_ext <;> first | exact hg | exact hc

end Cert.PoolBwdRefIdeal.Entries

end
-- ==== Proof.PoolBwd.Blocks.lean ====
/- The blocks a grid point of the pooling's backward pass sees. -/
module

public import proofs.«01_k».proof.Proof.PoolBwd.Step
public import proofs.«01_k».proof.Proof.PoolBwd.Back

@[expose] public section

noncomputable section

open Idealize.ShloMosaic Idealize.ShloMosaic.TcCoe Idealize.SL.Sem

namespace Cert.PoolBwdIdeal.Final

open Cert.PoolBwdIdeal Cert.PoolBwdIdeal.Gen Cert.PoolBwdIdeal.Value
open Cert.PoolBwdRefIdeal.Entries (lane)

variable (m : (ℓ : Loc nD τ sig) → Buf (Elt Ideal) ℓ)

/-- Which block of each array a grid point sees. -/
theorem idx : ∀ t : Fin cfg0.N,
    win0_0.index t = ![t.val, 0] ∧ win0_1.index t = ![t.val * 128 - 1, 0] ∧ win0_2.index t = ![t.val, 0]
      ∧ win0_3.index t = ![min ((t.val + 1) * 128) 511, 0] ∧ win0_4.index t = ![0, 0] ∧ win0_5.index t = ![0, 0] ∧ win0_6.index t = ![t.val, 0] :=
  (by decide +kernel : ∀ t : Fin grid0.N, _)

theorem tile : ∀ t : Fin cfg0.N, (grid0.coords t 0).val = t.val := (by decide +kernel : ∀ t : Fin grid0.N, _)

/-- The tokens. -/
abbrev xu (c : Dev nD) : Vec Ideal S8192x256 .f32 := m ((c : Thread nD τ).loc main_arg0)
/-- The groups' weights. -/
abbrev xw (c : Dev nD) : Vec Ideal S4x64x64 .f32 := m ((c : Thread nD τ).loc main_arg1)
/-- The scale. -/
abbrev xs (c : Dev nD) : Vec Ideal S1x256 .f32 := m ((c : Thread nD τ).loc main_arg2)
/-- The incoming cotangent. -/
abbrev xc (c : Dev nD) : Vec Ideal S8192x256 .f32 := m ((c : Thread nD τ).loc main_arg3)

theorem u_blk (c : Dev nD) (t : Fin cfg0.N) (r : Fin 2048) (l : Fin 256) (R : Fin 8192) (h : (R : ℕ) = 2048 * t.val + r) :
    (iblk m c 0 t : Vec Ideal S2048x256 .f32) (ix2 r l) = xu m c (ix2 R l) := by
  blk_ext! [iblk, V, idx t]

theorem before_blk (c : Dev nD) (t : Fin cfg0.N) (h0 : 0 < t.val) (q : Fin 16) (l : Fin 256) (R : Fin 8192) (h : (R : ℕ) + 16 = 2048 * t.val + q) :
    (iblk m c 1 t : Vec Ideal S16x256 .f32) (ix2 q l) = xu m c (ix2 R l) := by
  blk_ext! [iblk, V, idx t]

theorem c_blk (c : Dev nD) (t : Fin cfg0.N) (r : Fin 2048) (l : Fin 256) (R : Fin 8192) (h : (R : ℕ) = 2048 * t.val + r) :
    (iblk m c 2 t : Vec Ideal S2048x256 .f32) (ix2 r l) = xc m c (ix2 R l) := by
  blk_ext! [iblk, V, idx t]

theorem after_blk (c : Dev nD) (t : Fin cfg0.N) (h0 : t.val < 3) (q : Fin 16) (l : Fin 256) (R : Fin 8192) (h : (R : ℕ) = 2048 * (t.val + 1) + q) :
    (iblk m c 3 t : Vec Ideal S16x256 .f32) (ix2 q l) = xc m c (ix2 R l) := by
  blk_ext! [iblk, V, idx t]

theorem s_blk (c : Dev nD) (t : Fin cfg0.N) (l : Fin 256) :
    (iblk m c 5 t : Vec Ideal S1x256 .f32) (ix2 0 l) = xs m c (ix2 0 l) := by
  blk_ext! [iblk, V, idx t]

/-- Four blocks laid over zeros on the diagonal: the entry at a pair of lanes is the group's where the groups agree, and zero elsewhere. -/
theorem on_diagonal (x : Vec Ideal S4x64x64 .f32) (g h : Fin 4) (a b : Fin 64) :
    (if h3 : 192 ≤ (lane g a).val ∧ 192 ≤ (lane h b).val then (x (ix3 (3 : Fin 4) ⟨(lane g a).val - 192, by omega⟩ ⟨(lane h b).val - 192, by omega⟩) : EReal)
      else if h2 : (128 ≤ (lane g a).val ∧ (lane g a).val < 128 + 64) ∧ 128 ≤ (lane h b).val ∧ (lane h b).val < 128 + 64 then (x (ix3 (2 : Fin 4) ⟨(lane g a).val - 128, by omega⟩ ⟨(lane h b).val - 128, by omega⟩) : EReal)
      else if h1 : (64 ≤ (lane g a).val ∧ (lane g a).val < 64 + 64) ∧ 64 ≤ (lane h b).val ∧ (lane h b).val < 64 + 64 then (x (ix3 (1 : Fin 4) ⟨(lane g a).val - 64, by omega⟩ ⟨(lane h b).val - 64, by omega⟩) : EReal)
      else if h0 : (0 ≤ (lane g a).val ∧ (lane g a).val < 0 + 64) ∧ 0 ≤ (lane h b).val ∧ (lane h b).val < 0 + 64 then (x (ix3 (0 : Fin 4) ⟨(lane g a).val - 0, by omega⟩ ⟨(lane h b).val - 0, by omega⟩) : EReal)
      else (0 : EReal)) = (if g = h then (x (ix3 g a b) : EReal) else (0 : EReal) : EReal) := by
  have ha : (lane g a).val = g.val * 64 + a.val := rfl
  have hb : (lane h b).val = h.val * 64 + b.val := rfl
  by_cases h3 : 192 ≤ (lane g a).val ∧ 192 ≤ (lane h b).val
  · rw [dif_pos h3, if_pos (Fin.ext (by omega))]
    obtain rfl : g = (3 : Fin 4) := Fin.ext (by show g.val = 3; omega)
    exact congrArg₂ (fun a b : Fin 64 => (x (ix3 (3 : Fin 4) a b) : EReal)) (Fin.ext (by show (lane 3 a).val - 192 = a.val; omega)) (Fin.ext (by show (lane h b).val - 192 = b.val; omega))
  rw [dif_neg h3]
  by_cases h2 : (128 ≤ (lane g a).val ∧ (lane g a).val < 128 + 64) ∧ 128 ≤ (lane h b).val ∧ (lane h b).val < 128 + 64
  · rw [dif_pos h2, if_pos (Fin.ext (by omega))]
    obtain rfl : g = (2 : Fin 4) := Fin.ext (by show g.val = 2; omega)
    exact congrArg₂ (fun a b : Fin 64 => (x (ix3 (2 : Fin 4) a b) : EReal)) (Fin.ext (by show (lane 2 a).val - 128 = a.val; omega)) (Fin.ext (by show (lane h b).val - 128 = b.val; omega))
  rw [dif_neg h2]
  by_cases h1 : (64 ≤ (lane g a).val ∧ (lane g a).val < 64 + 64) ∧ 64 ≤ (lane h b).val ∧ (lane h b).val < 64 + 64
  · rw [dif_pos h1, if_pos (Fin.ext (by omega))]
    obtain rfl : g = (1 : Fin 4) := Fin.ext (by show g.val = 1; omega)
    exact congrArg₂ (fun a b : Fin 64 => (x (ix3 (1 : Fin 4) a b) : EReal)) (Fin.ext (by show (lane 1 a).val - 64 = a.val; omega)) (Fin.ext (by show (lane h b).val - 64 = b.val; omega))
  rw [dif_neg h1]
  by_cases h0 : (0 ≤ (lane g a).val ∧ (lane g a).val < 0 + 64) ∧ 0 ≤ (lane h b).val ∧ (lane h b).val < 0 + 64
  · rw [dif_pos h0, if_pos (Fin.ext (by omega))]
    obtain rfl : g = (0 : Fin 4) := Fin.ext (by show g.val = 0; omega)
    exact congrArg₂ (fun a b : Fin 64 => (x (ix3 (0 : Fin 4) a b) : EReal)) (Fin.ext (by show (lane 0 a).val - 0 = a.val; omega)) (Fin.ext (by show (lane h b).val - 0 = b.val; omega))
  rw [dif_neg h0]
  refine (if_neg fun e => ?_).symm
  have := congrArg Fin.val e
  omega

/-- The groups' weights on the diagonal. -/
theorem diagonal (c : Dev nD) (g h : Fin 4) (a b : Fin 64) :
    (V m c main_v13 : Vec Ideal S256x256 .bf16) (ix2 (lane g a) (lane h b)) = (if g = h then (xw m c (ix3 g a b) : EReal) else (0 : EReal) : EReal) := by
  entry_read
  pointwise
  simp only [Host.clampedStart, Matrix.cons_val_zero, Matrix.cons_val_one]
  after_results_simp
  after_results_loop
  exact on_diagonal (xw m c) g h a b

theorem w_blk (c : Dev nD) (t : Fin cfg0.N) (g h : Fin 4) (a b : Fin 64) :
    (iblk m c 4 t : Vec Ideal S256x256 .bf16) (ix2 (lane g a) (lane h b)) = (if g = h then (xw m c (ix3 g a b) : EReal) else (0 : EReal) : EReal) := by
  rw [← diagonal m c g h a b]
  blk_ext [iblk, idx t]

end Cert.PoolBwdIdeal.Final

end
-- ==== Proof.PoolBwd.Rows.lean ====
/- A tile's shares of the pooling's gradients, in the reference's entries. -/
module

public import proofs.«01_k».proof.Proof.PoolBwd.Blocks

@[expose] public section

noncomputable section

open Idealize.ShloMosaic Idealize.ShloMosaic.TcCoe Idealize.SL.Sem

namespace Cert.PoolBwdIdeal.Final

open Cert.PoolBwdIdeal Cert.PoolBwdIdeal.Gen Cert.PoolBwdIdeal.Value
open Cert.PoolBwdRefIdeal.Entries (lane win_lane col upto)
open Cert.Windows

variable (m : (ℓ : Loc nD τ sig) → Buf (Elt Ideal) ℓ)

/-- A sum over the lanes, group by group. -/
theorem sum_lanes (f : Fin 256 → EReal) : ∑ l, f l = ∑ g : Fin 4, ∑ b : Fin 64, f (lane g b) :=
  (Fin.sum_mul_add_congr (f := f) fun _ _ _ => rfl).symm

/-- A product with the weights on the diagonal takes only the lane's own group. -/
theorem sum_diagonal (f : Fin 256 → EReal) (x : Fin 4 → Fin 64 → EReal) (g : Fin 4) (hx : ∀ h b, x h b = 0 ∨ h = g) :
    ∑ h : Fin 4, ∑ b : Fin 64, f (lane h b) * x h b = ∑ b : Fin 64, f (lane g b) * x g b := by
  refine Finset.sum_eq_single g (fun h _ hne => Finset.sum_eq_zero fun b _ => ?_) (fun hg => absurd (Finset.mem_univ _) hg)
  rcases hx h b with h0 | h0
  · rw [h0, mul_zero]
  · exact absurd h0 hne

/-- The trailing mean less the token, from a tile of the rows and the sixteen rows before it. -/
theorem diff_of (i : ℕ) (hi : i < 4) (halo : Vec Ideal S16x256 .f32) (u : Vec Ideal S2048x256 .f32) (x : Vec Ideal S8192x256 .f32)
    (hu : ∀ (r : Fin 2048) (l : Fin 256) (R : Fin 8192), (R : ℕ) = 2048 * i + r → u (ix2 r l) = x (ix2 R l))
    (hh : 0 < i → ∀ (q : Fin 16) (l : Fin 256) (R : Fin 8192), (R : ℕ) + 16 = 2048 * i + q → halo (ix2 q l) = x (ix2 R l))
    (r : Fin 2048) (l : Fin 256) (R : Fin 8192) (hR : (R : ℕ) = 2048 * i + r) :
    Step.diff i halo u r l = Cert.PoolBwdRefIdeal.Entries.d x R l := by
  have hw := win_le l
  unfold Step.diff Cert.PoolBwdRefIdeal.Entries.d Cert.PoolBwdRefIdeal.Entries.diff
  rw [hu r l R hR, ← hR]
  refine congrArg (fun a => Ideal.div a (cnt R (win l)) - (x (ix2 R l) : EReal)) (Finset.sum_congr rfl fun j hj => ?_)
  have hj' := Finset.mem_range.1 hj
  unfold Step.ext upto col
  by_cases h : 16 + r.val - j < 16
  · rw [dif_pos h]
    by_cases h0 : 0 < i
    · rw [if_pos h0, if_pos (by omega), dif_pos (by omega)]
      exact hh h0 _ l _ (by show R.val - j + 16 = 2048 * i + (16 + r.val - j); omega)
    · rw [if_neg h0, if_neg (by omega)]
  · rw [dif_neg h, dif_pos (by omega), if_pos (by omega), dif_pos (by omega)]
    exact hu _ l _ (by show R.val - j = 2048 * i + (16 + r.val - j - 16); omega)

/-- The trailing mean less the token. -/
theorem diff_eq (c : Dev nD) (t : Fin cfg0.N) (r : Fin 2048) (l : Fin 256) (R : Fin 8192) (hR : (R : ℕ) = 2048 * t.val + r) :
    Step.diff (grid0.coords t 0).val (iblk m c 1 t) (iblk m c 0 t) r l = Cert.PoolBwdRefIdeal.Entries.d (xu m c) R l := by
  rw [tile]
  exact diff_of t.val t.isLt _ _ _ (u_blk m c t) (before_blk m c t) r l R hR

/-- The scaled cotangent. -/
theorem dz_eq (c : Dev nD) (t : Fin cfg0.N) (q : Fin 2064) (l : Fin 256) :
    Step.dz (grid0.coords t 0).val (iblk m c 5 t) (iblk m c 2 t) (iblk m c 3 t) q l
      = col (fun s => xc m c (ix2 s l)) (2048 * t.val + q) * (xs m c (ix2 0 l) : EReal) := by
  have ht : t.val < 4 := t.isLt
  have hq := q.isLt
  rw [tile]
  unfold Step.dz col
  rw [s_blk]
  refine congrArg (· * (xs m c (ix2 0 l) : EReal)) ?_
  by_cases h : q.val < 2048
  · rw [dif_pos h, dif_pos (by omega)]
    exact c_blk m c t _ l _ rfl
  · rw [dif_neg h]
    by_cases h3 : t.val < 3
    · rw [if_pos h3, dif_pos (by omega)]
      exact after_blk m c t h3 _ l _ (by show 2048 * t.val + q.val = 2048 * (t.val + 1) + (q.val - 2048); omega)
    · rw [if_neg h3, dif_neg (by omega)]

/-- The cotangent of the mean, at the tile's rows and the sixteen after it. -/
theorem dd_eq (c : Dev nD) (t : Fin cfg0.N) (g : Fin 4) (a : Fin 64) (q : ℕ) (hq : q < 2064) :
    Step.dd (grid0.coords t 0).val (iblk m c 4 t) (iblk m c 5 t) (iblk m c 2 t) (iblk m c 3 t) (lane g a) q
      = col (fun s => Cert.PoolBwdRefIdeal.Entries.dd (xc m c) (xw m c) (xs m c) s g a) (2048 * t.val + q) := by
  unfold Step.dd
  rw [dif_pos hq, sum_lanes]
  refine (Finset.sum_congr rfl fun h _ => Finset.sum_congr rfl fun b _ => congr (congrArg HMul.hMul (dz_eq m c t _ _)) (w_blk m c t g h a b)).trans ?_
  refine (sum_diagonal (fun l => col (fun s => xc m c (ix2 s l)) (2048 * t.val + q) * (xs m c (ix2 0 l) : EReal))
    (fun h b => if g = h then (xw m c (ix3 g a b) : EReal) else 0) g fun h b => ?_).trans ?_
  · by_cases e : g = h
    · exact Or.inr e.symm
    · exact Or.inl (if_neg e)
  · unfold col
    by_cases h : 2048 * t.val + q < 8192
    · rw [dif_pos h]
      refine Finset.sum_congr rfl fun b _ => ?_
      rw [dif_pos h, if_pos rfl]
    · rw [dif_neg h]
      refine Finset.sum_eq_zero fun b _ => ?_
      rw [dif_neg h, zero_mul, zero_mul]

/-- The cotangent of a window's sum. -/
theorem each_eq (c : Dev nD) (t : Fin cfg0.N) (g : Fin 4) (a : Fin 64) (q : ℕ) (hq : q < 2064) :
    Step.each (grid0.coords t 0).val (iblk m c 4 t) (iblk m c 5 t) (iblk m c 2 t) (iblk m c 3 t) (lane g a) q
      = col (Cert.PoolBwdRefIdeal.Entries.each (xc m c) (xw m c) (xs m c) g a) (2048 * t.val + q) := by
  unfold Step.each
  rw [dd_eq m c t g a q hq, tile]
  unfold col Cert.PoolBwdRefIdeal.Entries.each
  by_cases h : 2048 * t.val + q < 8192
  · rw [dif_pos h, dif_pos h]
  · rw [dif_neg h, dif_neg h]
    exact zero_div_cnt _ _ (win_pos _)

/-- The gradient with respect to the tokens. -/
theorem du_eq (c : Dev nD) (t : Fin cfg0.N) (r : Fin 2048) (g : Fin 4) (a : Fin 64) (R : Fin 8192) (hR : (R : ℕ) = 2048 * t.val + r) :
    fwd (Step.each (grid0.coords t 0).val (iblk m c 4 t) (iblk m c 5 t) (iblk m c 2 t) (iblk m c 3 t) (lane g a)) (win (lane g a)) r
        - Step.dd (grid0.coords t 0).val (iblk m c 4 t) (iblk m c 5 t) (iblk m c 2 t) (iblk m c 3 t) (lane g a) r
      = -Cert.PoolBwdRefIdeal.Entries.dd (xc m c) (xw m c) (xs m c) R g a
        + fwd (col (Cert.PoolBwdRefIdeal.Entries.each (xc m c) (xw m c) (xs m c) g a)) (win (lane g a)) R := by
  have hr := r.isLt
  have hw := win_le (lane g a)
  rw [dd_eq m c t g a r (by omega), sub_eq_add_neg, add_comm]
  refine congr (congrArg HAdd.hAdd (congrArg Neg.neg ?_)) (fwd_congr fun j hj => ?_)
  · unfold col
    rw [dif_pos (by omega)]
    exact congrArg (fun s => Cert.PoolBwdRefIdeal.Entries.dd (xc m c) (xw m c) (xs m c) s g a) (Fin.ext hR.symm)
  · rw [each_eq m c t g a _ (by omega), hR, Nat.add_assoc]

/-- A row's term of the weights' gradient. -/
theorem dw_row (c : Dev nD) (t : Fin cfg0.N) (r : Fin 2048) (g : Fin 4) (a b : Fin 64) (R : Fin 8192) (hR : (R : ℕ) = 2048 * t.val + r) :
    Step.diff (grid0.coords t 0).val (iblk m c 1 t) (iblk m c 0 t) r (lane g a)
        * Step.dz (grid0.coords t 0).val (iblk m c 5 t) (iblk m c 2 t) (iblk m c 3 t) ⟨r, by omega⟩ (lane g b)
      = (xc m c (ix2 R (lane g b)) : EReal) * (xs m c (ix2 0 (lane g b)) : EReal) * Cert.PoolBwdRefIdeal.Entries.d (xu m c) R (lane g a) := by
  rw [diff_eq m c t r _ R hR, dz_eq, mul_comm]
  refine congrArg (fun x : EReal => x * (xs m c (ix2 0 (lane g b)) : EReal) * Cert.PoolBwdRefIdeal.Entries.d (xu m c) R (lane g a)) ?_
  unfold col
  rw [dif_pos (show 2048 * t.val + r.val < 8192 by omega)]
  exact congrArg (fun s => (xc m c (ix2 s (lane g b)) : EReal)) (Fin.ext hR.symm)

/-- A row's term of the scale's gradient. -/
theorem dsc_row (c : Dev nD) (t : Fin cfg0.N) (dy : Vec Ideal S2048x256 .f32) (w : Vec Ideal S256x256 .bf16) (hdy : dy = iblk m c 2 t) (hw : w = iblk m c 4 t)
    (r : Fin 2048) (g : Fin 4) (a : Fin 64) (R : Fin 8192) (hR : (R : ℕ) = 2048 * t.val + r) :
    dy (ix2 r (lane g a))
        * ∑ k : Fin 256, Step.diff (grid0.coords t 0).val (iblk m c 1 t) (iblk m c 0 t) r k * (w (ix2 k (lane g a)) : EReal)
      = (∑ k : Fin 64, (xw m c (ix3 g k a) : EReal) * Cert.PoolBwdRefIdeal.Entries.d (xu m c) R (lane g k)) * (xc m c (ix2 R (lane g a)) : EReal) := by
  subst hdy hw
  rw [c_blk m c t r _ R hR, mul_comm, sum_lanes]
  refine congrArg (· * (xc m c (ix2 R (lane g a)) : EReal)) ?_
  refine (Finset.sum_congr rfl fun h _ => Finset.sum_congr rfl fun b _ => congr (congrArg HMul.hMul (diff_eq m c t r (lane h b) R hR)) (w_blk m c t h g b a)).trans ?_
  refine (sum_diagonal (fun l => Cert.PoolBwdRefIdeal.Entries.d (xu m c) R l)
    (fun h b => if h = g then (xw m c (ix3 h b a) : EReal) else 0) g fun h b => ?_).trans ?_
  · by_cases e : h = g
    · exact Or.inr e
    · exact Or.inl (if_neg e)
  · refine Finset.sum_congr rfl fun b _ => ?_
    rw [if_pos rfl, mul_comm]

end Cert.PoolBwdIdeal.Final

end
-- ==== Proof.PoolBwd.Finite.lean ====
/- Every argument of the pooling's backward pass is real under its precondition. -/
module

public import proofs.«01_k».proof.Proof.Reals

@[expose] public section

noncomputable section

namespace Cert.Pre_pool_finite

open Idealize.ShloMosaic
open Cert.Reals

variable [Facts]

theorem all_real (x0 : FVec Ideal S8192x256 .f32) (x1 : FVec Ideal S4x64x64 .f32) (x2 : FVec Ideal S1x256 .f32) (x3 : FVec Ideal S8192x256 .f32)
    (h : fn (F := Ideal) x0 x1 x2 x3 = fun _ => 1#1) :
    (∀ i, IsReal (x0 i)) ∧ (∀ i, IsReal (x1 i)) ∧ (∀ i, IsReal (x2 i)) ∧ ∀ i, IsReal (x3 i) := by
  have e := congrFun h fun a => a.elim0
  haveI : Subsingleton S_.Idx := ⟨fun _ _ => funext fun a => a.elim0⟩
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ (fun _ => ofBits_inf) e0, isReal_of_all _ _ _ _ _ _ (fun _ => ofBits_inf) e1,
    isReal_of_all _ _ _ _ _ _ (fun _ => ofBits_inf) e2, isReal_of_all _ _ _ _ _ _ (fun _ => ofBits_inf) e3⟩

end Cert.Pre_pool_finite

end
-- ==== Proof.PoolBwd.Mask.lean ====
/- The entries of the groups' weights on the diagonal, which the claim compares. -/
module

public import proofs.«01_k».proof.Proof.Reals
public import Idealize.ShloMosaic.Lib.Pointwise

@[expose] public section

noncomputable section

namespace Cert.On_pool_blocks

open Idealize.ShloMosaic

variable [Facts]

/-- A lane's group, as the mask's words count it. -/
theorem group_word (x : IVec S256x256 32) (y : S256x256.Idx) (a : Fin 256) (h : x y = BitVec.ofNat 32 a) :
    fn_floor_divide (F := Ideal) x (constantI S_ 32 64#32) y = BitVec.ofNat 32 (a / 64) := by
  revert a
  pointwise [fn_floor_divide, fn_where]
  generalize x y = w
  intro a h
  subst h
  revert a
  decide +kernel

/-- The compared entries are those of one group's rows and columns. -/
theorem same_group (x0 : FVec Ideal S8192x256 .f32) (x1 : FVec Ideal S4x64x64 .f32) (x2 : FVec Ideal S1x256 .f32) (x3 : FVec Ideal S8192x256 .f32)
    (i : S256x256.Idx) (h : (fn (F := Ideal) x0 x1 x2 x3).2.1 i = 1#1) : (i 0 : ℕ) / 64 = (i 1 : ℕ) / 64 := by
  unfold fn at h
  have e : BitVec.ofNat 32 ((i 0 : Fin 256) / 64) = BitVec.ofNat 32 ((i 1 : Fin 256) / 64) := by
    rw [← group_word (iotaInDim S256x256 32 0) i (i 0) rfl, ← group_word (iotaInDim S256x256 32 1) i (i 1) rfl]
    exact of_decide_eq_true ((BitVec.ofBool_eq_iff_eq (b' := true)).1 h)
  have h0 : (i 0 : ℕ) < 256 := (i 0).isLt
  have h1 : (i 1 : ℕ) < 256 := (i 1).isLt
  have e' := congrArg BitVec.toNat e
  simp only [BitVec.toNat_ofNat] at e'
  omega

end Cert.On_pool_blocks

end
-- ==== Proof.PoolBwd.Final.lean ====
/- The gradients the pooling's backward pass leaves are the reference's. -/
module

public import proofs.«01_k».proof.Proof.PoolBwd.Rows
public import proofs.«01_k».proof.Proof.PoolBwd.Back
public import proofs.«01_k».proof.Proof.PoolBwd.Finite
public import proofs.«01_k».proof.Proof.PoolBwd.Mask
public import proofs.«01_k».proof.Proof.Gen.Pre_pool_finite
public import proofs.«01_k».proof.Proof.Gen.On_pool_blocks

@[expose] public section

noncomputable section

open Idealize.ShloMosaic Idealize.ShloMosaic.TcCoe Idealize.SL.Sem

namespace Cert.PoolBwdIdeal.Final

open Cert.PoolBwdIdeal Cert.PoolBwdIdeal.Gen Cert.PoolBwdIdeal.Value
open Cert.PoolBwdRefIdeal.Entries (lane)
open Cert.PoolBwdRefIdeal.Read (val_main_v183 val_main_v182 val_main_v167)
open Cert.Reals

variable (m : (ℓ : Loc nD τ sig) → Buf (Elt Ideal) ℓ)

/-- Every argument entry is a real number. -/
abbrev AllReal (c : Dev nD) : Prop := (∀ i, IsReal (xu m c i)) ∧ (∀ i, IsReal (xw m c i)) ∧ (∀ i, IsReal (xs m c i)) ∧ ∀ i, IsReal (xc m c i)

/-- Every lane is a lane of its group. -/
theorem lane_of (l : Fin 256) : ∃ (g : Fin 4) (a : Fin 64), l = lane g a ∧ (g : ℕ) = l / 64 :=
  ⟨⟨l / 64, by omega⟩, ⟨l % 64, by omega⟩, Fin.ext (by show l.val = l.val / 64 * 64 + l.val % 64; omega), rfl⟩

/-- The gradient with respect to the tokens. -/
theorem du_final (c : Dev nD) (hr : AllReal m c) :
    (dats m 0 c).arrAt 6 cfg0.N = val_main_v183 (F := Ideal) (xw m c) (xs m c) (xc m c) := by
  refine (dats m 0 c).arrAt_eq_of_covers 6 _ (by decide +kernel) fun t hf (y : S2048x256.Idx) => ?_
  have ht : t.val < 4 := t.isLt
  obtain ⟨R, hR⟩ : ∃ R : Fin 8192, (R : ℕ) = 2048 * t.val + y 0 := ⟨⟨_, by idx_bounds y; omega⟩, rfl⟩
  have e : (win0_6.blk t).view.emb y = ix2 R (y 1) := by blk_ext [idx t]
  blk_simp
  rw [after0_6, Step.du, e]
  obtain ⟨g, a, hl, _⟩ := lane_of (y 1)
  rw [hl]
  exact (du_eq m c t (y 0) g a R hR).trans (Cert.PoolBwdRefIdeal.Entries.du_apply _ _ _ hr.2.1 hr.2.2.1 hr.2.2.2 R g a).symm

/-- The gradient with respect to the weights, tile by tile. -/
theorem dw_sum (c : Dev nD) :
    (dats m 0 c).arrAt 7 cfg0.N = fun y : S256x256.Idx => ∑ t : Fin cfg0.N,
      Step.dwPart (grid0.coords t 0).val (iblk m c 1 t) (iblk m c 0 t) (iblk m c 5 t) (iblk m c 2 t) (iblk m c 3 t) (y 0) (y 1) := by
  refine (dats m 0 c).arrAt_eq_of_after_last 7 t0_3 (by decide +kernel) _ fun y => ?_
  blk_simp
  rw [after0_7]
  exact (Pipeline.eq_sum_fin_of_reset_step_apply_last (fun n h => (outsAt0 m c n h).2.1) 4 (fun _ => (0 : EReal)) _
    (fun t h y => (Step.dw_A m c t h y).trans (zero_add _).symm) (fun t h y => Step.dw_B m c t h y) (le_of_eq N_0) t0_3 rfl y).trans (zero_add _)

/-- The gradient with respect to the weights, within a group. -/
theorem dw_final (c : Dev nD) (hr : AllReal m c) (i : S256x256.Idx) (h : (i 0 : ℕ) / 64 = (i 1 : ℕ) / 64) :
    (dats m 0 c).arrAt 7 cfg0.N i = val_main_v182 (F := Ideal) (xu m c) (xs m c) (xc m c) i := by
  obtain ⟨g, a, ha, hg⟩ := lane_of (i 0)
  obtain ⟨g', b, hb, hg'⟩ := lane_of (i 1)
  obtain rfl : g = g' := Fin.ext (by omega)
  have e : i = ix2 (lane g a) (lane g b) := by idx_ext <;> first | exact congrArg Fin.val ha | exact congrArg Fin.val hb
  rw [dw_sum, e]
  refine Eq.trans ?_ (Cert.PoolBwdRefIdeal.Entries.blocks_apply _ _ _ hr.1 g a b).symm
  unfold Step.dwPart
  refine Fin.sum_mul_add_congr fun t r hl => ?_
  exact dw_row m c t r g a b ⟨_, hl⟩ (by show t.val * 2048 + r.val = _; omega)

/-- The gradient with respect to the scale, tile by tile. -/
theorem dsc_sum (c : Dev nD) :
    (dats m 0 c).arrAt 8 cfg0.N = fun y : S1x256.Idx => ∑ t : Fin cfg0.N,
      Step.dscPart (grid0.coords t 0).val (iblk m c 1 t) (iblk m c 0 t) (iblk m c 4 t) (iblk m c 2 t) (y 1) := by
  refine (dats m 0 c).arrAt_eq_of_after_last 8 t0_3 (by decide +kernel) _ fun y => ?_
  blk_simp
  rw [after0_8]
  exact (Pipeline.eq_sum_fin_of_reset_step_apply_last (fun n h => (outsAt0 m c n h).2.2) 4 (fun _ => (0 : EReal)) _
    (fun t h y => (Step.dsc_A m c t h y).trans (zero_add _).symm) (fun t h y => Step.dsc_B m c t h y) (le_of_eq N_0) t0_3 rfl y).trans (zero_add _)

/-- The gradient with respect to the scale. -/
theorem dsc_final (c : Dev nD) (hr : AllReal m c) :
    (dats m 0 c).arrAt 8 cfg0.N = val_main_v167 (F := Ideal) (xu m c) (xw m c) (xc m c) := by
  rw [dsc_sum]
  refine funext fun y => ?_
  obtain ⟨g, a, ha, _⟩ := lane_of (y 1)
  have e : y = ix2 0 (lane g a) := by idx_ext <;> exact congrArg Fin.val ha
  rw [e]
  refine Eq.trans ?_ (Cert.PoolBwdRefIdeal.Entries.dsc_apply _ _ _ hr.1 g a).symm
  unfold Step.dscPart
  refine Fin.sum_mul_add_congr fun t r hl => ?_
  exact dsc_row m c t _ _ rfl rfl r g a ⟨_, hl⟩ (by show t.val * 2048 + r.val = _; omega)

end Cert.PoolBwdIdeal.Final

namespace Cert.Proof.PoolBwdClaims

open Cert.PoolBwdIdeal.Final

/-- The kernel's three gradients and the reference's agree over the reals. -/
theorem algebraic : Cert.algebraic_PoolBwdIdeal_PoolBwdRefIdeal_on_pool_blocks_pre_pool_finite := by
  intro m g m' g' hp hm
  have hr : ∀ c, AllReal m c := fun c => Cert.Pre_pool_finite.all_real _ _ _ _ (hp c)
  refine ⟨_, _, _, θ_run_mono (Cert.PoolBwdIdeal.Value.run_blocks m g) fun r h c =>
      ⟨fun i _ => congrFun (h c).1 i, fun i _ => congrFun (h c).2.1 i, fun i _ => congrFun (h c).2.2.1 i, (h c).2.2.2⟩,
    θ_run_mono (Cert.PoolBwdRefIdeal.Value.run m' g') fun r h c => ⟨fun i _ => ?_, fun i hi => ?_, fun i _ => ?_, (h c).2.2.2⟩⟩
  · refine (congrFun ((h c).1.trans (Cert.PoolBwdRefIdeal.Read.val_main_v183_eq (StableHlo.launchContents m' c))) i).trans ?_
    rw [du_final m c (hr c)]
    exact congrFun (congr (congr (congrArg (Cert.PoolBwdRefIdeal.Read.val_main_v183 (F := Ideal)) (hm c).2.1) (hm c).2.2.1) (hm c).2.2.2) i
  · refine (congrFun ((h c).2.1.trans (Cert.PoolBwdRefIdeal.Read.val_main_v182_eq (StableHlo.launchContents m' c))) i).trans ?_
    rw [dw_final m c (hr c) i (Cert.On_pool_blocks.same_group _ _ _ _ i hi)]
    exact congrFun (congr (congr (congrArg (Cert.PoolBwdRefIdeal.Read.val_main_v182 (F := Ideal)) (hm c).1) (hm c).2.2.1) (hm c).2.2.2) i
  · refine (congrFun ((h c).2.2.1.trans (Cert.PoolBwdRefIdeal.Read.val_main_v167_eq (StableHlo.launchContents m' c))) i).trans ?_
    rw [dsc_final m c (hr c)]
    exact congrFun (congr (congr (congrArg (Cert.PoolBwdRefIdeal.Read.val_main_v167 (F := Ideal)) (hm c).1) (hm c).2.1) (hm c).2.2.2) i

end Cert.Proof.PoolBwdClaims

end
-- ==== Proof.Norm.lean ====
/- The norm of a row, `x · rsqrt(mean(x²) + ε) · g`, and two spellings of its gradient. -/
module

public import proofs.«01_k».proof.Proof.Reals
public import Idealize.ShloMosaic.Lib.IdealHost

@[expose] public section

noncomputable section

namespace Cert.Norm

open Idealize.ShloMosaic
open Cert.Reals (IsReal)

/-- The row's length, as the programs write it. -/
abbrev len : EReal := Ideal.ofBits .f32 0x44800000#32
/-- The norm's `ε`, as the programs write it. -/
abbrev eps : EReal := Ideal.ofBits .f32 0x358637BD#32
/-- Minus one half, as the programs write it. -/
abbrev negHalf : EReal := Ideal.ofBits .f32 0xBF000000#32

theorem len_eq : len = ((1024 : ℝ) : EReal) := by
  simp [len, Ideal.ofBits, Ideal.ieee, -EReal.coe_mul]
  norm_num

theorem eps_eq : ∃ e : ℝ, 0 < e ∧ eps = (e : EReal) := by
  refine ⟨8796093 * (2 : ℝ) ^ (-43 : ℤ), by positivity, ?_⟩
  simp [eps, Ideal.ofBits, Ideal.ieee, -EReal.coe_mul]

theorem negHalf_eq : negHalf = ((-(1 / 2) : ℝ) : EReal) := by
  simp [negHalf, Ideal.ofBits, Ideal.ieee, -EReal.coe_mul, -EReal.coe_neg]
  norm_num

/-- The mean square and `ε`. -/
def msq (x : Fin 1024 → EReal) : EReal := Ideal.div (∑ k, x k * x k) len + eps

/-- What a row is multiplied by. -/
def rms (x : Fin 1024 → EReal) : EReal := Ideal.rsqrt (msq x)

/-- The gradient with respect to the row, of the row's cotangent `d` and the gain `g`: the kernel's spelling. -/
def back (d g x : Fin 1024 → EReal) (j : Fin 1024) : EReal :=
  rms x * (d j * g j - x j * rms x * Ideal.div (∑ k, d k * g k * (x k * rms x)) len)

/-- The cotangent of each of the two factors of a square, in the derivative's spelling. -/
def pull (d g x : Fin 1024 → EReal) : EReal :=
  Ideal.div ((∑ k, x k * (d k * g k)) * (negHalf * Ideal.div (rms x) (msq x))) len

/-- The sum of reals is the real sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Over the reals, the mean square is positive and the factor's square is its inverse. -/
theorem msq_real (x : Fin 1024 → ℝ) : ∃ a : ℝ, 0 < a ∧ msq (fun k => (x k : EReal)) = (a : EReal) ∧ rms (fun k => (x k : EReal)) = (((Real.sqrt a)⁻¹ : ℝ) : EReal) := by
  obtain ⟨e, he, h⟩ := eps_eq
  have hm : msq (fun k => (x k : EReal)) = (((∑ k, x k * x k) * (1 / 1024) + e : ℝ) : EReal) := by
    unfold msq
    rw [len_eq, h, Ideal.div_coe (by norm_num)]
    simp only [← EReal.coe_mul]
    rw [coe_sum, ← EReal.coe_mul, ← EReal.coe_add]
  have ha : 0 < (∑ k, x k * x k) * (1 / 1024) + e :=
    add_pos_of_nonneg_of_pos (mul_nonneg (Finset.sum_nonneg fun k _ => mul_self_nonneg _) (by norm_num)) he
  refine ⟨_, ha, hm, ?_⟩
  unfold rms
  rw [hm, Ideal.rsqrt_coe, if_neg ha.le.not_gt, if_neg ha.ne']

/-- A row of real numbers is one. -/
theorem reals {ι : Type} {x : ι → EReal} (h : ∀ k, IsReal (x k)) : ∃ y : ι → ℝ, x = fun k => (y k : EReal) :=
  ⟨fun k => (h k).choose, funext fun k => (h k).choose_spec⟩

theorem isReal_rms {x : Fin 1024 → EReal} (hx : ∀ k, IsReal (x k)) : IsReal (rms x) := by
  obtain ⟨x, rfl⟩ := reals hx
  obtain ⟨a, _, _, h⟩ := msq_real x
  exact ⟨_, h⟩

theorem isReal_div_len {x : EReal} (hx : IsReal x) : IsReal (Ideal.div x len) := by
  rw [len_eq, Ideal.div_coe (by norm_num)]
  exact hx.mul (.coe _)

theorem isReal_back {d g x : Fin 1024 → EReal} (hd : ∀ k, IsReal (d k)) (hg : ∀ k, IsReal (g k)) (hx : ∀ k, IsReal (x k)) (j : Fin 1024) :
    IsReal (back d g x j) :=
  (isReal_rms hx).mul (((hd j).mul (hg j)).sub (((hx j).mul (isReal_rms hx)).mul
    (isReal_div_len (IsReal.sum _ _ fun k _ => ((hd k).mul (hg k)).mul ((hx k).mul (isReal_rms hx))))))

/-- The derivative's spelling, in which the row's square hands its cotangent to both of its factors, is the kernel's. -/
theorem pull_eq {d g x : Fin 1024 → EReal} (hd : ∀ k, IsReal (d k)) (hg : ∀ k, IsReal (g k)) (hx : ∀ k, IsReal (x k)) (j : Fin 1024) :
    d j * g j * rms x + x j * pull d g x + pull d g x * x j = back d g x j := by
  obtain ⟨d, rfl⟩ := reals hd
  obtain ⟨g, rfl⟩ := reals hg
  obtain ⟨x, rfl⟩ := reals hx
  obtain ⟨a, ha, hm, hr⟩ := msq_real x
  have hq : (Real.sqrt a)⁻¹ * (Real.sqrt a)⁻¹ = 1 / a := by
    rw [← mul_inv, Real.mul_self_sqrt ha.le, one_div]
  generalize (Real.sqrt a)⁻¹ = r at hr hq
  unfold pull back
  rw [hm, hr, len_eq, negHalf_eq]
  simp only [Ideal.div_coe ha.ne', Ideal.div_coe (show (1024 : ℝ) ≠ 0 by norm_num), ← EReal.coe_mul, coe_sum, ← EReal.coe_add, ← EReal.coe_sub]
  refine congrArg Real.toEReal ?_
  rw [← hq]
  have e : ∑ k, d k * g k * (x k * r) = (∑ k, x k * (d k * g k)) * r := by
    rw [Finset.sum_mul]
    exact Finset.sum_congr rfl fun k _ => by ring
  rw [e]
  ring

end Cert.Norm

end
-- ==== Proof.NormBwd.Step.lean ====
/- What one grid point of the norms' backward pass computes: 512 rows. -/
module

public import proofs.«01_k».proof.Proof.Norm
public import proofs.«01_k».proof.Proof.Gen.NormBwdIdeal.Value
public import Idealize.ShloMosaic.Lib.Pipeline.ValueKit
public import Idealize.ShloMosaic.Lib.Pointwise

@[expose] public section

noncomputable section

open Idealize.ShloMosaic Idealize.ShloMosaic.TcCoe Idealize.SL.Sem

namespace Cert.NormBwdIdeal.Step

open Cert.NormBwdIdeal Cert.NormBwdIdeal.Gen Cert.NormBwdIdeal.Value
open Cert.Norm

variable (m : (ℓ : Loc nD τ sig) → Buf (Elt Ideal) ℓ)

/-- The cotangent of the sum before the second norm. -/
def dx2 (dh dy x2 : Vec Ideal S512x1024 .f32) (g3 : Vec Ideal S1x1024 .f32) (r : Fin 512) (j : Fin 1024) : EReal :=
  dy (ix2 r j) + back (fun k => dh (ix2 r k)) (fun k => g3 (ix2 0 k)) (fun k => x2 (ix2 r k)) j

/-- What a tile adds to the gain's gradient: cotangents times normed rows. -/
def dgPart (d : Fin 512 → Fin 1024 → EReal) (x : Vec Ideal S512x1024 .f32) (j : Fin 1024) : EReal :=
  ∑ r : Fin 512, d r j * ((x (ix2 r j) : EReal) * rms fun k => x (ix2 r k))

theorem back_apply (dh x2 : Vec Ideal S512x1024 .f32) (g3 : Vec Ideal S1x1024 .f32) (r : Fin 512) (j : Fin 1024) :
    k0_pay12 (F := Ideal) dh x2 g3 (ix2 r j) = back (fun k => dh (ix2 r k)) (fun k => g3 (ix2 0 k)) (fun k => x2 (ix2 r k)) j := by
  pointwise [k0_pay12, k0_pay10, k0_pay9, k0_pay8]
  rfl

theorem dx2_apply (dh dy x2 : Vec Ideal S512x1024 .f32) (g3 : Vec Ideal S1x1024 .f32) (r : Fin 512) (j : Fin 1024) :
    k0_pay1 (F := Ideal) dy (k0_pay12 dh x2 g3) (ix2 r j) = dx2 dh dy x2 g3 r j := by
  have e := back_apply dh x2 g3 r j
  generalize k0_pay12 (F := Ideal) dh x2 g3 = p at e ⊢
  pointwise [k0_pay1]
  rw [e]
  rfl

theorem dmix_apply (dh dy x2 mix : Vec Ideal S512x1024 .f32) (g3 g2 : Vec Ideal S1x1024 .f32) (r : Fin 512) (j : Fin 1024) :
    k0_pay5 (F := Ideal) dy (k0_pay12 dh x2 g3) mix g2 (ix2 r j)
      = back (dx2 dh dy x2 g3 r) (fun k => g2 (ix2 0 k)) (fun k => mix (ix2 r k)) j := by
  have e := dx2_apply dh dy x2 g3 r
  unfold k0_pay5
  generalize k0_pay1 (F := Ideal) dy (k0_pay12 dh x2 g3) = p at e ⊢
  rw [← funext e]
  pointwise [k0_pay3, k0_pay2]
  rfl

theorem dg3_apply (dh x2 : Vec Ideal S512x1024 .f32) (o : Vec Ideal S1x1024 .f32) (y : S1x1024.Idx) :
    k0_pay11 (F := Ideal) dh x2 o y = o y + dgPart (fun r k => dh (ix2 r k)) x2 (y 1) := by
  pointwise [k0_pay11, k0_pay10, k0_pay9, k0_pay8]
  rfl

theorem dg2_apply (dh dy x2 mix : Vec Ideal S512x1024 .f32) (g3 o : Vec Ideal S1x1024 .f32) (y : S1x1024.Idx) :
    k0_pay4 (F := Ideal) dy (k0_pay12 dh x2 g3) mix o y = o y + dgPart (dx2 dh dy x2 g3) mix (y 1) := by
  have e := dx2_apply dh dy x2 g3
  unfold k0_pay4
  generalize k0_pay1 (F := Ideal) dy (k0_pay12 dh x2 g3) = p at e ⊢
  rw [← (funext fun r => funext (e r) : (fun r k => p (ix2 r k)) = _)]
  pointwise [k0_pay3, k0_pay2]
  rfl

theorem dx2_out (c : Dev nD) (t : Fin cfg0.N) (r : Fin 512) (j : Fin 1024) :
    (outsAt0 m c t.val t.isLt).1 (ix2 r j) = dx2 (iblk m c 0 t) (iblk m c 1 t) (iblk m c 2 t) (iblk m c 4 t) r j := by
  by_cases h0 : t.val % 16 = 0
  · rw [outsAt0_A m c t h0]
    frame_out
    exact dx2_apply _ _ _ _ r j
  · rw [outsAt0_B m c t h0]
    frame_out
    exact dx2_apply _ _ _ _ r j

theorem dmix_out (c : Dev nD) (t : Fin cfg0.N) (r : Fin 512) (j : Fin 1024) :
    (outsAt0 m c t.val t.isLt).2.1 (ix2 r j)
      = back (dx2 (iblk m c 0 t) (iblk m c 1 t) (iblk m c 2 t) (iblk m c 4 t) r) (fun k => (iblk m c 5 t : Vec Ideal S1x1024 .f32) (ix2 0 k))
          (fun k => (iblk m c 3 t : Vec Ideal S512x1024 .f32) (ix2 r k)) j := by
  by_cases h0 : t.val % 16 = 0
  · rw [outsAt0_A m c t h0]
    frame_out
    exact dmix_apply _ _ _ _ _ _ r j
  · rw [outsAt0_B m c t h0]
    frame_out
    exact dmix_apply _ _ _ _ _ _ r j

theorem dg3_A (c : Dev nD) (t : Fin cfg0.N) (h0 : t.val % 16 = 0) (y : S1x1024.Idx) :
    (outsAt0 m c t.val t.isLt).2.2.1 y = dgPart (fun r k => (iblk m c 0 t : Vec Ideal S512x1024 .f32) (ix2 r k)) (iblk m c 2 t) (y 1) := by
  rw [outsAt0_A m c t h0]
  frame_out
  refine (dg3_apply _ _ _ y).trans ?_
  exact (congrArg (· + _) (by pointwise [k0_pay6])).trans (zero_add _)

theorem dg3_B (c : Dev nD) (t : Fin cfg0.N) (h0 : ¬ t.val % 16 = 0) (y : S1x1024.Idx) :
    (outsAt0 m c t.val t.isLt).2.2.1 y = (outsAt0 m c (t.val - 1) (Nat.lt_of_le_of_lt (Nat.sub_le _ _) t.isLt)).2.2.1 y
      + dgPart (fun r k => (iblk m c 0 t : Vec Ideal S512x1024 .f32) (ix2 r k)) (iblk m c 2 t) (y 1) := by
  rw [outsAt0_B m c t h0]
  frame_out
  exact dg3_apply _ _ _ y

theorem dg2_A (c : Dev nD) (t : Fin cfg0.N) (h0 : t.val % 16 = 0) (y : S1x1024.Idx) :
    (outsAt0 m c t.val t.isLt).2.2.2 y = dgPart (dx2 (iblk m c 0 t) (iblk m c 1 t) (iblk m c 2 t) (iblk m c 4 t)) (iblk m c 3 t) (y 1) := by
  rw [outsAt0_A m c t h0]
  frame_out
  refine (dg2_apply _ _ _ _ _ _ y).trans ?_
  exact (congrArg (· + _) (by pointwise [k0_pay7])).trans (zero_add _)

theorem dg2_B (c : Dev nD) (t : Fin cfg0.N) (h0 : ¬ t.val % 16 = 0) (y : S1x1024.Idx) :
    (outsAt0 m c t.val t.isLt).2.2.2 y = (outsAt0 m c (t.val - 1) (Nat.lt_of_le_of_lt (Nat.sub_le _ _) t.isLt)).2.2.2 y
      + dgPart (dx2 (iblk m c 0 t) (iblk m c 1 t) (iblk m c 2 t) (iblk m c 4 t)) (iblk m c 3 t) (y 1) := by
  rw [outsAt0_B m c t h0]
  frame_out
  exact dg2_apply _ _ _ _ _ _ y

end Cert.NormBwdIdeal.Step

end
-- ==== Proof.NormBwd.Ref.lean ====
/- The entries of the norms' gradients, in the reference's spelling. -/
module

public import proofs.«01_k».proof.Proof.Norm
public import proofs.«01_k».proof.Proof.Gen.NormBwdRefIdeal.Read
public import Idealize.ShloMosaic.Lib.Pointwise

@[expose] public section

noncomputable section

open Idealize.ShloMosaic

namespace Cert.NormBwdRefIdeal.Entries

open Cert.NormBwdRefIdeal Cert.NormBwdRefIdeal.Read
open Cert.Norm
open Cert.Reals

variable (x0 x1 x4 x5 : FVec Ideal S8192x1024 .f32) (x2 x3 : FVec Ideal S1x1024 .f32)

/-- The sum before the second norm. -/
theorem sum_apply (R : Fin 8192) (j : Fin 1024) :
    val_main_v17 (F := Ideal) x0 x1 x2 (ix2 R j) = x0 (ix2 R j) + (x1 (ix2 R j) : EReal) * rms (fun k => x1 (ix2 R k)) * x2 (ix2 0 j) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  rfl

/-- Its cotangent. -/
theorem dx2_apply (hx : ∀ R j, IsReal (val_main_v17 (F := Ideal) x0 x1 x2 (ix2 R j))) (h3 : ∀ i, IsReal (x3 i)) (h5 : ∀ i, IsReal (x5 i)) (R : Fin 8192) (j : Fin 1024) :
    val_main_v55 (F := Ideal) x0 x1 x2 x3 x4 x5 (ix2 R j)
      = x4 (ix2 R j) + back (fun k => x5 (ix2 R k)) (fun k => x3 (ix2 0 k)) (fun k => val_main_v17 (F := Ideal) x0 x1 x2 (ix2 R k)) j := by
  rw [← pull_eq (fun k => h5 (ix2 R k)) (fun k => h3 (ix2 0 k)) (hx R) j]
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  rw [Fin.sum_univ_one]
  exact (add_assoc _ _ _).trans ((add_assoc _ _ _).trans (congrArg _ (add_assoc _ _ _).symm))

theorem dmix_apply (h1 : ∀ i, IsReal (x1 i)) (h2 : ∀ i, IsReal (x2 i)) (hd : ∀ R j, IsReal (val_main_v55 (F := Ideal) x0 x1 x2 x3 x4 x5 (ix2 R j))) (R : Fin 8192) (j : Fin 1024) :
    val_main_v79 (F := Ideal) x0 x1 x2 x3 x4 x5 (ix2 R j)
      = back (fun k => val_main_v55 (F := Ideal) x0 x1 x2 x3 x4 x5 (ix2 R k)) (fun k => x2 (ix2 0 k)) (fun k => x1 (ix2 R k)) j := by
  rw [← pull_eq (hd R) (fun k => h2 (ix2 0 k)) (fun k => h1 (ix2 R k)) j]
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  rw [Fin.sum_univ_one]
  rfl

theorem dg3_apply (j : Fin 1024) :
    val_main_v56 (F := Ideal) x0 x1 x2 x5 (ix2 0 j)
      = ∑ R : Fin 8192, (x5 (ix2 R j) : EReal) * ((val_main_v17 (F := Ideal) x0 x1 x2 (ix2 R j) : EReal) * rms fun k => val_main_v17 (F := Ideal) x0 x1 x2 (ix2 R k)) := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  rw [Fin.sum_univ_one]
  exact Finset.sum_congr rfl fun R _ => mul_comm _ _

theorem dg2_apply (j : Fin 1024) :
    val_main_v78 (F := Ideal) x0 x1 x2 x3 x4 x5 (ix2 0 j)
      = ∑ R : Fin 8192, (val_main_v55 (F := Ideal) x0 x1 x2 x3 x4 x5 (ix2 R j) : EReal) * ((x1 (ix2 R j) : EReal) * rms fun k => x1 (ix2 R k)) := by
  pointwise [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  rw [Fin.sum_univ_one]
  exact Finset.sum_congr rfl fun R _ => mul_comm _ _

end Cert.NormBwdRefIdeal.Entries

end
-- ==== Proof.NormBwd.Finite.lean ====
/- Every argument of the norms' backward pass is real under its precondition. -/
module

public import proofs.«01_k».proof.Proof.Reals
public import proofs.«01_k».proof.Proof.Gen.Pre_norm_finite

@[expose] public section

noncomputable section

namespace Cert.Pre_norm_finite

open Idealize.ShloMosaic
open Cert.Reals

theorem all_real (x0 x1 : FVec Ideal S8192x1024 .f32) (x2 x3 : FVec Ideal S1x1024 .f32) (x4 x5 : FVec Ideal S8192x1024 .f32)
    (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  have e := congrFun h fun a => a.elim0
  haveI : Subsingleton S_.Idx := ⟨fun _ _ => funext fun a => a.elim0⟩
  unfold fn fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ (fun _ => ofBits_inf) e0, isReal_of_all _ _ _ _ _ _ (fun _ => ofBits_inf) e1,
    isReal_of_all _ _ _ _ _ _ (fun _ => ofBits_inf) e2, isReal_of_all _ _ _ _ _ _ (fun _ => ofBits_inf) e3,
    isReal_of_all _ _ _ _ _ _ (fun _ => ofBits_inf) e4, isReal_of_all _ _ _ _ _ _ (fun _ => ofBits_inf) e5⟩

end Cert.Pre_norm_finite

end
-- ==== Proof.NormBwd.Final.lean ====
/- The gradients the norms' backward pass leaves are the reference's. -/
module

public import proofs.«01_k».proof.Proof.NormBwd.Step
public import proofs.«01_k».proof.Proof.NormBwd.Ref
public import proofs.«01_k».proof.Proof.NormBwd.Finite

@[expose] public section

noncomputable section

open Idealize.ShloMosaic Idealize.ShloMosaic.TcCoe Idealize.SL.Sem

namespace Cert.NormBwdIdeal.Final

open Cert.NormBwdIdeal Cert.NormBwdIdeal.Gen Cert.NormBwdIdeal.Value
open Cert.NormBwdRefIdeal.Read (val_main_v17 val_main_v55 val_main_v79 val_main_v56 val_main_v78)
open Cert.NormBwdRefIdeal (Entries.sum_apply Entries.dx2_apply Entries.dmix_apply Entries.dg3_apply Entries.dg2_apply)
open Cert.Reals Cert.Norm

variable (m : (ℓ : Loc nD τ sig) → Buf (Elt Ideal) ℓ)

/-- Which block of each array a grid point sees: point `t` is slab `t` of the rows. -/
theorem idx : ∀ t : Fin cfg0.N,
    win0_0.index t = ![t.val, 0] ∧ win0_1.index t = ![t.val, 0] ∧ win0_2.index t = ![t.val, 0] ∧ win0_3.index t = ![t.val, 0]
      ∧ win0_4.index t = ![0, 0] ∧ win0_5.index t = ![0, 0] ∧ win0_6.index t = ![t.val, 0] ∧ win0_7.index t = ![t.val, 0] :=
  (by decide +kernel : ∀ t : Fin grid0.N, _)

/-- The block's input. -/
abbrev xx (c : Dev nD) : Vec Ideal S8192x1024 .f32 := m ((c : Thread nD τ).loc main_arg0)
/-- The mixers' output. -/
abbrev xm (c : Dev nD) : Vec Ideal S8192x1024 .f32 := m ((c : Thread nD τ).loc main_arg1)
/-- The gain of the norm after the mixers. -/
abbrev g2 (c : Dev nD) : Vec Ideal S1x1024 .f32 := m ((c : Thread nD τ).loc main_arg2)
/-- The gain of the norm before the feed-forward layer. -/
abbrev g3 (c : Dev nD) : Vec Ideal S1x1024 .f32 := m ((c : Thread nD τ).loc main_arg3)
/-- The cotangent of the residual stream. -/
abbrev xd (c : Dev nD) : Vec Ideal S8192x1024 .f32 := m ((c : Thread nD τ).loc main_arg4)
/-- The cotangent of the feed-forward layer's input. -/
abbrev xh (c : Dev nD) : Vec Ideal S8192x1024 .f32 := m ((c : Thread nD τ).loc main_arg5)
/-- The sum before the second norm. -/
abbrev x2 (c : Dev nD) : Vec Ideal S8192x1024 .f32 := val_main_v17 (F := Ideal) (xx m c) (xm m c) (g2 m c)
/-- Its cotangent. -/
abbrev dx2 (c : Dev nD) : Vec Ideal S8192x1024 .f32 := val_main_v55 (F := Ideal) (xx m c) (xm m c) (g2 m c) (g3 m c) (xd m c) (xh m c)

/-- Every argument entry is a real number. -/
abbrev AllReal (c : Dev nD) : Prop := (∀ i, IsReal (xx m c i)) ∧ (∀ i, IsReal (xm m c i)) ∧ (∀ i, IsReal (g2 m c i)) ∧ (∀ i, IsReal (g3 m c i))
  ∧ (∀ i, IsReal (xd m c i)) ∧ ∀ i, IsReal (xh m c i)

/-! ## The input blocks -/

theorem dh_blk (c : Dev nD) (t : Fin cfg0.N) (r : Fin 512) (n : Fin 1024) (R : Fin 8192) (h : (R : ℕ) = 512 * t.val + r) :
    (iblk m c 0 t : Vec Ideal S512x1024 .f32) (ix2 r n) = xh m c (ix2 R n) := by
  blk_ext! [iblk, V, idx t]

theorem dy_blk (c : Dev nD) (t : Fin cfg0.N) (r : Fin 512) (n : Fin 1024) (R : Fin 8192) (h : (R : ℕ) = 512 * t.val + r) :
    (iblk m c 1 t : Vec Ideal S512x1024 .f32) (ix2 r n) = xd m c (ix2 R n) := by
  blk_ext! [iblk, V, idx t]

theorem x2_host (c : Dev nD) (R : Fin 8192) (j : Fin 1024) : (V m c main_v14 : Vec Ideal S8192x1024 .f32) (ix2 R j) = x2 m c (ix2 R j) := by
  refine Eq.trans ?_ (Entries.sum_apply _ _ _ R j).symm
  entry_read
  pointwise
  rfl

theorem x2_blk (c : Dev nD) (t : Fin cfg0.N) (r : Fin 512) (n : Fin 1024) (R : Fin 8192) (h : (R : ℕ) = 512 * t.val + r) :
    (iblk m c 2 t : Vec Ideal S512x1024 .f32) (ix2 r n) = x2 m c (ix2 R n) := by
  rw [← x2_host m c R n]
  blk_ext [iblk, idx t]

theorem mix_blk (c : Dev nD) (t : Fin cfg0.N) (r : Fin 512) (n : Fin 1024) (R : Fin 8192) (h : (R : ℕ) = 512 * t.val + r) :
    (iblk m c 3 t : Vec Ideal S512x1024 .f32) (ix2 r n) = xm m c (ix2 R n) := by
  blk_ext! [iblk, V, idx t]

theorem g3_blk (c : Dev nD) (t : Fin cfg0.N) (n : Fin 1024) : (iblk m c 4 t : Vec Ideal S1x1024 .f32) (ix2 0 n) = g3 m c (ix2 0 n) := by
  blk_ext! [iblk, V, idx t]

theorem g2_blk (c : Dev nD) (t : Fin cfg0.N) (n : Fin 1024) : (iblk m c 5 t : Vec Ideal S1x1024 .f32) (ix2 0 n) = g2 m c (ix2 0 n) := by
  blk_ext! [iblk, V, idx t]

/-! ## Reals -/

theorem x2_real (c : Dev nD) (hr : AllReal m c) (R : Fin 8192) (j : Fin 1024) : IsReal (x2 m c (ix2 R j)) := by
  have e : x2 m c (ix2 R j) = _ := Entries.sum_apply _ _ _ R j
  rw [e]
  exact (hr.1 _).add (((hr.2.1 _).mul (isReal_rms fun k => hr.2.1 _)).mul (hr.2.2.1 _))

theorem dx2_entry (c : Dev nD) (hr : AllReal m c) (R : Fin 8192) (j : Fin 1024) :
    dx2 m c (ix2 R j) = xd m c (ix2 R j) + back (fun k => xh m c (ix2 R k)) (fun k => g3 m c (ix2 0 k)) (fun k => x2 m c (ix2 R k)) j :=
  Entries.dx2_apply _ _ _ _ _ _ (x2_real m c hr) hr.2.2.2.1 hr.2.2.2.2.2 R j

theorem dx2_real (c : Dev nD) (hr : AllReal m c) (R : Fin 8192) (j : Fin 1024) : IsReal (dx2 m c (ix2 R j)) := by
  rw [dx2_entry m c hr]
  exact (hr.2.2.2.2.1 _).add (isReal_back (fun _ => hr.2.2.2.2.2 _) (fun _ => hr.2.2.2.1 _) (fun _ => x2_real m c hr R _) j)

/-! ## A row of a tile is a row of the reference -/

theorem dx2_row (c : Dev nD) (hr : AllReal m c) (t : Fin cfg0.N) (r : Fin 512) (R : Fin 8192) (h : (R : ℕ) = 512 * t.val + r) (j : Fin 1024) :
    Step.dx2 (iblk m c 0 t) (iblk m c 1 t) (iblk m c 2 t) (iblk m c 4 t) r j = dx2 m c (ix2 R j) := by
  rw [dx2_entry m c hr]
  unfold Step.dx2
  rw [dy_blk m c t r j R h, funext fun k => dh_blk m c t r k R h, funext fun k => g3_blk m c t k, funext fun k => x2_blk m c t r k R h]

theorem dg3_row (c : Dev nD) (t : Fin cfg0.N) (r : Fin 512) (R : Fin 8192) (h : (R : ℕ) = 512 * t.val + r) (j : Fin 1024)
    (d b : Vec Ideal S512x1024 .f32) (hd : d = iblk m c 0 t) (hb : b = iblk m c 2 t) :
    (d (ix2 r j) : EReal) * ((b (ix2 r j) : EReal) * rms fun k => b (ix2 r k))
      = xh m c (ix2 R j) * (x2 m c (ix2 R j) * rms fun k => x2 m c (ix2 R k)) := by
  subst hd hb
  rw [dh_blk m c t r j R h, funext fun k => x2_blk m c t r k R h, x2_blk m c t r j R h]

theorem dg2_row (c : Dev nD) (hr : AllReal m c) (t : Fin cfg0.N) (r : Fin 512) (R : Fin 8192) (h : (R : ℕ) = 512 * t.val + r) (j : Fin 1024)
    (b : Vec Ideal S512x1024 .f32) (hb : b = iblk m c 3 t) :
    Step.dx2 (iblk m c 0 t) (iblk m c 1 t) (iblk m c 2 t) (iblk m c 4 t) r j * ((b (ix2 r j) : EReal) * rms fun k => b (ix2 r k))
      = dx2 m c (ix2 R j) * (xm m c (ix2 R j) * rms fun k => xm m c (ix2 R k)) := by
  subst hb
  rw [dx2_row m c hr t r R h, funext fun k => mix_blk m c t r k R h, mix_blk m c t r j R h]

/-! ## The results -/

/-- The cotangent of the sum before the second norm. -/
theorem dx2_final (c : Dev nD) (hr : AllReal m c) : (dats m 0 c).arrAt 6 cfg0.N = dx2 m c := by
  refine (dats m 0 c).arrAt_eq_of_covers 6 _ (by decide +kernel) fun t hf (y : S512x1024.Idx) => ?_
  have ht : t.val < 16 := t.isLt
  obtain ⟨r, j, rfl⟩ : ∃ (r : Fin 512) (j : Fin 1024), y = ix2 r j := ⟨y 0, y 1, by idx_ext⟩
  obtain ⟨R, hR⟩ : ∃ R : Fin 8192, (R : ℕ) = 512 * t.val + r := ⟨⟨_, by omega⟩, rfl⟩
  have e : (win0_6.blk t).view.emb (ix2 r j) = ix2 R j := by blk_ext [idx t]
  blk_simp
  rw [after0_6, e, Step.dx2_out]
  exact dx2_row m c hr t r R hR j

/-- The cotangent of the mixers' output. -/
theorem dmix_final (c : Dev nD) (hr : AllReal m c) :
    (dats m 0 c).arrAt 7 cfg0.N = val_main_v79 (F := Ideal) (xx m c) (xm m c) (g2 m c) (g3 m c) (xd m c) (xh m c) := by
  refine (dats m 0 c).arrAt_eq_of_covers 7 _ (by decide +kernel) fun t hf (y : S512x1024.Idx) => ?_
  have ht : t.val < 16 := t.isLt
  obtain ⟨r, j, rfl⟩ : ∃ (r : Fin 512) (j : Fin 1024), y = ix2 r j := ⟨y 0, y 1, by idx_ext⟩
  obtain ⟨R, hR⟩ : ∃ R : Fin 8192, (R : ℕ) = 512 * t.val + r := ⟨⟨_, by omega⟩, rfl⟩
  have e : (win0_7.blk t).view.emb (ix2 r j) = ix2 R j := by blk_ext [idx t]
  blk_simp
  rw [after0_7, e, Step.dmix_out]
  refine Eq.trans ?_ (Entries.dmix_apply _ _ _ _ _ _ hr.2.1 hr.2.2.1 (dx2_real m c hr) R j).symm
  rw [funext fun k => dx2_row m c hr t r R hR k, funext fun k => g2_blk m c t k, funext fun k => mix_blk m c t r k R hR]

/-- The gradient of the feed-forward norm's gain. -/
theorem dg3_final (c : Dev nD) :
    (dats m 0 c).arrAt 8 cfg0.N = val_main_v56 (F := Ideal) (xx m c) (xm m c) (g2 m c) (xh m c) := by
  refine (dats m 0 c).arrAt_eq_of_after_last 8 t0_15 (by decide +kernel) _ fun (y : S1x1024.Idx) => ?_
  obtain ⟨j, rfl⟩ : ∃ j : Fin 1024, y = ix2 0 j := ⟨y 1, by idx_ext⟩
  blk_simp
  rw [after0_8]
  refine (Pipeline.eq_sum_fin_of_reset_step_apply_last (fun n h => (outsAt0 m c n h).2.2.1) 16 (fun _ => (0 : EReal)) _
    (fun t h y => (Step.dg3_A m c t h y).trans (zero_add _).symm) (fun t h y => Step.dg3_B m c t h y) (le_of_eq N_0) t0_15 rfl (ix2 0 j)).trans ((zero_add _).trans ?_)
  refine Eq.trans ?_ (Entries.dg3_apply _ _ _ _ j).symm
  unfold Step.dgPart
  exact Fin.sum_mul_add_congr fun t r hl => dg3_row m c t r ⟨_, hl⟩ (by show t.val * 512 + r.val = _; omega) j _ _ rfl rfl

/-- The gradient of the mixers' norm's gain. -/
theorem dg2_final (c : Dev nD) (hr : AllReal m c) :
    (dats m 0 c).arrAt 9 cfg0.N = val_main_v78 (F := Ideal) (xx m c) (xm m c) (g2 m c) (g3 m c) (xd m c) (xh m c) := by
  refine (dats m 0 c).arrAt_eq_of_after_last 9 t0_15 (by decide +kernel) _ fun (y : S1x1024.Idx) => ?_
  obtain ⟨j, rfl⟩ : ∃ j : Fin 1024, y = ix2 0 j := ⟨y 1, by idx_ext⟩
  blk_simp
  rw [after0_9]
  refine (Pipeline.eq_sum_fin_of_reset_step_apply_last (fun n h => (outsAt0 m c n h).2.2.2) 16 (fun _ => (0 : EReal)) _
    (fun t h y => (Step.dg2_A m c t h y).trans (zero_add _).symm) (fun t h y => Step.dg2_B m c t h y) (le_of_eq N_0) t0_15 rfl (ix2 0 j)).trans ((zero_add _).trans ?_)
  refine Eq.trans ?_ (Entries.dg2_apply _ _ _ _ _ _ j).symm
  unfold Step.dgPart
  exact Fin.sum_mul_add_congr fun t r hl => dg2_row m c hr t r ⟨_, hl⟩ (by show t.val * 512 + r.val = _; omega) j _ rfl

end Cert.NormBwdIdeal.Final

namespace Cert.Proof.NormBwdClaims

open Cert.NormBwdIdeal.Final

/-- The kernel's four gradients and the reference's agree over the reals. -/
theorem algebraic : Cert.algebraic_NormBwdIdeal_NormBwdRefIdeal_pre_norm_finite := by
  intro m g m' g' hp hm
  have hr : ∀ c, AllReal m c := fun c => Cert.Pre_norm_finite.all_real _ _ _ _ _ _ (hp c)
  refine ⟨_, _, _, _, Cert.NormBwdIdeal.Value.run_blocks m g, θ_run_mono (Cert.NormBwdRefIdeal.Value.run m' g') fun r h c =>
    ⟨(h c).1.trans ?_, (h c).2.1.trans ?_, (h c).2.2.1.trans ?_, (h c).2.2.2.1.trans ?_, (h c).2.2.2.2⟩⟩
  · refine (Cert.NormBwdRefIdeal.Read.val_main_v55_eq m' c).trans ?_
    rw [(hm c).1, (hm c).2.1, (hm c).2.2.1, (hm c).2.2.2.1, (hm c).2.2.2.2.1, (hm c).2.2.2.2.2]
    exact (dx2_final m c (hr c)).symm
  · refine (Cert.NormBwdRefIdeal.Read.val_main_v79_eq m' c).trans ?_
    rw [(hm c).1, (hm c).2.1, (hm c).2.2.1, (hm c).2.2.2.1, (hm c).2.2.2.2.1, (hm c).2.2.2.2.2]
    exact (dmix_final m c (hr c)).symm
  · refine (Cert.NormBwdRefIdeal.Read.val_main_v56_eq _ _ _ _).trans ?_
    rw [(hm c).1, (hm c).2.1, (hm c).2.2.1, (hm c).2.2.2.2.2]
    exact (dg3_final m c).symm
  · refine (Cert.NormBwdRefIdeal.Read.val_main_v78_eq m' c).trans ?_
    rw [(hm c).1, (hm c).2.1, (hm c).2.2.1, (hm c).2.2.2.1, (hm c).2.2.2.2.1, (hm c).2.2.2.2.2]
    exact (dg2_final m c (hr c)).symm

end Cert.Proof.NormBwdClaims

end
-- ==== Proof.InProjBwd.Turn.lean ====
/- The rotation of queries and keys, and the row of a projection's cotangent. -/
module

public import proofs.«01_k».proof.Proof.Norm
public import Idealize.ShloMosaic.Lib.Pointwise

@[expose] public section

noncomputable section

namespace Cert.Turn

open Idealize.ShloMosaic
open Cert.Reals

/-- The gradient a rotation passes back, at a lane: the lane by its cosine, and its partner by the partner's signed sine. -/
def turn (g : Fin 768 → EReal) (cs sn : Fin 128 → EReal) (l : Fin 768) : EReal :=
  g l * cs ⟨l.val % 128, by omega⟩
    + (if h : l.val % 64 < 32 then g ⟨l.val + 32, by omega⟩ * sn ⟨(l.val + 32) % 128, by omega⟩
      else g ⟨l.val - 32, by omega⟩ * sn ⟨(l.val - 32) % 128, by omega⟩)

/-- The cotangent of a row of the projection: the pooling's part, the queries' and keys' parts turned back, the values' part. -/
def proj (u : Fin 256 → EReal) (q k v : Fin 768 → EReal) (cs sn : Fin 128 → EReal) (l : Fin 2560) : EReal :=
  if h : l.val < 256 then u ⟨l.val, h⟩
  else if h : l.val < 1024 then turn q cs sn ⟨l.val - 256, by omega⟩
  else if h : l.val < 1792 then turn k cs sn ⟨l.val - 1024, by omega⟩
  else v ⟨l.val - 1792, by omega⟩

/-- The angle of a position at a frequency, as the programs write it. -/
def angle (R : Fin 8192) (h : Fin 32) : EReal :=
  (FloatOps.sitofp (F := Ideal) .f32 (BitVec.ofNat 32 R.val) : EReal)
    * Ideal.pow (Ideal.ofBits .f32 0x461C4000#32) (-(FloatOps.sitofp (F := Ideal) .f32 (BitVec.ofNat 32 h.val) : EReal) * Ideal.ofBits .f32 0x3D000000#32)

/-- The cosine a lane is multiplied by. -/
def cosT (R : Fin 8192) (l : Fin 128) : EReal := Ideal.cos (angle R ⟨l.val % 32, by omega⟩)

/-- The sine a lane is multiplied by, negative in the first half of a head. -/
def sinT (R : Fin 8192) (l : Fin 128) : EReal :=
  if l.val % 64 < 32 then -Ideal.sin (angle R ⟨l.val % 32, by omega⟩) else Ideal.sin (angle R ⟨l.val % 32, by omega⟩)

theorem theta_eq : Ideal.ofBits .f32 0x461C4000#32 = ((10000 : ℝ) : EReal) := by
  simp [Ideal.ofBits, Ideal.ieee, -EReal.coe_mul]
  norm_num

theorem step_eq : Ideal.ofBits .f32 0x3D000000#32 = ((1 / 32 : ℝ) : EReal) := by
  simp [Ideal.ofBits, Ideal.ieee, -EReal.coe_mul]
  norm_num

theorem isReal_angle (R : Fin 8192) (h : Fin 32) : IsReal (angle R h) := by
  unfold angle
  refine IsReal.mul (IsReal.coe _) ?_
  rw [theta_eq, step_eq]
  obtain ⟨e, he⟩ : IsReal (-(FloatOps.sitofp (F := Ideal) .f32 (BitVec.ofNat 32 h.val) : EReal) * ((1 / 32 : ℝ) : EReal)) :=
    (IsReal.neg (IsReal.coe _)).mul (IsReal.coe _)
  rw [he]
  exact IsReal.coe _

theorem isReal_cosT (R : Fin 8192) (l : Fin 128) : IsReal (cosT R l) := by
  unfold cosT
  obtain ⟨a, ha⟩ := isReal_angle R ⟨l.val % 32, by omega⟩
  rw [ha]
  exact IsReal.coe _

theorem isReal_sinT (R : Fin 8192) (l : Fin 128) : IsReal (sinT R l) := by
  unfold sinT
  obtain ⟨a, ha⟩ := isReal_angle R ⟨l.val % 32, by omega⟩
  rw [ha]
  split
  · exact IsReal.neg (IsReal.coe _)
  · exact IsReal.coe _

theorem isReal_turn {g : Fin 768 → EReal} {cs sn : Fin 128 → EReal} (hg : ∀ l, IsReal (g l)) (hc : ∀ l, IsReal (cs l)) (hs : ∀ l, IsReal (sn l))
    (l : Fin 768) : IsReal (turn g cs sn l) := by
  unfold turn
  split
  · exact ((hg _).mul (hc _)).add ((hg _).mul (hs _))
  · exact ((hg _).mul (hc _)).add ((hg _).mul (hs _))

theorem isReal_proj {u : Fin 256 → EReal} {q k v : Fin 768 → EReal} {cs sn : Fin 128 → EReal} (hu : ∀ l, IsReal (u l)) (hq : ∀ l, IsReal (q l))
    (hk : ∀ l, IsReal (k l)) (hv : ∀ l, IsReal (v l)) (hc : ∀ l, IsReal (cs l)) (hs : ∀ l, IsReal (sn l)) (l : Fin 2560) :
    IsReal (proj u q k v cs sn l) := by
  unfold proj
  split
  · exact hu _
  split
  · exact isReal_turn hq hc hs _
  split
  · exact isReal_turn hk hc hs _
  · exact hv _

end Cert.Turn

end
-- ==== Proof.InProjBwd.Half.lean ====
/- One 256-row half of what a grid point of the in projection's backward pass computes. -/
module

public import proofs.«01_k».proof.Proof.InProjBwd.Turn
public import proofs.«01_k».proof.Proof.Gen.InProjBwdIdeal.Value
public import Idealize.ShloMosaic.Lib.Pipeline.ValueKit
public import Idealize.ShloMosaic.Lib.Pointwise
public import Idealize.ShloMosaic.Lib.KernelVsHost

@[expose] public section

noncomputable section

open Idealize.ShloMosaic Idealize.ShloMosaic.TcCoe Idealize.SL.Sem

namespace Cert.InProjBwdIdeal.Half

open Cert.InProjBwdIdeal Cert.InProjBwdIdeal.Gen Cert.InProjBwdIdeal.Value
open Cert.Norm Cert.Turn

/-- Which lanes lie in the first half of their head. -/
theorem mask_apply (r : Fin 256) (l : Fin 128) : (k0_pay2 (ix2 r l) : BitVec 1) = if l.val % 64 < 32 then 1#1 else 0#1 := by
  pointwise [k0_pay2]
  revert l
  decide

/-- One block of queries or keys turned back. -/
theorem block_apply (cs sn : Vec Ideal S256x128 .f32) (g : Vec Ideal S256x128 .bf16) (r : Fin 256) (l : Fin 128) :
    (k0_pay10 (F := Ideal) k0_pay2 cs sn g (ix2 r l) : EReal)
      = (g (ix2 r l) : EReal) * cs (ix2 r l)
        + (if h : l.val % 64 < 32 then (g (ix2 r (⟨l.val + 32, by omega⟩ : Fin 128)) : EReal) * sn (ix2 r (⟨l.val + 32, by omega⟩ : Fin 128))
          else (g (ix2 r (⟨l.val - 32, by omega⟩ : Fin 128)) : EReal) * sn (ix2 r (⟨l.val - 32, by omega⟩ : Fin 128))) := by
  have hm := mask_apply r l
  generalize (k0_pay2 : IVec S256x128 1) = mk at hm ⊢
  pointwise [k0_pay10]
  rw [hm]
  by_cases h : l.val % 64 < 32
  · rw [if_pos h, dif_pos h]
    have e : (⟨(l.val + 128 - 96) % 128, by omega⟩ : Fin 128) = ⟨l.val + 32, by omega⟩ := Fin.ext (by show (l.val + 128 - 96) % 128 = l.val + 32; omega)
    rw [e]
    rfl
  · rw [if_neg h, dif_neg h]
    have e : (⟨(l.val + 128 - 32) % 128, by omega⟩ : Fin 128) = ⟨l.val - 32, by omega⟩ := Fin.ext (by show (l.val + 128 - 32) % 128 = l.val - 32; omega)
    rw [e]
    rfl

/-- A load of a block of an array, at an entry. -/
theorem ld2 {n0 n1 m0 m1 : ℕ} {e : EltTy} (X : Vec Ideal ⟨2, ![n0, n1]⟩ e) (o p : ℕ)
    (h : ∀ a : Fin 2, (![o, p] : Fin 2 → ℕ) a + (![m0, m1] : Fin 2 → ℕ) a ≤ (⟨2, ![n0, n1]⟩ : Shape).size a)
    (r : Fin m0) (k : Fin m1) (R : Fin n0) (K : Fin n1) (hR : (R : ℕ) = o + r) (hK : (K : ℕ) = p + k) :
    View.ld X (Rect.unit (s := ⟨2, ![n0, n1]⟩) ![o, p] ![m0, m1] h) (ix2 r k) = X (ix2 R K) :=
  View.ld_unit_apply_of X _ _ h _ _ fun a => by
    fin_cases a
    · exact hR
    · exact hK

/-- A block of a half's queries or keys turned back is a block of the rows turned back. -/
theorem piece_apply (cs sn : Vec Ideal S512x128 .f32) (g : Vec Ideal S512x768 .bf16) (o p : ℕ) (hc) (hs) (hg)
    (x : S256x128.Idx) (R : Fin 512) (l : Fin 768) (hR : (R : ℕ) = o + (x 0 : Fin 256).val) (hl : (l : ℕ) = p + (x 1 : Fin 128).val) (hp : p % 128 = 0) :
    (k0_pay10 (F := Ideal) k0_pay2 (k0_pay4 (View.ld cs (Rect.unit (s := S512x128) ![o, 0] ![256, 128] hc)))
      (k0_pay5 (View.ld sn (Rect.unit (s := S512x128) ![o, 0] ![256, 128] hs))) (View.ld g (Rect.unit (s := S512x768) ![o, p] ![256, 128] hg)) x : EReal)
      = turn (fun k => g (ix2 R k)) (fun k => cs (ix2 R k)) (fun k => sn (ix2 R k)) l := by
  obtain ⟨r, k, rfl⟩ : ∃ (r : Fin 256) (k : Fin 128), x = ix2 r k := ⟨x 0, x 1, by idx_ext⟩
  replace hR : (R : ℕ) = o + r := hR
  replace hl : (l : ℕ) = p + k := hl
  have ec : ∀ k : Fin 128, (k0_pay4 (F := Ideal) (View.ld cs (Rect.unit (s := S512x128) ![o, 0] ![256, 128] hc)) (ix2 r k) : EReal) = cs (ix2 R k) := fun k => by
    refine Eq.trans ?_ (ld2 cs o 0 hc r k R k hR (Nat.zero_add _).symm)
    generalize View.ld cs (Rect.unit (s := S512x128) ![o, 0] ![256, 128] hc) = b
    pointwise [k0_pay4]
  have es : ∀ k : Fin 128, (k0_pay5 (F := Ideal) (View.ld sn (Rect.unit (s := S512x128) ![o, 0] ![256, 128] hs)) (ix2 r k) : EReal) = sn (ix2 R k) := fun k => by
    refine Eq.trans ?_ (ld2 sn o 0 hs r k R k hR (Nat.zero_add _).symm)
    generalize View.ld sn (Rect.unit (s := S512x128) ![o, 0] ![256, 128] hs) = b
    pointwise [k0_pay5]
  have eg : ∀ (k : Fin 128) (K : Fin 768), (K : ℕ) = p + k → (View.ld g (Rect.unit (s := S512x768) ![o, p] ![256, 128] hg) (ix2 r k) : EReal) = g (ix2 R K) :=
    fun k K h => ld2 g o p hg r k R K hR h
  rw [block_apply]
  unfold turn
  by_cases h : k.val % 64 < 32
  · rw [dif_pos h, dif_pos (by omega), eg k l hl, ec, es, eg ⟨k.val + 32, by omega⟩ ⟨l.val + 32, by omega⟩ (by show l.val + 32 = p + (k.val + 32); omega)]
    have e1 : k = ⟨l.val % 128, by omega⟩ := Fin.ext (by show k.val = l.val % 128; omega)
    have e2 : (⟨k.val + 32, by omega⟩ : Fin 128) = ⟨(l.val + 32) % 128, by omega⟩ := Fin.ext (by show k.val + 32 = (l.val + 32) % 128; omega)
    rw [← e1, ← e2]
  · rw [dif_neg h, dif_neg (by omega), eg k l hl, ec, es, eg ⟨k.val - 32, by omega⟩ ⟨l.val - 32, by omega⟩ (by show l.val - 32 = p + (k.val - 32); omega)]
    have e1 : k = ⟨l.val % 128, by omega⟩ := Fin.ext (by show k.val = l.val % 128; omega)
    have e2 : (⟨k.val - 32, by omega⟩ : Fin 128) = ⟨(l.val - 32) % 128, by omega⟩ := Fin.ext (by show k.val - 32 = (l.val - 32) % 128; omega)
    rw [← e1, ← e2]

end Cert.InProjBwdIdeal.Half

end
-- ==== Proof.InProjBwd.Rows.lean ====
/- The rows of the projection's cotangent that a grid point stores piece by piece, read back. -/
module

public import proofs.«01_k».proof.Proof.InProjBwd.Half

@[expose] public section

noncomputable section

open Idealize.ShloMosaic Idealize.ShloMosaic.TcCoe Idealize.SL.Sem

namespace Cert.InProjBwdIdeal.Rows

open Cert.InProjBwdIdeal Cert.InProjBwdIdeal.Gen Cert.InProjBwdIdeal.Value
open Cert.Turn Cert.InProjBwdIdeal.Half

variable (bu : Vec Ideal S512x256 .bf16) (bq bk bv : Vec Ideal S512x768 .bf16) (cs sn : Vec Ideal S512x128 .f32)

/-- The projection's cotangent over a grid point's rows. -/
def dproj : Vec Ideal S512x2560 .bf16 := fun y =>
  proj (fun k => bu (ix2 (y 0) k)) (fun k => bq (ix2 (y 0) k)) (fun k => bk (ix2 (y 0) k)) (fun k => bv (ix2 (y 0) k))
    (fun k => cs (ix2 (y 0) k)) (fun k => sn (ix2 (y 0) k)) (y 1)

/-- A block of 256 rows from row `o` lies inside the array. -/
theorem inb {n : ℕ} (o p k : ℕ) (ho : o ≤ 256) (hp : p + k ≤ n) :
    ∀ a : Fin 2, (![o, p] : Fin 2 → ℕ) a + (![256, k] : Fin 2 → ℕ) a ≤ (⟨2, ![512, n]⟩ : Shape).size a := by
  intro a
  fin_cases a
  · show o + 256 ≤ 512
    omega
  · exact hp

/-- The stores of one block of keys and one of queries, before the stores `L`. -/
def block (o j : ℕ) (ho : o ≤ 256) (hj : j ≤ 5) (L : List (View.Piece (Elt Ideal) S512x2560 .bf16)) : List (View.Piece (Elt Ideal) S512x2560 .bf16) :=
  ⟨Rect.unit (s := S512x2560) ![o, 1024 + 128 * j] ![256, 128] (inb o _ _ ho (by omega)),
    k0_pay10 (F := Ideal) k0_pay2 (k0_pay4 (View.ld cs (Rect.unit (s := S512x128) ![o, 0] ![256, 128] (inb o _ _ ho (by omega)))))
      (k0_pay5 (View.ld sn (Rect.unit (s := S512x128) ![o, 0] ![256, 128] (inb o _ _ ho (by omega)))))
      (View.ld bk (Rect.unit (s := S512x768) ![o, 128 * j] ![256, 128] (inb o _ _ ho (by omega))))⟩ ::
  ⟨Rect.unit (s := S512x2560) ![o, 256 + 128 * j] ![256, 128] (inb o _ _ ho (by omega)),
    k0_pay10 (F := Ideal) k0_pay2 (k0_pay4 (View.ld cs (Rect.unit (s := S512x128) ![o, 0] ![256, 128] (inb o _ _ ho (by omega)))))
      (k0_pay5 (View.ld sn (Rect.unit (s := S512x128) ![o, 0] ![256, 128] (inb o _ _ ho (by omega)))))
      (View.ld bq (Rect.unit (s := S512x768) ![o, 128 * j] ![256, 128] (inb o _ _ ho (by omega))))⟩ :: L

/-- The stores of one half of the rows, before the stores `L`. -/
def half (o : ℕ) (ho : o ≤ 256) (L : List (View.Piece (Elt Ideal) S512x2560 .bf16)) : List (View.Piece (Elt Ideal) S512x2560 .bf16) :=
  ⟨Rect.unit (s := S512x2560) ![o, 1792] ![256, 768] (inb o _ _ ho (by omega)),
    k0_pay25 (F := Ideal) (View.ld bv (Rect.unit (s := S512x768) ![o, 0] ![256, 768] (inb o _ _ ho (by omega))))⟩ ::
  block bq bk cs sn o 5 ho (by omega) (block bq bk cs sn o 4 ho (by omega) (block bq bk cs sn o 3 ho (by omega)
    (block bq bk cs sn o 2 ho (by omega) (block bq bk cs sn o 1 ho (by omega) (block bq bk cs sn o 0 ho (by omega)
      (⟨Rect.unit (s := S512x2560) ![o, 0] ![256, 256] (inb o _ _ ho (by omega)),
        k0_pay3 (F := Ideal) (View.ld bu (Rect.unit (s := S512x256) ![o, 0] ![256, 256] (inb o _ _ ho (by omega))))⟩ :: L))))))

theorem block_allAt (o j : ℕ) (ho : o ≤ 256) (hj : j ≤ 5) (L : List (View.Piece (Elt Ideal) S512x2560 .bf16)) (R : Fin 512) (l : Fin 2560)
    (h : View.AllAt L (ix2 R l) (dproj bu bq bk bv cs sn (ix2 R l))) :
    View.AllAt (block bq bk cs sn o j ho hj L) (ix2 R l) (dproj bu bq bk bv cs sn (ix2 R l)) := by
  refine View.allAt_cons_unit _ _ _ _ _ (fun x hx => ?_) (View.allAt_cons_unit _ _ _ _ _ (fun x hx => ?_) h)
  · obtain ⟨r, k, rfl⟩ : ∃ (r : Fin 256) (k : Fin 128), x = ix2 r k := ⟨x 0, x 1, by idx_ext⟩
    have h0 : (R : ℕ) = o + r := hx 0
    have h1 : (l : ℕ) = 1024 + 128 * j + k := hx 1
    refine (piece_apply cs sn bk o (128 * j) _ _ _ (ix2 r k) R ⟨l.val - 1024, by omega⟩ h0 (by show l.val - 1024 = 128 * j + k; omega) (by omega)).trans ?_
    show _ = proj _ _ _ _ _ _ l
    unfold proj
    rw [dif_neg (by omega), dif_neg (by omega), dif_pos (by omega)]
    rfl
  · obtain ⟨r, k, rfl⟩ : ∃ (r : Fin 256) (k : Fin 128), x = ix2 r k := ⟨x 0, x 1, by idx_ext⟩
    have h0 : (R : ℕ) = o + r := hx 0
    have h1 : (l : ℕ) = 256 + 128 * j + k := hx 1
    refine (piece_apply cs sn bq o (128 * j) _ _ _ (ix2 r k) R ⟨l.val - 256, by omega⟩ h0 (by show l.val - 256 = 128 * j + k; omega) (by omega)).trans ?_
    show _ = proj _ _ _ _ _ _ l
    unfold proj
    rw [dif_neg (by omega), dif_pos (by omega)]
    rfl

theorem half_allAt (o : ℕ) (ho : o ≤ 256) (L : List (View.Piece (Elt Ideal) S512x2560 .bf16)) (R : Fin 512) (l : Fin 2560)
    (h : View.AllAt L (ix2 R l) (dproj bu bq bk bv cs sn (ix2 R l))) :
    View.AllAt (half bu bq bk bv cs sn o ho L) (ix2 R l) (dproj bu bq bk bv cs sn (ix2 R l)) := by
  refine View.allAt_cons_unit _ _ _ _ _ (fun x hx => ?_) (block_allAt _ _ _ _ _ _ _ _ _ _ _ _ _ (block_allAt _ _ _ _ _ _ _ _ _ _ _ _ _
    (block_allAt _ _ _ _ _ _ _ _ _ _ _ _ _ (block_allAt _ _ _ _ _ _ _ _ _ _ _ _ _ (block_allAt _ _ _ _ _ _ _ _ _ _ _ _ _
      (block_allAt _ _ _ _ _ _ _ _ _ _ _ _ _ (View.allAt_cons_unit _ _ _ _ _ (fun x hx => ?_) h)))))))
  · have h0 : (R : ℕ) = o + (x 0 : Fin 256).val := hx 0
    have h1 : (l : ℕ) = 1792 + (x 1 : Fin 768).val := hx 1
    obtain ⟨r, k, rfl⟩ : ∃ (r : Fin 256) (k : Fin 768), x = ix2 r k := ⟨x 0, x 1, by idx_ext⟩
    replace h0 : (R : ℕ) = o + r := h0
    replace h1 : (l : ℕ) = 1792 + k := h1
    have e := ld2 bv o 0 (inb o _ _ ho (by omega)) r k R k h0 (Nat.zero_add _).symm
    show _ = proj _ _ _ _ _ _ l
    unfold proj
    rw [dif_neg (by omega), dif_neg (by omega), dif_neg (by omega)]
    have ek : (⟨l.val - 1792, by omega⟩ : Fin 768) = k := Fin.ext (by show l.val - 1792 = k; omega)
    rw [ek]
    refine Eq.trans ?_ e
    generalize View.ld bv (Rect.unit (s := S512x768) ![o, 0] ![256, 768] _) = b
    pointwise [k0_pay25]
  · have h0 : (R : ℕ) = o + (x 0 : Fin 256).val := hx 0
    have h1 : (l : ℕ) = 0 + (x 1 : Fin 256).val := hx 1
    obtain ⟨r, k, rfl⟩ : ∃ (r : Fin 256) (k : Fin 256), x = ix2 r k := ⟨x 0, x 1, by idx_ext⟩
    replace h0 : (R : ℕ) = o + r := h0
    replace h1 : (l : ℕ) = 0 + k := h1
    have e := ld2 bu o 0 (inb o _ _ ho (by omega)) r k R k h0 (Nat.zero_add _).symm
    show _ = proj _ _ _ _ _ _ l
    unfold proj
    rw [dif_pos (by omega)]
    have ek : (⟨l.val, by omega⟩ : Fin 256) = k := Fin.ext (by show l.val = k; omega)
    rw [ek]
    refine Eq.trans ?_ e
    generalize View.ld bu (Rect.unit (s := S512x256) ![o, 0] ![256, 256] _) = b
    pointwise [k0_pay3]

theorem mem_block (o p k : ℕ) (h) (R : Fin 512) (l : Fin 2560) (hR : o ≤ R.val ∧ R.val < o + 256) (hl : p ≤ l.val ∧ l.val < p + k) :
    (ix2 R l : S512x2560.Idx) ∈ (Rect.unit (s := S512x2560) ![o, p] ![256, k] h).set :=
  Rect.mem_set_unit.mpr fun a => by
    fin_cases a
    · exact hR
    · exact hl

theorem block_cover (o j : ℕ) (ho : o ≤ 256) (hj : j ≤ 5) (L : List (View.Piece (Elt Ideal) S512x2560 .bf16)) (R : Fin 512) (l : Fin 2560)
    (hR : o ≤ R.val ∧ R.val < o + 256)
    (h : ¬ (1024 + 128 * j ≤ l.val ∧ l.val < 1024 + 128 * j + 128) → ¬ (256 + 128 * j ≤ l.val ∧ l.val < 256 + 128 * j + 128)
      → ∃ p ∈ L, (ix2 R l : S512x2560.Idx) ∈ p.1.set) :
    ∃ p ∈ block bq bk cs sn o j ho hj L, (ix2 R l : S512x2560.Idx) ∈ p.1.set := by
  by_cases h1 : 1024 + 128 * j ≤ l.val ∧ l.val < 1024 + 128 * j + 128
  · exact ⟨_, List.mem_cons_self, mem_block _ _ _ (inb o _ _ ho (by omega)) R l hR h1⟩
  by_cases h2 : 256 + 128 * j ≤ l.val ∧ l.val < 256 + 128 * j + 128
  · exact ⟨_, List.mem_cons_of_mem _ List.mem_cons_self, mem_block _ _ _ (inb o _ _ ho (by omega)) R l hR h2⟩
  obtain ⟨p, hp, hm⟩ := h h1 h2
  exact ⟨p, List.mem_cons_of_mem _ (List.mem_cons_of_mem _ hp), hm⟩

theorem half_cover (o : ℕ) (ho : o ≤ 256) (L : List (View.Piece (Elt Ideal) S512x2560 .bf16)) (R : Fin 512) (l : Fin 2560)
    (hR : o ≤ R.val ∧ R.val < o + 256) : ∃ p ∈ half bu bq bk bv cs sn o ho L, (ix2 R l : S512x2560.Idx) ∈ p.1.set := by
  have hl := l.isLt
  by_cases h : 1792 ≤ l.val
  · exact ⟨_, List.mem_cons_self, mem_block _ _ _ (inb o _ _ ho (by omega)) R l hR ⟨h, by omega⟩⟩
  obtain ⟨p, hp, hm⟩ := block_cover bq bk cs sn o 5 ho (by omega) _ R l hR fun a5 b5 =>
    block_cover bq bk cs sn o 4 ho (by omega) _ R l hR fun a4 b4 =>
      block_cover bq bk cs sn o 3 ho (by omega) _ R l hR fun a3 b3 =>
        block_cover bq bk cs sn o 2 ho (by omega) _ R l hR fun a2 b2 =>
          block_cover bq bk cs sn o 1 ho (by omega) _ R l hR fun a1 b1 =>
            block_cover bq bk cs sn o 0 ho (by omega)
              (⟨Rect.unit (s := S512x2560) ![o, 0] ![256, 256] (inb o _ _ ho (by omega)),
                k0_pay3 (F := Ideal) (View.ld bu (Rect.unit (s := S512x256) ![o, 0] ![256, 256] (inb o _ _ ho (by omega))))⟩ :: L) R l hR fun a0 b0 =>
              ⟨_, List.mem_cons_self, mem_block _ _ _ (inb o _ _ ho (by omega)) R l hR ⟨Nat.zero_le _, by omega⟩⟩
  exact ⟨p, List.mem_cons_of_mem _ hp, hm⟩

/-- The stores of the first half, read at its rows. -/
theorem first_rows (R : Fin 512) (l : Fin 2560) (hR : R.val < 256) :
    View.canon (half bu bq bk bv cs sn 0 (by omega) []) (ix2 R l) = dproj bu bq bk bv cs sn (ix2 R l) :=
  View.canon_eq_of_allAt _ _ _ (half_cover _ _ _ _ _ _ _ _ _ R l ⟨Nat.zero_le _, by omega⟩) (half_allAt _ _ _ _ _ _ _ _ _ R l (View.allAt_nil _ _))

/-- The stores of both halves, read at any row. -/
theorem all_rows (R : Fin 512) (l : Fin 2560) :
    View.canon (half bu bq bk bv cs sn 256 (by omega) (half bu bq bk bv cs sn 0 (by omega) [])) (ix2 R l) = dproj bu bq bk bv cs sn (ix2 R l) := by
  refine View.canon_eq_of_allAt _ _ _ ?_ (half_allAt _ _ _ _ _ _ _ _ _ R l (half_allAt _ _ _ _ _ _ _ _ _ R l (View.allAt_nil _ _)))
  by_cases h : R.val < 256
  · obtain ⟨p, hp, hm⟩ := half_cover bu bq bk bv cs sn 0 (by omega) [] R l ⟨Nat.zero_le _, by omega⟩
    exact ⟨p, List.mem_append_right (half bu bq bk bv cs sn 256 (by omega) []) hp, hm⟩
  · exact half_cover _ _ _ _ _ _ _ _ _ R l ⟨by omega, by omega⟩

end Cert.InProjBwdIdeal.Rows

end
-- ==== Proof.InProjBwd.Step.lean ====
/- What one grid point of the in projection's backward pass computes: 512 rows, as two halves. -/
module

public import proofs.«01_k».proof.Proof.InProjBwd.Rows

@[expose] public section

noncomputable section

open Idealize.ShloMosaic Idealize.ShloMosaic.TcCoe Idealize.SL.Sem

namespace Cert.InProjBwdIdeal.Step

open Cert.InProjBwdIdeal Cert.InProjBwdIdeal.Gen Cert.InProjBwdIdeal.Value
open Cert.Norm Cert.Turn Cert.InProjBwdIdeal.Half Cert.InProjBwdIdeal.Rows

/-- The cotangent of the normed input, of the projection's. -/
def dh (P : Vec Ideal S512x2560 .bf16) (w : Vec Ideal S2560x1024 .bf16) (r : Fin 512) (j : Fin 1024) : EReal :=
  ∑ l : Fin 2560, (P (ix2 r l) : EReal) * w (ix2 l j)

/-- The gradient of the input. -/
def gx (P : Vec Ideal S512x2560 .bf16) (w : Vec Ideal S2560x1024 .bf16) (x d : Vec Ideal S512x1024 .f32) (g : Vec Ideal S1x1024 .f32)
    (r : Fin 512) (j : Fin 1024) : EReal :=
  d (ix2 r j) + back (dh P w r) (fun k => g (ix2 0 k)) (fun k => x (ix2 r k)) j

/-- What a row adds to the gain's gradient. -/
def dgRow (P : Vec Ideal S512x2560 .bf16) (w : Vec Ideal S2560x1024 .bf16) (x : Vec Ideal S512x1024 .f32) (j : Fin 1024) (r : Fin 512) : EReal :=
  dh P w r j * ((x (ix2 r j) : EReal) * rms fun k => x (ix2 r k))

/-! ## A half's payloads -/

theorem dh_apply (Q : Vec Ideal S256x2560 .bf16) (w : Vec Ideal S2560x1024 .bf16) (r : Fin 256) (j : Fin 1024) :
    (k0_pay26 (F := Ideal) Q w (ix2 r j) : EReal) = ∑ l : Fin 2560, (Q (ix2 r l) : EReal) * w (ix2 l j) := by
  pointwise [k0_pay26]

theorem gx_apply (p x d : Vec Ideal S256x1024 .f32) (g : Vec Ideal S1x1024 .f32) (r : Fin 256) (j : Fin 1024) :
    (k0_pay31 (F := Ideal) p x (k0_pay27 x) g d (ix2 r j) : EReal)
      = d (ix2 r j) + back (fun k => p (ix2 r k)) (fun k => g (ix2 0 k)) (fun k => x (ix2 r k)) j := by
  pointwise [k0_pay31, k0_pay29, k0_pay28, k0_pay27]
  rfl

theorem dg_apply (p x : Vec Ideal S256x1024 .f32) (o : Vec Ideal S1x1024 .f32) (j : Fin 1024) :
    (k0_pay30 (F := Ideal) p x (k0_pay27 x) o (ix2 0 j) : EReal)
      = o (ix2 0 j) + ∑ r : Fin 256, (p (ix2 r j) : EReal) * ((x (ix2 r j) : EReal) * rms fun k => x (ix2 r k)) := by
  pointwise [k0_pay30, k0_pay29, k0_pay28, k0_pay27]
  rfl

variable (P : Vec Ideal S512x2560 .bf16) (w : Vec Ideal S2560x1024 .bf16) (x d : Vec Ideal S512x1024 .f32) (g : Vec Ideal S1x1024 .f32)

/-- A half's rows of the input's gradient, from a half's rows `Q` of the projection's cotangent `P`. -/
theorem gx_half (o : ℕ) (hx) (hd) (Q : Vec Ideal S256x2560 .bf16) (hQ : ∀ (r : Fin 256) (R : Fin 512) (l : Fin 2560), (R : ℕ) = o + r → Q (ix2 r l) = P (ix2 R l))
    (y : S256x1024.Idx) (R : Fin 512) (j : Fin 1024) (hR : (R : ℕ) = o + (y 0 : Fin 256).val) (hj : (j : ℕ) = (y 1 : Fin 1024).val) :
    (k0_pay31 (F := Ideal) (k0_pay26 Q w) (View.ld x (Rect.unit (s := S512x1024) ![o, 0] ![256, 1024] hx))
      (k0_pay27 (View.ld x (Rect.unit (s := S512x1024) ![o, 0] ![256, 1024] hx))) g (View.ld d (Rect.unit (s := S512x1024) ![o, 0] ![256, 1024] hd)) y : EReal)
      = gx P w x d g R j := by
  obtain ⟨r, k, rfl⟩ : ∃ (r : Fin 256) (k : Fin 1024), y = ix2 r k := ⟨y 0, y 1, by idx_ext⟩
  replace hR : (R : ℕ) = o + r := hR
  obtain rfl : j = k := Fin.ext hj
  have ex : ∀ k : Fin 1024, (View.ld x (Rect.unit (s := S512x1024) ![o, 0] ![256, 1024] hx) (ix2 r k) : EReal) = x (ix2 R k) :=
    fun k => ld2 x o 0 hx r k R k hR (Nat.zero_add _).symm
  have ed : (View.ld d (Rect.unit (s := S512x1024) ![o, 0] ![256, 1024] hd) (ix2 r j) : EReal) = d (ix2 R j) :=
    ld2 d o 0 hd r j R j hR (Nat.zero_add _).symm
  refine (gx_apply _ _ _ _ r j).trans ?_
  unfold gx dh
  rw [ed, funext ex, funext fun k => dh_apply Q w r k]
  refine congrArg (fun f => _ + back f _ _ j) (funext fun k => Finset.sum_congr rfl fun l _ => ?_)
  rw [hQ r R l hR]

/-- What a half adds to the gain's gradient. -/
theorem dg_half (o : ℕ) (hx) (Q : Vec Ideal S256x2560 .bf16) (hQ : ∀ (r : Fin 256) (R : Fin 512) (l : Fin 2560), (R : ℕ) = o + r → Q (ix2 r l) = P (ix2 R l))
    (s : Vec Ideal S1x1024 .f32) (j : Fin 1024) (f : Fin 256 → Fin 512) (hf : ∀ r, (f r : ℕ) = o + r) :
    (k0_pay30 (F := Ideal) (k0_pay26 Q w) (View.ld x (Rect.unit (s := S512x1024) ![o, 0] ![256, 1024] hx))
      (k0_pay27 (View.ld x (Rect.unit (s := S512x1024) ![o, 0] ![256, 1024] hx))) s (ix2 0 j) : EReal)
      = s (ix2 0 j) + ∑ r : Fin 256, dgRow P w x j (f r) := by
  refine (dg_apply _ _ _ j).trans (congrArg _ (Finset.sum_congr rfl fun r _ => ?_))
  have ex : ∀ k : Fin 1024, (View.ld x (Rect.unit (s := S512x1024) ![o, 0] ![256, 1024] hx) (ix2 r k) : EReal) = x (ix2 (f r) k) :=
    fun k => ld2 x o 0 hx r k (f r) k (hf r) (Nat.zero_add _).symm
  unfold dgRow dh
  rw [dh_apply, funext ex, ex]
  refine congrArg (· * _) (Finset.sum_congr rfl fun l _ => ?_)
  rw [hQ r (f r) l (hf r)]

theorem halves (f : Fin 512 → EReal) :
    (∑ r : Fin 256, f ⟨0 + r.val, by omega⟩) + (∑ r : Fin 256, f ⟨256 + r.val, by omega⟩) = ∑ r : Fin 512, f r := by
  refine Eq.trans (congrArg₂ (· + ·) (Finset.sum_congr rfl fun r _ => congrArg f (Fin.ext ?_)) rfl) (Fin.sum_univ_add (a := 256) (b := 256) f).symm
  exact Nat.zero_add _

/-! ## The rows read back -/

section Read

variable {κ : Kind} {sp : Space} (v : View sig κ sp S512x2560 .bf16)
variable (bu : Vec Ideal S512x256 .bf16) (bq bk bv : Vec Ideal S512x768 .bf16) (cs sn : Vec Ideal S512x128 .f32)

theorem idx_rows (o : ℕ) (hb) (r : Fin 256) (R : Fin 512) (l : Fin 2560) (h : (R : ℕ) = o + r) :
    (Rect.unit (s := S512x2560) ![o, 0] ![256, 2560] hb).toLoadRect.idx (ix2 r l) = ix2 R l :=
  funext fun a => Fin.ext ((Rect.idx_unit_val _ _ hb (ix2 r l) a).trans (by
    fin_cases a
    · exact h.symm
    · exact Nat.zero_add _))

theorem read_first (hb) (r : Fin 256) (R : Fin 512) (l : Fin 2560) (h : (R : ℕ) = 0 + r) :
    (v.readCov (half bu bq bk bv cs sn 0 (by omega) []) (Rect.unit (s := S512x2560) ![0, 0] ![256, 2560] hb).toLoadRect (ix2 r l) : EReal)
      = dproj bu bq bk bv cs sn (ix2 R l) := by
  rw [View.readCov_eq_canon']
  exact (congrArg _ (idx_rows 0 hb r R l h)).trans (first_rows bu bq bk bv cs sn R l (by omega))

theorem read_second (hb) (r : Fin 256) (R : Fin 512) (l : Fin 2560) (h : (R : ℕ) = 256 + r) :
    (v.readCov (half bu bq bk bv cs sn 256 (by omega) (half bu bq bk bv cs sn 0 (by omega) [])) (Rect.unit (s := S512x2560) ![256, 0] ![256, 2560] hb).toLoadRect (ix2 r l) : EReal)
      = dproj bu bq bk bv cs sn (ix2 R l) := by
  rw [View.readCov_eq_canon']
  exact (congrArg _ (idx_rows 256 hb r R l h)).trans (all_rows bu bq bk bv cs sn R l)

end Read

/-! ## What the point leaves -/

variable (m : (ℓ : Loc nD τ sig) → Buf (Elt Ideal) ℓ)

/-- The projection's cotangent at a grid point. -/
abbrev pblk (c : Dev nD) (t : Fin cfg0.N) : Vec Ideal S512x2560 .bf16 :=
  dproj (iblk m c 0 t) (iblk m c 1 t) (iblk m c 2 t) (iblk m c 3 t) (iblk m c 4 t) (iblk m c 5 t)

theorem dproj_out (c : Dev nD) (t : Fin cfg0.N) (r : Fin 512) (l : Fin 2560) :
    (outsAt0 m c t.val t.isLt).2.1 (ix2 r l) = pblk m c t (ix2 r l) := by
  by_cases h0 : t.val % 16 = 0
  · rw [outsAt0_A m c t h0]
    frame_out
    exact all_rows (iblk m c 0 t) (iblk m c 1 t) (iblk m c 2 t) (iblk m c 3 t) (iblk m c 4 t) (iblk m c 5 t) r l
  · rw [outsAt0_B m c t h0]
    frame_out
    exact all_rows (iblk m c 0 t) (iblk m c 1 t) (iblk m c 2 t) (iblk m c 3 t) (iblk m c 4 t) (iblk m c 5 t) r l

/-- The first half's rows as the point reads them back. -/
theorem first_blk {κ : Kind} {sp : Space} (v : View sig κ sp S512x2560 .bf16) (c : Dev nD) (t : Fin cfg0.N) (hb) (r : Fin 256) (R : Fin 512) (l : Fin 2560)
    (h : (R : ℕ) = 0 + r) :
    v.readCov (half (iblk m c 0 t) (iblk m c 1 t) (iblk m c 2 t) (iblk m c 3 t) (iblk m c 4 t) (iblk m c 5 t) 0 (by omega) [])
      (Rect.unit (s := S512x2560) ![0, 0] ![256, 2560] hb).toLoadRect (ix2 r l) = pblk m c t (ix2 R l) :=
  read_first v _ _ _ _ _ _ hb r R l h

/-- The second half's. -/
theorem second_blk {κ : Kind} {sp : Space} (v : View sig κ sp S512x2560 .bf16) (c : Dev nD) (t : Fin cfg0.N) (hb) (r : Fin 256) (R : Fin 512) (l : Fin 2560)
    (h : (R : ℕ) = 256 + r) :
    v.readCov (half (iblk m c 0 t) (iblk m c 1 t) (iblk m c 2 t) (iblk m c 3 t) (iblk m c 4 t) (iblk m c 5 t) 256 (by omega)
      (half (iblk m c 0 t) (iblk m c 1 t) (iblk m c 2 t) (iblk m c 3 t) (iblk m c 4 t) (iblk m c 5 t) 0 (by omega) []))
      (Rect.unit (s := S512x2560) ![256, 0] ![256, 2560] hb).toLoadRect (ix2 r l) = pblk m c t (ix2 R l) :=
  read_second v _ _ _ _ _ _ hb r R l h

theorem gx_names (Q : Vec Ideal S256x2560 .bf16) (w : Vec Ideal S2560x1024 .bf16) (x d : Vec Ideal S256x1024 .f32) (g : Vec Ideal S1x1024 .f32)
    (y : S256x1024.Idx) : k0_pay59 (F := Ideal) (k0_pay54 Q w) x (k0_pay55 x) g d y = k0_pay31 (k0_pay26 Q w) x (k0_pay27 x) g d y := rfl

theorem dg_names (Q : Vec Ideal S256x2560 .bf16) (w : Vec Ideal S2560x1024 .bf16) (x : Vec Ideal S256x1024 .f32) (o : Vec Ideal S1x1024 .f32)
    (y : S1x1024.Idx) : k0_pay58 (F := Ideal) (k0_pay54 Q w) x (k0_pay55 x) o y = k0_pay30 (k0_pay26 Q w) x (k0_pay27 x) o y := rfl

theorem gx_A (c : Dev nD) (t : Fin cfg0.N) (h0 : t.val % 16 = 0) (r : Fin 512) (j : Fin 1024) :
    (outsAt0 m c t.val t.isLt).1 (ix2 r j) = gx (pblk m c t) (iblk m c 6 t) (iblk m c 7 t) (iblk m c 8 t) (iblk m c 9 t) r j := by
  rw [outsAt0_A m c t h0]
  frame_out
  canon_tiles x e
  · refine (gx_names _ _ _ _ _ x).trans ?_
    refine gx_half (pblk m c t) (iblk m c 6 t) (iblk m c 7 t) (iblk m c 8 t) (iblk m c 9 t) 256 _ _ _ ?_ x r j e0 e1
    exact second_blk m _ c t _
  · refine gx_half (pblk m c t) (iblk m c 6 t) (iblk m c 7 t) (iblk m c 8 t) (iblk m c 9 t) 0 _ _ _ ?_ x r j (e0.trans (Nat.zero_add _).symm) e1
    exact first_blk m _ c t _

theorem gx_B (c : Dev nD) (t : Fin cfg0.N) (h0 : ¬ t.val % 16 = 0) (r : Fin 512) (j : Fin 1024) :
    (outsAt0 m c t.val t.isLt).1 (ix2 r j) = gx (pblk m c t) (iblk m c 6 t) (iblk m c 7 t) (iblk m c 8 t) (iblk m c 9 t) r j := by
  rw [outsAt0_B m c t h0]
  frame_out
  canon_tiles x e
  · refine (gx_names _ _ _ _ _ x).trans ?_
    refine gx_half (pblk m c t) (iblk m c 6 t) (iblk m c 7 t) (iblk m c 8 t) (iblk m c 9 t) 256 _ _ _ ?_ x r j e0 e1
    exact second_blk m _ c t _
  · refine gx_half (pblk m c t) (iblk m c 6 t) (iblk m c 7 t) (iblk m c 8 t) (iblk m c 9 t) 0 _ _ _ ?_ x r j (e0.trans (Nat.zero_add _).symm) e1
    exact first_blk m _ c t _

theorem gx_out (c : Dev nD) (t : Fin cfg0.N) (r : Fin 512) (j : Fin 1024) :
    (outsAt0 m c t.val t.isLt).1 (ix2 r j) = gx (pblk m c t) (iblk m c 6 t) (iblk m c 7 t) (iblk m c 8 t) (iblk m c 9 t) r j := by
  by_cases h0 : t.val % 16 = 0
  · exact gx_A m c t h0 r j
  · exact gx_B m c t h0 r j

theorem dg_A (c : Dev nD) (t : Fin cfg0.N) (h0 : t.val % 16 = 0) (y : S1x1024.Idx) :
    (outsAt0 m c t.val t.isLt).2.2 y = ∑ r : Fin 512, dgRow (pblk m c t) (iblk m c 6 t) (iblk m c 7 t) (y 1) r := by
  obtain ⟨j, rfl⟩ : ∃ j : Fin 1024, y = ix2 0 j := ⟨y 1, by idx_ext⟩
  rw [outsAt0_A m c t h0]
  frame_out
  refine (dg_names _ _ _ _ _).trans ?_
  refine (dg_half (pblk m c t) (iblk m c 6 t) (iblk m c 7 t) 256 _ _ ?_ _ j (fun r => ⟨256 + r.val, by omega⟩) fun _ => rfl).trans ?_
  · exact second_blk m _ c t _
  refine (congrArg (· + _) (dg_half (pblk m c t) (iblk m c 6 t) (iblk m c 7 t) 0 _ _ ?_ _ j (fun r => ⟨0 + r.val, by omega⟩) fun _ => rfl)).trans ?_
  · exact first_blk m _ c t _
  refine Eq.trans ?_ (halves _)
  exact congrArg (· + _) ((congrArg (· + _) (by pointwise [k0_pay1])).trans (zero_add _))

theorem dg_B (c : Dev nD) (t : Fin cfg0.N) (h0 : ¬ t.val % 16 = 0) (y : S1x1024.Idx) :
    (outsAt0 m c t.val t.isLt).2.2 y = (outsAt0 m c (t.val - 1) (Nat.lt_of_le_of_lt (Nat.sub_le _ _) t.isLt)).2.2 y
      + ∑ r : Fin 512, dgRow (pblk m c t) (iblk m c 6 t) (iblk m c 7 t) (y 1) r := by
  obtain ⟨j, rfl⟩ : ∃ j : Fin 1024, y = ix2 0 j := ⟨y 1, by idx_ext⟩
  rw [outsAt0_B m c t h0]
  frame_out
  refine (dg_names _ _ _ _ _).trans ?_
  refine (dg_half (pblk m c t) (iblk m c 6 t) (iblk m c 7 t) 256 _ _ ?_ _ j (fun r => ⟨256 + r.val, by omega⟩) fun _ => rfl).trans ?_
  · exact second_blk m _ c t _
  refine (congrArg (· + _) (dg_half (pblk m c t) (iblk m c 6 t) (iblk m c 7 t) 0 _ _ ?_ _ j (fun r => ⟨0 + r.val, by omega⟩) fun _ => rfl)).trans ?_
  · exact first_blk m _ c t _
  exact (add_assoc _ _ _).trans (congrArg _ (halves _))

end Cert.InProjBwdIdeal.Step

end
-- ==== Proof.InProjBwd.Ref.lean ====
/- The entries of the in projection's gradients, in the reference's spelling. -/
module

public import proofs.«01_k».proof.Proof.InProjBwd.Turn
public import proofs.«01_k».proof.Proof.Gen.InProjBwdRefIdeal.Read
public import Idealize.ShloMosaic.Lib.Pointwise

@[expose] public section

noncomputable section

open Idealize.ShloMosaic

namespace Cert.InProjBwdRefIdeal.Entries

open Cert.InProjBwdRefIdeal Cert.InProjBwdRefIdeal.Read
open Cert.Norm Cert.Turn
open Cert.Reals

/-- A rotation's gradient as the sum of what its two halves pass back. -/
theorem spell (x : Fin 768 → EReal) (R : Fin 8192) (l : Fin 768) {cs sn : Fin 32 → EReal} (hc : ∀ h, cs h = Ideal.cos (angle R h))
    (hs : ∀ h, sn h = Ideal.sin (angle R h)) :
    ((if h : l.val / 64 < 12 ∧ 32 ≤ l.val % 64 ∧ l.val % 64 - 32 < 32 then
        x ⟨l.val / 64 * 64 + (32 + (l.val % 64 - 32)), by omega⟩ * cs ⟨l.val % 64 - 32, by omega⟩
          + -x ⟨l.val / 64 * 64 + (l.val % 64 - 32), by omega⟩ * sn ⟨l.val % 64 - 32, by omega⟩ else 0)
      + (if h : l.val / 64 < 12 ∧ l.val % 64 < 32 then
        x ⟨l.val / 64 * 64 + (32 + l.val % 64), by omega⟩ * sn ⟨l.val % 64, by omega⟩ + x l * cs ⟨l.val % 64, by omega⟩ else 0))
      = turn x (cosT R) (sinT R) l := by
  unfold turn cosT sinT
  by_cases h : l.val % 64 < 32
  · rw [dif_neg (by omega), dif_pos (by omega), dif_pos h, zero_add, add_comm, hc, hs, if_neg (by show ¬ (l.val + 32) % 128 % 64 < 32; omega)]
    refine congrArg₂ (· + ·) (congrArg₂ (· * ·) rfl ?_) (congrArg₂ (· * ·) ?_ ?_)
    · exact congrArg (fun k => Ideal.cos (angle R k)) (Fin.ext (by show l.val % 64 = l.val % 128 % 32; omega))
    · exact congrArg x (Fin.ext (by show l.val / 64 * 64 + (32 + l.val % 64) = l.val + 32; omega))
    · exact congrArg (fun k => Ideal.sin (angle R k)) (Fin.ext (by show l.val % 64 = (l.val + 32) % 128 % 32; omega))
  · rw [dif_pos (by omega), dif_neg (by omega), dif_neg h, add_zero, hc, hs, if_pos (by show (l.val - 32) % 128 % 64 < 32; omega), neg_mul, mul_neg]
    refine congrArg₂ (· + ·) (congrArg₂ (· * ·) ?_ ?_) (congrArg Neg.neg (congrArg₂ (· * ·) ?_ ?_))
    · exact congrArg x (Fin.ext (by show l.val / 64 * 64 + (32 + (l.val % 64 - 32)) = l.val; omega))
    · exact congrArg (fun k => Ideal.cos (angle R k)) (Fin.ext (by show l.val % 64 - 32 = l.val % 128 % 32; omega))
    · exact congrArg x (Fin.ext (by show l.val / 64 * 64 + (l.val % 64 - 32) = l.val - 32; omega))
    · exact congrArg (fun k => Ideal.sin (angle R k)) (Fin.ext (by show l.val % 64 - 32 = (l.val - 32) % 128 % 32; omega))

variable (x0 x7 : FVec Ideal S8192x1024 .f32) (x1 : FVec Ideal S1x1024 .f32) (x2 : FVec Ideal S1024x2560 .f32) (x3 : FVec Ideal S8192x256 .f32) (x4 x5 x6 : FVec Ideal S8192x768 .f32)

theorem k_apply (R : Fin 8192) (l : Fin 768) :
    val_main_v84 (F := Ideal) x5 (ix2 R l) = turn (fun k => x5 (ix2 R k)) (cosT R) (sinT R) l := by
  have hc : ∀ h : Fin 32, (val_main_v50 (F := Ideal) (ix3 R 0 h) : EReal) = Ideal.cos (angle R h) := fun h => by
    pointwise [val_main_v50, val_main_v49, val_main_v48, val_main_v47, val_main_v46, val_main_v45, val_main_v44, val_main_v43, val_main_v42, val_main_v41, val_main_v40, val_main_v39, val_main_v38, val_main_v37, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
    rfl
  have hs : ∀ h : Fin 32, (val_main_v52 (F := Ideal) (ix3 R 0 h) : EReal) = Ideal.sin (angle R h) := fun h => by
    pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
    rfl
  pointwise [val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  exact spell (fun k => x5 (ix2 R k)) R l hc hs

theorem q_apply (R : Fin 8192) (l : Fin 768) :
    val_main_v101 (F := Ideal) x4 (ix2 R l) = turn (fun k => x4 (ix2 R k)) (cosT R) (sinT R) l := by
  have hc : ∀ h : Fin 32, (val_main_v20 (F := Ideal) (ix3 R 0 h) : EReal) = Ideal.cos (angle R h) := fun h => by
    pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
    rfl
  have hs : ∀ h : Fin 32, (val_main_v22 (F := Ideal) (ix3 R 0 h) : EReal) = Ideal.sin (angle R h) := fun h => by
    pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
    rfl
  pointwise [val_main_v101, val_main_v100, val_main_v99, val_main_v98, val_main_v97, val_main_v96, val_main_v95, val_main_v94, val_main_v93, val_main_v92, val_main_v91, val_main_v90, val_main_v89, val_main_v88, val_main_v87, val_main_v86, val_main_v85, val_main_v66, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  exact spell (fun k => x4 (ix2 R k)) R l hc hs

/-- The cotangent of the projection. -/
theorem proj_apply (R : Fin 8192) (l : Fin 2560) :
    val_main_v108 (F := Ideal) x3 x4 x5 x6 (ix2 R l)
      = proj (fun k => x3 (ix2 R k)) (fun k => x4 (ix2 R k)) (fun k => x5 (ix2 R k)) (fun k => x6 (ix2 R k)) (cosT R) (sinT R) l := by
  have hk := k_apply x5 R
  have hq := q_apply x4 R
  pointwise [val_main_v108, val_main_v107, val_main_v106, val_main_v105, val_main_v104, val_main_v103, val_main_v102, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  unfold proj
  by_cases h1 : l.val < 256
  · rw [dif_neg (by omega), dif_neg (by omega), dif_neg (by omega), dif_pos h1, dif_pos h1]
    simp only [zero_add]
  by_cases h2 : l.val < 1024
  · rw [dif_neg (by omega), dif_neg (by omega), dif_pos (by omega), dif_neg h1, dif_neg h1, dif_pos h2, hq]
    simp only [zero_add, add_zero]
  by_cases h3 : l.val < 1792
  · rw [dif_neg (by omega), dif_pos (by omega), dif_neg (by omega), dif_neg h1, dif_neg h1, dif_neg h2, dif_pos h3, hk]
    simp only [zero_add, add_zero]
  · rw [dif_pos (by omega), dif_neg (by omega), dif_neg (by omega), dif_neg h1, dif_neg h1, dif_neg h2, dif_neg h3]
    simp only [add_zero]

/-- The cotangent of the normed input. -/
theorem dh_apply (R : Fin 8192) (j : Fin 1024) :
    val_main_v127 (F := Ideal) x2 x3 x4 x5 x6 (ix2 R j)
      = ∑ l : Fin 2560, (val_main_v108 (F := Ideal) x3 x4 x5 x6 (ix2 R l) : EReal) * x2 (ix2 j l) := by
  pointwise [val_main_v127]

/-- The gradient of the input. -/
theorem dx_apply (hh : ∀ R j, IsReal (val_main_v127 (F := Ideal) x2 x3 x4 x5 x6 (ix2 R j))) (h0 : ∀ i, IsReal (x0 i)) (h1 : ∀ i, IsReal (x1 i))
    (R : Fin 8192) (j : Fin 1024) :
    val_main_v148 (F := Ideal) x0 x1 x2 x3 x4 x5 x6 x7 (ix2 R j)
      = x7 (ix2 R j) + back (fun k => val_main_v127 (F := Ideal) x2 x3 x4 x5 x6 (ix2 R k)) (fun k => x1 (ix2 0 k)) (fun k => x0 (ix2 R k)) j := by
  rw [← pull_eq (fun k => hh R k) (fun k => h1 (ix2 0 k)) (fun k => h0 (ix2 R k)) j]
  pointwise [val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v123, val_main_v122, val_main_v121, val_main_v120, val_main_v119, val_main_v118, val_main_v117, val_main_v116, val_main_v115, val_main_v114, val_main_v113, val_main_v112, val_main_v111, val_main_v110, val_main_v109, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  rw [Fin.sum_univ_one]
  exact (add_assoc _ _ _).trans ((add_assoc _ _ _).trans (congrArg _ (add_assoc _ _ _).symm))

/-- The gradient of the gain. -/
theorem dg_apply (j : Fin 1024) :
    val_main_v149 (F := Ideal) x0 x2 x3 x4 x5 x6 (ix2 0 j)
      = ∑ R : Fin 8192, (val_main_v127 (F := Ideal) x2 x3 x4 x5 x6 (ix2 R j) : EReal) * ((x0 (ix2 R j) : EReal) * rms fun k => x0 (ix2 R k)) := by
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v123, val_main_v122, val_main_v121, val_main_v120, val_main_v119, val_main_v118, val_main_v117, val_main_v116, val_main_v115, val_main_v114, val_main_v113, val_main_v112, val_main_v111, val_main_v110, val_main_v109, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  rw [Fin.sum_univ_one]
  exact Finset.sum_congr rfl fun R _ => mul_comm _ _

end Cert.InProjBwdRefIdeal.Entries

end
-- ==== Proof.InProjBwd.Finite.lean ====
/- Every argument of the in projection's backward pass is real under its precondition. -/
module

public import proofs.«01_k».proof.Proof.Reals
public import proofs.«01_k».proof.Proof.Gen.Pre_inproj_finite

@[expose] public section

noncomputable section

namespace Cert.Pre_inproj_finite

open Idealize.ShloMosaic
open Cert.Reals

theorem all_real (x0 : FVec Ideal S8192x1024 .f32) (x1 : FVec Ideal S1x1024 .f32) (x2 : FVec Ideal S1024x2560 .f32) (x3 : FVec Ideal S8192x256 .f32)
    (x4 x5 x6 : FVec Ideal S8192x768 .f32) (x7 : FVec Ideal S8192x1024 .f32)
    (h : fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i))
      ∧ (∀ i, IsReal (x6 i)) ∧ ∀ i, IsReal (x7 i) := by
  have e := congrFun h fun a => a.elim0
  haveI : Subsingleton S_.Idx := ⟨fun _ _ => funext fun a => a.elim0⟩
  unfold fn fn_part1 at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ (fun _ => ofBits_inf) e0,
    isReal_of_all _ _ _ _ _ _ (fun _ => ofBits_inf) e1,
    isReal_of_all _ _ _ _ _ _ (fun _ => ofBits_inf) e2,
    isReal_of_all _ _ _ _ _ _ (fun _ => ofBits_inf) e3,
    isReal_of_all _ _ _ _ _ _ (fun _ => ofBits_inf) e4,
    isReal_of_all _ _ _ _ _ _ (fun _ => ofBits_inf) e5,
    isReal_of_all _ _ _ _ _ _ (fun _ => ofBits_inf) e6,
    isReal_of_all _ _ _ _ _ _ (fun _ => ofBits_inf) e7⟩

end Cert.Pre_inproj_finite

end
-- ==== Proof.InProjBwd.Final.lean ====
/- The gradients the in projection's backward pass leaves are the reference's. -/
module

public import proofs.«01_k».proof.Proof.InProjBwd.Step
public import proofs.«01_k».proof.Proof.InProjBwd.Ref
public import proofs.«01_k».proof.Proof.InProjBwd.Finite

@[expose] public section

noncomputable section

open Idealize.ShloMosaic Idealize.ShloMosaic.TcCoe Idealize.SL.Sem

namespace Cert.InProjBwdIdeal.Final

open Cert.InProjBwdIdeal Cert.InProjBwdIdeal.Gen Cert.InProjBwdIdeal.Value
open Cert.InProjBwdRefIdeal.Read (val_main_v108 val_main_v127 val_main_v148 val_main_v149 val_main_v150)
open Cert.InProjBwdRefIdeal (Entries.proj_apply Entries.dh_apply Entries.dx_apply Entries.dg_apply)
open Cert.Reals Cert.Norm Cert.Turn

variable (m : (ℓ : Loc nD τ sig) → Buf (Elt Ideal) ℓ)

/-- Which block of each array a grid point sees: point `t` is slab `t` of the rows. -/
theorem idx : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![0, 0] ∧ win0_7.index t = ![t.val, 0]
      ∧ win0_8.index t = ![t.val, 0] ∧ win0_9.index t = ![0, 0] ∧ win0_10.index t = ![t.val, 0] ∧ win0_11.index t = ![t.val, 0] :=
  (by decide +kernel : ∀ t : Fin grid0.N, _)

/-- The layer's input. -/
abbrev xx (c : Dev nD) : Vec Ideal S8192x1024 .f32 := m ((c : Thread nD τ).loc main_arg0)
/-- The gain of its norm. -/
abbrev xg (c : Dev nD) : Vec Ideal S1x1024 .f32 := m ((c : Thread nD τ).loc main_arg1)
/-- The projection's weights. -/
abbrev xw (c : Dev nD) : Vec Ideal S1024x2560 .f32 := m ((c : Thread nD τ).loc main_arg2)
/-- The cotangent of the pooling's input. -/
abbrev xu (c : Dev nD) : Vec Ideal S8192x256 .f32 := m ((c : Thread nD τ).loc main_arg3)
/-- The cotangent of the turned queries. -/
abbrev xq (c : Dev nD) : Vec Ideal S8192x768 .f32 := m ((c : Thread nD τ).loc main_arg4)
/-- The cotangent of the turned keys. -/
abbrev xk (c : Dev nD) : Vec Ideal S8192x768 .f32 := m ((c : Thread nD τ).loc main_arg5)
/-- The cotangent of the values. -/
abbrev xv (c : Dev nD) : Vec Ideal S8192x768 .f32 := m ((c : Thread nD τ).loc main_arg6)
/-- The cotangent of the residual stream. -/
abbrev xd (c : Dev nD) : Vec Ideal S8192x1024 .f32 := m ((c : Thread nD τ).loc main_arg7)
/-- The cotangent of the projection. -/
abbrev rp (c : Dev nD) : Vec Ideal S8192x2560 .f32 := val_main_v108 (F := Ideal) (xu m c) (xq m c) (xk m c) (xv m c)
/-- The cotangent of the normed input. -/
abbrev rh (c : Dev nD) : Vec Ideal S8192x1024 .f32 := val_main_v127 (F := Ideal) (xw m c) (xu m c) (xq m c) (xk m c) (xv m c)

/-- Every argument entry is a real number. -/
abbrev AllReal (c : Dev nD) : Prop := (∀ i, IsReal (xx m c i)) ∧ (∀ i, IsReal (xg m c i)) ∧ (∀ i, IsReal (xw m c i)) ∧ (∀ i, IsReal (xu m c i))
  ∧ (∀ i, IsReal (xq m c i)) ∧ (∀ i, IsReal (xk m c i)) ∧ (∀ i, IsReal (xv m c i)) ∧ ∀ i, IsReal (xd m c i)

/-! ## The input blocks -/

theorem u_host (c : Dev nD) (R : Fin 8192) (n : Fin 256) : (V m c main_v23 : Vec Ideal S8192x256 .bf16) (ix2 R n) = xu m c (ix2 R n) := by
  entry_read
  pointwise

theorem u_blk (c : Dev nD) (t : Fin cfg0.N) (r : Fin 512) (n : Fin 256) (R : Fin 8192) (h : (R : ℕ) = 512 * t.val + r) :
    (iblk m c 0 t : Vec Ideal S512x256 .bf16) (ix2 r n) = xu m c (ix2 R n) := by
  rw [← u_host m c R n]
  blk_ext [iblk, idx t]

theorem q_host (c : Dev nD) (R : Fin 8192) (n : Fin 768) : (V m c main_v24 : Vec Ideal S8192x768 .bf16) (ix2 R n) = xq m c (ix2 R n) := by
  entry_read
  pointwise

theorem q_blk (c : Dev nD) (t : Fin cfg0.N) (r : Fin 512) (n : Fin 768) (R : Fin 8192) (h : (R : ℕ) = 512 * t.val + r) :
    (iblk m c 1 t : Vec Ideal S512x768 .bf16) (ix2 r n) = xq m c (ix2 R n) := by
  rw [← q_host m c R n]
  blk_ext [iblk, idx t]

theorem k_host (c : Dev nD) (R : Fin 8192) (n : Fin 768) : (V m c main_v25 : Vec Ideal S8192x768 .bf16) (ix2 R n) = xk m c (ix2 R n) := by
  entry_read
  pointwise

theorem k_blk (c : Dev nD) (t : Fin cfg0.N) (r : Fin 512) (n : Fin 768) (R : Fin 8192) (h : (R : ℕ) = 512 * t.val + r) :
    (iblk m c 2 t : Vec Ideal S512x768 .bf16) (ix2 r n) = xk m c (ix2 R n) := by
  rw [← k_host m c R n]
  blk_ext [iblk, idx t]

theorem v_host (c : Dev nD) (R : Fin 8192) (n : Fin 768) : (V m c main_v26 : Vec Ideal S8192x768 .bf16) (ix2 R n) = xv m c (ix2 R n) := by
  entry_read
  pointwise

theorem v_blk (c : Dev nD) (t : Fin cfg0.N) (r : Fin 512) (n : Fin 768) (R : Fin 8192) (h : (R : ℕ) = 512 * t.val + r) :
    (iblk m c 3 t : Vec Ideal S512x768 .bf16) (ix2 r n) = xv m c (ix2 R n) := by
  rw [← v_host m c R n]
  blk_ext [iblk, idx t]

theorem cos_host (c : Dev nD) (R : Fin 8192) (n : Fin 128) : (V m c main_v16 : Vec Ideal S8192x128 .f32) (ix2 R n) = cosT R n := by
  entry_read
  pointwise
  rfl

theorem cos_blk (c : Dev nD) (t : Fin cfg0.N) (r : Fin 512) (n : Fin 128) (R : Fin 8192) (h : (R : ℕ) = 512 * t.val + r) :
    (iblk m c 4 t : Vec Ideal S512x128 .f32) (ix2 r n) = cosT R n := by
  rw [← cos_host m c R n]
  blk_ext [iblk, idx t]

theorem sin_host (c : Dev nD) (R : Fin 8192) (n : Fin 128) : (V m c main_v22 : Vec Ideal S8192x128 .f32) (ix2 R n) = sinT R n := by
  entry_read
  pointwise
  unfold sinT angle
  by_cases h : n.val % 64 < 32
  · rw [dif_pos h, if_pos h]
    have e : n.val % 64 = n.val % 32 := by omega
    simp only [e]
  · rw [dif_neg h, if_neg h]
    have e : n.val % 64 - 32 = n.val % 32 := by omega
    simp only [e]

theorem sin_blk (c : Dev nD) (t : Fin cfg0.N) (r : Fin 512) (n : Fin 128) (R : Fin 8192) (h : (R : ℕ) = 512 * t.val + r) :
    (iblk m c 5 t : Vec Ideal S512x128 .f32) (ix2 r n) = sinT R n := by
  rw [← sin_host m c R n]
  blk_ext [iblk, idx t]

theorem w_host (c : Dev nD) (l : Fin 2560) (j : Fin 1024) : (V m c main_v28 : Vec Ideal S2560x1024 .bf16) (ix2 l j) = xw m c (ix2 j l) := by
  entry_read
  pointwise

theorem w_blk (c : Dev nD) (t : Fin cfg0.N) (l : Fin 2560) (j : Fin 1024) :
    (iblk m c 6 t : Vec Ideal S2560x1024 .bf16) (ix2 l j) = xw m c (ix2 j l) := by
  rw [← w_host m c l j]
  blk_ext [iblk, idx t]

theorem x_blk (c : Dev nD) (t : Fin cfg0.N) (r : Fin 512) (n : Fin 1024) (R : Fin 8192) (h : (R : ℕ) = 512 * t.val + r) :
    (iblk m c 7 t : Vec Ideal S512x1024 .f32) (ix2 r n) = xx m c (ix2 R n) := by
  blk_ext! [iblk, V, idx t]

theorem d_blk (c : Dev nD) (t : Fin cfg0.N) (r : Fin 512) (n : Fin 1024) (R : Fin 8192) (h : (R : ℕ) = 512 * t.val + r) :
    (iblk m c 8 t : Vec Ideal S512x1024 .f32) (ix2 r n) = xd m c (ix2 R n) := by
  blk_ext! [iblk, V, idx t]

theorem g_blk (c : Dev nD) (t : Fin cfg0.N) (n : Fin 1024) : (iblk m c 9 t : Vec Ideal S1x1024 .f32) (ix2 0 n) = xg m c (ix2 0 n) := by
  blk_ext! [iblk, V, idx t]

/-! ## Reals -/

theorem rp_entry (c : Dev nD) (R : Fin 8192) (l : Fin 2560) :
    rp m c (ix2 R l) = proj (fun k => xu m c (ix2 R k)) (fun k => xq m c (ix2 R k)) (fun k => xk m c (ix2 R k)) (fun k => xv m c (ix2 R k)) (cosT R) (sinT R) l :=
  Entries.proj_apply _ _ _ _ R l

theorem rh_real (c : Dev nD) (hr : AllReal m c) (R : Fin 8192) (j : Fin 1024) : IsReal (rh m c (ix2 R j)) := by
  have e : rh m c (ix2 R j) = _ := Entries.dh_apply _ _ _ _ _ R j
  rw [e]
  refine IsReal.sum _ _ fun l _ => IsReal.mul ?_ (hr.2.2.1 _)
  refine (congrArg IsReal (rp_entry m c R l)).mpr ?_
  exact isReal_proj (fun _ => hr.2.2.2.1 _) (fun _ => hr.2.2.2.2.1 _) (fun _ => hr.2.2.2.2.2.1 _) (fun _ => hr.2.2.2.2.2.2.1 _)
    (isReal_cosT R) (isReal_sinT R) l

/-! ## A row of a tile is a row of the reference -/

theorem proj_row (c : Dev nD) (t : Fin cfg0.N) (r : Fin 512) (R : Fin 8192) (h : (R : ℕ) = 512 * t.val + r) (l : Fin 2560) :
    Step.pblk m c t (ix2 r l) = rp m c (ix2 R l) := by
  rw [rp_entry m c R l]
  show proj _ _ _ _ _ _ l = _
  exact congrFun (congr (congr (congr (congr (congr (congrArg proj (funext fun k => u_blk m c t r k R h)) (funext fun k => q_blk m c t r k R h))
    (funext fun k => k_blk m c t r k R h)) (funext fun k => v_blk m c t r k R h)) (funext fun k => cos_blk m c t r k R h))
    (funext fun k => sin_blk m c t r k R h)) l

theorem dh_row (c : Dev nD) (t : Fin cfg0.N) (r : Fin 512) (R : Fin 8192) (h : (R : ℕ) = 512 * t.val + r) (j : Fin 1024) :
    Step.dh (Step.pblk m c t) (iblk m c 6 t) r j = rh m c (ix2 R j) := by
  have e : rh m c (ix2 R j) = _ := Entries.dh_apply _ _ _ _ _ R j
  rw [e]
  unfold Step.dh
  refine Finset.sum_congr rfl fun l _ => ?_
  rw [proj_row m c t r R h l, w_blk m c t l j]

theorem gx_row (c : Dev nD) (hr : AllReal m c) (t : Fin cfg0.N) (r : Fin 512) (R : Fin 8192) (h : (R : ℕ) = 512 * t.val + r) (j : Fin 1024) :
    Step.gx (Step.pblk m c t) (iblk m c 6 t) (iblk m c 7 t) (iblk m c 8 t) (iblk m c 9 t) r j
      = val_main_v148 (F := Ideal) (xx m c) (xg m c) (xw m c) (xu m c) (xq m c) (xk m c) (xv m c) (xd m c) (ix2 R j) := by
  refine Eq.trans ?_ (Entries.dx_apply _ _ _ _ _ _ _ _ (rh_real m c hr) hr.1 hr.2.1 R j).symm
  unfold Step.gx
  rw [d_blk m c t r j R h, funext fun k => dh_row m c t r R h k, funext fun k => g_blk m c t k, funext fun k => x_blk m c t r k R h]

theorem dg_row (c : Dev nD) (t : Fin cfg0.N) (r : Fin 512) (R : Fin 8192) (h : (R : ℕ) = 512 * t.val + r) (j : Fin 1024) :
    Step.dgRow (Step.pblk m c t) (iblk m c 6 t) (iblk m c 7 t) j r = rh m c (ix2 R j) * (xx m c (ix2 R j) * rms fun k => xx m c (ix2 R k)) := by
  unfold Step.dgRow
  rw [dh_row m c t r R h j, funext fun k => x_blk m c t r k R h, x_blk m c t r j R h]

/-! ## The results -/

/-- The gradient of the layer's input. -/
theorem gx_final (c : Dev nD) (hr : AllReal m c) :
    (dats m 0 c).arrAt 10 cfg0.N = val_main_v148 (F := Ideal) (xx m c) (xg m c) (xw m c) (xu m c) (xq m c) (xk m c) (xv m c) (xd m c) := by
  refine (dats m 0 c).arrAt_eq_of_covers 10 _ (by decide +kernel) fun t hf (y : S512x1024.Idx) => ?_
  have ht : t.val < 16 := t.isLt
  obtain ⟨r, j, rfl⟩ : ∃ (r : Fin 512) (j : Fin 1024), y = ix2 r j := ⟨y 0, y 1, by idx_ext⟩
  obtain ⟨R, hR⟩ : ∃ R : Fin 8192, (R : ℕ) = 512 * t.val + r := ⟨⟨_, by omega⟩, rfl⟩
  have e : (win0_10.blk t).view.emb (ix2 r j) = ix2 R j := by blk_ext [idx t]
  blk_simp
  rw [after0_10, e, Step.gx_out]
  exact gx_row m c hr t r R hR j

/-- The cotangent of the projection. -/
theorem dproj_final (c : Dev nD) :
    (dats m 0 c).arrAt 11 cfg0.N = val_main_v150 (F := Ideal) (xu m c) (xq m c) (xk m c) (xv m c) := by
  refine (dats m 0 c).arrAt_eq_of_covers 11 _ (by decide +kernel) fun t hf (y : S512x2560.Idx) => ?_
  have ht : t.val < 16 := t.isLt
  obtain ⟨r, l, rfl⟩ : ∃ (r : Fin 512) (l : Fin 2560), y = ix2 r l := ⟨y 0, y 1, by idx_ext⟩
  obtain ⟨R, hR⟩ : ∃ R : Fin 8192, (R : ℕ) = 512 * t.val + r := ⟨⟨_, by omega⟩, rfl⟩
  have e : (win0_11.blk t).view.emb (ix2 r l) = ix2 R l := by blk_ext [idx t]
  blk_simp
  rw [after0_11, e, Step.dproj_out]
  exact proj_row m c t r R hR l

/-- The gradient of the norm's gain. -/
theorem dg_final (c : Dev nD) :
    (dats m 0 c).arrAt 12 cfg0.N = val_main_v149 (F := Ideal) (xx m c) (xw m c) (xu m c) (xq m c) (xk m c) (xv m c) := by
  refine (dats m 0 c).arrAt_eq_of_after_last 12 t0_15 (by decide +kernel) _ fun (y : S1x1024.Idx) => ?_
  obtain ⟨j, rfl⟩ : ∃ j : Fin 1024, y = ix2 0 j := ⟨y 1, by idx_ext⟩
  blk_simp
  rw [after0_12]
  refine (Pipeline.eq_sum_fin_of_reset_step_apply_last (fun n h => (outsAt0 m c n h).2.2) 16 (fun _ => (0 : EReal)) _
    (fun t h y => (Step.dg_A m c t h y).trans (zero_add _).symm) (fun t h y => Step.dg_B m c t h y) (le_of_eq N_0) t0_15 rfl (ix2 0 j)).trans ((zero_add _).trans ?_)
  refine Eq.trans ?_ (Entries.dg_apply _ _ _ _ _ _ j).symm
  exact Fin.sum_mul_add_congr fun t r hl => dg_row m c t r ⟨_, hl⟩ (by show t.val * 512 + r.val = _; omega) j

end Cert.InProjBwdIdeal.Final

namespace Cert.Proof.InProjBwdClaims

open Cert.InProjBwdIdeal.Final

/-- The kernel's three gradients and the reference's agree over the reals. -/
theorem algebraic : Cert.algebraic_InProjBwdIdeal_InProjBwdRefIdeal_pre_inproj_finite := by
  intro m g m' g' hp hm
  have hr : ∀ c, AllReal m c := fun c => Cert.Pre_inproj_finite.all_real _ _ _ _ _ _ _ _ (hp c)
  refine ⟨_, _, _, Cert.InProjBwdIdeal.Value.run_blocks m g, θ_run_mono (Cert.InProjBwdRefIdeal.Value.run m' g') fun r h c =>
    ⟨(h c).1.trans ?_, (h c).2.1.trans ?_, (h c).2.2.1.trans ?_, (h c).2.2.2⟩⟩
  · refine (Cert.InProjBwdRefIdeal.Read.val_main_v148_eq m' c).trans ?_
    rw [(hm c).1, (hm c).2.1, (hm c).2.2.1, (hm c).2.2.2.1, (hm c).2.2.2.2.1, (hm c).2.2.2.2.2.1, (hm c).2.2.2.2.2.2.1, (hm c).2.2.2.2.2.2.2]
    exact (gx_final m c (hr c)).symm
  · refine (Cert.InProjBwdRefIdeal.Read.val_main_v150_eq m' c).trans ?_
    rw [(hm c).2.2.2.1, (hm c).2.2.2.2.1, (hm c).2.2.2.2.2.1, (hm c).2.2.2.2.2.2.1]
    exact (dproj_final m c).symm
  · refine (Cert.InProjBwdRefIdeal.Read.val_main_v149_eq m' c).trans ?_
    rw [(hm c).1, (hm c).2.2.1, (hm c).2.2.2.1, (hm c).2.2.2.2.1, (hm c).2.2.2.2.2.1, (hm c).2.2.2.2.2.2.1]
    exact (dg_final m c).symm

end Cert.Proof.InProjBwdClaims

end
-- ==== Proof.PoolFwd.Step.lean ====
/- What one grid point of the pooling computes: 2048 rows. -/
module

public import proofs.«01_k».proof.Proof.PoolBwd.Step
public import proofs.«01_k».proof.Proof.Gen.PoolFwdIdeal.Value

@[expose] public section

noncomputable section

namespace Cert.PoolFwdIdeal.Step

open Idealize.ShloMosaic Idealize.ShloMosaic.TcCoe Idealize.SL.Sem
open Cert.PoolFwdIdeal Cert.PoolFwdIdeal.Gen Cert.PoolFwdIdeal.Value
open Cert.Windows
open Cert.PoolBwdIdeal (Step.ext Step.diff Step.count_word Step.two_apply Step.four_apply Step.eight_apply Step.sixteen_apply)

/-! ## The groups of lanes -/

theorem group_ext (x : S2064x256.Idx) : k0_pay6 x = BitVec.ofNat 32 ((x 1 : Fin 256).val / 64) :=
  (by decide +kernel : ∀ l : Fin 256, k0_pay6 (ix2 0 l) = BitVec.ofNat 32 (l.val / 64)) (x 1)

theorem group_tile (x : S2048x256.Idx) : k0_pay8 x = BitVec.ofNat 32 ((x 1 : Fin 256).val / 64) :=
  (by decide +kernel : ∀ l : Fin 256, k0_pay8 (ix2 0 l) = BitVec.ofNat 32 (l.val / 64)) (x 1)

/-! ## The rows -/

section
variable (i : grid0.Coords) (halo : Vec Ideal S16x256 .f32) (u : Vec Ideal S2048x256 .f32)

/-- The sum over the lane's window; the backward pass takes the same sums over two, four, eight and sixteen rows. -/
abbrev windows : FVec Ideal S2048x256 .f32 := k0_pay7 (k0_pay2 i halo u) (k0_pay3 i halo u) (k0_pay4 i halo u) (k0_pay5 i halo u) k0_pay6 0#32

theorem window_apply (r : Fin 2048) (l : Fin 256) : windows i halo u (ix2 r l) = back (Step.ext (i 0).val halo u l) (win l) (16 + r) := by
  have hr := r.isLt
  have e2 : ∀ (q : Fin 2064), 1 ≤ q.val → k0_pay2 (F := Ideal) i halo u (ix2 q l) = back (Step.ext (i 0).val halo u l) 2 q := fun q hq => Step.two_apply i halo u q l hq
  have e4 : ∀ (q : Fin 2064), 3 ≤ q.val → k0_pay3 (F := Ideal) i halo u (ix2 q l) = back (Step.ext (i 0).val halo u l) 4 q := fun q hq => Step.four_apply i halo u q l hq
  have e8 : ∀ (q : Fin 2064), 7 ≤ q.val → k0_pay4 (F := Ideal) i halo u (ix2 q l) = back (Step.ext (i 0).val halo u l) 8 q := fun q hq => Step.eight_apply i halo u q l hq
  have e16 : ∀ (q : Fin 2064), 15 ≤ q.val → k0_pay5 (F := Ideal) i halo u (ix2 q l) = back (Step.ext (i 0).val halo u l) 16 q := fun q hq => Step.sixteen_apply i halo u q l hq
  unfold windows
  generalize k0_pay2 (F := Ideal) i halo u = p2 at e2 ⊢
  generalize k0_pay3 (F := Ideal) i halo u = p4 at e4 ⊢
  generalize k0_pay4 (F := Ideal) i halo u = p8 at e8 ⊢
  generalize k0_pay5 (F := Ideal) i halo u = p16 at e16 ⊢
  pointwise [k0_pay7]
  rw [group_ext, e2, e4, e8, e16]
  · exact choose_group (fun n => back (Step.ext (i 0).val halo u l) n (16 + r)) l
  all_goals (show _ ≤ 16 + r.val; omega)

/-- The product with the weights, scaled. -/
def pooled (w : Vec Ideal S256x256 .bf16) (sc : Vec Ideal S1x256 .f32) (r : Fin 2048) (l : Fin 256) : EReal :=
  (∑ k : Fin 256, Step.diff (i 0).val halo u r k * (w (ix2 k l) : EReal)) * sc (ix2 0 l)

theorem pooled_apply (w : Vec Ideal S256x256 .bf16) (sc : Vec Ideal S1x256 .f32) (r : Fin 2048) (l : Fin 256) :
    k0_pay1 (F := Ideal) u (windows i halo u) (k0_pay9 (Scalar.muli (BitVec.ofNat 32 (i 0).val) 2048#32)) k0_pay10 k0_pay11 k0_pay12 k0_pay13 k0_pay14 w sc (ix2 r l)
      = pooled i halo u w sc r l := by
  have hi : (i 0).val < 4 := (i 0).isLt
  have hW := window_apply i halo u r
  generalize windows i halo u = W at hW ⊢
  pointwise [k0_pay1, k0_pay9, k0_pay10, k0_pay11, k0_pay12, k0_pay13, k0_pay14]
  refine congrArg (· * (sc (ix2 0 l) : EReal)) (Finset.sum_congr rfl fun k _ => congrArg (· * (w (ix2 k l) : EReal)) ?_)
  rw [group_tile, hW]
  refine congrArg (· - (u (ix2 r k) : EReal)) ?_
  exact congrArg (Ideal.div _) (Step.count_word _ _ hi (by omega) k)

end

theorem pooled_out (i : grid0.Coords) (u : Vec Ideal S2048x256 .f32) (halo : Vec Ideal S16x256 .f32) (w : Vec Ideal S256x256 .bf16) (sc : Vec Ideal S1x256 .f32)
    (r : Fin 2048) (l : Fin 256) : out0_4 i u halo w sc (ix2 r l) = pooled i halo u w sc r l := by
  frame_out
  exact pooled_apply i halo u w sc r l

end Cert.PoolFwdIdeal.Step

end
-- ==== Proof.PoolFwd.Ref.lean ====
/- The entries of the pooling's reference; the backward pass's reference computes the same product on its way. -/
module

public import proofs.«01_k».proof.Proof.PoolBwd.Entries
public import proofs.«01_k».proof.Proof.Gen.PoolFwdRefIdeal.Read

@[expose] public section

noncomputable section

open Idealize.ShloMosaic

namespace Cert.PoolFwdRefIdeal.Entries

open Cert.PoolFwdRefIdeal Cert.PoolFwdRefIdeal.Read
open Cert.Windows Cert.Reals
open Cert.PoolBwdRefIdeal.Entries (lane d)

variable (x0 : FVec Ideal S8192x256 .f32) (x1 : FVec Ideal S4x64x64 .f32) (x2 : FVec Ideal S1x256 .f32)

/-- The trailing means less the tokens are those of the backward pass's reference. -/
theorem same_means : val_main_v77 (F := Ideal) x0 = Cert.PoolBwdRefIdeal.Read.val_main_v81 (F := Ideal) x0 := rfl

/-- So is the product with the weights. -/
theorem same_product : val_main_v80 (F := Ideal) x0 x1 = Cert.PoolBwdRefIdeal.Read.val_main_v84 (F := Ideal) x0 x1 := rfl

theorem pooled_apply (hx : ∀ i, IsReal (x0 i)) (t : Fin 8192) (g : Fin 4) (a : Fin 64) :
    val_main_v85 (F := Ideal) x0 x1 x2 (ix2 t (lane g a)) = (∑ k : Fin 64, (x1 (ix3 g k a) : EReal) * d x0 t (lane g k)) * x2 (ix2 (0 : Fin 1) (lane g a)) := by
  rw [← Cert.PoolBwdRefIdeal.Entries.z_apply x0 x1 hx t g a, ← same_product]
  generalize lane g a = l
  pointwise [val_main_v85, val_main_v84, val_main_v83, val_main_v82, val_main_v81, val_main_v1]

end Cert.PoolFwdRefIdeal.Entries

end
-- ==== Proof.PoolFwd.Finite.lean ====
/- The tokens of the pooling are real under its precondition. -/
module

public import proofs.«01_k».proof.Proof.Reals

@[expose] public section

noncomputable section

namespace Cert.Pre_tokens_finite

open Idealize.ShloMosaic
open Cert.Reals

variable [Facts]

theorem all_real (x0 : FVec Ideal S8192x256 .f32) (x1 : FVec Ideal S4x64x64 .f32) (x2 : FVec Ideal S1x256 .f32)
    (h : fn (F := Ideal) x0 x1 x2 = fun _ => 1#1) : ∀ i, IsReal (x0 i) := by
  have e := congrFun h fun a => a.elim0
  haveI : Subsingleton S_.Idx := ⟨fun _ _ => funext fun a => a.elim0⟩
  unfold fn at e
  exact isReal_of_all _ _ _ _ _ _ (fun _ => ofBits_inf) e

end Cert.Pre_tokens_finite

end
-- ==== Proof.PoolFwd.Final.lean ====
/- The rows the pooling leaves are the reference's. -/
module

public import proofs.«01_k».proof.Proof.PoolBwd.Rows
public import proofs.«01_k».proof.Proof.PoolFwd.Step
public import proofs.«01_k».proof.Proof.PoolFwd.Ref
public import proofs.«01_k».proof.Proof.PoolFwd.Finite
public import proofs.«01_k».proof.Proof.Gen.Pre_tokens_finite

@[expose] public section

noncomputable section

open Idealize.ShloMosaic Idealize.ShloMosaic.TcCoe Idealize.SL.Sem

namespace Cert.PoolFwdIdeal.Final

open Cert.PoolFwdIdeal Cert.PoolFwdIdeal.Gen Cert.PoolFwdIdeal.Value
open Cert.PoolBwdRefIdeal.Entries (lane)
open Cert.PoolBwdIdeal (Final.on_diagonal Final.sum_lanes Final.sum_diagonal Final.diff_of)
open Cert.PoolFwdRefIdeal.Read (val_main_v85)
open Cert.Reals

variable (m : (ℓ : Loc nD τ sig) → Buf (Elt Ideal) ℓ)

/-- Which block of each array a grid point sees. -/
theorem idx : ∀ t : Fin cfg0.N,
    win0_0.index t = ![t.val, 0] ∧ win0_1.index t = ![t.val * 128 - 1, 0] ∧ win0_2.index t = ![0, 0] ∧ win0_3.index t = ![0, 0] ∧ win0_4.index t = ![t.val, 0] :=
  (by decide +kernel : ∀ t : Fin grid0.N, _)

theorem tile : ∀ t : Fin cfg0.N, (grid0.coords t 0).val = t.val := (by decide +kernel : ∀ t : Fin grid0.N, _)

/-- The tokens. -/
abbrev xu (c : Dev nD) : Vec Ideal S8192x256 .f32 := m ((c : Thread nD τ).loc main_arg0)
/-- The groups' weights. -/
abbrev xw (c : Dev nD) : Vec Ideal S4x64x64 .f32 := m ((c : Thread nD τ).loc main_arg1)
/-- The scale. -/
abbrev xs (c : Dev nD) : Vec Ideal S1x256 .f32 := m ((c : Thread nD τ).loc main_arg2)

theorem u_blk (c : Dev nD) (t : Fin cfg0.N) (r : Fin 2048) (l : Fin 256) (R : Fin 8192) (h : (R : ℕ) = 2048 * t.val + r) :
    (iblk m c 0 t : Vec Ideal S2048x256 .f32) (ix2 r l) = xu m c (ix2 R l) := by
  blk_ext! [iblk, V, idx t]

theorem before_blk (c : Dev nD) (t : Fin cfg0.N) (h0 : 0 < t.val) (q : Fin 16) (l : Fin 256) (R : Fin 8192) (h : (R : ℕ) + 16 = 2048 * t.val + q) :
    (iblk m c 1 t : Vec Ideal S16x256 .f32) (ix2 q l) = xu m c (ix2 R l) := by
  blk_ext! [iblk, V, idx t]

theorem s_blk (c : Dev nD) (t : Fin cfg0.N) (l : Fin 256) : (iblk m c 3 t : Vec Ideal S1x256 .f32) (ix2 0 l) = xs m c (ix2 0 l) := by
  blk_ext! [iblk, V, idx t]

/-- The groups' weights on the diagonal. -/
theorem diagonal (c : Dev nD) (g h : Fin 4) (a b : Fin 64) :
    (V m c main_v13 : Vec Ideal S256x256 .bf16) (ix2 (lane g a) (lane h b)) = (if g = h then (xw m c (ix3 g a b) : EReal) else (0 : EReal) : EReal) := by
  entry_read
  pointwise
  simp only [Host.clampedStart, Matrix.cons_val_zero, Matrix.cons_val_one]
  after_results_simp
  after_results_loop
  exact Final.on_diagonal (xw m c) g h a b

theorem w_blk (c : Dev nD) (t : Fin cfg0.N) (g h : Fin 4) (a b : Fin 64) :
    (iblk m c 2 t : Vec Ideal S256x256 .bf16) (ix2 (lane g a) (lane h b)) = (if g = h then (xw m c (ix3 g a b) : EReal) else (0 : EReal) : EReal) := by
  rw [← diagonal m c g h a b]
  blk_ext [iblk, idx t]

/-- A row of a tile is a row of the reference. -/
theorem pooled_row (c : Dev nD) (hx : ∀ i, IsReal (xu m c i)) (t : Fin cfg0.N) (r : Fin 2048) (g : Fin 4) (a : Fin 64) (R : Fin 8192) (hR : (R : ℕ) = 2048 * t.val + r) :
    Step.pooled (grid0.coords t) (iblk m c 1 t) (iblk m c 0 t) (iblk m c 2 t) (iblk m c 3 t) r (lane g a)
      = val_main_v85 (F := Ideal) (xu m c) (xw m c) (xs m c) (ix2 R (lane g a)) := by
  rw [Cert.PoolFwdRefIdeal.Entries.pooled_apply _ _ _ hx R g a]
  unfold Step.pooled
  rw [s_blk m c t, tile, Final.sum_lanes]
  refine congrArg (· * (xs m c (ix2 0 (lane g a)) : EReal)) ?_
  refine (Finset.sum_congr rfl fun h _ => Finset.sum_congr rfl fun b _ => congrArg₂ (fun x y : EReal => x * y)
    (Final.diff_of t.val t.isLt _ _ (xu m c) (u_blk m c t) (before_blk m c t) r (lane h b) R hR) (w_blk m c t h g b a)).trans ?_
  refine (Final.sum_diagonal (fun l => Cert.PoolBwdRefIdeal.Entries.d (xu m c) R l) (fun h b => if h = g then (xw m c (ix3 h b a) : EReal) else (0 : EReal)) g
    fun h b => ?_).trans ?_
  · by_cases e : h = g
    · exact .inr e
    · exact .inl (if_neg e)
  · exact Finset.sum_congr rfl fun b _ => by rw [if_pos rfl, mul_comm]

/-- Every lane is a lane of its group. -/
theorem lane_of (l : Fin 256) : ∃ (g : Fin 4) (a : Fin 64), l = lane g a :=
  ⟨⟨l / 64, by omega⟩, ⟨l % 64, by omega⟩, Fin.ext (by show l.val = l.val / 64 * 64 + l.val % 64; omega)⟩

/-- The pooled rows. -/
theorem pooled_final (c : Dev nD) (hx : ∀ i, IsReal (xu m c i)) :
    (dats m 0 c).arrAt 4 cfg0.N = val_main_v85 (F := Ideal) (xu m c) (xw m c) (xs m c) := by
  refine (dats m 0 c).arrAt_eq_of_covers 4 _ (by decide +kernel) fun t hf (y : S2048x256.Idx) => ?_
  have ht : t.val < 4 := t.isLt
  obtain ⟨r, l, rfl⟩ : ∃ (r : Fin 2048) (l : Fin 256), y = ix2 r l := ⟨y 0, y 1, by idx_ext⟩
  obtain ⟨R, hR⟩ : ∃ R : Fin 8192, (R : ℕ) = 2048 * t.val + r := ⟨⟨_, by omega⟩, rfl⟩
  obtain ⟨g, a, rfl⟩ := lane_of l
  have e : (win0_4.blk t).view.emb (ix2 r (lane g a)) = ix2 R (lane g a) := by blk_ext [idx t]
  blk_simp
  rw [after0_4, e, Step.pooled_out]
  exact pooled_row m c hx t r g a R hR

end Cert.PoolFwdIdeal.Final

namespace Cert.Proof.PoolFwdClaims

open Cert.PoolFwdIdeal.Final

/-- The kernel's rows and the reference's agree over the reals. -/
theorem algebraic : Cert.algebraic_PoolFwdIdeal_PoolFwdRefIdeal_pre_tokens_finite := by
  intro m g m' g' hp hm
  refine ⟨_, Cert.PoolFwdIdeal.Value.run_blocks m g, θ_run_mono (Cert.PoolFwdRefIdeal.Value.run m' g') fun r h c => ⟨(h c).1.trans ?_, (h c).2⟩⟩
  refine (Cert.PoolFwdRefIdeal.Read.val_main_v85_eq m' c).trans ?_
  rw [(hm c).1, (hm c).2.1, (hm c).2.2]
  exact (pooled_final m c (Cert.Pre_tokens_finite.all_real _ _ _ (hp c))).symm

end Cert.Proof.PoolFwdClaims

end
-- ==== Proof.OutProj.Step.lean ====
/- What one grid point of the output projection computes: 1024 rows of the mixed branches, the residual sum and its norm. -/
module

public import proofs.«01_k».proof.Proof.Norm
public import proofs.«01_k».proof.Proof.Gen.OutProjIdeal.Value
public import Idealize.ShloMosaic.Lib.Pipeline.ValueKit
public import Idealize.ShloMosaic.Lib.Pointwise

@[expose] public section

noncomputable section

open Idealize.ShloMosaic Idealize.ShloMosaic.TcCoe Idealize.SL.Sem

namespace Cert.OutProjIdeal.Step

open Cert.OutProjIdeal Cert.OutProjIdeal.Gen Cert.OutProjIdeal.Value
open Cert.Norm

/-- The mixed branches: the pooled lanes against the first 256 rows of the weight, the attention lanes against the rest. -/
def mix (p : Vec Ideal S1024x256 .bf16) (a : Vec Ideal S1024x768 .bf16) (w : Vec Ideal S1024x1024 .bf16) (r j : Fin 1024) : EReal :=
  (∑ k : Fin 256, (p (ix2 r k) : EReal) * w (ix2 ⟨k, by omega⟩ j)) + ∑ k : Fin 768, (a (ix2 r k) : EReal) * w (ix2 ⟨256 + k, by omega⟩ j)

/-- The residual sum. -/
def sum (p : Vec Ideal S1024x256 .bf16) (a : Vec Ideal S1024x768 .bf16) (w : Vec Ideal S1024x1024 .bf16) (x : Vec Ideal S1024x1024 .f32) (g : Vec Ideal S1x1024 .f32)
    (r j : Fin 1024) : EReal :=
  x (ix2 r j) + mix p a w r j * rms (mix p a w r) * g (ix2 0 j)

/-- Its norm. -/
def nrm (p : Vec Ideal S1024x256 .bf16) (a : Vec Ideal S1024x768 .bf16) (w : Vec Ideal S1024x1024 .bf16) (x : Vec Ideal S1024x1024 .f32) (g g3 : Vec Ideal S1x1024 .f32)
    (r j : Fin 1024) : EReal :=
  sum p a w x g r j * rms (sum p a w x g r) * g3 (ix2 0 j)

/-- The first rows of the weight. -/
theorem w_top (w : Vec Ideal S1024x1024 .bf16) (k : Fin 256) (j : Fin 1024) : View.ld w r0_1 (ix2 k j) = w (ix2 ⟨k, by omega⟩ j) :=
  congrArg w (by idx_ext)

/-- The other rows of the weight. -/
theorem w_rest (w : Vec Ideal S1024x1024 .bf16) (k : Fin 768) (j : Fin 1024) : View.ld w r0_3 (ix2 k j) = w (ix2 ⟨256 + k, by omega⟩ j) :=
  congrArg w (by idx_ext)

theorem mix_apply (p : Vec Ideal S1024x256 .bf16) (a : Vec Ideal S1024x768 .bf16) (w : Vec Ideal S1024x1024 .bf16) (r j : Fin 1024) :
    k0_pay2 (F := Ideal) p (View.ld w r0_1) a (View.ld w r0_3) (ix2 r j) = mix p a w r j := by
  have e1 := fun k => w_top w k j
  have e2 := fun k => w_rest w k j
  generalize View.ld w r0_1 = w1 at e1 ⊢
  generalize View.ld w r0_3 = w2 at e2 ⊢
  pointwise [k0_pay2]
  exact congr (congrArg HAdd.hAdd (Finset.sum_congr rfl fun k _ => congrArg _ (e1 k))) (Finset.sum_congr rfl fun k _ => congrArg _ (e2 k))

theorem sum_apply (p : Vec Ideal S1024x256 .bf16) (a : Vec Ideal S1024x768 .bf16) (w : Vec Ideal S1024x1024 .bf16) (x : Vec Ideal S1024x1024 .f32) (g : Vec Ideal S1x1024 .f32)
    (r j : Fin 1024) : k0_pay3 (F := Ideal) p (View.ld w r0_1) a (View.ld w r0_3) x g (ix2 r j) = sum p a w x g r j := by
  have e := mix_apply p a w r
  unfold k0_pay3
  generalize k0_pay2 (F := Ideal) p (View.ld w r0_1) a (View.ld w r0_3) = q at e ⊢
  unfold sum
  rw [← funext e]
  pointwise []
  rfl

theorem nrm_apply (p : Vec Ideal S1024x256 .bf16) (a : Vec Ideal S1024x768 .bf16) (w : Vec Ideal S1024x1024 .bf16) (x : Vec Ideal S1024x1024 .f32) (g g3 : Vec Ideal S1x1024 .f32)
    (r j : Fin 1024) :
    k0_pay1 (F := Ideal) (k0_pay3 p (View.ld w r0_1) a (View.ld w r0_3) x g) (k0_pay4 p (View.ld w r0_1) a (View.ld w r0_3) x g) (Scalar.ofBits .f32 0x358637BD#32) g3 (ix2 r j)
      = nrm p a w x g g3 r j := by
  have e := sum_apply p a w x g r
  unfold k0_pay4
  generalize k0_pay3 (F := Ideal) p (View.ld w r0_1) a (View.ld w r0_3) x g = q at e ⊢
  unfold nrm
  rw [← funext e]
  pointwise [k0_pay1]
  rfl

theorem mix_out (p : Vec Ideal S1024x256 .bf16) (a : Vec Ideal S1024x768 .bf16) (w : Vec Ideal S1024x1024 .bf16) (x : Vec Ideal S1024x1024 .f32) (g g3 : Vec Ideal S1x1024 .f32)
    (r j : Fin 1024) : out0_6 p a w x g g3 (ix2 r j) = mix p a w r j := by
  frame_out
  exact mix_apply p a w r j

theorem sum_out (p : Vec Ideal S1024x256 .bf16) (a : Vec Ideal S1024x768 .bf16) (w : Vec Ideal S1024x1024 .bf16) (x : Vec Ideal S1024x1024 .f32) (g g3 : Vec Ideal S1x1024 .f32)
    (r j : Fin 1024) : out0_7 p a w x g g3 (ix2 r j) = sum p a w x g r j := by
  frame_out
  exact sum_apply p a w x g r j

theorem nrm_out (p : Vec Ideal S1024x256 .bf16) (a : Vec Ideal S1024x768 .bf16) (w : Vec Ideal S1024x1024 .bf16) (x : Vec Ideal S1024x1024 .f32) (g g3 : Vec Ideal S1x1024 .f32)
    (r j : Fin 1024) : out0_8 p a w x g g3 (ix2 r j) = nrm p a w x g g3 r j := by
  frame_out
  exact nrm_apply p a w x g g3 r j

end Cert.OutProjIdeal.Step

end
-- ==== Proof.OutProj.Ref.lean ====
/- The entries of the output projection, in the reference's spelling. -/
module

public import proofs.«01_k».proof.Proof.Norm
public import proofs.«01_k».proof.Proof.Gen.OutProjRefIdeal.Read
public import Idealize.ShloMosaic.Lib.Pointwise

@[expose] public section

noncomputable section

open Idealize.ShloMosaic

namespace Cert.OutProjRefIdeal.Entries

open Cert.OutProjRefIdeal Cert.OutProjRefIdeal.Read
open Cert.Norm

variable (x0 : FVec Ideal S8192x256 .f32) (x1 : FVec Ideal S8192x768 .f32) (x2 : FVec Ideal S1024x1024 .f32) (x3 : FVec Ideal S8192x1024 .f32) (x4 x5 : FVec Ideal S1x1024 .f32)

/-- The pooled lanes of the joined branches. -/
theorem lane_pool (R : Fin 8192) (k : Fin 256) : val_main_v0 (F := Ideal) x0 x1 (ix2 R ⟨k, by omega⟩) = x0 (ix2 R k) := by
  pointwise [val_main_v0]

/-- The attention lanes of the joined branches. -/
theorem lane_attn (R : Fin 8192) (k : Fin 768) : val_main_v0 (F := Ideal) x0 x1 (ix2 R ⟨256 + k, by omega⟩) = x1 (ix2 R k) := by
  pointwise [val_main_v0]

/-- A sum over the joined lanes is the sum over the pooled ones and the sum over the attention's. -/
theorem sum_split (f : Fin 1024 → EReal) : ∑ k : Fin 1024, f k = (∑ k : Fin 256, f ⟨k, by omega⟩) + ∑ k : Fin 768, f ⟨256 + k, by omega⟩ :=
  Fin.sum_univ_add (a := 256) (b := 768) f

theorem mix_apply (R : Fin 8192) (j : Fin 1024) :
    val_main_v1 (F := Ideal) x0 x1 x2 (ix2 R j)
      = (∑ k : Fin 256, (x0 (ix2 R k) : EReal) * x2 (ix2 ⟨k, by omega⟩ j)) + ∑ k : Fin 768, (x1 (ix2 R k) : EReal) * x2 (ix2 ⟨256 + k, by omega⟩ j) := by
  have e0 := lane_pool x0 x1 R
  have e1 := lane_attn x0 x1 R
  unfold val_main_v1
  generalize val_main_v0 (F := Ideal) x0 x1 = q at e0 e1 ⊢
  pointwise []
  refine (sum_split _).trans ?_
  exact congr (congrArg HAdd.hAdd (Finset.sum_congr rfl fun k _ => congrArg (· * _) (e0 k))) (Finset.sum_congr rfl fun k _ => congrArg (· * _) (e1 k))

theorem sum_apply (R : Fin 8192) (j : Fin 1024) :
    val_main_v16 (F := Ideal) x0 x1 x2 x3 x4 (ix2 R j)
      = x3 (ix2 R j) + (val_main_v1 (F := Ideal) x0 x1 x2 (ix2 R j) : EReal) * rms (fun k => val_main_v1 (F := Ideal) x0 x1 x2 (ix2 R k)) * x4 (ix2 0 j) := by
  pointwise [val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3, val_main_cst_4]
  rfl

theorem nrm_apply (R : Fin 8192) (j : Fin 1024) :
    val_main_v31 (F := Ideal) x0 x1 x2 x3 x4 x5 (ix2 R j)
      = (val_main_v16 (F := Ideal) x0 x1 x2 x3 x4 (ix2 R j) : EReal) * rms (fun k => val_main_v16 (F := Ideal) x0 x1 x2 x3 x4 (ix2 R k)) * x5 (ix2 0 j) := by
  pointwise [val_main_v31, val_main_v30, val_main_v29, val_main_v28, val_main_v27, val_main_v26, val_main_v25, val_main_v24, val_main_v23, val_main_v22, val_main_v21, val_main_v20, val_main_v19, val_main_v18, val_main_v17, val_main_cst, val_main_cst_0, val_main_cst_1, val_main_cst_2, val_main_cst_3, val_main_cst_4]
  rfl

end Cert.OutProjRefIdeal.Entries

end
-- ==== Proof.OutProj.Final.lean ====
/- The arrays the output projection leaves are the reference's. -/
module

public import proofs.«01_k».proof.Proof.OutProj.Step
public import proofs.«01_k».proof.Proof.OutProj.Ref

@[expose] public section

noncomputable section

open Idealize.ShloMosaic Idealize.ShloMosaic.TcCoe Idealize.SL.Sem

namespace Cert.OutProjIdeal.Final

open Cert.OutProjIdeal Cert.OutProjIdeal.Gen Cert.OutProjIdeal.Value
open Cert.OutProjRefIdeal.Read (val_main_v1 val_main_v16 val_main_v31)
open Cert.OutProjRefIdeal (Entries.mix_apply Entries.sum_apply Entries.nrm_apply)
open Cert.Norm

variable (m : (ℓ : Loc nD τ sig) → Buf (Elt Ideal) ℓ)

/-- Which block of each array a grid point sees: point `t` is slab `t` of the rows. -/
theorem idx : ∀ t : Fin cfg0.N,
    win0_0.index t = ![t.val, 0] ∧ win0_1.index t = ![t.val, 0] ∧ win0_2.index t = ![0, 0] ∧ win0_3.index t = ![t.val, 0]
      ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- The pooled branch. -/
abbrev xp (c : Dev nD) : Vec Ideal S8192x256 .f32 := m ((c : Thread nD τ).loc main_arg0)
/-- The attention branch. -/
abbrev xa (c : Dev nD) : Vec Ideal S8192x768 .f32 := m ((c : Thread nD τ).loc main_arg1)
/-- The weight. -/
abbrev xw (c : Dev nD) : Vec Ideal S1024x1024 .f32 := m ((c : Thread nD τ).loc main_arg2)
/-- The layer's input. -/
abbrev xx (c : Dev nD) : Vec Ideal S8192x1024 .f32 := m ((c : Thread nD τ).loc main_arg3)
/-- The gain of the norm after the projection. -/
abbrev g2 (c : Dev nD) : Vec Ideal S1x1024 .f32 := m ((c : Thread nD τ).loc main_arg4)
/-- The gain of the norm before the feed-forward layer. -/
abbrev g3 (c : Dev nD) : Vec Ideal S1x1024 .f32 := m ((c : Thread nD τ).loc main_arg5)

/-! ## The input blocks -/

theorem p_blk (c : Dev nD) (t : Fin cfg0.N) (r : Fin 1024) (n : Fin 256) (R : Fin 8192) (h : (R : ℕ) = 1024 * t.val + r) :
    (iblk m c 0 t : Vec Ideal S1024x256 .bf16) (ix2 r n) = xp m c (ix2 R n) := by
  blk_ext! [iblk, V, idx t]

theorem a_blk (c : Dev nD) (t : Fin cfg0.N) (r : Fin 1024) (n : Fin 768) (R : Fin 8192) (h : (R : ℕ) = 1024 * t.val + r) :
    (iblk m c 1 t : Vec Ideal S1024x768 .bf16) (ix2 r n) = xa m c (ix2 R n) := by
  blk_ext! [iblk, V, idx t]

theorem w_blk (c : Dev nD) (t : Fin cfg0.N) (k n : Fin 1024) : (iblk m c 2 t : Vec Ideal S1024x1024 .bf16) (ix2 k n) = xw m c (ix2 k n) := by
  blk_ext! [iblk, V, idx t]

theorem x_blk (c : Dev nD) (t : Fin cfg0.N) (r : Fin 1024) (n : Fin 1024) (R : Fin 8192) (h : (R : ℕ) = 1024 * t.val + r) :
    (iblk m c 3 t : Vec Ideal S1024x1024 .f32) (ix2 r n) = xx m c (ix2 R n) := by
  blk_ext! [iblk, V, idx t]

theorem g2_blk (c : Dev nD) (t : Fin cfg0.N) (n : Fin 1024) : (iblk m c 4 t : Vec Ideal S1x1024 .f32) (ix2 0 n) = g2 m c (ix2 0 n) := by
  blk_ext! [iblk, V, idx t]

theorem g3_blk (c : Dev nD) (t : Fin cfg0.N) (n : Fin 1024) : (iblk m c 5 t : Vec Ideal S1x1024 .f32) (ix2 0 n) = g3 m c (ix2 0 n) := by
  blk_ext! [iblk, V, idx t]

/-! ## A row of a tile is a row of the reference -/

theorem mix_row (c : Dev nD) (t : Fin cfg0.N) (r : Fin 1024) (R : Fin 8192) (h : (R : ℕ) = 1024 * t.val + r) (j : Fin 1024) :
    Step.mix (iblk m c 0 t) (iblk m c 1 t) (iblk m c 2 t) r j = val_main_v1 (F := Ideal) (xp m c) (xa m c) (xw m c) (ix2 R j) := by
  refine Eq.trans ?_ (Entries.mix_apply _ _ _ R j).symm
  exact congr (congrArg HAdd.hAdd (Finset.sum_congr rfl fun k _ => congrArg₂ (fun a b : EReal => a * b) (p_blk m c t r k R h) (w_blk m c t _ j)))
    (Finset.sum_congr rfl fun k _ => congrArg₂ (fun a b : EReal => a * b) (a_blk m c t r k R h) (w_blk m c t _ j))

theorem sum_row (c : Dev nD) (t : Fin cfg0.N) (r : Fin 1024) (R : Fin 8192) (h : (R : ℕ) = 1024 * t.val + r) (j : Fin 1024) :
    Step.sum (iblk m c 0 t) (iblk m c 1 t) (iblk m c 2 t) (iblk m c 3 t) (iblk m c 4 t) r j
      = val_main_v16 (F := Ideal) (xp m c) (xa m c) (xw m c) (xx m c) (g2 m c) (ix2 R j) := by
  refine Eq.trans ?_ (Entries.sum_apply _ _ _ _ _ R j).symm
  unfold Step.sum
  rw [funext fun k => mix_row m c t r R h k, x_blk m c t r j R h, g2_blk m c t j]

theorem nrm_row (c : Dev nD) (t : Fin cfg0.N) (r : Fin 1024) (R : Fin 8192) (h : (R : ℕ) = 1024 * t.val + r) (j : Fin 1024) :
    Step.nrm (iblk m c 0 t) (iblk m c 1 t) (iblk m c 2 t) (iblk m c 3 t) (iblk m c 4 t) (iblk m c 5 t) r j
      = val_main_v31 (F := Ideal) (xp m c) (xa m c) (xw m c) (xx m c) (g2 m c) (g3 m c) (ix2 R j) := by
  refine Eq.trans ?_ (Entries.nrm_apply _ _ _ _ _ _ R j).symm
  unfold Step.nrm
  rw [funext fun k => sum_row m c t r R h k, g3_blk m c t j]

/-! ## The results -/

/-- Where an entry of a point's block stands in the array. -/
theorem row_index (t : Fin cfg0.N) (y : S1024x1024.Idx) : ∃ (r j : Fin 1024) (R : Fin 8192), y = ix2 r j ∧ (R : ℕ) = 1024 * t.val + r := by
  have ht : t.val < 8 := t.isLt
  have hr : (y 0).val < 1024 := (y 0).isLt
  exact ⟨y 0, y 1, ⟨1024 * t.val + (y 0).val, by omega⟩, by idx_ext, rfl⟩

/-- The mixed branches. -/
theorem mix_final (c : Dev nD) : (dats m 0 c).arrAt 6 cfg0.N = val_main_v1 (F := Ideal) (xp m c) (xa m c) (xw m c) := by
  refine (dats m 0 c).arrAt_eq_of_covers 6 _ (by decide +kernel) fun t hf (y : S1024x1024.Idx) => ?_
  obtain ⟨r, j, R, rfl, hR⟩ := row_index t y
  have e : (win0_6.blk t).view.emb (ix2 r j) = ix2 R j := by blk_ext [idx t]
  blk_simp
  rw [after0_6, e, Step.mix_out]
  exact mix_row m c t r R hR j

/-- The residual sum. -/
theorem sum_final (c : Dev nD) : (dats m 0 c).arrAt 7 cfg0.N = val_main_v16 (F := Ideal) (xp m c) (xa m c) (xw m c) (xx m c) (g2 m c) := by
  refine (dats m 0 c).arrAt_eq_of_covers 7 _ (by decide +kernel) fun t hf (y : S1024x1024.Idx) => ?_
  obtain ⟨r, j, R, rfl, hR⟩ := row_index t y
  have e : (win0_7.blk t).view.emb (ix2 r j) = ix2 R j := by blk_ext [idx t]
  blk_simp
  rw [after0_7, e, Step.sum_out]
  exact sum_row m c t r R hR j

/-- Its norm. -/
theorem nrm_final (c : Dev nD) : (dats m 0 c).arrAt 8 cfg0.N = val_main_v31 (F := Ideal) (xp m c) (xa m c) (xw m c) (xx m c) (g2 m c) (g3 m c) := by
  refine (dats m 0 c).arrAt_eq_of_covers 8 _ (by decide +kernel) fun t hf (y : S1024x1024.Idx) => ?_
  obtain ⟨r, j, R, rfl, hR⟩ := row_index t y
  have e : (win0_8.blk t).view.emb (ix2 r j) = ix2 R j := by blk_ext [idx t]
  blk_simp
  rw [after0_8, e, Step.nrm_out]
  exact nrm_row m c t r R hR j

end Cert.OutProjIdeal.Final

namespace Cert.Proof.OutProjClaims

open Cert.OutProjIdeal.Final

/-- The kernel's arrays and the reference's agree over the reals. -/
theorem algebraic : Cert.algebraic_OutProjIdeal_OutProjRefIdeal := by
  intro m g m' g' hp hm
  refine ⟨_, _, _, Cert.OutProjIdeal.Value.run_blocks m g, θ_run_mono (Cert.OutProjRefIdeal.Value.run m' g') fun r h c =>
    ⟨(h c).1.trans ?_, (h c).2.1.trans ?_, (h c).2.2.1.trans ?_, (h c).2.2.2⟩⟩
  · refine (Cert.OutProjRefIdeal.Read.val_main_v1_eq _ _ _).trans ?_
    rw [(hm c).1, (hm c).2.1, (hm c).2.2.1]
    exact (mix_final m c).symm
  · refine (Cert.OutProjRefIdeal.Read.val_main_v16_eq _ _ _ _ _).trans ?_
    rw [(hm c).1, (hm c).2.1, (hm c).2.2.1, (hm c).2.2.2.1, (hm c).2.2.2.2.1]
    exact (sum_final m c).symm
  · refine (Cert.OutProjRefIdeal.Read.val_main_v31_eq m' c).trans ?_
    rw [(hm c).1, (hm c).2.1, (hm c).2.2.1, (hm c).2.2.2.1, (hm c).2.2.2.2.1, (hm c).2.2.2.2.2]
    exact (nrm_final m c).symm

end Cert.Proof.OutProjClaims

end
-- ==== Proof.Silu.lean ====
/- The gate function `g ↦ g · σ(g)` on the extended reals: its factor `σ`, and the two spellings of its derivative. -/
module

public import proofs.«01_k».proof.Proof.Reals

@[expose] public section

noncomputable section

namespace Cert.Silu

open Idealize.ShloMosaic
open Cert.Reals (IsReal)

/-- The logistic factor `1 / (1 + e^(-g))`. -/
def logi (g : EReal) : EReal := Ideal.div 1 (1 + Ideal.exp (0 - g))

/-- At a real number the factor is the real logistic function. -/
theorem logi_coe (r : ℝ) : logi r = ((1 / (1 + Real.exp (-r)) : ℝ) : EReal) := by
  have h : (1 + Real.exp (-r)) ≠ 0 := by positivity
  rw [logi, zero_sub, ← EReal.coe_neg, Ideal.exp_coe, ← EReal.coe_one, ← EReal.coe_add, Ideal.div_coe h, ← EReal.coe_mul, one_mul]

/-- Two spellings of the derivative of `g · σ(g)` times a cotangent `d`, equal when `g` and `d` are real. -/
theorem gate_grad {d g : EReal} (hd : IsReal d) (hg : IsReal g) :
    d * logi g + g * d * (logi g * (1 - logi g)) = d * (logi g * (1 + g * (1 - logi g))) := by
  obtain ⟨d, rfl⟩ := hd
  obtain ⟨g, rfl⟩ := hg
  rw [logi_coe]
  generalize 1 / (1 + Real.exp (-g)) = s
  have e : d * s + g * d * (s * (1 - s)) = d * (s * (1 + g * (1 - s))) := by ring
  exact_mod_cast congrArg (Real.toEReal) e

end Cert.Silu

end
-- ==== Proof.FfnFwd.Step.lean ====
/- What one grid point of the feed-forward kernel leaves in its blocks. -/
module

public import proofs.«01_k».proof.Proof.Silu
public import proofs.«01_k».proof.Proof.Gen.FfnFwdIdeal.Value
public import Idealize.ShloMosaic.Lib.Pipeline.ValueKit
public import Idealize.ShloMosaic.Lib.Pointwise

@[expose] public section

noncomputable section

namespace Cert.FfnFwdIdeal.Step

open Idealize.ShloMosaic Idealize.ShloMosaic.TcCoe Idealize.SL.Sem
open Cert.FfnFwdIdeal Cert.FfnFwdIdeal.Gen Cert.FfnFwdIdeal.Value
open Cert.Silu (logi)

variable (m : (ℓ : Loc nD τ sig) → Buf (Elt Ideal) ℓ)

/-! ## The entries, from the blocks a point sees -/

/-- Row `r` of the input against row `k` of a weight's tile. -/
def prod (h : Vec Ideal S2048x1024 .bf16) (w : Vec Ideal S256x1024 .bf16) (r : Fin 2048) (k : Fin 256) : EReal :=
  ∑ n : Fin 1024, (h (ix2 r n) : EReal) * w (ix2 k n)

/-- The hidden activation: the gated product of the two branches. -/
def hid (h : Vec Ideal S2048x1024 .bf16) (wg wu : Vec Ideal S256x1024 .bf16) (r : Fin 2048) (k : Fin 256) : EReal :=
  prod h wg r k * logi (prod h wg r k) * prod h wu r k

/-- One tile's share of the layer's output. -/
def part (h : Vec Ideal S2048x1024 .bf16) (wg wu wd : Vec Ideal S256x1024 .bf16) (y : S2048x1024.Idx) : EReal :=
  ∑ k : Fin 256, hid h wg wu (y 0) k * (wd (ix2 k (y 1)) : EReal)

/-! ## A slab of 512 rows of a block -/

theorem ld_rows (off : ℕ) (inb) (d : Vec Ideal S2048x1024 .bf16) (r : Fin 2048) (r' : Fin 512) (n : Fin 1024) (h : (r : ℕ) = off + r') :
    View.ld d (Rect.unit ![off, 0] ![512, 1024] inb) (ix2 r' n) = d (ix2 r n) := by
  refine View.ld_unit_apply_of _ _ _ _ _ _ fun b => ?_
  match b with
  | ⟨0, _⟩ => show (r : ℕ) = off + r'; omega
  | ⟨1, _⟩ => exact (Nat.zero_add _).symm

theorem prod_rows (off : ℕ) (ia) (h : Vec Ideal S2048x1024 .bf16) (w : Vec Ideal S256x1024 .bf16) (r : Fin 2048) (i : Fin 512) (k : Fin 256)
    (hr : (r : ℕ) = off + i) :
    ∑ n : Fin 1024, (View.ld h (Rect.unit ![off, 0] ![512, 1024] ia) (ix2 i n) : EReal) * w (ix2 k n) = prod h w r k :=
  Finset.sum_congr rfl fun n _ => congrArg (· * (w (ix2 k n) : EReal)) (ld_rows off ia h r i n hr)

/-! ## The stored values at an index -/

theorem branch_apply (h : Vec Ideal S512x1024 .bf16) (w : Vec Ideal S256x1024 .bf16) (x : S1x512x256.Idx) :
    k0_pay5 (F := Ideal) h w x = ∑ n : Fin 1024, (h (ix2 (x 1) n) : EReal) * w (ix2 (x 2) n) := by
  pointwise [k0_pay5, k0_pay3, k0_pay2]

/-- The hidden activation of row `i` and lane `k` of a slab. -/
abbrev slab (h : Vec Ideal S512x1024 .bf16) (wg wu : Vec Ideal S256x1024 .bf16) (i : Fin 512) (k : Fin 256) : EReal :=
  (∑ n : Fin 1024, (h (ix2 i n) : EReal) * wg (ix2 k n)) * logi (∑ n : Fin 1024, (h (ix2 i n) : EReal) * wg (ix2 k n))
    * ∑ n : Fin 1024, (h (ix2 i n) : EReal) * wu (ix2 k n)

theorem first_apply (h : Vec Ideal S512x1024 .bf16) (wg wu wd : Vec Ideal S256x1024 .bf16) (x : S512x1024.Idx) :
    k0_pay7 (F := Ideal) h wg wu wd x = ∑ k : Fin 256, slab h wg wu (x 0) k * (wd (ix2 k (x 1)) : EReal) := by
  pointwise [k0_pay7, k0_pay4, k0_pay3, k0_pay2]
  rfl

theorem later_apply (h : Vec Ideal S512x1024 .bf16) (wg wu wd : Vec Ideal S256x1024 .bf16) (o : Vec Ideal S512x1024 .f32) (x : S512x1024.Idx) :
    k0_pay31 (F := Ideal) h wg wu wd o x = o x + ∑ k : Fin 256, slab h wg wu (x 0) k * (wd (ix2 k (x 1)) : EReal) := by
  pointwise [k0_pay31, k0_pay28, k0_pay27, k0_pay26]
  rfl

/-! ## The stored values over a whole block -/

theorem branch_piece (off : ℕ) (ia) (h : Vec Ideal S2048x1024 .bf16) (w : Vec Ideal S256x1024 .bf16) (y : S1x2048x256.Idx) (x : S1x512x256.Idx)
    (h1 : (y 1 : ℕ) = off + x 1) (h2 : (y 2 : ℕ) = x 2) :
    k0_pay5 (F := Ideal) (View.ld h (Rect.unit ![off, 0] ![512, 1024] ia)) w x = prod h w (y 1) (y 2) := by
  rw [branch_apply]
  refine (prod_rows off ia h w (y 1) (x 1) (x 2) h1).trans ?_
  exact congrArg (prod h w (y 1)) (Fin.ext h2.symm : (x 2 : Fin 256) = y 2)

theorem part_rows (off : ℕ) (ia) (h : Vec Ideal S2048x1024 .bf16) (wg wu wd : Vec Ideal S256x1024 .bf16) (y : S2048x1024.Idx) (x : S512x1024.Idx)
    (h0 : (y 0 : ℕ) = off + x 0) (h1 : (y 1 : ℕ) = x 1) :
    ∑ k : Fin 256, slab (View.ld h (Rect.unit ![off, 0] ![512, 1024] ia)) wg wu (x 0) k * (wd (ix2 k (x 1)) : EReal) = part h wg wu wd y := by
  have e : (x 1 : Fin 1024) = y 1 := Fin.ext h1.symm
  unfold part
  refine Finset.sum_congr rfl fun k _ => congr (congrArg HMul.hMul ?_) (congrArg (fun n => wd (ix2 k n)) e)
  unfold slab
  rw [prod_rows off ia h wg (y 0) (x 0) k h0, prod_rows off ia h wu (y 0) (x 0) k h0]
  rfl

theorem first_piece (off : ℕ) (ia) (h : Vec Ideal S2048x1024 .bf16) (wg wu wd : Vec Ideal S256x1024 .bf16) (y : S2048x1024.Idx) (x : S512x1024.Idx)
    (h0 : (y 0 : ℕ) = off + x 0) (h1 : (y 1 : ℕ) = x 1) :
    k0_pay7 (F := Ideal) (View.ld h (Rect.unit ![off, 0] ![512, 1024] ia)) wg wu wd x = part h wg wu wd y := by
  rw [first_apply]; exact part_rows off ia h wg wu wd y x h0 h1

theorem later_piece (off : ℕ) (ia io) (h : Vec Ideal S2048x1024 .bf16) (wg wu wd : Vec Ideal S256x1024 .bf16) (o : Vec Ideal S2048x1024 .f32)
    (y : S2048x1024.Idx) (x : S512x1024.Idx) (h0 : (y 0 : ℕ) = off + x 0) (h1 : (y 1 : ℕ) = x 1) :
    k0_pay31 (F := Ideal) (View.ld h (Rect.unit ![off, 0] ![512, 1024] ia)) wg wu wd (View.ld o (Rect.unit ![off, 0] ![512, 1024] io)) x
      = o y + part h wg wu wd y := by
  rw [later_apply]
  refine congr (congrArg HAdd.hAdd ?_) (part_rows off ia h wg wu wd y x h0 h1)
  refine View.ld_unit_apply_of _ _ _ _ _ _ fun b => ?_
  match b with
  | ⟨0, _⟩ => show (y 0 : ℕ) = off + x 0; omega
  | ⟨1, _⟩ => show (y 1 : ℕ) = 0 + x 1; omega

/-! ## The points -/

theorem gate_A (c : Dev nD) (t : Fin cfg0.N) (h0 : t.val % 11 = 0) (y : S1x2048x256.Idx) :
    (outsAt0 m c t.val t.isLt).1 y = prod (iblk m c 0 t) (iblk m c 1 t) (y 1) (y 2) := by
  have h1 : ¬ 1 ≤ t.val % 11 := by omega
  rw [outsAt0_A m c t h0 h1]
  frame_out
  canon_tiles x h using View.cover_of_tiledL _ ![1, 512, 256] (by sl_kernel_rfl) y
  all_goals exact branch_piece _ _ _ _ y x (by omega) (by omega)

theorem gate_B (c : Dev nD) (t : Fin cfg0.N) (h0 : ¬ t.val % 11 = 0) (y : S1x2048x256.Idx) :
    (outsAt0 m c t.val t.isLt).1 y = prod (iblk m c 0 t) (iblk m c 1 t) (y 1) (y 2) := by
  have h1 : 1 ≤ t.val % 11 := by omega
  rw [outsAt0_B m c t h0 h1]
  frame_out
  canon_tiles x h using View.cover_of_tiledL _ ![1, 512, 256] (by sl_kernel_rfl) y
  all_goals exact branch_piece _ _ _ _ y x (by omega) (by omega)

/-- Every point leaves the gate branch of its rows and its tile. -/
theorem gate (c : Dev nD) (t : Fin cfg0.N) (y : S1x2048x256.Idx) :
    (outsAt0 m c t.val t.isLt).1 y = prod (iblk m c 0 t) (iblk m c 1 t) (y 1) (y 2) := by
  by_cases h0 : t.val % 11 = 0
  · exact gate_A m c t h0 y
  · exact gate_B m c t h0 y

theorem up_A (c : Dev nD) (t : Fin cfg0.N) (h0 : t.val % 11 = 0) (y : S1x2048x256.Idx) :
    (outsAt0 m c t.val t.isLt).2.1 y = prod (iblk m c 0 t) (iblk m c 2 t) (y 1) (y 2) := by
  have h1 : ¬ 1 ≤ t.val % 11 := by omega
  rw [outsAt0_A m c t h0 h1]
  frame_out
  canon_tiles x h using View.cover_of_tiledL _ ![1, 512, 256] (by sl_kernel_rfl) y
  all_goals exact branch_piece _ _ _ _ y x (by omega) (by omega)

theorem up_B (c : Dev nD) (t : Fin cfg0.N) (h0 : ¬ t.val % 11 = 0) (y : S1x2048x256.Idx) :
    (outsAt0 m c t.val t.isLt).2.1 y = prod (iblk m c 0 t) (iblk m c 2 t) (y 1) (y 2) := by
  have h1 : 1 ≤ t.val % 11 := by omega
  rw [outsAt0_B m c t h0 h1]
  frame_out
  canon_tiles x h using View.cover_of_tiledL _ ![1, 512, 256] (by sl_kernel_rfl) y
  all_goals exact branch_piece _ _ _ _ y x (by omega) (by omega)

/-- Every point leaves the linear branch of its rows and its tile. -/
theorem up (c : Dev nD) (t : Fin cfg0.N) (y : S1x2048x256.Idx) :
    (outsAt0 m c t.val t.isLt).2.1 y = prod (iblk m c 0 t) (iblk m c 2 t) (y 1) (y 2) := by
  by_cases h0 : t.val % 11 = 0
  · exact up_A m c t h0 y
  · exact up_B m c t h0 y

/-- The first tile's point stores its share of the output. -/
theorem out_A (c : Dev nD) (t : Fin cfg0.N) (h0 : t.val % 11 = 0) (y : S2048x1024.Idx) :
    (outsAt0 m c t.val t.isLt).2.2 y = part (iblk m c 0 t) (iblk m c 1 t) (iblk m c 2 t) (iblk m c 3 t) y := by
  have h1 : ¬ 1 ≤ t.val % 11 := by omega
  rw [outsAt0_A m c t h0 h1]
  frame_out
  canon_tiles x h using View.cover_of_tiledL _ ![512, 1024] (by sl_kernel_rfl) y
  all_goals exact first_piece _ _ _ _ _ _ y x (by omega) (by omega)

/-- A later tile's point adds its share to what the point before left. -/
theorem out_B (c : Dev nD) (t : Fin cfg0.N) (h0 : ¬ t.val % 11 = 0) (y : S2048x1024.Idx) :
    (outsAt0 m c t.val t.isLt).2.2 y = (outsAt0 m c (t.val - 1) (Nat.lt_of_le_of_lt (Nat.sub_le _ _) t.isLt)).2.2 y + part (iblk m c 0 t) (iblk m c 1 t) (iblk m c 2 t) (iblk m c 3 t) y := by
  have h1 : 1 ≤ t.val % 11 := by omega
  rw [outsAt0_B m c t h0 h1]
  frame_out
  canon_tiles x h using View.cover_of_tiledL _ ![512, 1024] (by sl_kernel_rfl) y
  all_goals exact later_piece _ _ _ _ _ _ _ _ y x (by omega) (by omega)

end Cert.FfnFwdIdeal.Step

end
-- ==== Proof.FfnFwd.Ref.lean ====
/- What the reference of the feed-forward layer computes, entry by entry. -/
module

public import proofs.«01_k».proof.Proof.Silu
public import proofs.«01_k».proof.Proof.Gen.FfnFwdRefIdeal.Read
public import Idealize.ShloMosaic.Lib.Pipeline.ValueKit
public import Idealize.ShloMosaic.Lib.IdealHost

@[expose] public section

noncomputable section

open Idealize.ShloMosaic
open Cert.Silu (logi)

namespace Cert.FfnFwdRefIdeal.Entries

open Cert.FfnFwdRefIdeal Cert.FfnFwdRefIdeal.Read

variable (x0 : (⟨S8192x1024, .f32⟩ : BufTy).Contents (Elt Ideal)) (x1 x2 : (⟨S1024x2816, .f32⟩ : BufTy).Contents (Elt Ideal))
  (x3 : (⟨S2816x1024, .f32⟩ : BufTy).Contents (Elt Ideal))

/-- The reference's logistic factor. -/
theorem factor (i : S8192x2816.Idx) : val_main_call0_v5 (F := Ideal) x0 x1 i = logi (val_main_v0 (F := Ideal) x0 x1 i) := by
  rw [val_main_call0_v5_apply, val_main_call0_v4_apply, val_main_call0_cst_0_apply, val_main_call0_v3_apply, val_main_call0_v2_apply,
    val_main_call0_cst_apply, val_main_call0_v1_apply, val_main_call0_v0_apply, logi]
  simp [Ideal.ofBits_one_f32]

/-- The hidden activation. -/
theorem act (i : S8192x2816.Idx) :
    val_main_v3 (F := Ideal) x0 x1 x2 i
      = (val_main_v0 (F := Ideal) x0 x1 i : EReal) * logi (val_main_v0 (F := Ideal) x0 x1 i) * val_main_v1 (F := Ideal) x0 x2 i := by
  rw [val_main_v3_apply, val_main_v2_apply, factor]
  rfl

/-- The gate branch: row `R` of the input against column `K` of its weight. -/
theorem gate (R : Fin 8192) (K : Fin 2816) :
    val_main_v0 (F := Ideal) x0 x1 (ix2 R K) = ∑ n : Fin 1024, (x0 (ix2 R n) : EReal) * x1 (ix2 n K) := by
  rw [val_main_v0_apply]
  refine Finset.sum_congr rfl fun n _ => ?_
  congr 1 <;> refine congrArg _ ?_ <;> idx_ext <;> rfl

/-- The linear branch. -/
theorem up (R : Fin 8192) (K : Fin 2816) :
    val_main_v1 (F := Ideal) x0 x2 (ix2 R K) = ∑ n : Fin 1024, (x0 (ix2 R n) : EReal) * x2 (ix2 n K) := by
  rw [val_main_v1_apply]
  refine Finset.sum_congr rfl fun n _ => ?_
  congr 1 <;> refine congrArg _ ?_ <;> idx_ext <;> rfl

/-- The layer's output. -/
theorem out (R : Fin 8192) (n : Fin 1024) :
    val_main_v4 (F := Ideal) x0 x1 x2 x3 (ix2 R n) = ∑ K : Fin 2816, (val_main_v3 (F := Ideal) x0 x1 x2 (ix2 R K) : EReal) * x3 (ix2 K n) := by
  rw [val_main_v4_apply]
  refine Finset.sum_congr rfl fun n _ => ?_
  congr 1 <;> refine congrArg _ ?_ <;> idx_ext <;> rfl

/-- Column `K` of the hidden width is lane `K % 256` of tile `K / 256`. -/
theorem gate_tile (T : Fin 11) (R : Fin 8192) (L : Fin 256) (K : Fin 2816) (hk : (K : ℕ) = 256 * T + L) :
    val_main_v7 (F := Ideal) x0 x1 (ix3 T R L) = val_main_v0 (F := Ideal) x0 x1 (ix2 R K) := by
  rw [val_main_v7_apply, val_main_v6_apply, val_main_v5_apply]
  refine congrArg (val_main_v0 (F := Ideal) x0 x1) ?_
  idx_ext <;> simp <;> omega

theorem up_tile (T : Fin 11) (R : Fin 8192) (L : Fin 256) (K : Fin 2816) (hk : (K : ℕ) = 256 * T + L) :
    val_main_v10 (F := Ideal) x0 x2 (ix3 T R L) = val_main_v1 (F := Ideal) x0 x2 (ix2 R K) := by
  rw [val_main_v10_apply, val_main_v9_apply, val_main_v8_apply]
  refine congrArg (val_main_v1 (F := Ideal) x0 x2) ?_
  idx_ext <;> simp <;> omega

end Cert.FfnFwdRefIdeal.Entries

end
-- ==== Proof.FfnFwd.Final.lean ====
/- The arrays the feed-forward kernel leaves, against the reference's. -/
module

public import proofs.«01_k».proof.Proof.FfnFwd.Step
public import proofs.«01_k».proof.Proof.FfnFwd.Ref

@[expose] public section

noncomputable section

open Idealize.ShloMosaic Idealize.ShloMosaic.TcCoe Idealize.SL.Sem

namespace Cert.FfnFwdIdeal.Final

open Cert.FfnFwdIdeal Cert.FfnFwdIdeal.Gen Cert.FfnFwdIdeal.Value Cert.FfnFwdIdeal.Step
open Cert.FfnFwdRefIdeal.Read
open Cert.FfnFwdRefIdeal

variable (m : (ℓ : Loc nD τ sig) → Buf (Elt Ideal) ℓ)

/-- Which block of each array a grid point sees: point `11·i + j` is slab `i` of the rows and tile `j` of the hidden width. -/
theorem idx : ∀ t : Fin cfg0.N,
    win0_0.index t = ![t.val / 11, 0] ∧ win0_1.index t = ![t.val % 11, 0] ∧ win0_2.index t = ![t.val % 11, 0] ∧ win0_3.index t = ![t.val % 11, 0]
      ∧ win0_4.index t = ![t.val % 11, t.val / 11, 0] ∧ win0_5.index t = ![t.val % 11, t.val / 11, 0] ∧ win0_6.index t = ![t.val / 11, 0] :=
  (by decide +kernel : ∀ t : Fin grid0.N, _)

/-- The layer's input. -/
abbrev xh (c : Dev nD) := m ((c : Thread nD τ).loc main_arg0)
/-- The gate weight. -/
abbrev xg (c : Dev nD) := m ((c : Thread nD τ).loc main_arg1)
/-- The linear branch's weight. -/
abbrev xu (c : Dev nD) := m ((c : Thread nD τ).loc main_arg2)
/-- The output weight. -/
abbrev xd (c : Dev nD) := m ((c : Thread nD τ).loc main_arg3)

/-! ## The input blocks -/

theorem h_blk (c : Dev nD) (t : Fin cfg0.N) (r : Fin 2048) (n : Fin 1024) (R : Fin 8192) (h : (R : ℕ) = 2048 * (t.val / 11) + r) :
    (iblk m c 0 t : Vec Ideal S2048x1024 .bf16) (ix2 r n) = xh m c (ix2 R n) := by
  blk_ext! [iblk, V, idx t]

theorem wg_blk (c : Dev nD) (t : Fin cfg0.N) (k : Fin 256) (n : Fin 1024) (K : Fin 2816) (hk : (K : ℕ) = 256 * (t.val % 11) + k) :
    (iblk m c 1 t : Vec Ideal S256x1024 .bf16) (ix2 k n) = xg m c (ix2 n K) := by
  blk_ext! [iblk, V, idx t]

theorem wu_blk (c : Dev nD) (t : Fin cfg0.N) (k : Fin 256) (n : Fin 1024) (K : Fin 2816) (hk : (K : ℕ) = 256 * (t.val % 11) + k) :
    (iblk m c 2 t : Vec Ideal S256x1024 .bf16) (ix2 k n) = xu m c (ix2 n K) := by
  blk_ext! [iblk, V, idx t]

theorem wd_blk (c : Dev nD) (t : Fin cfg0.N) (k : Fin 256) (n : Fin 1024) (K : Fin 2816) (hk : (K : ℕ) = 256 * (t.val % 11) + k) :
    (iblk m c 3 t : Vec Ideal S256x1024 .bf16) (ix2 k n) = xd m c (ix2 K n) := by
  blk_ext! [iblk, V, idx t]

/-! ## A point's entries are the reference's -/

theorem gate_eq (c : Dev nD) (t : Fin cfg0.N) (r : Fin 2048) (k : Fin 256) (R : Fin 8192) (K : Fin 2816) (h : (R : ℕ) = 2048 * (t.val / 11) + r)
    (hk : (K : ℕ) = 256 * (t.val % 11) + k) :
    prod (iblk m c 0 t) (iblk m c 1 t) r k = val_main_v0 (F := Ideal) (xh m c) (xg m c) (ix2 R K) := by
  refine Eq.trans ?_ (Entries.gate _ _ R K).symm
  exact Finset.sum_congr rfl fun n _ => congr (congrArg HMul.hMul (h_blk m c t r n R h)) (wg_blk m c t k n K hk)

theorem up_eq (c : Dev nD) (t : Fin cfg0.N) (r : Fin 2048) (k : Fin 256) (R : Fin 8192) (K : Fin 2816) (h : (R : ℕ) = 2048 * (t.val / 11) + r)
    (hk : (K : ℕ) = 256 * (t.val % 11) + k) :
    prod (iblk m c 0 t) (iblk m c 2 t) r k = val_main_v1 (F := Ideal) (xh m c) (xu m c) (ix2 R K) := by
  refine Eq.trans ?_ (Entries.up _ _ R K).symm
  exact Finset.sum_congr rfl fun n _ => congr (congrArg HMul.hMul (h_blk m c t r n R h)) (wu_blk m c t k n K hk)

theorem hid_eq (c : Dev nD) (t : Fin cfg0.N) (r : Fin 2048) (k : Fin 256) (R : Fin 8192) (K : Fin 2816) (h : (R : ℕ) = 2048 * (t.val / 11) + r)
    (hk : (K : ℕ) = 256 * (t.val % 11) + k) :
    hid (iblk m c 0 t) (iblk m c 1 t) (iblk m c 2 t) r k = val_main_v3 (F := Ideal) (xh m c) (xg m c) (xu m c) (ix2 R K) := by
  rw [hid, gate_eq m c t r k R K h hk, up_eq m c t r k R K h hk, Entries.act]

/-! ## The arrays -/

/-- The tile, the row and the hidden column an entry of a point's block stands at. -/
theorem tile_index (t : Fin cfg0.N) (y : S1x2048x256.Idx) :
    ∃ (T : Fin 11) (R : Fin 8192) (K : Fin 2816), (T : ℕ) = t.val % 11 ∧ (R : ℕ) = 2048 * (t.val / 11) + y 1 ∧ (K : ℕ) = 256 * (t.val % 11) + y 2 := by
  have ht : t.val < 44 := t.isLt
  idx_bounds y
  exact ⟨⟨t.val % 11, by omega⟩, ⟨2048 * (t.val / 11) + y 1, by omega⟩, ⟨256 * (t.val % 11) + y 2, by omega⟩, rfl, rfl, rfl⟩

/-- The gate branch, tile by tile. -/
theorem gate_final (c : Dev nD) : (dats m 0 c).arrAt 4 cfg0.N = val_main_v7 (F := Ideal) (xh m c) (xg m c) := by
  refine (dats m 0 c).arrAt_eq_of_covers 4 _ (by decide +kernel) fun t hf (y : S1x2048x256.Idx) => ?_
  obtain ⟨T, R, K, hT, hR, hK⟩ := tile_index t y
  have e : (win0_4.blk t).view.emb y = ix3 T R (y 2) := by blk_ext [idx t]
  blk_simp
  rw [after0_4, Step.gate, e]
  exact (gate_eq m c t (y 1) (y 2) R K hR hK).trans (Entries.gate_tile _ _ T R (y 2) K (by omega)).symm

/-- The linear branch, tile by tile. -/
theorem up_final (c : Dev nD) : (dats m 0 c).arrAt 5 cfg0.N = val_main_v10 (F := Ideal) (xh m c) (xu m c) := by
  refine (dats m 0 c).arrAt_eq_of_covers 5 _ (by decide +kernel) fun t hf (y : S1x2048x256.Idx) => ?_
  obtain ⟨T, R, K, hT, hR, hK⟩ := tile_index t y
  have e : (win0_5.blk t).view.emb y = ix3 T R (y 2) := by blk_ext [idx t]
  blk_simp
  rw [after0_5, Step.up, e]
  exact (up_eq m c t (y 1) (y 2) R K hR hK).trans (Entries.up_tile _ _ T R (y 2) K (by omega)).symm

/-- One tile's share of the output, in the reference's entries. -/
theorem part_eq (c : Dev nD) (t : Fin cfg0.N) (y : S2048x1024.Idx) (R : Fin 8192) (hR : (R : ℕ) = 2048 * (t.val / 11) + y 0)
    (K : Fin 256 → Fin 2816) (hK : ∀ k, (K k : ℕ) = 256 * (t.val % 11) + k) :
    part (iblk m c 0 t) (iblk m c 1 t) (iblk m c 2 t) (iblk m c 3 t) y
      = ∑ k : Fin 256, (val_main_v3 (F := Ideal) (xh m c) (xg m c) (xu m c) (ix2 R (K k)) : EReal) * xd m c (ix2 (K k) (y 1)) := by
  unfold part
  exact Finset.sum_congr rfl fun k _ => congr (congrArg HMul.hMul (hid_eq m c t (y 0) k R (K k) hR (hK k))) (wd_blk m c t k (y 1) (K k) (hK k))

/-- The layer's output. -/
theorem out_final (c : Dev nD) : (dats m 0 c).arrAt 6 cfg0.N = val_main_v4 (F := Ideal) (xh m c) (xg m c) (xu m c) (xd m c) := by
  refine (dats m 0 c).arrAt_eq_of_covers 6 _ (by decide +kernel) fun t hf (y : S2048x1024.Idx) => ?_
  have ht : t.val < 44 := t.isLt
  obtain ⟨R, hR⟩ : ∃ R : Fin 8192, (R : ℕ) = 2048 * (t.val / 11) + y 0 := ⟨⟨_, by idx_bounds y; omega⟩, rfl⟩
  have e : (win0_6.blk t).view.emb y = ix2 R (y 1) := by blk_ext [idx t]
  blk_simp
  rw [after0_6, e]
  refine (Pipeline.eq_sum_fin_of_reset_step_apply_of_flush (fun n h => (outsAt0 m c n h).2.2) 11 (fun _ => (0 : EReal)) _
    (fun t h y => (out_A m c t h y).trans (zero_add _).symm) (fun t h y => out_B m c t h y) t ((flush0_6 t).mp hf) y).trans ?_
  rw [zero_add]
  refine Eq.trans ?_ (Entries.out _ _ _ _ R (y 1)).symm
  have hp : ∀ s : Fin 11, 11 * (t.val / 11) + s.val < cfg0.N := fun s => by have e : cfg0.N = 44 := N_0; omega
  have q : ∀ s : Fin 11, _ := fun s =>
    part_eq m c ⟨11 * (t.val / 11) + s.val, hp s⟩ y R (hR.trans (by show _ = 2048 * ((11 * (t.val / 11) + s.val) / 11) + _; omega))
      (fun k => ⟨s.val * 256 + k.val, by omega⟩) fun k => by show s.val * 256 + k.val = 256 * ((11 * (t.val / 11) + s.val) % 11) + k.val; omega
  refine (Finset.sum_congr rfl fun s _ => q s).trans ?_
  exact Fin.sum_mul_add_congr fun s k hl => rfl

end Cert.FfnFwdIdeal.Final

namespace Cert.Proof.FfnFwdClaims

open Cert.FfnFwdIdeal.Final

/-- The kernel's two branches and its output and the reference's agree over the reals. -/
theorem algebraic : Cert.algebraic_FfnFwdIdeal_FfnFwdRefIdeal := by
  intro m g m' g' _ hm
  refine ⟨_, _, _, Cert.FfnFwdIdeal.Value.run_blocks m g, θ_run_mono (Cert.FfnFwdRefIdeal.Value.run m' g') fun r h c =>
    ⟨(h c).1.trans ?_, (h c).2.1.trans ?_, (h c).2.2.1.trans ?_, (h c).2.2.2⟩⟩
  all_goals rw [(hm c).1]
  · rw [(hm c).2.1]
    exact (Cert.FfnFwdRefIdeal.Read.val_main_v7_eq _ _).trans (gate_final m c).symm
  · rw [(hm c).2.2.1]
    exact (Cert.FfnFwdRefIdeal.Read.val_main_v10_eq _ _).trans (up_final m c).symm
  · rw [(hm c).2.1, (hm c).2.2.1, (hm c).2.2.2]
    exact (Cert.FfnFwdRefIdeal.Read.val_main_v4_eq _ _ _ _).trans (out_final m c).symm

end Cert.Proof.FfnFwdClaims

end
-- ==== Proof.FfnBwd.Step.lean ====
/- What one grid point of the feed-forward backward kernel leaves in its blocks. -/
module

public import proofs.«01_k».proof.Proof.Silu
public import proofs.«01_k».proof.Proof.Gen.FfnBwdIdeal.Value
public import Idealize.ShloMosaic.Lib.Pipeline.ValueKit
public import Idealize.ShloMosaic.Lib.Pointwise

@[expose] public section

noncomputable section

namespace Cert.FfnBwdIdeal.Step

open Idealize.ShloMosaic Idealize.ShloMosaic.TcCoe Idealize.SL.Sem
open Cert.FfnBwdIdeal Cert.FfnBwdIdeal.Gen Cert.FfnBwdIdeal.Value
open Cert.Silu (logi)

/-! ## The entries, from the blocks a point sees -/

/-- The cotangent of the hidden activation: row `r` of the incoming cotangent against row `k` of the tile of `w_down`. -/
def da (d : Vec Ideal S2048x1024 .bf16) (w : Vec Ideal S256x1024 .bf16) (r : Fin 2048) (k : Fin 256) : EReal :=
  ∑ n : Fin 1024, (d (ix2 r n) : EReal) * w (ix2 k n)

/-- The hidden activation, computed again. -/
def aE (g u : Vec Ideal S1x2048x256 .bf16) (y : S1x2048x256.Idx) : EReal := (g y : EReal) * logi (g y) * u y

/-- The cotangent of the linear branch. -/
def dupE (d : Vec Ideal S2048x1024 .bf16) (w : Vec Ideal S256x1024 .bf16) (g : Vec Ideal S1x2048x256 .bf16) (y : S1x2048x256.Idx) : EReal :=
  da d w (y 1) (y 2) * ((g y : EReal) * logi (g y))

/-- The cotangent of the gate branch. -/
def dgE (d : Vec Ideal S2048x1024 .bf16) (w : Vec Ideal S256x1024 .bf16) (g u : Vec Ideal S1x2048x256 .bf16) (y : S1x2048x256.Idx) : EReal :=
  da d w (y 1) (y 2) * (u y : EReal) * (logi (g y) * (1 + (g y : EReal) * (1 - logi (g y))))

/-- One tile's share of the cotangent of the layer's input. -/
def part (d : Vec Ideal S2048x1024 .bf16) (w : Vec Ideal S256x1024 .bf16) (g u : Vec Ideal S1x2048x256 .bf16) (wg wu : Vec Ideal S256x1024 .bf16)
    (y : S2048x1024.Idx) : EReal :=
  ∑ k : Fin 256, dgE d w g u (ix3 0 (y 0) k) * (wg (ix2 k (y 1)) : EReal)
    + ∑ k : Fin 256, dupE d w g (ix3 0 (y 0) k) * (wu (ix2 k (y 1)) : EReal)

/-! ## A slab of 256 rows of a block -/

theorem ld_rows (off : ℕ) (inb) (d : Vec Ideal S2048x1024 .bf16) (r : Fin 2048) (r' : Fin 256) (n : Fin 1024) (h : (r : ℕ) = off + r') :
    View.ld d (Rect.unit ![off, 0] ![256, 1024] inb) (ix2 r' n) = d (ix2 r n) := by
  refine View.ld_unit_apply_of _ _ _ _ _ _ fun b => ?_
  match b with
  | ⟨0, _⟩ => show (r : ℕ) = off + r'; omega
  | ⟨1, _⟩ => exact (Nat.zero_add _).symm

theorem ld_slab (off : ℕ) (inb) (g : Vec Ideal S1x2048x256 .bf16) (y : S1x2048x256.Idx) (x : S1x256x256.Idx)
    (h1 : (y 1 : ℕ) = off + x 1) (h2 : (y 2 : ℕ) = x 2) :
    View.ld g (Rect.unit ![0, off, 0] ![1, 256, 256] inb) x = g y := by
  idx_bounds x
  idx_bounds y
  refine View.ld_unit_apply_of _ _ _ _ _ _ fun b => ?_
  match b with
  | ⟨0, _⟩ => show (y 0 : ℕ) = 0 + x 0; omega
  | ⟨1, _⟩ => show (y 1 : ℕ) = off + x 1; omega
  | ⟨2, _⟩ => show (y 2 : ℕ) = 0 + x 2; omega

/-! ## The stored values at an index -/

theorem act_apply (g u : Vec Ideal S1x256x256 .bf16) (x : S1x256x256.Idx) :
    k0_pay10 (F := Ideal) g u x = (g x : EReal) * logi (g x) * u x := by
  pointwise [k0_pay10, k0_pay9, k0_pay8, k0_pay7, k0_pay6]
  rfl

theorem up_apply (d w : Vec Ideal S256x1024 .bf16) (g : Vec Ideal S1x256x256 .bf16) (i k : Fin 256) :
    k0_pay11 (F := Ideal) d w g (ix2 i k) = (∑ n : Fin 1024, (d (ix2 i n) : EReal) * w (ix2 k n)) * ((g (ix3 0 i k) : EReal) * logi (g (ix3 0 i k))) := by
  pointwise [k0_pay11, k0_pay9, k0_pay8, k0_pay6, k0_pay5]
  rfl

theorem gate_apply (d w : Vec Ideal S256x1024 .bf16) (g u : Vec Ideal S1x256x256 .bf16) (i k : Fin 256) :
    k0_pay12 (F := Ideal) d w g u (ix2 i k)
      = (∑ n : Fin 1024, (d (ix2 i n) : EReal) * w (ix2 k n)) * (u (ix3 0 i k) : EReal)
        * (logi (g (ix3 0 i k)) * (1 + (g (ix3 0 i k) : EReal) * (1 - logi (g (ix3 0 i k))))) := by
  pointwise [k0_pay12, k0_pay9, k0_pay8, k0_pay7, k0_pay6, k0_pay5]
  rfl

theorem cast_apply (e : FVec Ideal S256x256 .bf16) (x : S1x256x256.Idx) : k0_pay13 (F := Ideal) e x = e (ix2 (x 1) (x 2)) := by
  pointwise [k0_pay13]

theorem product_apply (p q : FVec Ideal S256x256 .bf16) (wg wu : Vec Ideal S256x1024 .bf16) (x : S256x1024.Idx) :
    k0_pay15 (F := Ideal) p q wg wu x
      = ∑ k : Fin 256, (q (ix2 (x 0) k) : EReal) * wg (ix2 k (x 1)) + ∑ k : Fin 256, (p (ix2 (x 0) k) : EReal) * wu (ix2 k (x 1)) := by
  pointwise [k0_pay15]

theorem add_apply (p q : FVec Ideal S256x256 .bf16) (wg wu : Vec Ideal S256x1024 .bf16) (o : Vec Ideal S256x1024 .f32) (x : S256x1024.Idx) :
    k0_pay107 (F := Ideal) p q wg wu o x
      = o x + (∑ k : Fin 256, (q (ix2 (x 0) k) : EReal) * wg (ix2 k (x 1)) + ∑ k : Fin 256, (p (ix2 (x 0) k) : EReal) * wu (ix2 k (x 1))) := by
  pointwise [k0_pay107]

/-! ## The stored values over a whole block -/

theorem act_piece (off : ℕ) (ia ib) (g u : Vec Ideal S1x2048x256 .bf16) (y : S1x2048x256.Idx) (x : S1x256x256.Idx)
    (h1 : (y 1 : ℕ) = off + x 1) (h2 : (y 2 : ℕ) = x 2) :
    k0_pay10 (F := Ideal) (View.ld g (Rect.unit ![0, off, 0] ![1, 256, 256] ia)) (View.ld u (Rect.unit ![0, off, 0] ![1, 256, 256] ib)) x
      = aE g u y := by
  rw [act_apply, ld_slab off ia g y x h1 h2, ld_slab off ib u y x h1 h2, aE]

theorem da_rows (off : ℕ) (ia) (d : Vec Ideal S2048x1024 .bf16) (w : Vec Ideal S256x1024 .bf16) (r : Fin 2048) (i k : Fin 256) (h : (r : ℕ) = off + i) :
    ∑ n : Fin 1024, (View.ld d (Rect.unit ![off, 0] ![256, 1024] ia) (ix2 i n) : EReal) * w (ix2 k n) = da d w r k :=
  Finset.sum_congr rfl fun n _ => congrArg (· * (w (ix2 k n) : EReal)) (ld_rows off ia d r i n h)

theorem up_rows (off : ℕ) (ia ib) (d : Vec Ideal S2048x1024 .bf16) (w : Vec Ideal S256x1024 .bf16) (g : Vec Ideal S1x2048x256 .bf16)
    (r : Fin 2048) (i k : Fin 256) (h : (r : ℕ) = off + i) :
    k0_pay11 (F := Ideal) (View.ld d (Rect.unit ![off, 0] ![256, 1024] ia)) w (View.ld g (Rect.unit ![0, off, 0] ![1, 256, 256] ib)) (ix2 i k)
      = dupE d w g (ix3 0 r k) := by
  rw [up_apply, da_rows off ia d w r i k h, ld_slab off ib g (ix3 0 r k) (ix3 0 i k) h rfl, dupE]; rfl

theorem gate_rows (off : ℕ) (ia ib ic) (d : Vec Ideal S2048x1024 .bf16) (w : Vec Ideal S256x1024 .bf16) (g u : Vec Ideal S1x2048x256 .bf16)
    (r : Fin 2048) (i k : Fin 256) (h : (r : ℕ) = off + i) :
    k0_pay12 (F := Ideal) (View.ld d (Rect.unit ![off, 0] ![256, 1024] ia)) w (View.ld g (Rect.unit ![0, off, 0] ![1, 256, 256] ib))
        (View.ld u (Rect.unit ![0, off, 0] ![1, 256, 256] ic)) (ix2 i k)
      = dgE d w g u (ix3 0 r k) := by
  rw [gate_apply, da_rows off ia d w r i k h, ld_slab off ib g (ix3 0 r k) (ix3 0 i k) h rfl,
    ld_slab off ic u (ix3 0 r k) (ix3 0 i k) h rfl, dgE]; rfl

theorem up_piece (off : ℕ) (ia ib) (d : Vec Ideal S2048x1024 .bf16) (w : Vec Ideal S256x1024 .bf16) (g : Vec Ideal S1x2048x256 .bf16)
    (y : S1x2048x256.Idx) (x : S1x256x256.Idx) (h1 : (y 1 : ℕ) = off + x 1) (h2 : (y 2 : ℕ) = x 2) :
    k0_pay13 (F := Ideal) (k0_pay11 (F := Ideal) (View.ld d (Rect.unit ![off, 0] ![256, 1024] ia)) w
        (View.ld g (Rect.unit ![0, off, 0] ![1, 256, 256] ib))) x
      = dupE d w g y := by
  idx_bounds y
  rw [cast_apply, up_rows off ia ib d w g (y 1) (x 1) (x 2) h1]
  congr 1
  idx_ext <;> omega

theorem gate_piece (off : ℕ) (ia ib ic) (d : Vec Ideal S2048x1024 .bf16) (w : Vec Ideal S256x1024 .bf16) (g u : Vec Ideal S1x2048x256 .bf16)
    (y : S1x2048x256.Idx) (x : S1x256x256.Idx) (h1 : (y 1 : ℕ) = off + x 1) (h2 : (y 2 : ℕ) = x 2) :
    k0_pay13 (F := Ideal) (k0_pay12 (F := Ideal) (View.ld d (Rect.unit ![off, 0] ![256, 1024] ia)) w
        (View.ld g (Rect.unit ![0, off, 0] ![1, 256, 256] ib)) (View.ld u (Rect.unit ![0, off, 0] ![1, 256, 256] ic))) x
      = dgE d w g u y := by
  idx_bounds y
  rw [cast_apply, gate_rows off ia ib ic d w g u (y 1) (x 1) (x 2) h1]
  congr 1
  idx_ext <;> omega

theorem part_rows (off : ℕ) (ia ib ic) (d : Vec Ideal S2048x1024 .bf16) (w : Vec Ideal S256x1024 .bf16) (g u : Vec Ideal S1x2048x256 .bf16)
    (wg wu : Vec Ideal S256x1024 .bf16) (y : S2048x1024.Idx) (x : S256x1024.Idx) (h0 : (y 0 : ℕ) = off + x 0) (h1 : (y 1 : ℕ) = x 1) :
    ∑ k : Fin 256, (k0_pay12 (F := Ideal) (View.ld d (Rect.unit ![off, 0] ![256, 1024] ia)) w (View.ld g (Rect.unit ![0, off, 0] ![1, 256, 256] ib))
        (View.ld u (Rect.unit ![0, off, 0] ![1, 256, 256] ic)) (ix2 (x 0) k) : EReal) * wg (ix2 k (x 1))
      + ∑ k : Fin 256, (k0_pay11 (F := Ideal) (View.ld d (Rect.unit ![off, 0] ![256, 1024] ia)) w
        (View.ld g (Rect.unit ![0, off, 0] ![1, 256, 256] ib)) (ix2 (x 0) k) : EReal) * wu (ix2 k (x 1))
      = part d w g u wg wu y := by
  have e : (x 1 : Fin 1024) = y 1 := Fin.ext h1.symm
  unfold part
  refine congr (congrArg HAdd.hAdd ?_) ?_ <;> refine Finset.sum_congr rfl fun k _ => congr (congrArg HMul.hMul ?_) ?_
  · exact gate_rows off ia ib ic d w g u (y 0) (x 0) k h0
  · exact congrArg (fun n => wg (ix2 k n)) e
  · exact up_rows off ia ib d w g (y 0) (x 0) k h0
  · exact congrArg (fun n => wu (ix2 k n)) e

theorem first_piece (off : ℕ) (ia ib ic) (d : Vec Ideal S2048x1024 .bf16) (w : Vec Ideal S256x1024 .bf16) (g u : Vec Ideal S1x2048x256 .bf16)
    (wg wu : Vec Ideal S256x1024 .bf16) (y : S2048x1024.Idx) (x : S256x1024.Idx) (h0 : (y 0 : ℕ) = off + x 0) (h1 : (y 1 : ℕ) = x 1) :
    k0_pay15 (F := Ideal) (k0_pay11 (F := Ideal) (View.ld d (Rect.unit ![off, 0] ![256, 1024] ia)) w (View.ld g (Rect.unit ![0, off, 0] ![1, 256, 256] ib)))
        (k0_pay12 (F := Ideal) (View.ld d (Rect.unit ![off, 0] ![256, 1024] ia)) w (View.ld g (Rect.unit ![0, off, 0] ![1, 256, 256] ib))
          (View.ld u (Rect.unit ![0, off, 0] ![1, 256, 256] ic))) wg wu x
      = part d w g u wg wu y := by
  rw [product_apply]; exact part_rows off ia ib ic d w g u wg wu y x h0 h1

theorem later_piece (off : ℕ) (ia ib ic io) (d : Vec Ideal S2048x1024 .bf16) (w : Vec Ideal S256x1024 .bf16) (g u : Vec Ideal S1x2048x256 .bf16)
    (wg wu : Vec Ideal S256x1024 .bf16) (o : Vec Ideal S2048x1024 .f32) (y : S2048x1024.Idx) (x : S256x1024.Idx)
    (h0 : (y 0 : ℕ) = off + x 0) (h1 : (y 1 : ℕ) = x 1) :
    k0_pay107 (F := Ideal) (k0_pay11 (F := Ideal) (View.ld d (Rect.unit ![off, 0] ![256, 1024] ia)) w (View.ld g (Rect.unit ![0, off, 0] ![1, 256, 256] ib)))
        (k0_pay12 (F := Ideal) (View.ld d (Rect.unit ![off, 0] ![256, 1024] ia)) w (View.ld g (Rect.unit ![0, off, 0] ![1, 256, 256] ib))
          (View.ld u (Rect.unit ![0, off, 0] ![1, 256, 256] ic))) wg wu (View.ld o (Rect.unit ![off, 0] ![256, 1024] io)) x
      = o y + part d w g u wg wu y := by
  rw [add_apply]
  refine congr (congrArg HAdd.hAdd ?_) (part_rows off ia ib ic d w g u wg wu y x h0 h1)
  refine View.ld_unit_apply_of _ _ _ _ _ _ fun b => ?_
  match b with
  | ⟨0, _⟩ => show (y 0 : ℕ) = off + x 0; omega
  | ⟨1, _⟩ => show (y 1 : ℕ) = 0 + x 1; omega

end Cert.FfnBwdIdeal.Step

end
-- ==== Proof.FfnBwd.Points.lean ====
/- What each grid point of the feed-forward backward kernel leaves in its four output blocks. -/
module

public import proofs.«01_k».proof.Proof.FfnBwd.Step

@[expose] public section

noncomputable section

namespace Cert.FfnBwdIdeal.Step

open Idealize.ShloMosaic Idealize.ShloMosaic.TcCoe Idealize.SL.Sem
open Cert.FfnBwdIdeal Cert.FfnBwdIdeal.Gen Cert.FfnBwdIdeal.Value

variable (m : (ℓ : Loc nD τ sig) → Buf (Elt Ideal) ℓ)

theorem act_A (c : Dev nD) (t : Fin cfg0.N) (h0 : t.val % 11 = 0) (y : S1x2048x256.Idx) :
    (outsAt0 m c t.val t.isLt).1 y = aE (iblk m c 1 t) (iblk m c 2 t) y := by
  have h1 : ¬ 1 ≤ t.val % 11 := by omega
  rw [outsAt0_A m c t h0 h1]
  frame_out
  canon_tiles x h using View.cover_of_tiledL _ ![1, 256, 256] (by sl_kernel_rfl) y
  all_goals exact act_piece _ _ _ _ _ y x (by omega) (by omega)

theorem act_B (c : Dev nD) (t : Fin cfg0.N) (h0 : ¬ t.val % 11 = 0) (y : S1x2048x256.Idx) :
    (outsAt0 m c t.val t.isLt).1 y = aE (iblk m c 1 t) (iblk m c 2 t) y := by
  have h1 : 1 ≤ t.val % 11 := by omega
  rw [outsAt0_B m c t h0 h1]
  frame_out
  canon_tiles x h using View.cover_of_tiledL _ ![1, 256, 256] (by sl_kernel_rfl) y
  all_goals exact act_piece _ _ _ _ _ y x (by omega) (by omega)

/-- Every point leaves the hidden activation of its rows and its tile. -/
theorem act (c : Dev nD) (t : Fin cfg0.N) (y : S1x2048x256.Idx) :
    (outsAt0 m c t.val t.isLt).1 y = aE (iblk m c 1 t) (iblk m c 2 t) y := by
  by_cases h0 : t.val % 11 = 0
  · exact act_A m c t h0 y
  · exact act_B m c t h0 y

theorem gate_A (c : Dev nD) (t : Fin cfg0.N) (h0 : t.val % 11 = 0) (y : S1x2048x256.Idx) :
    (outsAt0 m c t.val t.isLt).2.1 y = dgE (iblk m c 0 t) (iblk m c 5 t) (iblk m c 1 t) (iblk m c 2 t) y := by
  have h1 : ¬ 1 ≤ t.val % 11 := by omega
  rw [outsAt0_A m c t h0 h1]
  frame_out
  canon_tiles x h using View.cover_of_tiledL _ ![1, 256, 256] (by sl_kernel_rfl) y
  all_goals exact gate_piece _ _ _ _ _ _ _ _ y x (by omega) (by omega)

theorem gate_B (c : Dev nD) (t : Fin cfg0.N) (h0 : ¬ t.val % 11 = 0) (y : S1x2048x256.Idx) :
    (outsAt0 m c t.val t.isLt).2.1 y = dgE (iblk m c 0 t) (iblk m c 5 t) (iblk m c 1 t) (iblk m c 2 t) y := by
  have h1 : 1 ≤ t.val % 11 := by omega
  rw [outsAt0_B m c t h0 h1]
  frame_out
  canon_tiles x h using View.cover_of_tiledL _ ![1, 256, 256] (by sl_kernel_rfl) y
  all_goals exact gate_piece _ _ _ _ _ _ _ _ y x (by omega) (by omega)

/-- Every point leaves the gate branch's cotangent of its rows and its tile. -/
theorem gate (c : Dev nD) (t : Fin cfg0.N) (y : S1x2048x256.Idx) :
    (outsAt0 m c t.val t.isLt).2.1 y = dgE (iblk m c 0 t) (iblk m c 5 t) (iblk m c 1 t) (iblk m c 2 t) y := by
  by_cases h0 : t.val % 11 = 0
  · exact gate_A m c t h0 y
  · exact gate_B m c t h0 y

theorem up_A (c : Dev nD) (t : Fin cfg0.N) (h0 : t.val % 11 = 0) (y : S1x2048x256.Idx) :
    (outsAt0 m c t.val t.isLt).2.2.1 y = dupE (iblk m c 0 t) (iblk m c 5 t) (iblk m c 1 t) y := by
  have h1 : ¬ 1 ≤ t.val % 11 := by omega
  rw [outsAt0_A m c t h0 h1]
  frame_out
  canon_tiles x h using View.cover_of_tiledL _ ![1, 256, 256] (by sl_kernel_rfl) y
  all_goals exact up_piece _ _ _ _ _ _ y x (by omega) (by omega)

theorem up_B (c : Dev nD) (t : Fin cfg0.N) (h0 : ¬ t.val % 11 = 0) (y : S1x2048x256.Idx) :
    (outsAt0 m c t.val t.isLt).2.2.1 y = dupE (iblk m c 0 t) (iblk m c 5 t) (iblk m c 1 t) y := by
  have h1 : 1 ≤ t.val % 11 := by omega
  rw [outsAt0_B m c t h0 h1]
  frame_out
  canon_tiles x h using View.cover_of_tiledL _ ![1, 256, 256] (by sl_kernel_rfl) y
  all_goals exact up_piece _ _ _ _ _ _ y x (by omega) (by omega)

/-- Every point leaves the linear branch's cotangent of its rows and its tile. -/
theorem up (c : Dev nD) (t : Fin cfg0.N) (y : S1x2048x256.Idx) :
    (outsAt0 m c t.val t.isLt).2.2.1 y = dupE (iblk m c 0 t) (iblk m c 5 t) (iblk m c 1 t) y := by
  by_cases h0 : t.val % 11 = 0
  · exact up_A m c t h0 y
  · exact up_B m c t h0 y

/-- The first tile's point stores its share of the input's cotangent. -/
theorem dh_A (c : Dev nD) (t : Fin cfg0.N) (h0 : t.val % 11 = 0) (y : S2048x1024.Idx) :
    (outsAt0 m c t.val t.isLt).2.2.2 y = part (iblk m c 0 t) (iblk m c 5 t) (iblk m c 1 t) (iblk m c 2 t) (iblk m c 3 t) (iblk m c 4 t) y := by
  have h1 : ¬ 1 ≤ t.val % 11 := by omega
  rw [outsAt0_A m c t h0 h1]
  frame_out
  canon_tiles x h using View.cover_of_tiledL _ ![256, 1024] (by sl_kernel_rfl) y
  all_goals exact first_piece _ _ _ _ _ _ _ _ _ _ y x (by omega) (by omega)

/-- A later tile's point adds its share to what the point before left. -/
theorem dh_B (c : Dev nD) (t : Fin cfg0.N) (h0 : ¬ t.val % 11 = 0) (y : S2048x1024.Idx) :
    (outsAt0 m c t.val t.isLt).2.2.2 y = (outsAt0 m c (t.val - 1) (Nat.lt_of_le_of_lt (Nat.sub_le _ _) t.isLt)).2.2.2 y + part (iblk m c 0 t) (iblk m c 5 t) (iblk m c 1 t) (iblk m c 2 t) (iblk m c 3 t) (iblk m c 4 t) y := by
  have h1 : 1 ≤ t.val % 11 := by omega
  rw [outsAt0_B m c t h0 h1]
  frame_out
  canon_tiles x h using View.cover_of_tiledL _ ![256, 1024] (by sl_kernel_rfl) y
  all_goals exact later_piece _ _ _ _ _ _ _ _ _ _ _ _ y x (by omega) (by omega)

end Cert.FfnBwdIdeal.Step

end
-- ==== Proof.FfnBwd.Finite.lean ====
/- Every argument of the feed-forward backward pass is real under its precondition. -/
module

public import proofs.«01_k».proof.Proof.Reals

@[expose] public section

noncomputable section

namespace Cert.Pre_ffnb_finite

open Idealize.ShloMosaic
open Cert.Reals

variable [Facts]

theorem all_real (x0 : FVec Ideal S8192x1024 .f32) (x1 x2 : FVec Ideal S1024x2816 .f32) (x3 : FVec Ideal S2816x1024 .f32) (x4 : FVec Ideal S8192x1024 .f32)
    (h : fn (F := Ideal) x0 x1 x2 x3 x4 = fun _ => 1#1) :
    (∀ i, IsReal (x0 i)) ∧ (∀ i, IsReal (x1 i)) ∧ (∀ i, IsReal (x2 i)) ∧ (∀ i, IsReal (x3 i)) ∧ ∀ i, IsReal (x4 i) := by
  have e := congrFun h fun a => a.elim0
  haveI : Subsingleton S_.Idx := ⟨fun _ _ => funext fun a => a.elim0⟩
  unfold fn fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ (fun _ => ofBits_inf) e0, isReal_of_all _ _ _ _ _ _ (fun _ => ofBits_inf) e1,
    isReal_of_all _ _ _ _ _ _ (fun _ => ofBits_inf) e2, isReal_of_all _ _ _ _ _ _ (fun _ => ofBits_inf) e3,
    isReal_of_all _ _ _ _ _ _ (fun _ => ofBits_inf) e4⟩

end Cert.Pre_ffnb_finite

end
-- ==== Proof.FfnBwd.Ref.lean ====
/- What the reference of the feed-forward backward pass computes, entry by entry. -/
module

public import proofs.«01_k».proof.Proof.Silu
public import proofs.«01_k».proof.Proof.FfnBwd.Finite
public import proofs.«01_k».proof.Proof.Gen.FfnBwdRefIdeal.Read
public import Idealize.ShloMosaic.Lib.Pipeline.ValueKit
public import Idealize.ShloMosaic.Lib.IdealHost

@[expose] public section

noncomputable section

open Idealize.ShloMosaic
open Cert.Silu (logi gate_grad)
open Cert.Reals (IsReal)

namespace Cert.FfnBwdRefIdeal.Entries

open Cert.FfnBwdRefIdeal Cert.FfnBwdRefIdeal.Read

variable (x0 : (⟨S8192x1024, .f32⟩ : BufTy).Contents (Elt Ideal)) (x1 x2 : (⟨S1024x2816, .f32⟩ : BufTy).Contents (Elt Ideal))
  (x3 : (⟨S2816x1024, .f32⟩ : BufTy).Contents (Elt Ideal)) (x4 : (⟨S8192x1024, .f32⟩ : BufTy).Contents (Elt Ideal))

/-- The reference's logistic factor. -/
theorem factor (i : S8192x2816.Idx) : val_main_v2_2 (F := Ideal) x0 x1 i = logi (val_main_v0 (F := Ideal) x0 x1 i) := by
  rw [val_main_v2_2_apply, val_main_call0_v4_apply, val_main_call0_cst_0_apply, val_main_call0_v3_apply, val_main_call0_v2_apply,
    val_main_call0_cst_apply, val_main_call0_v1_apply, val_main_call0_v0_apply, logi]
  simp [Ideal.ofBits_one_f32]

/-- The hidden activation. -/
theorem act (i : S8192x2816.Idx) :
    val_main_v3 (F := Ideal) x0 x1 x2 i
      = (val_main_v0 (F := Ideal) x0 x1 i : EReal) * logi (val_main_v0 (F := Ideal) x0 x1 i) * val_main_v1 (F := Ideal) x0 x2 i := by
  rw [val_main_v3_apply, val_main_v2_0_apply, factor]
  rfl

/-- The cotangent of the linear branch. -/
theorem up (i : S8192x2816.Idx) :
    val_main_v6 (F := Ideal) x0 x1 x3 x4 i
      = (val_main_v5 (F := Ideal) x3 x4 i : EReal) * ((val_main_v0 (F := Ideal) x0 x1 i : EReal) * logi (val_main_v0 (F := Ideal) x0 x1 i)) := by
  rw [val_main_v6_apply, val_main_v2_0_apply, factor]
  exact mul_comm _ _

/-- The cotangent of the gate branch, in the kernel's spelling: the two agree where every argument is real. -/
theorem gate (h0 : ∀ i, IsReal (x0 i)) (h1 : ∀ i, IsReal (x1 i)) (h2 : ∀ i, IsReal (x2 i)) (h3 : ∀ i, IsReal (x3 i)) (h4 : ∀ i, IsReal (x4 i))
    (i : S8192x2816.Idx) :
    val_main_v8 (F := Ideal) x0 x1 x2 x3 x4 i
      = (val_main_v5 (F := Ideal) x3 x4 i : EReal) * val_main_v1 (F := Ideal) x0 x2 i
        * (logi (val_main_v0 (F := Ideal) x0 x1 i) * (1 + (val_main_v0 (F := Ideal) x0 x1 i : EReal) * (1 - logi (val_main_v0 (F := Ideal) x0 x1 i)))) := by
  have hg : IsReal (val_main_v0 (F := Ideal) x0 x1 i) := by
    rw [val_main_v0_apply]; exact .sum _ _ fun k _ => (h0 _).mul (h1 _)
  have hu : IsReal (val_main_v1 (F := Ideal) x0 x2 i) := by
    rw [val_main_v1_apply]; exact .sum _ _ fun k _ => (h0 _).mul (h2 _)
  have hd : IsReal (val_main_v5 (F := Ideal) x3 x4 i) := by
    rw [val_main_v5_apply]; exact .sum _ _ fun k _ => (h4 _).mul (h3 _)
  rw [← gate_grad (hd.mul hu) hg, val_main_v8_apply, val_main_call1_v1_apply, val_main_call1_v2_apply, val_main_call1_v0_apply,
    val_main_v7_apply, val_main_v2_1_apply, val_main_call0_v7_apply, val_main_call0_v6_apply, val_main_call0_cst_1_apply, factor]
  simp [Ideal.ofBits_one_f32]

/-- Column `K` of the hidden width is lane `K % 256` of tile `K / 256`. -/
theorem act_tile (T : Fin 11) (R : Fin 8192) (L : Fin 256) (K : Fin 2816) (hk : (K : ℕ) = 256 * T + L) :
    val_main_v16 (F := Ideal) x0 x1 x2 (ix3 T R L) = val_main_v3 (F := Ideal) x0 x1 x2 (ix2 R K) := by
  rw [val_main_v16_apply, val_main_v15_apply, val_main_v14_apply]
  refine congrArg (val_main_v3 (F := Ideal) x0 x1 x2) ?_
  idx_ext <;> simp <;> omega

theorem gate_tile (T : Fin 11) (R : Fin 8192) (L : Fin 256) (K : Fin 2816) (hk : (K : ℕ) = 256 * T + L) :
    val_main_v19 (F := Ideal) x0 x1 x2 x3 x4 (ix3 T R L) = val_main_v8 (F := Ideal) x0 x1 x2 x3 x4 (ix2 R K) := by
  rw [val_main_v19_apply, val_main_v18_apply, val_main_v17_apply]
  refine congrArg (val_main_v8 (F := Ideal) x0 x1 x2 x3 x4) ?_
  idx_ext <;> simp <;> omega

theorem up_tile (T : Fin 11) (R : Fin 8192) (L : Fin 256) (K : Fin 2816) (hk : (K : ℕ) = 256 * T + L) :
    val_main_v22 (F := Ideal) x0 x1 x3 x4 (ix3 T R L) = val_main_v6 (F := Ideal) x0 x1 x3 x4 (ix2 R K) := by
  rw [val_main_v22_apply, val_main_v21_apply, val_main_v20_apply]
  refine congrArg (val_main_v6 (F := Ideal) x0 x1 x3 x4) ?_
  idx_ext <;> simp <;> omega

/-- The cotangent of the layer's input: the gate branch against `w_gate` and the linear branch against `w_up`. -/
theorem input (R : Fin 8192) (n : Fin 1024) :
    val_main_v13 (F := Ideal) x0 x1 x2 x3 x4 (ix2 R n)
      = ∑ K : Fin 2816, (val_main_v8 (F := Ideal) x0 x1 x2 x3 x4 (ix2 R K) : EReal) * x1 (ix2 n K)
        + ∑ K : Fin 2816, (val_main_v6 (F := Ideal) x0 x1 x3 x4 (ix2 R K) : EReal) * x2 (ix2 n K) := by
  rw [val_main_v13_apply, val_main_v11_apply, val_main_v12_apply]
  refine (add_comm _ _).trans (congr (congrArg HAdd.hAdd ?_) ?_) <;> refine Finset.sum_congr rfl fun K _ => ?_ <;> congr 1 <;>
    refine congrArg _ ?_ <;> idx_ext <;> rfl

end Cert.FfnBwdRefIdeal.Entries

end
-- ==== Proof.FfnBwd.Blocks.lean ====
/- The blocks a grid point of the feed-forward backward kernel sees, and its entries against the reference's. -/
module

public import proofs.«01_k».proof.Proof.FfnBwd.Points
public import proofs.«01_k».proof.Proof.FfnBwd.Ref

@[expose] public section

noncomputable section

open Idealize.ShloMosaic Idealize.ShloMosaic.TcCoe Idealize.SL.Sem

namespace Cert.FfnBwdIdeal.Final

open Cert.FfnBwdIdeal Cert.FfnBwdIdeal.Gen Cert.FfnBwdIdeal.Value Cert.FfnBwdIdeal.Step
open Cert.FfnBwdRefIdeal.Read
open Cert.FfnBwdRefIdeal
open Cert.Silu (logi)
open Cert.Reals (IsReal)

variable (m : (ℓ : Loc nD τ sig) → Buf (Elt Ideal) ℓ)

/-- Which block of each array a grid point sees: point `11·i + j` is slab `i` of the rows and tile `j` of the hidden width. -/
theorem idx : ∀ t : Fin cfg0.N,
    win0_0.index t = ![t.val / 11, 0] ∧ win0_1.index t = ![t.val % 11, t.val / 11, 0] ∧ win0_2.index t = ![t.val % 11, t.val / 11, 0]
      ∧ win0_3.index t = ![t.val % 11, 0] ∧ win0_4.index t = ![t.val % 11, 0] ∧ win0_5.index t = ![t.val % 11, 0]
      ∧ win0_6.index t = ![t.val % 11, t.val / 11, 0] ∧ win0_7.index t = ![t.val % 11, t.val / 11, 0]
      ∧ win0_8.index t = ![t.val % 11, t.val / 11, 0] ∧ win0_9.index t = ![t.val / 11, 0] :=
  (by decide +kernel : ∀ t : Fin grid0.N, _)

/-- The layer's input. -/
abbrev xh (c : Dev nD) := m ((c : Thread nD τ).loc main_arg0)
/-- The gate weight. -/
abbrev xg (c : Dev nD) := m ((c : Thread nD τ).loc main_arg1)
/-- The linear branch's weight. -/
abbrev xu (c : Dev nD) := m ((c : Thread nD τ).loc main_arg2)
/-- The output weight. -/
abbrev xd (c : Dev nD) := m ((c : Thread nD τ).loc main_arg3)
/-- The incoming cotangent. -/
abbrev xc (c : Dev nD) := m ((c : Thread nD τ).loc main_arg4)

/-! ## The input blocks -/

theorem cot_blk (c : Dev nD) (t : Fin cfg0.N) (r : Fin 2048) (n : Fin 1024) (R : Fin 8192) (h : (R : ℕ) = 2048 * (t.val / 11) + r) :
    (iblk m c 0 t : Vec Ideal S2048x1024 .bf16) (ix2 r n) = xc m c (ix2 R n) := by
  blk_ext! [iblk, V, idx t]

theorem gate_tiles (c : Dev nD) (T : Fin 11) (R : Fin 8192) (L : Fin 256) (K : Fin 2816) (hk : (K : ℕ) = 256 * T + L) :
    (V m c main_v5 : Vec Ideal S11x8192x256 .bf16) (ix3 T R L) = val_main_v0 (F := Ideal) (xh m c) (xg m c) (ix2 R K) := by
  rw [val_main_v0_apply]
  entry_read
  pointwise
  show @Eq EReal _ _
  refine Finset.sum_congr rfl fun n _ => congr (congrArg HMul.hMul (congrArg _ ?_)) (congrArg _ ?_) <;> idx_ext <;> simp <;> omega

theorem up_tiles (c : Dev nD) (T : Fin 11) (R : Fin 8192) (L : Fin 256) (K : Fin 2816) (hk : (K : ℕ) = 256 * T + L) :
    (V m c main_v7 : Vec Ideal S11x8192x256 .bf16) (ix3 T R L) = val_main_v1 (F := Ideal) (xh m c) (xu m c) (ix2 R K) := by
  rw [val_main_v1_apply]
  entry_read
  pointwise
  show @Eq EReal _ _
  refine Finset.sum_congr rfl fun n _ => congr (congrArg HMul.hMul (congrArg _ ?_)) (congrArg _ ?_) <;> idx_ext <;> simp <;> omega

theorem gate_blk (c : Dev nD) (t : Fin cfg0.N) (y : S1x2048x256.Idx) (R : Fin 8192) (K : Fin 2816) (h : (R : ℕ) = 2048 * (t.val / 11) + y 1)
    (hk : (K : ℕ) = 256 * (t.val % 11) + y 2) :
    (iblk m c 1 t : Vec Ideal S1x2048x256 .bf16) y = val_main_v0 (F := Ideal) (xh m c) (xg m c) (ix2 R K) := by
  have hT : t.val % 11 < 11 := Nat.mod_lt _ (by decide)
  rw [← gate_tiles m c ⟨t.val % 11, hT⟩ R (y 2) K hk]
  blk_ext [iblk, idx t]

theorem up_blk (c : Dev nD) (t : Fin cfg0.N) (y : S1x2048x256.Idx) (R : Fin 8192) (K : Fin 2816) (h : (R : ℕ) = 2048 * (t.val / 11) + y 1)
    (hk : (K : ℕ) = 256 * (t.val % 11) + y 2) :
    (iblk m c 2 t : Vec Ideal S1x2048x256 .bf16) y = val_main_v1 (F := Ideal) (xh m c) (xu m c) (ix2 R K) := by
  have hT : t.val % 11 < 11 := Nat.mod_lt _ (by decide)
  rw [← up_tiles m c ⟨t.val % 11, hT⟩ R (y 2) K hk]
  blk_ext [iblk, idx t]

theorem wg_blk (c : Dev nD) (t : Fin cfg0.N) (k : Fin 256) (n : Fin 1024) (K : Fin 2816) (hk : (K : ℕ) = 256 * (t.val % 11) + k) :
    (iblk m c 3 t : Vec Ideal S256x1024 .bf16) (ix2 k n) = xg m c (ix2 n K) := by
  blk_ext! [iblk, V, idx t]

theorem wu_blk (c : Dev nD) (t : Fin cfg0.N) (k : Fin 256) (n : Fin 1024) (K : Fin 2816) (hk : (K : ℕ) = 256 * (t.val % 11) + k) :
    (iblk m c 4 t : Vec Ideal S256x1024 .bf16) (ix2 k n) = xu m c (ix2 n K) := by
  blk_ext! [iblk, V, idx t]

theorem wd_blk (c : Dev nD) (t : Fin cfg0.N) (k : Fin 256) (n : Fin 1024) (K : Fin 2816) (hk : (K : ℕ) = 256 * (t.val % 11) + k) :
    (iblk m c 5 t : Vec Ideal S256x1024 .bf16) (ix2 k n) = xd m c (ix2 K n) := by
  blk_ext! [iblk, V, idx t]

/-! ## A point's entries are the reference's -/

theorem da_eq (c : Dev nD) (t : Fin cfg0.N) (r : Fin 2048) (k : Fin 256) (R : Fin 8192) (K : Fin 2816) (h : (R : ℕ) = 2048 * (t.val / 11) + r)
    (hk : (K : ℕ) = 256 * (t.val % 11) + k) :
    da (iblk m c 0 t) (iblk m c 5 t) r k = val_main_v5 (F := Ideal) (xd m c) (xc m c) (ix2 R K) := by
  rw [val_main_v5_apply, da]
  refine Finset.sum_congr rfl fun n _ => ?_
  rw [cot_blk m c t r n R h, wd_blk m c t k n K hk]
  congr 1 <;> refine congrArg _ ?_ <;> idx_ext <;> rfl

theorem act_eq (c : Dev nD) (t : Fin cfg0.N) (y : S1x2048x256.Idx) (R : Fin 8192) (K : Fin 2816) (h : (R : ℕ) = 2048 * (t.val / 11) + y 1)
    (hk : (K : ℕ) = 256 * (t.val % 11) + y 2) :
    aE (iblk m c 1 t) (iblk m c 2 t) y = val_main_v3 (F := Ideal) (xh m c) (xg m c) (xu m c) (ix2 R K) := by
  rw [aE, gate_blk m c t y R K h hk, up_blk m c t y R K h hk, Entries.act]

theorem up_eq (c : Dev nD) (t : Fin cfg0.N) (y : S1x2048x256.Idx) (R : Fin 8192) (K : Fin 2816) (h : (R : ℕ) = 2048 * (t.val / 11) + y 1)
    (hk : (K : ℕ) = 256 * (t.val % 11) + y 2) :
    dupE (iblk m c 0 t) (iblk m c 5 t) (iblk m c 1 t) y = val_main_v6 (F := Ideal) (xh m c) (xg m c) (xd m c) (xc m c) (ix2 R K) := by
  rw [dupE, gate_blk m c t y R K h hk, da_eq m c t (y 1) (y 2) R K h hk, Entries.up]

/-- Every argument is real. -/
def AllReal (c : Dev nD) : Prop :=
  (∀ i, IsReal (xh m c i)) ∧ (∀ i, IsReal (xg m c i)) ∧ (∀ i, IsReal (xu m c i)) ∧ (∀ i, IsReal (xd m c i)) ∧ ∀ i, IsReal (xc m c i)

theorem gate_eq (c : Dev nD) (hr : AllReal m c) (t : Fin cfg0.N) (y : S1x2048x256.Idx) (R : Fin 8192) (K : Fin 2816)
    (h : (R : ℕ) = 2048 * (t.val / 11) + y 1) (hk : (K : ℕ) = 256 * (t.val % 11) + y 2) :
    dgE (iblk m c 0 t) (iblk m c 5 t) (iblk m c 1 t) (iblk m c 2 t) y
      = val_main_v8 (F := Ideal) (xh m c) (xg m c) (xu m c) (xd m c) (xc m c) (ix2 R K) := by
  rw [dgE, gate_blk m c t y R K h hk, up_blk m c t y R K h hk, da_eq m c t (y 1) (y 2) R K h hk,
    Entries.gate _ _ _ _ _ hr.1 hr.2.1 hr.2.2.1 hr.2.2.2.1 hr.2.2.2.2]

end Cert.FfnBwdIdeal.Final

end
-- ==== Proof.FfnBwd.Final.lean ====
/- The arrays the feed-forward backward kernel leaves, against the reference's. -/
module

public import proofs.«01_k».proof.Proof.FfnBwd.Blocks
public import proofs.«01_k».proof.Proof.Gen.Pre_ffnb_finite

@[expose] public section

noncomputable section

open Idealize.ShloMosaic Idealize.ShloMosaic.TcCoe Idealize.SL.Sem

namespace Cert.FfnBwdIdeal.Final

open Cert.FfnBwdIdeal Cert.FfnBwdIdeal.Gen Cert.FfnBwdIdeal.Value Cert.FfnBwdIdeal.Step
open Cert.FfnBwdRefIdeal.Read
open Cert.FfnBwdRefIdeal

variable (m : (ℓ : Loc nD τ sig) → Buf (Elt Ideal) ℓ)

/-- The tile, the row and the hidden column an entry of a point's block stands at. -/
theorem tile_index (t : Fin cfg0.N) (y : S1x2048x256.Idx) :
    ∃ (T : Fin 11) (R : Fin 8192) (K : Fin 2816), (T : ℕ) = t.val % 11 ∧ (R : ℕ) = 2048 * (t.val / 11) + y 1 ∧ (K : ℕ) = 256 * (t.val % 11) + y 2 := by
  have ht : t.val < 44 := t.isLt
  idx_bounds y
  exact ⟨⟨t.val % 11, by omega⟩, ⟨2048 * (t.val / 11) + y 1, by omega⟩, ⟨256 * (t.val % 11) + y 2, by omega⟩, rfl, rfl, rfl⟩

/-- The hidden activation, tile by tile. -/
theorem act_final (c : Dev nD) :
    (dats m 0 c).arrAt 6 cfg0.N = val_main_v16 (F := Ideal) (xh m c) (xg m c) (xu m c) := by
  refine (dats m 0 c).arrAt_eq_of_covers 6 _ (by decide +kernel) fun t hf (y : S1x2048x256.Idx) => ?_
  obtain ⟨T, R, K, hT, hR, hK⟩ := tile_index t y
  have e : (win0_6.blk t).view.emb y = ix3 T R (y 2) := by blk_ext [idx t]
  blk_simp
  rw [after0_6, Step.act, e]
  exact (act_eq m c t y R K hR hK).trans (Entries.act_tile _ _ _ T R (y 2) K (by omega)).symm

/-- The gate branch's cotangent, tile by tile. -/
theorem gate_final (c : Dev nD) (hr : AllReal m c) :
    (dats m 0 c).arrAt 7 cfg0.N = val_main_v19 (F := Ideal) (xh m c) (xg m c) (xu m c) (xd m c) (xc m c) := by
  refine (dats m 0 c).arrAt_eq_of_covers 7 _ (by decide +kernel) fun t hf (y : S1x2048x256.Idx) => ?_
  obtain ⟨T, R, K, hT, hR, hK⟩ := tile_index t y
  have e : (win0_7.blk t).view.emb y = ix3 T R (y 2) := by blk_ext [idx t]
  blk_simp
  rw [after0_7, Step.gate, e]
  exact (gate_eq m c hr t y R K hR hK).trans (Entries.gate_tile _ _ _ _ _ T R (y 2) K (by omega)).symm

/-- The linear branch's cotangent, tile by tile. -/
theorem up_final (c : Dev nD) :
    (dats m 0 c).arrAt 8 cfg0.N = val_main_v22 (F := Ideal) (xh m c) (xg m c) (xd m c) (xc m c) := by
  refine (dats m 0 c).arrAt_eq_of_covers 8 _ (by decide +kernel) fun t hf (y : S1x2048x256.Idx) => ?_
  obtain ⟨T, R, K, hT, hR, hK⟩ := tile_index t y
  have e : (win0_8.blk t).view.emb y = ix3 T R (y 2) := by blk_ext [idx t]
  blk_simp
  rw [after0_8, Step.up, e]
  exact (up_eq m c t y R K hR hK).trans (Entries.up_tile _ _ _ _ T R (y 2) K (by omega)).symm

/-- One tile's share of the input's cotangent, in the reference's entries. -/
theorem part_eq (c : Dev nD) (hr : AllReal m c) (t : Fin cfg0.N) (y : S2048x1024.Idx) (R : Fin 8192) (hR : (R : ℕ) = 2048 * (t.val / 11) + y 0)
    (K : Fin 256 → Fin 2816) (hK : ∀ k, (K k : ℕ) = 256 * (t.val % 11) + k) :
    part (iblk m c 0 t) (iblk m c 5 t) (iblk m c 1 t) (iblk m c 2 t) (iblk m c 3 t) (iblk m c 4 t) y
      = ∑ k : Fin 256, (val_main_v8 (F := Ideal) (xh m c) (xg m c) (xu m c) (xd m c) (xc m c) (ix2 R (K k)) : EReal) * xg m c (ix2 (y 1) (K k))
        + ∑ k : Fin 256, (val_main_v6 (F := Ideal) (xh m c) (xg m c) (xd m c) (xc m c) (ix2 R (K k)) : EReal) * xu m c (ix2 (y 1) (K k)) := by
  unfold part
  refine congr (congrArg HAdd.hAdd ?_) ?_ <;> refine Finset.sum_congr rfl fun k _ => congr (congrArg HMul.hMul ?_) ?_
  · exact gate_eq m c hr t (ix3 0 (y 0) k) R (K k) hR (hK k)
  · exact wg_blk m c t k (y 1) (K k) (hK k)
  · exact up_eq m c t (ix3 0 (y 0) k) R (K k) hR (hK k)
  · exact wu_blk m c t k (y 1) (K k) (hK k)

/-- The cotangent of the layer's input. -/
theorem input_final (c : Dev nD) (hr : AllReal m c) :
    (dats m 0 c).arrAt 9 cfg0.N = val_main_v13 (F := Ideal) (xh m c) (xg m c) (xu m c) (xd m c) (xc m c) := by
  refine (dats m 0 c).arrAt_eq_of_covers 9 _ (by decide +kernel) fun t hf (y : S2048x1024.Idx) => ?_
  have ht : t.val < 44 := t.isLt
  obtain ⟨R, hR⟩ : ∃ R : Fin 8192, (R : ℕ) = 2048 * (t.val / 11) + y 0 := ⟨⟨_, by idx_bounds y; omega⟩, rfl⟩
  have e : (win0_9.blk t).view.emb y = ix2 R (y 1) := by blk_ext [idx t]
  blk_simp
  rw [after0_9, e]
  refine (Pipeline.eq_sum_fin_of_reset_step_apply_of_flush (fun n h => (outsAt0 m c n h).2.2.2) 11 (fun _ => (0 : EReal)) _
    (fun t h y => (dh_A m c t h y).trans (zero_add _).symm) (fun t h y => dh_B m c t h y) t ((flush0_9 t).mp hf) y).trans ?_
  rw [zero_add]
  refine Eq.trans ?_ (Entries.input _ _ _ _ _ R (y 1)).symm
  have hp : ∀ s : Fin 11, 11 * (t.val / 11) + s.val < cfg0.N := fun s => by have e : cfg0.N = 44 := N_0; omega
  have q : ∀ s : Fin 11, _ := fun s =>
    part_eq m c hr ⟨11 * (t.val / 11) + s.val, hp s⟩ y R (hR.trans (by show _ = 2048 * ((11 * (t.val / 11) + s.val) / 11) + _; omega))
      (fun k => ⟨s.val * 256 + k.val, by omega⟩) fun k => by show s.val * 256 + k.val = 256 * ((11 * (t.val / 11) + s.val) % 11) + k.val; omega
  refine (Finset.sum_congr rfl fun s _ => q s).trans ?_
  rw [Finset.sum_add_distrib]
  refine congr (congrArg HAdd.hAdd ?_) ?_ <;> exact Fin.sum_mul_add_congr fun s k hl => rfl

end Cert.FfnBwdIdeal.Final

namespace Cert.Proof.FfnBwdClaims

open Cert.FfnBwdIdeal.Final

/-- The kernel's activation and three cotangents and the reference's agree over the reals. -/
theorem algebraic : Cert.algebraic_FfnBwdIdeal_FfnBwdRefIdeal_pre_ffnb_finite := by
  intro m g m' g' hp hm
  have hr : ∀ c, AllReal m c := fun c => Cert.Pre_ffnb_finite.all_real _ _ _ _ _ (hp c)
  refine ⟨_, _, _, _, Cert.FfnBwdIdeal.Value.run_blocks m g, θ_run_mono (Cert.FfnBwdRefIdeal.Value.run m' g') fun r h c =>
    ⟨(h c).1.trans ?_, (h c).2.1.trans ?_, (h c).2.2.1.trans ?_, (h c).2.2.2.1.trans ?_, (h c).2.2.2.2⟩⟩
  all_goals rw [(hm c).1, (hm c).2.1]
  · rw [(hm c).2.2.1]
    exact (Cert.FfnBwdRefIdeal.Read.val_main_v16_eq _ _ _).trans (act_final m c).symm
  · rw [(hm c).2.2.1, (hm c).2.2.2.1, (hm c).2.2.2.2]
    exact (Cert.FfnBwdRefIdeal.Read.val_main_v19_eq _ _ _ _ _).trans (gate_final m c (hr c)).symm
  · rw [(hm c).2.2.2.1, (hm c).2.2.2.2]
    exact (Cert.FfnBwdRefIdeal.Read.val_main_v22_eq _ _ _ _).trans (up_final m c).symm
  · rw [(hm c).2.2.1, (hm c).2.2.2.1, (hm c).2.2.2.2]
    exact (Cert.FfnBwdRefIdeal.Read.val_main_v13_eq _ _ _ _ _).trans (input_final m c (hr c)).symm

end Cert.Proof.FfnBwdClaims

end
-- ==== Proof.GradDown.Step.lean ====
/- What one grid point of the weight-gradient kernel adds to the gradient. -/
module

public import proofs.«01_k».proof.Defs
public import proofs.«01_k».proof.Proof.Gen.GradDownIdeal.Value
public import Idealize.ShloMosaic.Lib.Pipeline.ValueKit
public import Idealize.ShloMosaic.Lib.Claim
public import Idealize.ShloMosaic.Lib.Pointwise

@[expose] public section

noncomputable section

namespace Cert.GradDownIdeal.Sum

open Idealize.ShloMosaic Idealize.ShloMosaic.TcCoe Idealize.SL.Sem
open Cert.GradDownIdeal Cert.GradDownIdeal.Gen Cert.GradDownIdeal.Value

variable (m : (ℓ : Loc nD τ sig) → Buf (Elt Ideal) ℓ)

/-- One point's share of the gradient: the 1024 rows the point sees, row `r` of the result being lane `r % 256` of tile
    `r / 256` of the activations. -/
def part (a : Vec Ideal S11x1024x256 .bf16) (d : Vec Ideal S1024x1024 .bf16) (y : S2816x1024.Idx) : EReal :=
  ∑ k : Fin 1024, (a (ix3 ⟨(y 0).val / 256, by idx_bounds y; omega⟩ k ⟨(y 0).val % 256, by omega⟩) : EReal) * d (ix2 k (y 1))

/-- The product one store writes, read at an element of its 256 rows. -/
theorem product_apply (a : Vec Ideal S1x1024x256 .bf16) (d : Vec Ideal S1024x1024 .bf16) (x : S256x1024.Idx) :
    k0_pay3 (F := Ideal) a d x = ∑ k : Fin 1024, (a (ix3 0 k (x 0)) : EReal) * d (ix2 k (x 1)) := by
  pointwise [k0_pay3]

/-- The same product added to what the rows held. -/
theorem add_apply (a : Vec Ideal S1x1024x256 .bf16) (d : Vec Ideal S1024x1024 .bf16) (o : Vec Ideal S256x1024 .f32) (x : S256x1024.Idx) :
    k0_pay5 (F := Ideal) a d o x = o x + ∑ k : Fin 1024, (a (ix3 0 k (x 0)) : EReal) * d (ix2 k (x 1)) := by
  pointwise [k0_pay5]

theorem sum_eq_part (i : ℕ) (inb) (a : Vec Ideal S11x1024x256 .bf16) (d : Vec Ideal S1024x1024 .bf16) (y : S2816x1024.Idx) (x : S256x1024.Idx)
    (h0 : (y 0 : ℕ) = 256 * i + x 0) (h1 : (y 1 : ℕ) = x 1) :
    ∑ k : Fin 1024, (View.ld a (Rect.unit ![i, 0, 0] ![1, 1024, 256] inb) (ix3 0 k (x 0)) : EReal) * d (ix2 k (x 1)) = part a d y := by
  idx_bounds x
  unfold part
  refine Finset.sum_congr rfl fun k _ => congr (congrArg HMul.hMul ?_) (congrArg d (congrArg (ix2 k) (Fin.ext h1.symm : (x 1 : Fin 1024) = y 1)))
  refine View.ld_unit_apply_of _ _ _ _ _ _ fun b => ?_
  match b with
  | ⟨0, _⟩ => show (y 0 : ℕ) / 256 = i + 0; omega
  | ⟨1, _⟩ => exact (Nat.zero_add _).symm
  | ⟨2, _⟩ => show (y 0 : ℕ) % 256 = 0 + x 0; omega

theorem first_apply (i : ℕ) (inb) (a : Vec Ideal S11x1024x256 .bf16) (d : Vec Ideal S1024x1024 .bf16) (y : S2816x1024.Idx) (x : S256x1024.Idx)
    (h0 : (y 0 : ℕ) = 256 * i + x 0) (h1 : (y 1 : ℕ) = x 1) :
    k0_pay3 (F := Ideal) (View.ld a (Rect.unit ![i, 0, 0] ![1, 1024, 256] inb)) d x = part a d y := by
  rw [product_apply, sum_eq_part i inb a d y x h0 h1]

theorem later_apply (i j : ℕ) (inb inb') (a : Vec Ideal S11x1024x256 .bf16) (d : Vec Ideal S1024x1024 .bf16) (o : Vec Ideal S2816x1024 .f32)
    (y : S2816x1024.Idx) (x : S256x1024.Idx) (hj : j = 256 * i) (h0 : (y 0 : ℕ) = 256 * i + x 0) (h1 : (y 1 : ℕ) = x 1) :
    k0_pay5 (F := Ideal) (View.ld a (Rect.unit ![i, 0, 0] ![1, 1024, 256] inb)) d (View.ld o (Rect.unit ![j, 0] ![256, 1024] inb')) x
      = o y + part a d y := by
  rw [add_apply, sum_eq_part i inb a d y x h0 h1]
  refine congrArg (· + _) (View.ld_unit_apply_of _ _ _ _ _ _ fun b => ?_)
  match b with
  | ⟨0, _⟩ => show (y 0 : ℕ) = j + x 0; omega
  | ⟨1, _⟩ => show (y 1 : ℕ) = 0 + x 1; omega

theorem step_A (c : Dev nD) (t : Fin cfg0.N) (h0 : t.val % 8 = 0) (y : S2816x1024.Idx) :
    outsAt0 m c t.val t.isLt y = 0 + part (iblk m c 0 t) (iblk m c 1 t) y := by
  rw [zero_add]
  have h1 : ¬ 1 ≤ t.val := by have := t.isLt; have e : cfg0.N = 8 := N_0; omega
  rw [outsAt0_A m c t h0 h1]
  frame_out
  canon_tiles x h
  all_goals exact first_apply _ _ _ _ y x (by omega) (by omega)

theorem step_B (c : Dev nD) (t : Fin cfg0.N) (h0 : ¬ t.val % 8 = 0) (y : S2816x1024.Idx) :
    outsAt0 m c t.val t.isLt y
      = outsAt0 m c (t.val - 1) (Nat.lt_of_le_of_lt (Nat.sub_le _ _) t.isLt) y + part (iblk m c 0 t) (iblk m c 1 t) y := by
  have h1 : 1 ≤ t.val := by omega
  rw [outsAt0_B m c t h0 h1]
  frame_out
  canon_tiles x h
  all_goals exact later_apply _ _ _ _ _ _ _ y x (by omega) (by omega) (by omega)

end Cert.GradDownIdeal.Sum

end
-- ==== Proof.GradDown.Final.lean ====
/- The gradient the kernel leaves: the sum over all 8192 rows, which is the reference's product. -/
module

public import proofs.«01_k».proof.Proof.GradDown.Step
public import proofs.«01_k».proof.Proof.Gen.GradDownRefIdeal.Read

@[expose] public section

noncomputable section

open Idealize.ShloMosaic Idealize.ShloMosaic.TcCoe Idealize.SL.Sem

namespace Cert.GradDownIdeal.Sum

open Cert.GradDownIdeal Cert.GradDownIdeal.Gen Cert.GradDownIdeal.Value

variable (m : (ℓ : Loc nD τ sig) → Buf (Elt Ideal) ℓ)

/-- Which block of each input a grid point sees. -/
theorem idx : ∀ t : Fin cfg0.N, win0_0.index t = ![0, t.val, 0] ∧ win0_1.index t = ![t.val, 0] :=
  (by decide +kernel : ∀ t : Fin grid0.N, _)

theorem final (c : Dev nD) :
    (dats m 0 c).arrAt 2 cfg0.N
      = Cert.GradDownRefIdeal.Read.val_main_v3 (F := Ideal) (m ((c : Thread nD τ).loc main_arg0)) (m ((c : Thread nD τ).loc main_arg1)) := by
  refine (dats m 0 c).arrAt_eq_of_after_last 2 t0_7 (by decide +kernel) _ fun y => ?_
  blk_simp
  rw [after0_2, Pipeline.eq_sum_fin_of_reset_step_apply_last (fun n h => outsAt0 m c n h) 8 (fun _ => (0 : EReal)) _
    (fun t h y => step_A m c t h y) (fun t h y => step_B m c t h y) (le_of_eq N_0) t0_7 rfl y, zero_add]
  rw [Cert.GradDownRefIdeal.Read.val_main_v3_apply, Cert.GradDownRefIdeal.Read.val_main_v2_apply]
  unfold part
  refine Fin.sum_mul_add_congr fun t k hl => ?_
  rw [mul_comm]
  congr 1
  · blk_ext! [iblk, V, idx t]
  · blk_ext! [iblk, V, idx t]

end Cert.GradDownIdeal.Sum

namespace Cert.Proof.GradDownClaims

/-- The kernel's gradient and the reference's agree over the reals. -/
theorem algebraic : Cert.algebraic_GradDownIdeal_GradDownRefIdeal := by
  intro m g m' g' _ hm
  refine ⟨_, Cert.GradDownIdeal.Value.run_blocks m g, θ_run_mono (Cert.GradDownRefIdeal.Value.run m' g') fun r h c => ⟨(h c).1.trans ?_, (h c).2⟩⟩
  rw [(hm c).1, (hm c).2]
  exact (Cert.GradDownRefIdeal.Read.val_main_v3_eq _ _).trans (Cert.GradDownIdeal.Sum.final m c).symm

end Cert.Proof.GradDownClaims

end
-- ==== Proof.GradOutPool.Step.lean ====
/- What one grid point of the output projection's pooled weight-gradient kernel adds to the gradient. -/
module

public import proofs.«01_k».proof.Defs
public import proofs.«01_k».proof.Proof.Gen.GradOutPoolIdeal.Value
public import Idealize.ShloMosaic.Lib.Pipeline.ValueKit
public import Idealize.ShloMosaic.Lib.Claim
public import Idealize.ShloMosaic.Lib.Pointwise

@[expose] public section

noncomputable section

namespace Cert.GradOutPoolIdeal.Sum

open Idealize.ShloMosaic Idealize.ShloMosaic.TcCoe Idealize.SL.Sem
open Cert.GradOutPoolIdeal Cert.GradOutPoolIdeal.Gen Cert.GradOutPoolIdeal.Value

variable (m : (ℓ : Loc nD τ sig) → Buf (Elt Ideal) ℓ)

/-- One point's share of the gradient: the 1024 rows the point sees. -/
def part (a : Vec Ideal S1024x256 .bf16) (d : Vec Ideal S1024x1024 .bf16) (y : S256x1024.Idx) : EReal :=
  ∑ k : Fin 1024, (a (ix2 k (y 0)) : EReal) * d (ix2 k (y 1))

/-- What the first point stores. -/
theorem first_apply (a : Vec Ideal S1024x256 .bf16) (d : Vec Ideal S1024x1024 .bf16) (y : S256x1024.Idx) :
    k0_pay1 (F := Ideal) a d y = part a d y := by
  pointwise [k0_pay1]
  rfl

/-- What a later point stores. -/
theorem later_apply (a : Vec Ideal S1024x256 .bf16) (d : Vec Ideal S1024x1024 .bf16) (o : Vec Ideal S256x1024 .f32) (y : S256x1024.Idx) :
    k0_pay2 (F := Ideal) a d o y = o y + part a d y := by
  pointwise [k0_pay2]
  rfl

theorem step_A (c : Dev nD) (t : Fin cfg0.N) (h0 : t.val % 8 = 0) (y : S256x1024.Idx) :
    outsAt0 m c t.val t.isLt y = 0 + part (iblk m c 0 t) (iblk m c 1 t) y := by
  rw [zero_add]
  have h1 : ¬ 1 ≤ t.val := by have := t.isLt; have e : cfg0.N = 8 := N_0; omega
  rw [outsAt0_A m c t h0 h1]
  frame_out
  exact first_apply _ _ y

theorem step_B (c : Dev nD) (t : Fin cfg0.N) (h0 : ¬ t.val % 8 = 0) (y : S256x1024.Idx) :
    outsAt0 m c t.val t.isLt y
      = outsAt0 m c (t.val - 1) (Nat.lt_of_le_of_lt (Nat.sub_le _ _) t.isLt) y + part (iblk m c 0 t) (iblk m c 1 t) y := by
  have h1 : 1 ≤ t.val := by omega
  rw [outsAt0_B m c t h0 h1]
  frame_out
  exact later_apply _ _ _ y

end Cert.GradOutPoolIdeal.Sum

end
-- ==== Proof.GradOutPool.Final.lean ====
/- The gradient the kernel leaves: the sum over all 8192 rows, which is the reference's product, for the output projection's pooled weight. -/
module

public import proofs.«01_k».proof.Proof.GradOutPool.Step
public import proofs.«01_k».proof.Proof.Gen.GradOutPoolRefIdeal.Read

@[expose] public section

noncomputable section

open Idealize.ShloMosaic Idealize.ShloMosaic.TcCoe Idealize.SL.Sem

namespace Cert.GradOutPoolIdeal.Sum

open Cert.GradOutPoolIdeal Cert.GradOutPoolIdeal.Gen Cert.GradOutPoolIdeal.Value

variable (m : (ℓ : Loc nD τ sig) → Buf (Elt Ideal) ℓ)

/-- Which block of each input a grid point sees. -/
theorem idx : ∀ t : Fin cfg0.N, win0_0.index t = ![t.val, 0] ∧ win0_1.index t = ![t.val, 0] :=
  (by decide +kernel : ∀ t : Fin grid0.N, _)

theorem final (c : Dev nD) :
    (dats m 0 c).arrAt 2 cfg0.N
      = Cert.GradOutPoolRefIdeal.Read.val_main_v3 (F := Ideal) (m ((c : Thread nD τ).loc main_arg0)) (m ((c : Thread nD τ).loc main_arg1)) := by
  refine (dats m 0 c).arrAt_eq_of_after_last 2 t0_7 (by decide +kernel) _ fun y => ?_
  blk_simp
  rw [after0_2, Pipeline.eq_sum_fin_of_reset_step_apply_last (fun n h => outsAt0 m c n h) 8 (fun _ => (0 : EReal)) _
    (fun t h y => step_A m c t h y) (fun t h y => step_B m c t h y) (le_of_eq N_0) t0_7 rfl y, zero_add]
  rw [Cert.GradOutPoolRefIdeal.Read.val_main_v3_apply, Cert.GradOutPoolRefIdeal.Read.val_main_v2_apply]
  unfold part
  refine Fin.sum_mul_add_congr fun t k hl => ?_
  rw [mul_comm]
  congr 1
  · blk_ext! [iblk, V, idx t]
  · blk_ext! [iblk, V, idx t]

end Cert.GradOutPoolIdeal.Sum

namespace Cert.Proof.GradOutPoolClaims

/-- The kernel's gradient and the reference's agree over the reals. -/
theorem algebraic : Cert.algebraic_GradOutPoolIdeal_GradOutPoolRefIdeal := by
  intro m g m' g' _ hm
  refine ⟨_, Cert.GradOutPoolIdeal.Value.run_blocks m g, θ_run_mono (Cert.GradOutPoolRefIdeal.Value.run m' g') fun r h c => ⟨(h c).1.trans ?_, (h c).2⟩⟩
  rw [(hm c).1, (hm c).2]
  exact (Cert.GradOutPoolRefIdeal.Read.val_main_v3_eq _ _).trans (Cert.GradOutPoolIdeal.Sum.final m c).symm

end Cert.Proof.GradOutPoolClaims

end
-- ==== Proof.GradOutAttn.Step.lean ====
/- What one grid point of the output projection's attention weight-gradient kernel adds to the gradient. -/
module

public import proofs.«01_k».proof.Defs
public import proofs.«01_k».proof.Proof.Gen.GradOutAttnIdeal.Value
public import Idealize.ShloMosaic.Lib.Pipeline.ValueKit
public import Idealize.ShloMosaic.Lib.Claim
public import Idealize.ShloMosaic.Lib.Pointwise

@[expose] public section

noncomputable section

namespace Cert.GradOutAttnIdeal.Sum

open Idealize.ShloMosaic Idealize.ShloMosaic.TcCoe Idealize.SL.Sem
open Cert.GradOutAttnIdeal Cert.GradOutAttnIdeal.Gen Cert.GradOutAttnIdeal.Value

variable (m : (ℓ : Loc nD τ sig) → Buf (Elt Ideal) ℓ)

/-- One point's share of the gradient: the 1024 rows the point sees. -/
def part (a : Vec Ideal S1024x768 .bf16) (d : Vec Ideal S1024x1024 .bf16) (y : S768x1024.Idx) : EReal :=
  ∑ k : Fin 1024, (a (ix2 k (y 0)) : EReal) * d (ix2 k (y 1))

theorem product_apply (a : Vec Ideal S1024x256 .bf16) (d : Vec Ideal S1024x1024 .bf16) (x : S256x1024.Idx) :
    k0_pay1 (F := Ideal) a d x = ∑ k : Fin 1024, (a (ix2 k (x 0)) : EReal) * d (ix2 k (x 1)) := by
  pointwise [k0_pay1]

theorem add_apply (a : Vec Ideal S1024x256 .bf16) (d : Vec Ideal S1024x1024 .bf16) (o : Vec Ideal S256x1024 .f32) (x : S256x1024.Idx) :
    k0_pay4 (F := Ideal) a d o x = o x + ∑ k : Fin 1024, (a (ix2 k (x 0)) : EReal) * d (ix2 k (x 1)) := by
  pointwise [k0_pay4]

theorem sum_eq_part (i : ℕ) (inb) (a : Vec Ideal S1024x768 .bf16) (d : Vec Ideal S1024x1024 .bf16) (y : S768x1024.Idx) (x : S256x1024.Idx)
    (h0 : (y 0 : ℕ) = i + x 0) (h1 : (y 1 : ℕ) = x 1) :
    ∑ k : Fin 1024, (View.ld a (Rect.unit ![0, i] ![1024, 256] inb) (ix2 k (x 0)) : EReal) * d (ix2 k (x 1)) = part a d y := by
  unfold part
  refine Finset.sum_congr rfl fun k _ => congr (congrArg HMul.hMul ?_) (congrArg d (congrArg (ix2 k) (Fin.ext h1.symm : (x 1 : Fin 1024) = y 1)))
  refine View.ld_unit_apply_of _ _ _ _ _ _ fun b => ?_
  match b with
  | ⟨0, _⟩ => exact (Nat.zero_add _).symm
  | ⟨1, _⟩ => exact h0

/-- What the first point stores, tile by tile of 256 rows. -/
theorem first_apply (i : ℕ) (inb) (a : Vec Ideal S1024x768 .bf16) (d : Vec Ideal S1024x1024 .bf16) (y : S768x1024.Idx) (x : S256x1024.Idx)
    (h0 : (y 0 : ℕ) = i + x 0) (h1 : (y 1 : ℕ) = x 1) :
    k0_pay1 (F := Ideal) (View.ld a (Rect.unit ![0, i] ![1024, 256] inb)) d x = part a d y := by
  rw [product_apply, sum_eq_part i inb a d y x h0 h1]

/-- What a later point stores, tile by tile of 256 rows. -/
theorem later_apply (i : ℕ) (inb inb') (a : Vec Ideal S1024x768 .bf16) (d : Vec Ideal S1024x1024 .bf16) (o : Vec Ideal S768x1024 .f32)
    (y : S768x1024.Idx) (x : S256x1024.Idx) (h0 : (y 0 : ℕ) = i + x 0) (h1 : (y 1 : ℕ) = x 1) :
    k0_pay4 (F := Ideal) (View.ld a (Rect.unit ![0, i] ![1024, 256] inb)) d (View.ld o (Rect.unit ![i, 0] ![256, 1024] inb')) x
      = o y + part a d y := by
  rw [add_apply, sum_eq_part i inb a d y x h0 h1]
  refine congrArg (· + _) (View.ld_unit_apply_of _ _ _ _ _ _ fun b => ?_)
  match b with
  | ⟨0, _⟩ => exact h0
  | ⟨1, _⟩ => show (y 1 : ℕ) = 0 + x 1; omega

theorem step_A (c : Dev nD) (t : Fin cfg0.N) (h0 : t.val % 8 = 0) (y : S768x1024.Idx) :
    outsAt0 m c t.val t.isLt y = 0 + part (iblk m c 0 t) (iblk m c 1 t) y := by
  rw [zero_add]
  have h1 : ¬ 1 ≤ t.val := by have := t.isLt; have e : cfg0.N = 8 := N_0; omega
  rw [outsAt0_A m c t h0 h1]
  frame_out
  canon_tiles x h
  all_goals exact first_apply _ _ _ _ y x (by omega) (by omega)

theorem step_B (c : Dev nD) (t : Fin cfg0.N) (h0 : ¬ t.val % 8 = 0) (y : S768x1024.Idx) :
    outsAt0 m c t.val t.isLt y
      = outsAt0 m c (t.val - 1) (Nat.lt_of_le_of_lt (Nat.sub_le _ _) t.isLt) y + part (iblk m c 0 t) (iblk m c 1 t) y := by
  have h1 : 1 ≤ t.val := by omega
  rw [outsAt0_B m c t h0 h1]
  frame_out
  canon_tiles x h
  all_goals exact later_apply _ _ _ _ _ _ y x (by omega) (by omega)

end Cert.GradOutAttnIdeal.Sum

end
-- ==== Proof.GradOutAttn.Final.lean ====
/- The gradient the kernel leaves: the sum over all 8192 rows, which is the reference's product, for the output projection's attention weight. -/
module

public import proofs.«01_k».proof.Proof.GradOutAttn.Step
public import proofs.«01_k».proof.Proof.Gen.GradOutAttnRefIdeal.Read

@[expose] public section

noncomputable section

open Idealize.ShloMosaic Idealize.ShloMosaic.TcCoe Idealize.SL.Sem

namespace Cert.GradOutAttnIdeal.Sum

open Cert.GradOutAttnIdeal Cert.GradOutAttnIdeal.Gen Cert.GradOutAttnIdeal.Value

variable (m : (ℓ : Loc nD τ sig) → Buf (Elt Ideal) ℓ)

/-- Which block of each input a grid point sees. -/
theorem idx : ∀ t : Fin cfg0.N, win0_0.index t = ![t.val, 0] ∧ win0_1.index t = ![t.val, 0] :=
  (by decide +kernel : ∀ t : Fin grid0.N, _)

theorem final (c : Dev nD) :
    (dats m 0 c).arrAt 2 cfg0.N
      = Cert.GradOutAttnRefIdeal.Read.val_main_v3 (F := Ideal) (m ((c : Thread nD τ).loc main_arg0)) (m ((c : Thread nD τ).loc main_arg1)) := by
  refine (dats m 0 c).arrAt_eq_of_after_last 2 t0_7 (by decide +kernel) _ fun y => ?_
  blk_simp
  rw [after0_2, Pipeline.eq_sum_fin_of_reset_step_apply_last (fun n h => outsAt0 m c n h) 8 (fun _ => (0 : EReal)) _
    (fun t h y => step_A m c t h y) (fun t h y => step_B m c t h y) (le_of_eq N_0) t0_7 rfl y, zero_add]
  rw [Cert.GradOutAttnRefIdeal.Read.val_main_v3_apply, Cert.GradOutAttnRefIdeal.Read.val_main_v2_apply]
  unfold part
  refine Fin.sum_mul_add_congr fun t k hl => ?_
  rw [mul_comm]
  congr 1
  · blk_ext! [iblk, V, idx t]
  · blk_ext! [iblk, V, idx t]

end Cert.GradOutAttnIdeal.Sum

namespace Cert.Proof.GradOutAttnClaims

/-- The kernel's gradient and the reference's agree over the reals. -/
theorem algebraic : Cert.algebraic_GradOutAttnIdeal_GradOutAttnRefIdeal := by
  intro m g m' g' _ hm
  refine ⟨_, Cert.GradOutAttnIdeal.Value.run_blocks m g, θ_run_mono (Cert.GradOutAttnRefIdeal.Value.run m' g') fun r h c => ⟨(h c).1.trans ?_, (h c).2⟩⟩
  rw [(hm c).1, (hm c).2]
  exact (Cert.GradOutAttnRefIdeal.Read.val_main_v3_eq _ _).trans (Cert.GradOutAttnIdeal.Sum.final m c).symm

end Cert.Proof.GradOutAttnClaims

end
-- ==== Proof.LossHead.Step.lean ====
/- What one grid point of the loss head writes, read at an entry. -/
module

public import proofs.«01_k».proof.Defs
public import proofs.«01_k».proof.Proof.Gen.LossHeadIdeal.Value
public import proofs.«01_k».proof.Proof.Norm
public import Idealize.ShloMosaic.Lib.Pipeline.ValueKit
public import Idealize.ShloMosaic.Lib.Claim
public import Idealize.ShloMosaic.Lib.Pointwise

@[expose] public section

noncomputable section

namespace Cert.LossHeadIdeal.Step

open Idealize.ShloMosaic Idealize.ShloMosaic.TcCoe Idealize.SL.Sem
open Cert.LossHeadIdeal Cert.LossHeadIdeal.Gen Cert.LossHeadIdeal.Value
open Cert.Norm

variable (m : (ℓ : Loc nD τ sig) → Buf (Elt Ideal) ℓ)

/-- A row's error at a lane: the residual plus the normed feed-forward output, less the target. -/
def err (f x2 tg : Vec Ideal S1024x1024 .f32) (g : Vec Ideal S1x1024 .f32) (r : Fin 1024) (j : Fin 1024) : EReal :=
  x2 (ix2 r j) + (f (ix2 r j) : EReal) * (rms fun k => f (ix2 r k)) * g (ix2 0 j) - tg (ix2 r j)

/-- The residual's cotangent. -/
def dy (f x2 tg : Vec Ideal S1024x1024 .f32) (g : Vec Ideal S1x1024 .f32) (r : Fin 1024) (j : Fin 1024) : EReal :=
  err f x2 tg g r j * Ideal.ofBits .f32 0x3A800000#32

/-- What a tile adds to the gain's gradient. -/
def dgPart (f x2 tg : Vec Ideal S1024x1024 .f32) (g : Vec Ideal S1x1024 .f32) (j : Fin 1024) : EReal :=
  ∑ r : Fin 1024, dy f x2 tg g r j * ((f (ix2 r j) : EReal) * rms fun k => f (ix2 r k))

/-- What a tile adds to the loss. -/
def lossPart (f x2 tg : Vec Ideal S1024x1024 .f32) (g : Vec Ideal S1x1024 .f32) : EReal :=
  Ideal.ofBits .f32 0x3F000000#32 * ∑ r : Fin 1024, Ideal.div (∑ k, err f x2 tg g r k * err f x2 tg g r k) len

theorem err_apply (f x2 tg : Vec Ideal S1024x1024 .f32) (g : Vec Ideal S1x1024 .f32) (r : Fin 1024) (j : Fin 1024) :
    k0_pay8 (F := Ideal) f g x2 tg (ix2 r j) = err f x2 tg g r j := by
  pointwise [k0_pay8, k0_pay7, k0_pay6]
  rfl

theorem dy_apply (f x2 tg : Vec Ideal S1024x1024 .f32) (g : Vec Ideal S1x1024 .f32) (r : Fin 1024) (j : Fin 1024) :
    k0_pay1 (F := Ideal) (k0_pay8 f g x2 tg) k0_pay10 (ix2 r j) = dy f x2 tg g r j := by
  have e := err_apply f x2 tg g r j
  generalize k0_pay8 (F := Ideal) f g x2 tg = p at e ⊢
  pointwise [k0_pay1, k0_pay10]
  rw [e]
  rfl

theorem df_apply (f x2 tg : Vec Ideal S1024x1024 .f32) (g : Vec Ideal S1x1024 .f32) (r : Fin 1024) (j : Fin 1024) :
    k0_pay3 (F := Ideal) g (k0_pay6 f) (k0_pay7 f) (k0_pay8 f g x2 tg) k0_pay10 (ix2 r j)
      = back (dy f x2 tg g r) (fun k => g (ix2 0 k)) (fun k => f (ix2 r k)) j := by
  have e := dy_apply f x2 tg g r
  unfold k0_pay3
  generalize k0_pay1 (F := Ideal) (k0_pay8 f g x2 tg) k0_pay10 = p at e ⊢
  rw [← funext e]
  pointwise [k0_pay7, k0_pay6]
  rfl

theorem dg_apply (f x2 tg : Vec Ideal S1024x1024 .f32) (g o : Vec Ideal S1x1024 .f32) (y : S1x1024.Idx) :
    k0_pay2 (F := Ideal) (k0_pay7 f) (k0_pay8 f g x2 tg) k0_pay10 o y = o y + dgPart f x2 tg g (y 1) := by
  have e := dy_apply f x2 tg g
  unfold k0_pay2 dgPart
  generalize k0_pay1 (F := Ideal) (k0_pay8 f g x2 tg) k0_pay10 = p at e ⊢
  rw [← (funext fun r => funext (e r) : (fun r k => p (ix2 r k)) = _)]
  pointwise [k0_pay7, k0_pay6]
  rfl

theorem loss_apply (f x2 tg : Vec Ideal S1024x1024 .f32) (g : Vec Ideal S1x1024 .f32) (o : Vec Ideal S1x1 .f32) (y : S1x1.Idx) :
    k0_pay9 (F := Ideal) f g x2 tg o y = o y + lossPart f x2 tg g := by
  have e := err_apply f x2 tg g
  unfold k0_pay9 lossPart
  generalize k0_pay8 (F := Ideal) f g x2 tg = p at e ⊢
  rw [← (funext fun r => funext (e r) : (fun r k => p (ix2 r k)) = _)]
  pointwise

theorem dy_out (c : Dev nD) (t : Fin cfg0.N) (r : Fin 1024) (j : Fin 1024) :
    (outsAt0 m c t.val t.isLt).1 (ix2 r j) = dy (iblk m c 0 t) (iblk m c 1 t) (iblk m c 2 t) (iblk m c 3 t) r j := by
  by_cases h0 : t.val % 8 = 0
  · rw [outsAt0_A m c t h0]
    frame_out
    exact dy_apply _ _ _ _ r j
  · rw [outsAt0_B m c t h0]
    frame_out
    exact dy_apply _ _ _ _ r j

theorem df_out (c : Dev nD) (t : Fin cfg0.N) (r : Fin 1024) (j : Fin 1024) :
    (outsAt0 m c t.val t.isLt).2.1 (ix2 r j)
      = back (dy (iblk m c 0 t) (iblk m c 1 t) (iblk m c 2 t) (iblk m c 3 t) r) (fun k => (iblk m c 3 t : Vec Ideal S1x1024 .f32) (ix2 0 k))
          (fun k => (iblk m c 0 t : Vec Ideal S1024x1024 .f32) (ix2 r k)) j := by
  by_cases h0 : t.val % 8 = 0
  · rw [outsAt0_A m c t h0]
    frame_out
    exact df_apply _ _ _ _ r j
  · rw [outsAt0_B m c t h0]
    frame_out
    exact df_apply _ _ _ _ r j

theorem dg_A (c : Dev nD) (t : Fin cfg0.N) (h0 : t.val % 8 = 0) (y : S1x1024.Idx) :
    (outsAt0 m c t.val t.isLt).2.2.1 y = dgPart (iblk m c 0 t) (iblk m c 1 t) (iblk m c 2 t) (iblk m c 3 t) (y 1) := by
  rw [outsAt0_A m c t h0]
  frame_out
  refine (dg_apply _ _ _ _ _ y).trans ?_
  exact (congrArg (· + _) (by pointwise [k0_pay4])).trans (zero_add _)

theorem dg_B (c : Dev nD) (t : Fin cfg0.N) (h0 : ¬ t.val % 8 = 0) (y : S1x1024.Idx) :
    (outsAt0 m c t.val t.isLt).2.2.1 y = (outsAt0 m c (t.val - 1) (Nat.lt_of_le_of_lt (Nat.sub_le _ _) t.isLt)).2.2.1 y
      + dgPart (iblk m c 0 t) (iblk m c 1 t) (iblk m c 2 t) (iblk m c 3 t) (y 1) := by
  rw [outsAt0_B m c t h0]
  frame_out
  exact dg_apply _ _ _ _ _ y

theorem loss_A (c : Dev nD) (t : Fin cfg0.N) (h0 : t.val % 8 = 0) (y : S1x1.Idx) :
    (outsAt0 m c t.val t.isLt).2.2.2 y = lossPart (iblk m c 0 t) (iblk m c 1 t) (iblk m c 2 t) (iblk m c 3 t) := by
  rw [outsAt0_A m c t h0]
  frame_out
  refine (loss_apply _ _ _ _ _ y).trans ?_
  exact (congrArg (· + _) (by pointwise [k0_pay5])).trans (zero_add _)

theorem loss_B (c : Dev nD) (t : Fin cfg0.N) (h0 : ¬ t.val % 8 = 0) (y : S1x1.Idx) :
    (outsAt0 m c t.val t.isLt).2.2.2 y = (outsAt0 m c (t.val - 1) (Nat.lt_of_le_of_lt (Nat.sub_le _ _) t.isLt)).2.2.2 y
      + lossPart (iblk m c 0 t) (iblk m c 1 t) (iblk m c 2 t) (iblk m c 3 t) := by
  rw [outsAt0_B m c t h0]
  frame_out
  exact loss_apply _ _ _ _ _ y

end Cert.LossHeadIdeal.Step

end
-- ==== Proof.LossHead.Ref.lean ====
/- Entries of the loss head's reference. -/
module

public import proofs.«01_k».proof.Proof.Gen.LossHeadRefIdeal.Read
public import proofs.«01_k».proof.Proof.Norm
public import Idealize.ShloMosaic.Lib.Pointwise

@[expose] public section

noncomputable section

namespace Cert.LossHeadRefIdeal.Entries

open Idealize.ShloMosaic
open Cert.LossHeadRefIdeal Cert.LossHeadRefIdeal.Read
open Cert.Norm
open Cert.Reals

variable (x0 x1 x2 : FVec Ideal S8192x1024 .f32) (x3 : FVec Ideal S1x1024 .f32)

/-- The error at an entry. -/
theorem err_apply (R : Fin 8192) (j : Fin 1024) :
    val_main_v18 (F := Ideal) x0 x1 x2 x3 (ix2 R j)
      = x1 (ix2 R j) + (x0 (ix2 R j) : EReal) * (rms fun k => x0 (ix2 R k)) * x3 (ix2 0 j) - x2 (ix2 R j) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rfl

/-- One half, as the programs write it. -/
theorem half_eq : Ideal.ofBits .f32 0x3F000000#32 = ((1 / 2 : ℝ) : EReal) := by
  simp [Ideal.ofBits, Ideal.ieee, -EReal.coe_mul]
  norm_num

/-- The reciprocal of the row's length, as the kernel writes it. -/
theorem share_eq : Ideal.ofBits .f32 0x3A800000#32 = ((1 / 1024 : ℝ) : EReal) := by
  simp [Ideal.ofBits, Ideal.ieee, -EReal.coe_mul]
  norm_num

theorem isReal_share : IsReal (Ideal.ofBits .f32 0x3A800000#32) := ⟨_, share_eq⟩

/-- Half a sum of reals is the sum of the halves. -/
theorem half_sum {n : ℕ} {x : Fin n → EReal} (hx : ∀ k, IsReal (x k)) :
    Ideal.ofBits .f32 0x3F000000#32 * ∑ k, x k = ∑ k, Ideal.ofBits .f32 0x3F000000#32 * x k := by
  obtain ⟨x, rfl⟩ := reals hx
  rw [half_eq, coe_sum]
  simp only [← EReal.coe_mul]
  rw [coe_sum, Finset.mul_sum]

/-- Half of twice the error's share of the mean is the error's share. -/
theorem share (e : EReal) :
    Ideal.div (Ideal.ofBits .f32 0x3F000000#32 * Ideal.ofBits .f32 0x3F800000#32) len * (Ideal.ofBits .f32 0x40000000#32 * e)
      = e * Ideal.ofBits .f32 0x3A800000#32 := by
  have h2 : Ideal.ofBits .f32 0x3F800000#32 = ((1 : ℝ) : EReal) := by
    simp [Ideal.ofBits, Ideal.ieee, -EReal.coe_mul]
    norm_num
  have h3 : Ideal.ofBits .f32 0x40000000#32 = ((2 : ℝ) : EReal) := by
    simp [Ideal.ofBits, Ideal.ieee, -EReal.coe_mul]
    norm_num
  rw [half_eq, h2, h3, share_eq, len_eq, Ideal.div_coe (by norm_num), ← mul_assoc, mul_comm e]
  simp only [← EReal.coe_mul]
  norm_num

/-- The residual's cotangent. -/
theorem dy_apply (R : Fin 8192) (j : Fin 1024) :
    val_main_v32 (F := Ideal) x0 x1 x2 x3 (ix2 R j) = val_main_v18 (F := Ideal) x0 x1 x2 x3 (ix2 R j) * Ideal.ofBits .f32 0x3A800000#32 := by
  refine Eq.trans ?_ (share _)
  pointwise [val_main_v32, val_main_v31, val_main_v30, val_main_v29, val_main_v28, val_main_v27, val_main_v26, val_main_v25, val_main_v24, val_main_v23, val_main_v22, val_main_v21, val_main_v20, val_main_v19, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]

theorem df_apply (hx : ∀ i, IsReal (x0 i)) (hg : ∀ i, IsReal (x3 i)) (hd : ∀ R j, IsReal (val_main_v32 (F := Ideal) x0 x1 x2 x3 (ix2 R j)))
    (R : Fin 8192) (j : Fin 1024) :
    val_main_v54 (F := Ideal) x0 x1 x2 x3 (ix2 R j)
      = back (fun k => val_main_v32 (F := Ideal) x0 x1 x2 x3 (ix2 R k)) (fun k => x3 (ix2 0 k)) (fun k => x0 (ix2 R k)) j := by
  rw [← pull_eq (hd R) (fun k => hg (ix2 0 k)) (fun k => hx (ix2 R k)) j]
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rw [Fin.sum_univ_one]
  rfl

theorem dg_apply (j : Fin 1024) :
    val_main_v53 (F := Ideal) x0 x1 x2 x3 (ix2 0 j)
      = ∑ R : Fin 8192, (val_main_v32 (F := Ideal) x0 x1 x2 x3 (ix2 R j) : EReal) * ((x0 (ix2 R j) : EReal) * rms fun k => x0 (ix2 R k)) := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rw [Fin.sum_univ_one]
  exact Finset.sum_congr rfl fun R _ => mul_comm _ _

theorem loss_apply (y : S1x1.Idx) :
    val_main_v55 (F := Ideal) x0 x1 x2 x3 y
      = Ideal.ofBits .f32 0x3F000000#32 * ∑ R : Fin 8192, Ideal.div (∑ k : Fin 1024, val_main_v18 (F := Ideal) x0 x1 x2 x3 (ix2 R k) * val_main_v18 (F := Ideal) x0 x1 x2 x3 (ix2 R k)) len := by
  pointwise [val_main_v55, val_main_v26, val_main_v25, val_main_v24, val_main_v23, val_main_v22, val_main_v21, val_main_v20, val_main_v19, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]

end Cert.LossHeadRefIdeal.Entries

end
-- ==== Proof.LossHead.Finite.lean ====
/- Every argument of the loss head is real under its precondition. -/
module

public import proofs.«01_k».proof.Proof.Reals
public import proofs.«01_k».proof.Proof.Gen.Pre_loss_finite

@[expose] public section

noncomputable section

namespace Cert.Pre_loss_finite

open Idealize.ShloMosaic
open Cert.Reals

theorem all_real (x0 x1 x2 : FVec Ideal S8192x1024 .f32) (x3 : FVec Ideal S1x1024 .f32)
    (h : fn (F := Ideal) x0 x1 x2 x3 = fun _ => 1#1) :
    (∀ i, IsReal (x0 i)) ∧ (∀ i, IsReal (x1 i)) ∧ (∀ i, IsReal (x2 i)) ∧ ∀ i, IsReal (x3 i) := by
  have e := congrFun h fun a => a.elim0
  haveI : Subsingleton S_.Idx := ⟨fun _ _ => funext fun a => a.elim0⟩
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ (fun _ => ofBits_inf) e0, isReal_of_all _ _ _ _ _ _ (fun _ => ofBits_inf) e1,
    isReal_of_all _ _ _ _ _ _ (fun _ => ofBits_inf) e2, isReal_of_all _ _ _ _ _ _ (fun _ => ofBits_inf) e3⟩

end Cert.Pre_loss_finite

end
-- ==== Proof.LossHead.Final.lean ====
/- The gradients and the loss the loss head leaves are the reference's. -/
module

public import proofs.«01_k».proof.Proof.LossHead.Step
public import proofs.«01_k».proof.Proof.LossHead.Ref
public import proofs.«01_k».proof.Proof.LossHead.Finite

@[expose] public section

noncomputable section

open Idealize.ShloMosaic Idealize.ShloMosaic.TcCoe Idealize.SL.Sem

namespace Cert.LossHeadIdeal.Final

open Cert.LossHeadIdeal Cert.LossHeadIdeal.Gen Cert.LossHeadIdeal.Value
open Cert.LossHeadRefIdeal.Read (val_main_v18 val_main_v32 val_main_v53 val_main_v54 val_main_v55)
open Cert.LossHeadRefIdeal (Entries.err_apply Entries.dy_apply Entries.df_apply Entries.dg_apply Entries.loss_apply Entries.isReal_share Entries.half_sum)
open Cert.Reals Cert.Norm

variable (m : (ℓ : Loc nD τ sig) → Buf (Elt Ideal) ℓ)

/-- Which block of each array a grid point sees: point `t` is slab `t` of the rows. -/
theorem idx : ∀ t : Fin cfg0.N,
    win0_0.index t = ![t.val, 0] ∧ win0_1.index t = ![t.val, 0] ∧ win0_2.index t = ![t.val, 0] ∧ win0_3.index t = ![0, 0]
      ∧ win0_4.index t = ![t.val, 0] ∧ win0_5.index t = ![t.val, 0] :=
  (by decide +kernel : ∀ t : Fin grid0.N, _)

/-- The feed-forward layer's output. -/
abbrev xf (c : Dev nD) : Vec Ideal S8192x1024 .f32 := m ((c : Thread nD τ).loc main_arg0)
/-- The residual stream. -/
abbrev xr (c : Dev nD) : Vec Ideal S8192x1024 .f32 := m ((c : Thread nD τ).loc main_arg1)
/-- The target. -/
abbrev xt (c : Dev nD) : Vec Ideal S8192x1024 .f32 := m ((c : Thread nD τ).loc main_arg2)
/-- The gain of the norm after the feed-forward layer. -/
abbrev g4 (c : Dev nD) : Vec Ideal S1x1024 .f32 := m ((c : Thread nD τ).loc main_arg3)
/-- The error. -/
abbrev er (c : Dev nD) : Vec Ideal S8192x1024 .f32 := val_main_v18 (F := Ideal) (xf m c) (xr m c) (xt m c) (g4 m c)
/-- The residual's cotangent. -/
abbrev dy (c : Dev nD) : Vec Ideal S8192x1024 .f32 := val_main_v32 (F := Ideal) (xf m c) (xr m c) (xt m c) (g4 m c)

/-- Every argument entry is a real number. -/
abbrev AllReal (c : Dev nD) : Prop := (∀ i, IsReal (xf m c i)) ∧ (∀ i, IsReal (xr m c i)) ∧ (∀ i, IsReal (xt m c i)) ∧ ∀ i, IsReal (g4 m c i)

/-! ## The input blocks -/

theorem f_blk (c : Dev nD) (t : Fin cfg0.N) (r : Fin 1024) (n : Fin 1024) (R : Fin 8192) (h : (R : ℕ) = 1024 * t.val + r) :
    (iblk m c 0 t : Vec Ideal S1024x1024 .f32) (ix2 r n) = xf m c (ix2 R n) := by
  blk_ext! [iblk, V, idx t]

theorem r_blk (c : Dev nD) (t : Fin cfg0.N) (r : Fin 1024) (n : Fin 1024) (R : Fin 8192) (h : (R : ℕ) = 1024 * t.val + r) :
    (iblk m c 1 t : Vec Ideal S1024x1024 .f32) (ix2 r n) = xr m c (ix2 R n) := by
  blk_ext! [iblk, V, idx t]

theorem t_blk (c : Dev nD) (t : Fin cfg0.N) (r : Fin 1024) (n : Fin 1024) (R : Fin 8192) (h : (R : ℕ) = 1024 * t.val + r) :
    (iblk m c 2 t : Vec Ideal S1024x1024 .f32) (ix2 r n) = xt m c (ix2 R n) := by
  blk_ext! [iblk, V, idx t]

theorem g_blk (c : Dev nD) (t : Fin cfg0.N) (n : Fin 1024) : (iblk m c 3 t : Vec Ideal S1x1024 .f32) (ix2 0 n) = g4 m c (ix2 0 n) := by
  blk_ext! [iblk, V, idx t]

/-! ## Reals -/

theorem er_entry (c : Dev nD) (R : Fin 8192) (j : Fin 1024) :
    er m c (ix2 R j) = xr m c (ix2 R j) + (xf m c (ix2 R j) : EReal) * (rms fun k => xf m c (ix2 R k)) * g4 m c (ix2 0 j) - xt m c (ix2 R j) :=
  Entries.err_apply _ _ _ _ R j

theorem er_real (c : Dev nD) (hr : AllReal m c) (R : Fin 8192) (j : Fin 1024) : IsReal (er m c (ix2 R j)) := by
  rw [er_entry]
  exact ((hr.2.1 _).add (((hr.1 _).mul (isReal_rms fun k => hr.1 _)).mul (hr.2.2.2 _))).sub (hr.2.2.1 _)

theorem dy_real (c : Dev nD) (hr : AllReal m c) (R : Fin 8192) (j : Fin 1024) : IsReal (dy m c (ix2 R j)) := by
  have e : dy m c (ix2 R j) = _ := Entries.dy_apply _ _ _ _ R j
  rw [e]
  exact (er_real m c hr R j).mul Entries.isReal_share

/-! ## A row of a tile is a row of the reference -/

theorem er_row (c : Dev nD) (t : Fin cfg0.N) (r : Fin 1024) (R : Fin 8192) (h : (R : ℕ) = 1024 * t.val + r) (j : Fin 1024) :
    Step.err (iblk m c 0 t) (iblk m c 1 t) (iblk m c 2 t) (iblk m c 3 t) r j = er m c (ix2 R j) := by
  rw [er_entry]
  unfold Step.err
  rw [f_blk m c t r j R h, r_blk m c t r j R h, t_blk m c t r j R h, funext fun k => f_blk m c t r k R h, g_blk m c t j]

theorem dy_row (c : Dev nD) (t : Fin cfg0.N) (r : Fin 1024) (R : Fin 8192) (h : (R : ℕ) = 1024 * t.val + r) (j : Fin 1024) :
    Step.dy (iblk m c 0 t) (iblk m c 1 t) (iblk m c 2 t) (iblk m c 3 t) r j = dy m c (ix2 R j) := by
  refine Eq.trans ?_ (Entries.dy_apply _ _ _ _ R j).symm
  unfold Step.dy
  rw [er_row m c t r R h j]

theorem dg_row (c : Dev nD) (t : Fin cfg0.N) (r : Fin 1024) (R : Fin 8192) (h : (R : ℕ) = 1024 * t.val + r) (j : Fin 1024)
    (f : Vec Ideal S1024x1024 .f32) (hf : f = iblk m c 0 t) :
    Step.dy (iblk m c 0 t) (iblk m c 1 t) (iblk m c 2 t) (iblk m c 3 t) r j * ((f (ix2 r j) : EReal) * rms fun k => f (ix2 r k))
      = dy m c (ix2 R j) * (xf m c (ix2 R j) * rms fun k => xf m c (ix2 R k)) := by
  subst hf
  rw [dy_row m c t r R h, funext fun k => f_blk m c t r k R h, f_blk m c t r j R h]

/-! ## The results -/

/-- The residual's cotangent. -/
theorem dy_final (c : Dev nD) : (dats m 0 c).arrAt 4 cfg0.N = dy m c := by
  refine (dats m 0 c).arrAt_eq_of_covers 4 _ (by decide +kernel) fun t hf (y : S1024x1024.Idx) => ?_
  have ht : t.val < 8 := t.isLt
  obtain ⟨r, j, rfl⟩ : ∃ (r : Fin 1024) (j : Fin 1024), y = ix2 r j := ⟨y 0, y 1, by idx_ext⟩
  obtain ⟨R, hR⟩ : ∃ R : Fin 8192, (R : ℕ) = 1024 * t.val + r := ⟨⟨_, by omega⟩, rfl⟩
  have e : (win0_4.blk t).view.emb (ix2 r j) = ix2 R j := by blk_ext [idx t]
  blk_simp
  rw [after0_4, e, Step.dy_out]
  exact dy_row m c t r R hR j

/-- The cotangent of the feed-forward layer's output. -/
theorem df_final (c : Dev nD) (hr : AllReal m c) :
    (dats m 0 c).arrAt 5 cfg0.N = val_main_v54 (F := Ideal) (xf m c) (xr m c) (xt m c) (g4 m c) := by
  refine (dats m 0 c).arrAt_eq_of_covers 5 _ (by decide +kernel) fun t hf (y : S1024x1024.Idx) => ?_
  have ht : t.val < 8 := t.isLt
  obtain ⟨r, j, rfl⟩ : ∃ (r : Fin 1024) (j : Fin 1024), y = ix2 r j := ⟨y 0, y 1, by idx_ext⟩
  obtain ⟨R, hR⟩ : ∃ R : Fin 8192, (R : ℕ) = 1024 * t.val + r := ⟨⟨_, by omega⟩, rfl⟩
  have e : (win0_5.blk t).view.emb (ix2 r j) = ix2 R j := by blk_ext [idx t]
  blk_simp
  rw [after0_5, e, Step.df_out]
  refine Eq.trans ?_ (Entries.df_apply _ _ _ _ hr.1 hr.2.2.2 (dy_real m c hr) R j).symm
  rw [funext fun k => dy_row m c t r R hR k, funext fun k => g_blk m c t k, funext fun k => f_blk m c t r k R hR]

/-- The gradient of the gain. -/
theorem dg_final (c : Dev nD) :
    (dats m 0 c).arrAt 6 cfg0.N = val_main_v53 (F := Ideal) (xf m c) (xr m c) (xt m c) (g4 m c) := by
  refine (dats m 0 c).arrAt_eq_of_after_last 6 t0_7 (by decide +kernel) _ fun (y : S1x1024.Idx) => ?_
  obtain ⟨j, rfl⟩ : ∃ j : Fin 1024, y = ix2 0 j := ⟨y 1, by idx_ext⟩
  blk_simp
  rw [after0_6]
  refine (Pipeline.eq_sum_fin_of_reset_step_apply_last (fun n h => (outsAt0 m c n h).2.2.1) 8 (fun _ => (0 : EReal)) _
    (fun t h y => (Step.dg_A m c t h y).trans (zero_add _).symm) (fun t h y => Step.dg_B m c t h y) (le_of_eq N_0) t0_7 rfl (ix2 0 j)).trans ((zero_add _).trans ?_)
  refine Eq.trans ?_ (Entries.dg_apply _ _ _ _ j).symm
  unfold Step.dgPart
  exact Fin.sum_mul_add_congr fun t r hl => dg_row m c t r ⟨_, hl⟩ (by show t.val * 1024 + r.val = _; omega) j _ rfl

/-- The loss. -/
theorem loss_final (c : Dev nD) (hr : AllReal m c) :
    (dats m 0 c).arrAt 7 cfg0.N = val_main_v55 (F := Ideal) (xf m c) (xr m c) (xt m c) (g4 m c) := by
  refine (dats m 0 c).arrAt_eq_of_after_last 7 t0_7 (by decide +kernel) _ fun (y : S1x1.Idx) => ?_
  blk_simp
  rw [after0_7]
  refine (Pipeline.eq_sum_fin_of_reset_step_apply_last (fun n h => (outsAt0 m c n h).2.2.2) 8 (fun _ => (0 : EReal))
    (fun t _ => Step.lossPart (iblk m c 0 t) (iblk m c 1 t) (iblk m c 2 t) (iblk m c 3 t))
    (fun t h y => (Step.loss_A m c t h y).trans (zero_add _).symm) (fun t h y => Step.loss_B m c t h y) (le_of_eq N_0) t0_7 rfl y).trans ((zero_add _).trans ?_)
  refine Eq.trans ?_ (Entries.loss_apply _ _ _ _ y).symm
  have hq : ∀ R : Fin 8192, IsReal (Ideal.div (∑ k : Fin 1024, er m c (ix2 R k) * er m c (ix2 R k)) len) := fun R =>
    isReal_div_len (IsReal.sum _ _ fun k _ => (er_real m c hr R k).mul (er_real m c hr R k))
  refine Eq.trans ?_ (Entries.half_sum hq).symm
  have hp : ∀ t : Fin cfg0.N, Step.lossPart (iblk m c 0 t) (iblk m c 1 t) (iblk m c 2 t) (iblk m c 3 t)
      = ∑ r : Fin 1024, Ideal.ofBits .f32 0x3F000000#32 * Ideal.div (∑ k : Fin 1024, er m c (ix2 ⟨t.val * 1024 + r.val, by have := t.isLt; have e : cfg0.N = 8 := N_0; omega⟩ k)
          * er m c (ix2 ⟨t.val * 1024 + r.val, by have := t.isLt; have e : cfg0.N = 8 := N_0; omega⟩ k)) len := fun t => by
    rw [← Entries.half_sum fun r => hq _]
    unfold Step.lossPart
    refine congrArg _ (Finset.sum_congr rfl fun r _ => ?_)
    rw [funext fun k => er_row m c t r ⟨t.val * 1024 + r.val, by have := t.isLt; have e : cfg0.N = 8 := N_0; omega⟩ (by show t.val * 1024 + r.val = _; omega) k]
  rw [Finset.sum_congr rfl fun t _ => hp t]
  exact Fin.sum_mul_add_congr fun t r hl => rfl

end Cert.LossHeadIdeal.Final

namespace Cert.Proof.LossHeadClaims

open Cert.LossHeadIdeal.Final

/-- The kernel's gradients and loss and the reference's agree over the reals. -/
theorem algebraic : Cert.algebraic_LossHeadIdeal_LossHeadRefIdeal_pre_loss_finite := by
  intro m g m' g' hp hm
  have hr : ∀ c, AllReal m c := fun c => Cert.Pre_loss_finite.all_real _ _ _ _ (hp c)
  refine ⟨_, _, _, _, Cert.LossHeadIdeal.Value.run_blocks m g, θ_run_mono (Cert.LossHeadRefIdeal.Value.run m' g') fun r h c =>
    ⟨(h c).1.trans ?_, (h c).2.1.trans ?_, (h c).2.2.1.trans ?_, (h c).2.2.2.1.trans ?_, (h c).2.2.2.2⟩⟩
  · refine (Cert.LossHeadRefIdeal.Read.val_main_v32_eq _ _ _ _).trans ?_
    rw [(hm c).1, (hm c).2.1, (hm c).2.2.1, (hm c).2.2.2]
    exact (dy_final m c).symm
  · refine (Cert.LossHeadRefIdeal.Read.val_main_v54_eq m' c).trans ?_
    rw [(hm c).1, (hm c).2.1, (hm c).2.2.1, (hm c).2.2.2]
    exact (df_final m c (hr c)).symm
  · refine (Cert.LossHeadRefIdeal.Read.val_main_v53_eq _ _ _ _).trans ?_
    rw [(hm c).1, (hm c).2.1, (hm c).2.2.1, (hm c).2.2.2]
    exact (dg_final m c).symm
  · refine (Cert.LossHeadRefIdeal.Read.val_main_v55_eq _ _ _ _).trans ?_
    rw [(hm c).1, (hm c).2.1, (hm c).2.2.1, (hm c).2.2.2]
    exact (loss_final m c (hr c)).symm

end Cert.Proof.LossHeadClaims

end
-- ==== Proof.Adam.lean ====
/- One AdamW step on one weight. -/
module

public import proofs.«01_k».proof.Proof.Reals

@[expose] public section

noncomputable section

open Idealize.ShloMosaic

namespace Cert.Adam

/-- The running mean of the gradient. -/
def mean (g m : EReal) : EReal := Ideal.ofBits .f32 0x3F666666#32 * m + Ideal.ofBits .f32 0x3DCCCCCD#32 * g

/-- The running mean of its square. -/
def square (g v : EReal) : EReal := Ideal.ofBits .f32 0x3F7FBE77#32 * v + Ideal.ofBits .f32 0x3A83126F#32 * (g * g)

/-- The change of the weight. -/
def change (w g m v : EReal) : EReal :=
  Ideal.ofBits .f32 0xBA83126F#32
    * (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

theorem change_congr {w w' g g' m m' v v' : EReal} (hw : w = w') (hg : g = g') (hm : m = m') (hv : v = v') :
    change w g m v = change w' g' m' v' := by rw [hw, hg, hm, hv]

end Cert.Adam

end
-- ==== Proof.AdamIn.Final.lean ====
/- The first weight. -/
module

public import proofs.«01_k».proof.Proof.Adam
public import proofs.«01_k».proof.Proof.Gen.AdamInIdeal.Value
public import proofs.«01_k».proof.Proof.Gen.AdamInRefIdeal.Read
public import Idealize.ShloMosaic.Lib.Pipeline.ValueKit
public import Idealize.ShloMosaic.Lib.Pointwise

@[expose] public section

noncomputable section

open Idealize.ShloMosaic Idealize.ShloMosaic.TcCoe Idealize.SL.Sem

namespace Cert.AdamInIdeal.Final

open Cert.AdamInIdeal Cert.AdamInIdeal.Gen Cert.AdamInIdeal.Value
open Cert.AdamInRefIdeal.Read (val_main_v4 val_main_v10 val_main_v23)
open Cert.Adam

variable (m : (ℓ : Loc nD τ sig) → Buf (Elt Ideal) ℓ)

/-- Every array is cut into the same slabs of rows. -/
theorem idx : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] :=
  (by decide +kernel : ∀ t : Fin grid0.N, _)

/-- The weight. -/
abbrev xw (c : Dev nD) : Vec Ideal S1024x640 .f32 := m ((c : Thread nD τ).loc main_arg0)
/-- Its gradient. -/
abbrev xg (c : Dev nD) : Vec Ideal S1024x640 .f32 := m ((c : Thread nD τ).loc main_arg1)
/-- The running mean of the gradient. -/
abbrev xm (c : Dev nD) : Vec Ideal S1024x640 .f32 := m ((c : Thread nD τ).loc main_arg2)
/-- The running mean of its square. -/
abbrev xv (c : Dev nD) : Vec Ideal S1024x640 .f32 := m ((c : Thread nD τ).loc main_arg3)

/-- A slab's entries are the arrays', at one place. -/
theorem blks (c : Dev nD) (t : Fin cfg0.N) (y : S512x640.Idx) (z : S1024x640.Idx) (h0 : (z 0 : ℕ) = t.val * 512 + y 0) (h1 : (z 1 : ℕ) = y 1) :
    (iblk m c 0 t : Vec Ideal S512x640 .f32) y = xw m c z ∧ (iblk m c 1 t : Vec Ideal S512x640 .f32) y = xg m c z
      ∧ (iblk m c 2 t : Vec Ideal S512x640 .f32) y = xm m c z ∧ (iblk m c 3 t : Vec Ideal S512x640 .f32) y = xv m c z := by
  refine ⟨?_, ?_, ?_, ?_⟩ <;> blk_ext! [iblk, V, idx t]

theorem mean_final (c : Dev nD) : (dats m 0 c).arrAt 5 cfg0.N = val_main_v4 (F := Ideal) (xg m c) (xm m c) := by
  refine (dats m 0 c).arrAt_eq_of_covers 5 _ (by decide +kernel) fun t hf (y : S512x640.Idx) => ?_
  obtain ⟨_, e1, e2, _⟩ := blks m c t y ((win0_5.blk t).view.emb y) (by blk_ext [idx t]) (by blk_ext [idx t])
  blk_simp
  rw [after0_5]
  frame_out
  exact congrArg₂ mean e1 e2

theorem square_final (c : Dev nD) : (dats m 0 c).arrAt 6 cfg0.N = val_main_v10 (F := Ideal) (xg m c) (xv m c) := by
  refine (dats m 0 c).arrAt_eq_of_covers 6 _ (by decide +kernel) fun t hf (y : S512x640.Idx) => ?_
  obtain ⟨_, e1, _, e3⟩ := blks m c t y ((win0_6.blk t).view.emb y) (by blk_ext [idx t]) (by blk_ext [idx t])
  blk_simp
  rw [after0_6]
  frame_out
  exact congrArg₂ square e1 e3

theorem change_final (c : Dev nD) :
    (dats m 0 c).arrAt 4 cfg0.N = val_main_v23 (F := Ideal) (xw m c) (xg m c) (xm m c) (xv m c) := by
  refine (dats m 0 c).arrAt_eq_of_covers 4 _ (by decide +kernel) fun t hf (y : S512x640.Idx) => ?_
  obtain ⟨e0, e1, e2, e3⟩ := blks m c t y ((win0_4.blk t).view.emb y) (by blk_ext [idx t]) (by blk_ext [idx t])
  blk_simp
  rw [after0_4]
  frame_out
  exact change_congr e0 e1 e2 e3

end Cert.AdamInIdeal.Final

namespace Cert.Proof.AdamInClaims

open Cert.AdamInIdeal.Final

theorem algebraic : Cert.algebraic_AdamInIdeal_AdamInRefIdeal := by
  intro m g m' g' _ hm
  refine ⟨_, _, _, Cert.AdamInIdeal.Value.run_blocks m g, θ_run_mono (Cert.AdamInRefIdeal.Value.run m' g') fun r h c =>
    ⟨(h c).1.trans ?_, (h c).2.1.trans ?_, (h c).2.2.1.trans ?_, (h c).2.2.2⟩⟩
  · refine (Cert.AdamInRefIdeal.Read.val_main_v23_eq _ _ _ _).trans ?_
    rw [(hm c).1, (hm c).2.1, (hm c).2.2.1, (hm c).2.2.2]
    exact (change_final m c).symm
  · refine (Cert.AdamInRefIdeal.Read.val_main_v4_eq _ _).trans ?_
    rw [(hm c).2.1, (hm c).2.2.1]
    exact (mean_final m c).symm
  · refine (Cert.AdamInRefIdeal.Read.val_main_v10_eq _ _).trans ?_
    rw [(hm c).2.1, (hm c).2.2.2]
    exact (square_final m c).symm

end Cert.Proof.AdamInClaims

end
-- ==== Proof.AdamOut.Final.lean ====
/- The weight of the output projection. -/
module

public import proofs.«01_k».proof.Proof.Adam
public import proofs.«01_k».proof.Proof.Gen.AdamOutIdeal.Value
public import proofs.«01_k».proof.Proof.Gen.AdamOutRefIdeal.Read
public import Idealize.ShloMosaic.Lib.Pipeline.ValueKit
public import Idealize.ShloMosaic.Lib.Pointwise

@[expose] public section

noncomputable section

open Idealize.ShloMosaic Idealize.ShloMosaic.TcCoe Idealize.SL.Sem

namespace Cert.AdamOutIdeal.Final

open Cert.AdamOutIdeal Cert.AdamOutIdeal.Gen Cert.AdamOutIdeal.Value
open Cert.AdamOutRefIdeal.Read (val_main_v4 val_main_v10 val_main_v23)
open Cert.Adam

variable (m : (ℓ : Loc nD τ sig) → Buf (Elt Ideal) ℓ)

/-- Every array is cut into the same slabs of rows. -/
theorem idx : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] :=
  (by decide +kernel : ∀ t : Fin grid0.N, _)

/-- The weight. -/
abbrev xw (c : Dev nD) : Vec Ideal S256x1024 .f32 := m ((c : Thread nD τ).loc main_arg0)
/-- Its gradient. -/
abbrev xg (c : Dev nD) : Vec Ideal S256x1024 .f32 := m ((c : Thread nD τ).loc main_arg1)
/-- The running mean of the gradient. -/
abbrev xm (c : Dev nD) : Vec Ideal S256x1024 .f32 := m ((c : Thread nD τ).loc main_arg2)
/-- The running mean of its square. -/
abbrev xv (c : Dev nD) : Vec Ideal S256x1024 .f32 := m ((c : Thread nD τ).loc main_arg3)

/-- A slab's entries are the arrays', at one place. -/
theorem blks (c : Dev nD) (t : Fin cfg0.N) (y : S256x1024.Idx) (z : S256x1024.Idx) (h0 : (z 0 : ℕ) = t.val * 256 + y 0) (h1 : (z 1 : ℕ) = y 1) :
    (iblk m c 0 t : Vec Ideal S256x1024 .f32) y = xw m c z ∧ (iblk m c 1 t : Vec Ideal S256x1024 .f32) y = xg m c z
      ∧ (iblk m c 2 t : Vec Ideal S256x1024 .f32) y = xm m c z ∧ (iblk m c 3 t : Vec Ideal S256x1024 .f32) y = xv m c z := by
  refine ⟨?_, ?_, ?_, ?_⟩ <;> blk_ext! [iblk, V, idx t]

theorem mean_final (c : Dev nD) : (dats m 0 c).arrAt 5 cfg0.N = val_main_v4 (F := Ideal) (xg m c) (xm m c) := by
  refine (dats m 0 c).arrAt_eq_of_covers 5 _ (by decide +kernel) fun t hf (y : S256x1024.Idx) => ?_
  obtain ⟨_, e1, e2, _⟩ := blks m c t y ((win0_5.blk t).view.emb y) (by blk_ext [idx t]) (by blk_ext [idx t])
  blk_simp
  rw [after0_5]
  frame_out
  exact congrArg₂ mean e1 e2

theorem square_final (c : Dev nD) : (dats m 0 c).arrAt 6 cfg0.N = val_main_v10 (F := Ideal) (xg m c) (xv m c) := by
  refine (dats m 0 c).arrAt_eq_of_covers 6 _ (by decide +kernel) fun t hf (y : S256x1024.Idx) => ?_
  obtain ⟨_, e1, _, e3⟩ := blks m c t y ((win0_6.blk t).view.emb y) (by blk_ext [idx t]) (by blk_ext [idx t])
  blk_simp
  rw [after0_6]
  frame_out
  exact congrArg₂ square e1 e3

theorem change_final (c : Dev nD) :
    (dats m 0 c).arrAt 4 cfg0.N = val_main_v23 (F := Ideal) (xw m c) (xg m c) (xm m c) (xv m c) := by
  refine (dats m 0 c).arrAt_eq_of_covers 4 _ (by decide +kernel) fun t hf (y : S256x1024.Idx) => ?_
  obtain ⟨e0, e1, e2, e3⟩ := blks m c t y ((win0_4.blk t).view.emb y) (by blk_ext [idx t]) (by blk_ext [idx t])
  blk_simp
  rw [after0_4]
  frame_out
  exact change_congr e0 e1 e2 e3

end Cert.AdamOutIdeal.Final

namespace Cert.Proof.AdamOutClaims

open Cert.AdamOutIdeal.Final

theorem algebraic : Cert.algebraic_AdamOutIdeal_AdamOutRefIdeal := by
  intro m g m' g' _ hm
  refine ⟨_, _, _, Cert.AdamOutIdeal.Value.run_blocks m g, θ_run_mono (Cert.AdamOutRefIdeal.Value.run m' g') fun r h c =>
    ⟨(h c).1.trans ?_, (h c).2.1.trans ?_, (h c).2.2.1.trans ?_, (h c).2.2.2⟩⟩
  · refine (Cert.AdamOutRefIdeal.Read.val_main_v23_eq _ _ _ _).trans ?_
    rw [(hm c).1, (hm c).2.1, (hm c).2.2.1, (hm c).2.2.2]
    exact (change_final m c).symm
  · refine (Cert.AdamOutRefIdeal.Read.val_main_v4_eq _ _).trans ?_
    rw [(hm c).2.1, (hm c).2.2.1]
    exact (mean_final m c).symm
  · refine (Cert.AdamOutRefIdeal.Read.val_main_v10_eq _ _).trans ?_
    rw [(hm c).2.1, (hm c).2.2.2]
    exact (square_final m c).symm

end Cert.Proof.AdamOutClaims

end
-- ==== Proof.AdamFfn.Final.lean ====
/- A weight of the feed-forward network. -/
module

public import proofs.«01_k».proof.Proof.Adam
public import proofs.«01_k».proof.Proof.Gen.AdamFfnIdeal.Value
public import proofs.«01_k».proof.Proof.Gen.AdamFfnRefIdeal.Read
public import Idealize.ShloMosaic.Lib.Pipeline.ValueKit
public import Idealize.ShloMosaic.Lib.Pointwise

@[expose] public section

noncomputable section

open Idealize.ShloMosaic Idealize.ShloMosaic.TcCoe Idealize.SL.Sem

namespace Cert.AdamFfnIdeal.Final

open Cert.AdamFfnIdeal Cert.AdamFfnIdeal.Gen Cert.AdamFfnIdeal.Value
open Cert.AdamFfnRefIdeal.Read (val_main_v4 val_main_v10 val_main_v23)
open Cert.Adam

variable (m : (ℓ : Loc nD τ sig) → Buf (Elt Ideal) ℓ)

/-- Every array is cut into the same slabs of rows. -/
theorem idx : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] :=
  (by decide +kernel : ∀ t : Fin grid0.N, _)

/-- The weight. -/
abbrev xw (c : Dev nD) : Vec Ideal S704x1024 .f32 := m ((c : Thread nD τ).loc main_arg0)
/-- Its gradient. -/
abbrev xg (c : Dev nD) : Vec Ideal S704x1024 .f32 := m ((c : Thread nD τ).loc main_arg1)
/-- The running mean of the gradient. -/
abbrev xm (c : Dev nD) : Vec Ideal S704x1024 .f32 := m ((c : Thread nD τ).loc main_arg2)
/-- The running mean of its square. -/
abbrev xv (c : Dev nD) : Vec Ideal S704x1024 .f32 := m ((c : Thread nD τ).loc main_arg3)

/-- A slab's entries are the arrays', at one place. -/
theorem blks (c : Dev nD) (t : Fin cfg0.N) (y : S352x1024.Idx) (z : S704x1024.Idx) (h0 : (z 0 : ℕ) = t.val * 352 + y 0) (h1 : (z 1 : ℕ) = y 1) :
    (iblk m c 0 t : Vec Ideal S352x1024 .f32) y = xw m c z ∧ (iblk m c 1 t : Vec Ideal S352x1024 .f32) y = xg m c z
      ∧ (iblk m c 2 t : Vec Ideal S352x1024 .f32) y = xm m c z ∧ (iblk m c 3 t : Vec Ideal S352x1024 .f32) y = xv m c z := by
  refine ⟨?_, ?_, ?_, ?_⟩ <;> blk_ext! [iblk, V, idx t]

theorem mean_final (c : Dev nD) : (dats m 0 c).arrAt 5 cfg0.N = val_main_v4 (F := Ideal) (xg m c) (xm m c) := by
  refine (dats m 0 c).arrAt_eq_of_covers 5 _ (by decide +kernel) fun t hf (y : S352x1024.Idx) => ?_
  obtain ⟨_, e1, e2, _⟩ := blks m c t y ((win0_5.blk t).view.emb y) (by blk_ext [idx t]) (by blk_ext [idx t])
  blk_simp
  rw [after0_5]
  frame_out
  exact congrArg₂ mean e1 e2

theorem square_final (c : Dev nD) : (dats m 0 c).arrAt 6 cfg0.N = val_main_v10 (F := Ideal) (xg m c) (xv m c) := by
  refine (dats m 0 c).arrAt_eq_of_covers 6 _ (by decide +kernel) fun t hf (y : S352x1024.Idx) => ?_
  obtain ⟨_, e1, _, e3⟩ := blks m c t y ((win0_6.blk t).view.emb y) (by blk_ext [idx t]) (by blk_ext [idx t])
  blk_simp
  rw [after0_6]
  frame_out
  exact congrArg₂ square e1 e3

theorem change_final (c : Dev nD) :
    (dats m 0 c).arrAt 4 cfg0.N = val_main_v23 (F := Ideal) (xw m c) (xg m c) (xm m c) (xv m c) := by
  refine (dats m 0 c).arrAt_eq_of_covers 4 _ (by decide +kernel) fun t hf (y : S352x1024.Idx) => ?_
  obtain ⟨e0, e1, e2, e3⟩ := blks m c t y ((win0_4.blk t).view.emb y) (by blk_ext [idx t]) (by blk_ext [idx t])
  blk_simp
  rw [after0_4]
  frame_out
  exact change_congr e0 e1 e2 e3

end Cert.AdamFfnIdeal.Final

namespace Cert.Proof.AdamFfnClaims

open Cert.AdamFfnIdeal.Final

theorem algebraic : Cert.algebraic_AdamFfnIdeal_AdamFfnRefIdeal := by
  intro m g m' g' _ hm
  refine ⟨_, _, _, Cert.AdamFfnIdeal.Value.run_blocks m g, θ_run_mono (Cert.AdamFfnRefIdeal.Value.run m' g') fun r h c =>
    ⟨(h c).1.trans ?_, (h c).2.1.trans ?_, (h c).2.2.1.trans ?_, (h c).2.2.2⟩⟩
  · refine (Cert.AdamFfnRefIdeal.Read.val_main_v23_eq _ _ _ _).trans ?_
    rw [(hm c).1, (hm c).2.1, (hm c).2.2.1, (hm c).2.2.2]
    exact (change_final m c).symm
  · refine (Cert.AdamFfnRefIdeal.Read.val_main_v4_eq _ _).trans ?_
    rw [(hm c).2.1, (hm c).2.2.1]
    exact (mean_final m c).symm
  · refine (Cert.AdamFfnRefIdeal.Read.val_main_v10_eq _ _).trans ?_
    rw [(hm c).2.1, (hm c).2.2.2]
    exact (square_final m c).symm

end Cert.Proof.AdamFfnClaims

end
-- ==== Proof.AdamSmall.Final.lean ====
/- The small weights, packed into one block. -/
module

public import proofs.«01_k».proof.Proof.Adam
public import proofs.«01_k».proof.Proof.Gen.AdamSmallIdeal.Value
public import proofs.«01_k».proof.Proof.Gen.AdamSmallRefIdeal.Read
public import Idealize.ShloMosaic.Lib.Pipeline.ValueKit
public import Idealize.ShloMosaic.Lib.Pointwise

@[expose] public section

noncomputable section

open Idealize.ShloMosaic Idealize.ShloMosaic.TcCoe Idealize.SL.Sem

namespace Cert.AdamSmallIdeal.Final

open Cert.AdamSmallIdeal Cert.AdamSmallIdeal.Gen Cert.AdamSmallIdeal.Value
open Cert.AdamSmallRefIdeal.Read (val_main_v4 val_main_v10 val_main_v23)
open Cert.Adam

variable (m : (ℓ : Loc nD τ sig) → Buf (Elt Ideal) ℓ)

/-- Every array is cut into the same slabs of rows. -/
theorem idx : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] :=
  (by decide +kernel : ∀ t : Fin grid0.N, _)

/-- The weight. -/
abbrev xw (c : Dev nD) : Vec Ideal S24x1024 .f32 := m ((c : Thread nD τ).loc main_arg0)
/-- Its gradient. -/
abbrev xg (c : Dev nD) : Vec Ideal S24x1024 .f32 := m ((c : Thread nD τ).loc main_arg1)
/-- The running mean of the gradient. -/
abbrev xm (c : Dev nD) : Vec Ideal S24x1024 .f32 := m ((c : Thread nD τ).loc main_arg2)
/-- The running mean of its square. -/
abbrev xv (c : Dev nD) : Vec Ideal S24x1024 .f32 := m ((c : Thread nD τ).loc main_arg3)

/-- A slab's entries are the arrays', at one place. -/
theorem blks (c : Dev nD) (t : Fin cfg0.N) (y : S24x1024.Idx) (z : S24x1024.Idx) (h0 : (z 0 : ℕ) = t.val * 24 + y 0) (h1 : (z 1 : ℕ) = y 1) :
    (iblk m c 0 t : Vec Ideal S24x1024 .f32) y = xw m c z ∧ (iblk m c 1 t : Vec Ideal S24x1024 .f32) y = xg m c z
      ∧ (iblk m c 2 t : Vec Ideal S24x1024 .f32) y = xm m c z ∧ (iblk m c 3 t : Vec Ideal S24x1024 .f32) y = xv m c z := by
  refine ⟨?_, ?_, ?_, ?_⟩ <;> blk_ext! [iblk, V, idx t]

theorem mean_final (c : Dev nD) : (dats m 0 c).arrAt 5 cfg0.N = val_main_v4 (F := Ideal) (xg m c) (xm m c) := by
  refine (dats m 0 c).arrAt_eq_of_covers 5 _ (by decide +kernel) fun t hf (y : S24x1024.Idx) => ?_
  obtain ⟨_, e1, e2, _⟩ := blks m c t y ((win0_5.blk t).view.emb y) (by blk_ext [idx t]) (by blk_ext [idx t])
  blk_simp
  rw [after0_5]
  frame_out
  exact congrArg₂ mean e1 e2

theorem square_final (c : Dev nD) : (dats m 0 c).arrAt 6 cfg0.N = val_main_v10 (F := Ideal) (xg m c) (xv m c) := by
  refine (dats m 0 c).arrAt_eq_of_covers 6 _ (by decide +kernel) fun t hf (y : S24x1024.Idx) => ?_
  obtain ⟨_, e1, _, e3⟩ := blks m c t y ((win0_6.blk t).view.emb y) (by blk_ext [idx t]) (by blk_ext [idx t])
  blk_simp
  rw [after0_6]
  frame_out
  exact congrArg₂ square e1 e3

theorem change_final (c : Dev nD) :
    (dats m 0 c).arrAt 4 cfg0.N = val_main_v23 (F := Ideal) (xw m c) (xg m c) (xm m c) (xv m c) := by
  refine (dats m 0 c).arrAt_eq_of_covers 4 _ (by decide +kernel) fun t hf (y : S24x1024.Idx) => ?_
  obtain ⟨e0, e1, e2, e3⟩ := blks m c t y ((win0_4.blk t).view.emb y) (by blk_ext [idx t]) (by blk_ext [idx t])
  blk_simp
  rw [after0_4]
  frame_out
  exact change_congr e0 e1 e2 e3

end Cert.AdamSmallIdeal.Final

namespace Cert.Proof.AdamSmallClaims

open Cert.AdamSmallIdeal.Final

theorem algebraic : Cert.algebraic_AdamSmallIdeal_AdamSmallRefIdeal := by
  intro m g m' g' _ hm
  refine ⟨_, _, _, Cert.AdamSmallIdeal.Value.run_blocks m g, θ_run_mono (Cert.AdamSmallRefIdeal.Value.run m' g') fun r h c =>
    ⟨(h c).1.trans ?_, (h c).2.1.trans ?_, (h c).2.2.1.trans ?_, (h c).2.2.2⟩⟩
  · refine (Cert.AdamSmallRefIdeal.Read.val_main_v23_eq _ _ _ _).trans ?_
    rw [(hm c).1, (hm c).2.1, (hm c).2.2.1, (hm c).2.2.2]
    exact (change_final m c).symm
  · refine (Cert.AdamSmallRefIdeal.Read.val_main_v4_eq _ _).trans ?_
    rw [(hm c).2.1, (hm c).2.2.1]
    exact (mean_final m c).symm
  · refine (Cert.AdamSmallRefIdeal.Read.val_main_v10_eq _ _).trans ?_
    rw [(hm c).2.1, (hm c).2.2.2]
    exact (square_final m c).symm

end Cert.Proof.AdamSmallClaims

end
-- ==== Proof.lean ====
module

public import proofs.«01_k».proof.Defs
public import proofs.«01_k».proof.Proof.Gen.PoolBwd
public import proofs.«01_k».proof.Proof.Gen.PoolBwd.Frame
public import proofs.«01_k».proof.Proof.Gen.PoolBwdIdeal
public import proofs.«01_k».proof.Proof.Gen.PoolBwdIdeal.Frame
public import proofs.«01_k».proof.Proof.Gen.PoolBwdIdeal.Value
public import proofs.«01_k».proof.Proof.Gen.PoolBwdRefIdeal
public import proofs.«01_k».proof.Proof.Gen.PoolBwdRefIdeal.Run
public import proofs.«01_k».proof.Proof.Gen.PoolBwdRefIdeal.Read
public import proofs.«01_k».proof.Proof.PoolBwd.Final
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.NormBwd.Final
public import proofs.«01_k».proof.Proof.Gen.InProjBwd
public import proofs.«01_k».proof.Proof.Gen.InProjBwd.Frame
public import proofs.«01_k».proof.Proof.Gen.InProjBwdIdeal
public import proofs.«01_k».proof.Proof.Gen.InProjBwdIdeal.Frame
public import proofs.«01_k».proof.Proof.Gen.InProjBwdIdeal.Value
public import proofs.«01_k».proof.Proof.Gen.InProjBwdRefIdeal
public import proofs.«01_k».proof.Proof.Gen.InProjBwdRefIdeal.Run
public import proofs.«01_k».proof.Proof.Gen.InProjBwdRefIdeal.Read
public import proofs.«01_k».proof.Proof.InProjBwd.Final
public import proofs.«01_k».proof.Proof.Gen.PoolFwd
public import proofs.«01_k».proof.Proof.Gen.PoolFwd.Frame
public import proofs.«01_k».proof.Proof.Gen.PoolFwdIdeal
public import proofs.«01_k».proof.Proof.Gen.PoolFwdIdeal.Frame
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.PoolFwdRefIdeal.Read
public import proofs.«01_k».proof.Proof.PoolFwd.Final
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProj.Final
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.FfnFwd.Final
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.FfnBwd.Final
public import proofs.«01_k».proof.Proof.Gen.GradDown
public import proofs.«01_k».proof.Proof.Gen.GradDown.Frame
public import proofs.«01_k».proof.Proof.Gen.GradDownIdeal
public import proofs.«01_k».proof.Proof.Gen.GradDownIdeal.Frame
public import proofs.«01_k».proof.Proof.Gen.GradDownIdeal.Value
public import proofs.«01_k».proof.Proof.Gen.GradDownRefIdeal
public import proofs.«01_k».proof.Proof.Gen.GradDownRefIdeal.Run
public import proofs.«01_k».proof.Proof.Gen.GradDownRefIdeal.Read
public import proofs.«01_k».proof.Proof.GradDown.Final
public import proofs.«01_k».proof.Proof.Gen.GradOutPool
public import proofs.«01_k».proof.Proof.Gen.GradOutPool.Frame
public import proofs.«01_k».proof.Proof.Gen.GradOutPoolIdeal
public import proofs.«01_k».proof.Proof.Gen.GradOutPoolIdeal.Frame
public import proofs.«01_k».proof.Proof.Gen.GradOutPoolIdeal.Value
public import proofs.«01_k».proof.Proof.Gen.GradOutPoolRefIdeal
public import proofs.«01_k».proof.Proof.Gen.GradOutPoolRefIdeal.Run
public import proofs.«01_k».proof.Proof.Gen.GradOutPoolRefIdeal.Read
public import proofs.«01_k».proof.Proof.GradOutPool.Final
public import proofs.«01_k».proof.Proof.Gen.GradOutAttn
public import proofs.«01_k».proof.Proof.Gen.GradOutAttn.Frame
public import proofs.«01_k».proof.Proof.Gen.GradOutAttnIdeal
public import proofs.«01_k».proof.Proof.Gen.GradOutAttnIdeal.Frame
public import proofs.«01_k».proof.Proof.Gen.GradOutAttnIdeal.Value
public import proofs.«01_k».proof.Proof.Gen.GradOutAttnRefIdeal
public import proofs.«01_k».proof.Proof.Gen.GradOutAttnRefIdeal.Run
public import proofs.«01_k».proof.Proof.Gen.GradOutAttnRefIdeal.Read
public import proofs.«01_k».proof.Proof.GradOutAttn.Final
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.LossHead.Final
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.AdamIn.Final
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.AdamOut.Final
public import proofs.«01_k».proof.Proof.Gen.AdamFfn
public import proofs.«01_k».proof.Proof.Gen.AdamFfn.Frame
public import proofs.«01_k».proof.Proof.Gen.AdamFfnIdeal
public import proofs.«01_k».proof.Proof.Gen.AdamFfnIdeal.Frame
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.Gen.AdamFfnRefIdeal.Read
public import proofs.«01_k».proof.Proof.AdamFfn.Final
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.AdamSmall.Final
public import proofs.«01_k».proof.Proof.Gen.Pre_pool_finite
public import proofs.«01_k».proof.Proof.Gen.Pre_norm_finite
public import proofs.«01_k».proof.Proof.Gen.Pre_inproj_finite
public import proofs.«01_k».proof.Proof.Gen.Pre_tokens_finite
public import proofs.«01_k».proof.Proof.Gen.Pre_ffnb_finite
public import proofs.«01_k».proof.Proof.Gen.Pre_loss_finite
public import proofs.«01_k».proof.Proof.Gen.On_pool_blocks
public import Idealize.ShloMosaic.Adequacy
public import Idealize.ShloMosaic.Init

@[expose] public section

noncomputable section

namespace Cert.Proof

open Idealize.ShloMosaic Idealize.ShloMosaic.TcCoe Idealize.SL.Sem

/-- The reference `PoolBwdRef` runs, leaves its arguments as they were and every semaphore counter at zero. -/
theorem frame_PoolBwdRef : Cert.quiescent_PoolBwdRefIdeal := fun m ρ _ =>
  (θ_run Cert.PoolBwdRefIdeal.defs _ _).mono (fun r h => ⟨fun c => (h c).2.2.2, sem_eq_zero_of_no_sems (by decide) r.2⟩)
    (Cert.PoolBwdRefIdeal.Value.run (F := Ideal) m ρ)

/-- The reference `NormBwdRef` runs, leaves its arguments as they were and every semaphore counter at zero. -/
theorem frame_NormBwdRef : Cert.quiescent_NormBwdRefIdeal := fun m ρ _ =>
  (θ_run Cert.NormBwdRefIdeal.defs _ _).mono (fun r h => ⟨fun c => (h c).2.2.2.2, sem_eq_zero_of_no_sems (by decide) r.2⟩)
    (Cert.NormBwdRefIdeal.Value.run (F := Ideal) m ρ)

/-- The reference `InProjBwdRef` runs, leaves its arguments as they were and every semaphore counter at zero. -/
theorem frame_InProjBwdRef : Cert.quiescent_InProjBwdRefIdeal := fun m ρ _ =>
  (θ_run Cert.InProjBwdRefIdeal.defs _ _).mono (fun r h => ⟨fun c => (h c).2.2.2, sem_eq_zero_of_no_sems (by decide) r.2⟩)
    (Cert.InProjBwdRefIdeal.Value.run (F := Ideal) m ρ)

/-- The reference `PoolFwdRef` runs, leaves its arguments as they were and every semaphore counter at zero. -/
theorem frame_PoolFwdRef : Cert.quiescent_PoolFwdRefIdeal := fun m ρ _ =>
  (θ_run Cert.PoolFwdRefIdeal.defs _ _).mono (fun r h => ⟨fun c => (h c).2, sem_eq_zero_of_no_sems (by decide) r.2⟩)
    (Cert.PoolFwdRefIdeal.Value.run (F := Ideal) m ρ)

/-- The reference `OutProjRef` runs, leaves its arguments as they were and every semaphore counter at zero. -/
theorem frame_OutProjRef : Cert.quiescent_OutProjRefIdeal := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

/-- The reference `FfnFwdRef` runs, leaves its arguments as they were and every semaphore counter at zero. -/
theorem frame_FfnFwdRef : Cert.quiescent_FfnFwdRefIdeal := fun m ρ _ =>
  (θ_run Cert.FfnFwdRefIdeal.defs _ _).mono (fun r h => ⟨fun c => (h c).2.2.2, sem_eq_zero_of_no_sems (by decide) r.2⟩)
    (Cert.FfnFwdRefIdeal.Value.run (F := Ideal) m ρ)

/-- The reference `FfnBwdRef` runs, leaves its arguments as they were and every semaphore counter at zero. -/
theorem frame_FfnBwdRef : Cert.quiescent_FfnBwdRefIdeal := fun m ρ _ =>
  (θ_run Cert.FfnBwdRefIdeal.defs _ _).mono (fun r h => ⟨fun c => (h c).2.2.2.2, sem_eq_zero_of_no_sems (by decide) r.2⟩)
    (Cert.FfnBwdRefIdeal.Value.run (F := Ideal) m ρ)

/-- The reference `GradDownRef` runs, leaves its arguments as they were and every semaphore counter at zero. -/
theorem frame_GradDownRef : Cert.quiescent_GradDownRefIdeal := fun m ρ _ =>
  (θ_run Cert.GradDownRefIdeal.defs _ _).mono (fun r h => ⟨fun c => (h c).2, sem_eq_zero_of_no_sems (by decide) r.2⟩)
    (Cert.GradDownRefIdeal.Value.run (F := Ideal) m ρ)

/-- The reference `GradOutPoolRef` runs, leaves its arguments as they were and every semaphore counter at zero. -/
theorem frame_GradOutPoolRef : Cert.quiescent_GradOutPoolRefIdeal := fun m ρ _ =>
  (θ_run Cert.GradOutPoolRefIdeal.defs _ _).mono (fun r h => ⟨fun c => (h c).2, sem_eq_zero_of_no_sems (by decide) r.2⟩)
    (Cert.GradOutPoolRefIdeal.Value.run (F := Ideal) m ρ)

/-- The reference `GradOutAttnRef` runs, leaves its arguments as they were and every semaphore counter at zero. -/
theorem frame_GradOutAttnRef : Cert.quiescent_GradOutAttnRefIdeal := fun m ρ _ =>
  (θ_run Cert.GradOutAttnRefIdeal.defs _ _).mono (fun r h => ⟨fun c => (h c).2, sem_eq_zero_of_no_sems (by decide) r.2⟩)
    (Cert.GradOutAttnRefIdeal.Value.run (F := Ideal) m ρ)

/-- The reference `LossHeadRef` runs, leaves its arguments as they were and every semaphore counter at zero. -/
theorem frame_LossHeadRef : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

/-- The reference `AdamInRef` runs, leaves its arguments as they were and every semaphore counter at zero. -/
theorem frame_AdamInRef : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

/-- The reference `AdamOutRef` runs, leaves its arguments as they were and every semaphore counter at zero. -/
theorem frame_AdamOutRef : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

/-- The reference `AdamFfnRef` runs, leaves its arguments as they were and every semaphore counter at zero. -/
theorem frame_AdamFfnRef : Cert.quiescent_AdamFfnRefIdeal := fun m ρ _ =>
  (θ_run Cert.AdamFfnRefIdeal.defs _ _).mono (fun r h => ⟨fun c => (h c).2.2.2, sem_eq_zero_of_no_sems (by decide) r.2⟩)
    (Cert.AdamFfnRefIdeal.Value.run (F := Ideal) m ρ)

/-- The reference `AdamSmallRef` runs, leaves its arguments as they were and every semaphore counter at zero. -/
theorem frame_AdamSmallRef : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

/-- Everything that is claimed. -/
theorem claim : Cert.Claim :=
  ⟨Cert.PoolBwd.Gen.facts,
    Cert.PoolBwdIdeal.Gen.facts,
    Cert.PoolBwdRefIdeal.Gen.facts,
    Cert.NormBwd.Gen.facts,
    Cert.NormBwdIdeal.Gen.facts,
    Cert.NormBwdRefIdeal.Gen.facts,
    Cert.InProjBwd.Gen.facts,
    Cert.InProjBwdIdeal.Gen.facts,
    Cert.InProjBwdRefIdeal.Gen.facts,
    Cert.PoolFwd.Gen.facts,
    Cert.PoolFwdIdeal.Gen.facts,
    Cert.PoolFwdRefIdeal.Gen.facts,
    Cert.OutProj.Gen.facts,
    Cert.OutProjIdeal.Gen.facts,
    Cert.OutProjRefIdeal.Gen.facts,
    Cert.FfnFwd.Gen.facts,
    Cert.FfnFwdIdeal.Gen.facts,
    Cert.FfnFwdRefIdeal.Gen.facts,
    Cert.FfnBwd.Gen.facts,
    Cert.FfnBwdIdeal.Gen.facts,
    Cert.FfnBwdRefIdeal.Gen.facts,
    Cert.GradDown.Gen.facts,
    Cert.GradDownIdeal.Gen.facts,
    Cert.GradDownRefIdeal.Gen.facts,
    Cert.GradOutPool.Gen.facts,
    Cert.GradOutPoolIdeal.Gen.facts,
    Cert.GradOutPoolRefIdeal.Gen.facts,
    Cert.GradOutAttn.Gen.facts,
    Cert.GradOutAttnIdeal.Gen.facts,
    Cert.GradOutAttnRefIdeal.Gen.facts,
    Cert.LossHead.Gen.facts,
    Cert.LossHeadIdeal.Gen.facts,
    Cert.LossHeadRefIdeal.Gen.facts,
    Cert.AdamIn.Gen.facts,
    Cert.AdamInIdeal.Gen.facts,
    Cert.AdamInRefIdeal.Gen.facts,
    Cert.AdamOut.Gen.facts,
    Cert.AdamOutIdeal.Gen.facts,
    Cert.AdamOutRefIdeal.Gen.facts,
    Cert.AdamFfn.Gen.facts,
    Cert.AdamFfnIdeal.Gen.facts,
    Cert.AdamFfnRefIdeal.Gen.facts,
    Cert.AdamSmall.Gen.facts,
    Cert.AdamSmallIdeal.Gen.facts,
    Cert.AdamSmallRefIdeal.Gen.facts,
    Cert.Pre_pool_finite.Gen.facts,
    Cert.Pre_norm_finite.Gen.facts,
    Cert.Pre_inproj_finite.Gen.facts,
    Cert.Pre_tokens_finite.Gen.facts,
    Cert.Pre_ffnb_finite.Gen.facts,
    Cert.Pre_loss_finite.Gen.facts,
    Cert.On_pool_blocks.Gen.facts,
    fun m ρ _ => Cert.PoolBwd.Gen.frame m ρ,
    fun m ρ _ => Cert.PoolBwdIdeal.Gen.frame m ρ,
    fun m ρ _ => Cert.PoolBwdIdeal.Gen.frame m ρ,
    frame_PoolBwdRef,
    fun m ρ _ => frame_PoolBwdRef m ρ trivial,
    fun m ρ _ => Cert.NormBwd.Gen.frame m ρ,
    fun m ρ _ => Cert.NormBwdIdeal.Gen.frame m ρ,
    fun m ρ _ => Cert.NormBwdIdeal.Gen.frame m ρ,
    frame_NormBwdRef,
    fun m ρ _ => frame_NormBwdRef m ρ trivial,
    fun m ρ _ => Cert.InProjBwd.Gen.frame m ρ,
    fun m ρ _ => Cert.InProjBwdIdeal.Gen.frame m ρ,
    fun m ρ _ => Cert.InProjBwdIdeal.Gen.frame m ρ,
    frame_InProjBwdRef,
    fun m ρ _ => frame_InProjBwdRef m ρ trivial,
    fun m ρ _ => Cert.PoolFwd.Gen.frame m ρ,
    fun m ρ _ => Cert.PoolFwdIdeal.Gen.frame m ρ,
    fun m ρ _ => Cert.PoolFwdIdeal.Gen.frame m ρ,
    frame_PoolFwdRef,
    fun m ρ _ => frame_PoolFwdRef m ρ trivial,
    fun m ρ _ => Cert.OutProj.Gen.frame m ρ,
    fun m ρ _ => Cert.OutProjIdeal.Gen.frame m ρ,
    frame_OutProjRef,
    fun m ρ _ => Cert.FfnFwd.Gen.frame m ρ,
    fun m ρ _ => Cert.FfnFwdIdeal.Gen.frame m ρ,
    frame_FfnFwdRef,
    fun m ρ _ => Cert.FfnBwd.Gen.frame m ρ,
    fun m ρ _ => Cert.FfnBwdIdeal.Gen.frame m ρ,
    fun m ρ _ => Cert.FfnBwdIdeal.Gen.frame m ρ,
    frame_FfnBwdRef,
    fun m ρ _ => frame_FfnBwdRef m ρ trivial,
    fun m ρ _ => Cert.GradDown.Gen.frame m ρ,
    fun m ρ _ => Cert.GradDownIdeal.Gen.frame m ρ,
    frame_GradDownRef,
    fun m ρ _ => Cert.GradOutPool.Gen.frame m ρ,
    fun m ρ _ => Cert.GradOutPoolIdeal.Gen.frame m ρ,
    frame_GradOutPoolRef,
    fun m ρ _ => Cert.GradOutAttn.Gen.frame m ρ,
    fun m ρ _ => Cert.GradOutAttnIdeal.Gen.frame m ρ,
    frame_GradOutAttnRef,
    fun m ρ _ => Cert.LossHead.Gen.frame m ρ,
    fun m ρ _ => Cert.LossHeadIdeal.Gen.frame m ρ,
    fun m ρ _ => Cert.LossHeadIdeal.Gen.frame m ρ,
    frame_LossHeadRef,
    fun m ρ _ => frame_LossHeadRef m ρ trivial,
    fun m ρ _ => Cert.AdamIn.Gen.frame m ρ,
    fun m ρ _ => Cert.AdamInIdeal.Gen.frame m ρ,
    frame_AdamInRef,
    fun m ρ _ => Cert.AdamOut.Gen.frame m ρ,
    fun m ρ _ => Cert.AdamOutIdeal.Gen.frame m ρ,
    frame_AdamOutRef,
    fun m ρ _ => Cert.AdamFfn.Gen.frame m ρ,
    fun m ρ _ => Cert.AdamFfnIdeal.Gen.frame m ρ,
    frame_AdamFfnRef,
    fun m ρ _ => Cert.AdamSmall.Gen.frame m ρ,
    fun m ρ _ => Cert.AdamSmallIdeal.Gen.frame m ρ,
    frame_AdamSmallRef,
    trivial,
    PoolBwdClaims.algebraic,
    trivial,
    NormBwdClaims.algebraic,
    trivial,
    InProjBwdClaims.algebraic,
    trivial,
    PoolFwdClaims.algebraic,
    trivial,
    OutProjClaims.algebraic,
    trivial,
    FfnFwdClaims.algebraic,
    trivial,
    FfnBwdClaims.algebraic,
    trivial,
    GradDownClaims.algebraic,
    trivial,
    GradOutPoolClaims.algebraic,
    trivial,
    GradOutAttnClaims.algebraic,
    trivial,
    LossHeadClaims.algebraic,
    trivial,
    AdamInClaims.algebraic,
    trivial,
    AdamOutClaims.algebraic,
    trivial,
    AdamFfnClaims.algebraic,
    trivial,
    AdamSmallClaims.algebraic⟩

end Cert.Proof

end
